-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v14) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v8) = v1 c
          ∧ r.2.mem ((c.tc : Thread Cert.Reference8Ideal.nD Cert.Reference8Ideal.τ).loc Cert.Reference8Ideal.main_v14) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v14) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_v14) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_v14) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v27) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_v14) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v27) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_v14) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_v8) = v1 c
          ∧ r.2.mem ((c.tc : Thread Cert.Reference16Ideal.nD Cert.Reference16Ideal.τ).loc Cert.Reference16Ideal.main_v14) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v27) = v0 c
          ∧ r.2.mem ((c.tc : Thread Cert.Reference17Ideal.nD Cert.Reference17Ideal.τ).loc Cert.Reference17Ideal.main_v8) = v1 c
          ∧ r.2.mem ((c.tc : Thread Cert.Reference17Ideal.nD Cert.Reference17Ideal.τ).loc Cert.Reference17Ideal.main_v14) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v11_0)) (v1 : (c : Dev Cert.Kernel18Ideal.nD) → Buf (Elt Ideal) ((c.tc : Thread Cert.Kernel18Ideal.nD Cert.Kernel18Ideal.τ).loc Cert.Kernel18Ideal.main_v11_1)) (v2 : (c : Dev Cert.Kernel18Ideal.nD) → Buf (Elt Ideal) ((c.tc : Thread Cert.Kernel18Ideal.nD Cert.Kernel18Ideal.τ).loc Cert.Kernel18Ideal.main_v11_2)) (v3 : (c : Dev Cert.Kernel18Ideal.nD) → Buf (Elt Ideal) ((c.tc : Thread Cert.Kernel18Ideal.nD Cert.Kernel18Ideal.τ).loc Cert.Kernel18Ideal.main_v11_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v11_0) = v0 c
          ∧ r.2.mem ((c.tc : Thread Cert.Kernel18Ideal.nD Cert.Kernel18Ideal.τ).loc Cert.Kernel18Ideal.main_v11_1) = v1 c
          ∧ r.2.mem ((c.tc : Thread Cert.Kernel18Ideal.nD Cert.Kernel18Ideal.τ).loc Cert.Kernel18Ideal.main_v11_2) = v2 c
          ∧ r.2.mem ((c.tc : Thread Cert.Kernel18Ideal.nD Cert.Kernel18Ideal.τ).loc Cert.Kernel18Ideal.main_v11_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v45) = v0 c
          ∧ r.2.mem ((c.tc : Thread Cert.Reference18Ideal.nD Cert.Reference18Ideal.τ).loc Cert.Reference18Ideal.main_v49) = v1 c
          ∧ r.2.mem ((c.tc : Thread Cert.Reference18Ideal.nD Cert.Reference18Ideal.τ).loc Cert.Reference18Ideal.main_v52) = v2 c
          ∧ r.2.mem ((c.tc : Thread Cert.Reference18Ideal.nD Cert.Reference18Ideal.τ).loc Cert.Reference18Ideal.main_v69) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_v15) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S4096x5632 : Shape := ⟨2, ![4096, 5632]⟩
abbrev S3x5632 : Shape := ⟨2, ![3, 5632]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S4x704x1024 : Shape := ⟨3, ![4, 704, 1024]⟩
abbrev S16x8x32x1024 : Shape := ⟨4, ![16, 8, 32, 1024]⟩
abbrev S16x32x8x1024 : Shape := ⟨4, ![16, 32, 8, 1024]⟩
abbrev S16x8x32x5632 : Shape := ⟨4, ![16, 8, 32, 5632]⟩
abbrev S16x32x8x5632 : Shape := ⟨4, ![16, 32, 8, 5632]⟩
abbrev S8x5632 : Shape := ⟨2, ![8, 5632]⟩
abbrev S1x1024 : Shape := ⟨2, ![1, 1024]⟩
abbrev S256x1024 : Shape := ⟨2, ![256, 1024]⟩
abbrev S256x5632 : Shape := ⟨2, ![256, 5632]⟩
abbrev S16x5632 : Shape := ⟨2, ![16, 5632]⟩
abbrev S256x2816 : Shape := ⟨2, ![256, 2816]⟩
abbrev S272x5632 : Shape := ⟨2, ![272, 5632]⟩
abbrev S8x1024 : Shape := ⟨2, ![8, 1024]⟩
abbrev S8x8x5632 : Shape := ⟨3, ![8, 8, 5632]⟩
abbrev S4 : Shape := ⟨1, ![4]⟩
abbrev S1 : Shape := ⟨1, ![1]⟩
abbrev S704x1024 : Shape := ⟨2, ![704, 1024]⟩
abbrev S1x704x1024 : Shape := ⟨3, ![1, 704, 1024]⟩
abbrev S2x8x5632 : Shape := ⟨3, ![2, 8, 5632]⟩
abbrev S256 : Shape := ⟨1, ![256]⟩
abbrev S256x1 : Shape := ⟨2, ![256, 1]⟩
abbrev S32x8x1024 : Shape := ⟨3, ![32, 8, 1024]⟩
abbrev S1x1408 : Shape := ⟨2, ![1, 1408]⟩
abbrev S256x1408 : Shape := ⟨2, ![256, 1408]⟩
abbrev S1408x1024 : Shape := ⟨2, ![1408, 1024]⟩
abbrev S1x8x1408 : Shape := ⟨3, ![1, 8, 1408]⟩
abbrev S8x1408 : Shape := ⟨2, ![8, 1408]⟩
abbrev S32x8x1408 : Shape := ⟨3, ![32, 8, 1408]⟩

abbrev nBuf : Space → Nat
  | .hbm => 64
  | .vmem => 24
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S2816x1024, .bf16⟩
  | .hbm, ⟨45, _⟩ => ⟨S4x704x1024, .bf16⟩
  | .hbm, ⟨46, _⟩ => ⟨S16x8x32x1024, .f32⟩
  | .hbm, ⟨47, _⟩ => ⟨S16x32x8x1024, .f32⟩
  | .hbm, ⟨48, _⟩ => ⟨S4096x1024, .f32⟩
  | .hbm, ⟨49, _⟩ => ⟨S16x8x32x1024, .f32⟩
  | .hbm, ⟨50, _⟩ => ⟨S16x32x8x1024, .f32⟩
  | .hbm, ⟨51, _⟩ => ⟨S4096x1024, .f32⟩
  | .hbm, ⟨52, _⟩ => ⟨S16x8x32x5632, .f32⟩
  | .hbm, ⟨53, _⟩ => ⟨S16x32x8x5632, .f32⟩
  | .hbm, ⟨54, _⟩ => ⟨S4096x5632, .f32⟩
  | .hbm, ⟨55, _⟩ => ⟨S_, .i32⟩
  | .hbm, ⟨56, _⟩ => ⟨S_, .f32⟩
  | .hbm, ⟨57, _⟩ => ⟨S8x5632, .f32⟩
  | .hbm, ⟨58, _⟩ => ⟨S1x1024, .f32⟩
  | .hbm, ⟨59, _⟩ => ⟨S4096x1024, .bf16⟩
  | .hbm, ⟨60, _⟩ => ⟨S4096x2816, .bf16⟩
  | .hbm, ⟨61, _⟩ => ⟨S4096x5632, .bf16⟩
  | .hbm, ⟨62, _⟩ => ⟨S1x1024, .f32⟩
  | .hbm, ⟨63, _⟩ => ⟨S8x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .f32⟩
  | .local _ .vmem, ⟨5, _⟩ => ⟨S256x5632, .f32⟩
  | .local _ .vmem, ⟨6, _⟩ => ⟨S16x5632, .f32⟩
  | .local _ .vmem, ⟨7, _⟩ => ⟨S16x5632, .f32⟩
  | .local _ .vmem, ⟨8, _⟩ => ⟨S8x5632, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S1x1024, .f32⟩
  | .local _ .vmem, ⟨17, _⟩ => ⟨S8x5632, .f32⟩
  | .local _ .vmem, ⟨18, _⟩ => ⟨S272x5632, .f32⟩
  | .local _ .vmem, ⟨19, _⟩ => ⟨S272x5632, .f32⟩
  | .local _ .vmem, ⟨20, _⟩ => ⟨S16x5632, .f32⟩
  | .local _ .vmem, ⟨21, _⟩ => ⟨S8x1024, .f32⟩
  | .local _ .vmem, ⟨22, _⟩ => ⟨S8x8x5632, .f32⟩
  | .local _ .vmem, ⟨23, _⟩ => ⟨S2816x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_v42_3 : Ref sig .tc := ⟨.hbm, 62, rfl⟩
abbrev main_v42_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_217 : BitVec 32 := 15#32
  let v404 : BitVec 1 := Scalar.cmpi .eq arg0 c15_i32_217
  let v405 : BitVec 32 := Scalar.extui v404
  let c0_i32_218 : BitVec 32 := 0#32
  let v406 : BitVec 1 := Scalar.cmpi .ne v405 c0_i32_218
  v406

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x5632 : Shape := ⟨2, ![4096, 5632]⟩
abbrev S3x5632 : Shape := ⟨2, ![3, 5632]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S4096 : Shape := ⟨1, ![4096]⟩
abbrev S4096x1 : Shape := ⟨2, ![4096, 1]⟩
abbrev S1x1024 : Shape := ⟨2, ![1, 1024]⟩
abbrev S5x5632 : Shape := ⟨2, ![5, 5632]⟩
abbrev S8x5632 : Shape := ⟨2, ![8, 5632]⟩
abbrev S16x8x32x1024 : Shape := ⟨4, ![16, 8, 32, 1024]⟩
abbrev S16x32x8x1024 : Shape := ⟨4, ![16, 32, 8, 1024]⟩
abbrev S16x8x32x2816 : Shape := ⟨4, ![16, 8, 32, 2816]⟩
abbrev S16x32x8x2816 : Shape := ⟨4, ![16, 32, 8, 2816]⟩
abbrev S16x8x32x5632 : Shape := ⟨4, ![16, 8, 32, 5632]⟩
abbrev S16x32x8x5632 : Shape := ⟨4, ![16, 32, 8, 5632]⟩

abbrev nBuf : Space → Nat
  | .hbm => 248
  | .vmem => 0
  | .smem => 0
  | _ => 0

abbrev hbmTy0_0 (i : Nat) : BufTy := match i % 128 with
  | 0 => ⟨S4096x5632, .f32⟩
  | 1 => ⟨S3x5632, .f32⟩
  | 2 => ⟨S2816x1024, .f32⟩
  | 3 => ⟨S1024, .f32⟩
  | 4 => ⟨S4096x1024, .f32⟩
  | 5 => ⟨S_, .f32⟩
  | 6 => ⟨S2x5632, .f32⟩
  | 7 => ⟨S4098x5632, .f32⟩
  | 8 => ⟨S1x5632, .f32⟩
  | 9 => ⟨S5632, .f32⟩
  | 10 => ⟨S1x5632, .f32⟩
  | 11 => ⟨S4096x5632, .f32⟩
  | 12 => ⟨S4096x5632, .f32⟩
  | 13 => ⟨S4096x5632, .f32⟩
  | 14 => ⟨S_, .f32⟩
  | 15 => ⟨S4096x5632, .f32⟩
  | 16 => ⟨S4096x5632, .f32⟩
  | 17 => ⟨S1x5632, .f32⟩
  | 18 => ⟨S5632, .f32⟩
  | 19 => ⟨S1x5632, .f32⟩
  | 20 => ⟨S4096x5632, .f32⟩
  | 21 => ⟨S4096x5632, .f32⟩
  | 22 => ⟨S4096x5632, .f32⟩
  | 23 => ⟨S4096x5632, .f32⟩
  | 24 => ⟨S1x5632, .f32⟩
  | 25 => ⟨S5632, .f32⟩
  | 26 => ⟨S1x5632, .f32⟩
  | 27 => ⟨S4096x5632, .f32⟩
  | 28 => ⟨S4096x5632, .f32⟩
  | 29 => ⟨S4096x5632, .f32⟩
  | 30 => ⟨S4096x5632, .f32⟩
  | 31 => ⟨S4096x2816, .f32⟩
  | 32 => ⟨S4096x2816, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S4096x2816, .f32⟩
  | 42 => ⟨S4096x2816, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S_, .f32⟩
  | 66 => ⟨S1024, .f32⟩
  | 67 => ⟨S1x1024, .f32⟩
  | 68 => ⟨S4096x1024, .f32⟩
  | 69 => ⟨S4096x1024, .f32⟩
  | 70 => ⟨S_, .f32⟩
  | 71 => ⟨S1024, .f32⟩
  | 72 => ⟨S4096x1024, .f32⟩
  | 73 => ⟨S_, .f32⟩
  | 74 => ⟨S4096, .f32⟩
  | 75 => ⟨S4096x1, .f32⟩
  | 76 => ⟨S4096x1024, .f32⟩
  | 77 => ⟨S4096x1024, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S2x5632, .f32⟩
  | 91 => ⟨S4098x5632, .f32⟩
  | 92 => ⟨S_, .f32⟩
  | 93 => ⟨S2x5632, .f32⟩
  | 94 => ⟨S1x5632, .f32⟩
  | 95 => ⟨S5632, .f32⟩
  | 96 => ⟨S1x5632, .f32⟩
  | 97 => ⟨S4096x5632, .f32⟩
  | 98 => ⟨S4096x5632, .f32⟩
  | 99 => ⟨S4096x5632, .f32⟩
  | 100 => ⟨S_, .f32⟩
  | 101 => ⟨S4096x5632, .f32⟩
  | 102 => ⟨S4096x5632, .f32⟩
  | 103 => ⟨S1x5632, .f32⟩
  | 104 => ⟨S5632, .f32⟩
  | 105 => ⟨S1x5632, .f32⟩
  | 106 => ⟨S4096x5632, .f32⟩
  | 107 => ⟨S4096x5632, .f32⟩
  | 108 => ⟨S4096x5632, .f32⟩
  | 109 => ⟨S4096x5632, .f32⟩
  | 110 => ⟨S1x5632, .f32⟩
  | 111 => ⟨S5632, .f32⟩
  | 112 => ⟨S1x5632, .f32⟩
  | 113 => ⟨S4096x5632, .f32⟩
  | 114 => ⟨S4096x5632, .f32⟩
  | 115 => ⟨S4096x5632, .f32⟩
  | 116 => ⟨S4096x5632, .f32⟩
  | 117 => ⟨S4096x2816, .f32⟩
  | 118 => ⟨S4096x2816, .f32⟩
  | 119 => ⟨S4096x2816, .f32⟩
  | 120 => ⟨S4096x2816, .f32⟩
  | 121 => ⟨S_, .f32⟩
  | 122 => ⟨S4096x2816, .f32⟩
  | 123 => ⟨S4096x2816, .f32⟩
  | 124 => ⟨S_, .f32⟩
  | 125 => ⟨S4096x2816, .f32⟩
  | 126 => ⟨S4096x2816, .f32⟩
  | 127 => ⟨S_, .f32⟩
  | _ => ⟨S4096x5632, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x2816, .f32⟩
  | 4 => ⟨S4096x2816, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S_, .f32⟩
  | 28 => ⟨S1024, .f32⟩
  | 29 => ⟨S1x1024, .f32⟩
  | 30 => ⟨S4096x1024, .f32⟩
  | 31 => ⟨S4096x1024, .f32⟩
  | 32 => ⟨S_, .f32⟩
  | 33 => ⟨S1024, .f32⟩
  | 34 => ⟨S4096x1024, .f32⟩
  | 35 => ⟨S_, .f32⟩
  | 36 => ⟨S4096, .f32⟩
  | 37 => ⟨S4096x1, .f32⟩
  | 38 => ⟨S4096x1024, .f32⟩
  | 39 => ⟨S4096x1024, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x2816, .f32⟩
  | 57 => ⟨S4096x2816, .f32⟩
  | 58 => ⟨S4096x5632, .f32⟩
  | 59 => ⟨S4096x5632, .f32⟩
  | 60 => ⟨S4096x5632, .f32⟩
  | 61 => ⟨S4096x5632, .f32⟩
  | 62 => ⟨S_, .f32⟩
  | 63 => ⟨S5632, .f32⟩
  | 64 => ⟨S1x5632, .f32⟩
  | 65 => ⟨S_, .f32⟩
  | 66 => ⟨S4098x5632, .f32⟩
  | 67 => ⟨S_, .f32⟩
  | 68 => ⟨S5632, .f32⟩
  | 69 => ⟨S1x5632, .f32⟩
  | 70 => ⟨S_, .f32⟩
  | 71 => ⟨S3x5632, .f32⟩
  | 72 => ⟨S4096x5632, .f32⟩
  | 73 => ⟨S4096x5632, .f32⟩
  | 74 => ⟨S4096x5632, .f32⟩
  | 75 => ⟨S_, .f32⟩
  | 76 => ⟨S5632, .f32⟩
  | 77 => ⟨S1x5632, .f32⟩
  | 78 => ⟨S_, .f32⟩
  | 79 => ⟨S4098x5632, .f32⟩
  | 80 => ⟨S4098x5632, .f32⟩
  | 81 => ⟨S_, .f32⟩
  | 82 => ⟨S5632, .f32⟩
  | 83 => ⟨S1x5632, .f32⟩
  | 84 => ⟨S_, .f32⟩
  | 85 => ⟨S3x5632, .f32⟩
  | 86 => ⟨S3x5632, .f32⟩
  | 87 => ⟨S4096x5632, .f32⟩
  | 88 => ⟨S4096x5632, .f32⟩
  | 89 => ⟨S4096x5632, .f32⟩
  | 90 => ⟨S_, .f32⟩
  | 91 => ⟨S5632, .f32⟩
  | 92 => ⟨S1x5632, .f32⟩
  | 93 => ⟨S_, .f32⟩
  | 94 => ⟨S4098x5632, .f32⟩
  | 95 => ⟨S4098x5632, .f32⟩
  | 96 => ⟨S_, .f32⟩
  | 97 => ⟨S5632, .f32⟩
  | 98 => ⟨S1x5632, .f32⟩
  | 99 => ⟨S_, .f32⟩
  | 100 => ⟨S3x5632, .f32⟩
  | 101 => ⟨S3x5632, .f32⟩
  | 102 => ⟨S2x5632, .f32⟩
  | 103 => ⟨S4096x5632, .f32⟩
  | 104 => ⟨S_, .f32⟩
  | 105 => ⟨S5x5632, .f32⟩
  | 106 => ⟨S8x5632, .f32⟩
  | 107 => ⟨S16x8x32x1024, .f32⟩
  | 108 => ⟨S16x32x8x1024, .f32⟩
  | 109 => ⟨S4096x1024, .f32⟩
  | 110 => ⟨S4096x1024, .bf16⟩
  | 111 => ⟨S16x8x32x2816, .f32⟩
  | 112 => ⟨S16x32x8x2816, .f32⟩
  | 113 => ⟨S4096x2816, .f32⟩
  | 114 => ⟨S4096x2816, .bf16⟩
  | 115 => ⟨S16x8x32x5632, .f32⟩
  | 116 => ⟨S16x32x8x5632, .f32⟩
  | 117 => ⟨S4096x5632, .f32⟩
  | 118 => ⟨S4096x5632, .bf16⟩
  | 119 => ⟨S1x1024, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_call1_v0 : Ref sig .tc := ⟨.hbm, 119, rfl⟩
abbrev main_call1_v1 : Ref sig .tc := ⟨.hbm, 120, rfl⟩
abbrev main_call1_cst : Ref sig .tc := ⟨.hbm, 121, rfl⟩
abbrev main_call1_v2 : Ref sig .tc := ⟨.hbm, 122, rfl⟩
abbrev main_call1_v3 : Ref sig .tc := ⟨.hbm, 123, rfl⟩
abbrev main_call1_cst_0 : Ref sig .tc := ⟨.hbm, 124, rfl⟩
abbrev main_call1_v4 : Ref sig .tc := ⟨.hbm, 125, rfl⟩
abbrev main_v92_2 : Ref sig .tc := ⟨.hbm, 126, rfl⟩
abbrev main_call1_cst_1 : Ref sig .tc := ⟨.hbm, 127, rfl⟩
abbrev main_call1_v6 : Ref sig .tc := ⟨.hbm, 128, rfl⟩
abbrev main_call1_v7 : Ref sig .tc := ⟨.hbm, 129, rfl⟩
abbrev main_v92_1 : Ref sig .tc := ⟨.hbm, 130, rfl⟩
abbrev main_v92_0 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_13 : Ref sig .tc := ⟨.hbm, 135, rfl⟩
abbrev main_v96 : Ref sig .tc := ⟨.hbm, 136, rfl⟩
abbrev main_v97 : Ref sig .tc := ⟨.hbm, 137, rfl⟩
abbrev main_cst_14 : Ref sig .tc := ⟨.hbm, 138, rfl⟩
abbrev main_v98 : Ref sig .tc := ⟨.hbm, 139, rfl⟩
abbrev main_v99 : Ref sig .tc := ⟨.hbm, 140, rfl⟩
abbrev main_cst_15 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_16 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_17 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_18 : Ref sig .tc := ⟨.hbm, 160, rfl⟩
abbrev main_v116 : Ref sig .tc := ⟨.hbm, 161, rfl⟩
abbrev main_v117 : Ref sig .tc := ⟨.hbm, 162, rfl⟩
abbrev main_cst_19 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_20 : Ref sig .tc := ⟨.hbm, 169, rfl⟩
abbrev main_v123 : Ref sig .tc := ⟨.hbm, 170, rfl⟩
abbrev main_v124 : Ref sig .tc := ⟨.hbm, 171, rfl⟩
abbrev main_cst_21 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_22 : Ref sig .tc := ⟨.hbm, 190, rfl⟩
abbrev main_v139 : Ref sig .tc := ⟨.hbm, 191, rfl⟩
abbrev main_v140 : Ref sig .tc := ⟨.hbm, 192, rfl⟩
abbrev main_cst_23 : Ref sig .tc := ⟨.hbm, 193, rfl⟩
abbrev main_v141 : Ref sig .tc := ⟨.hbm, 194, rfl⟩
abbrev main_cst_24 : Ref sig .tc := ⟨.hbm, 195, rfl⟩
abbrev main_v142 : Ref sig .tc := ⟨.hbm, 196, rfl⟩
abbrev main_v143 : Ref sig .tc := ⟨.hbm, 197, rfl⟩
abbrev main_cst_25 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_26 : Ref sig .tc := ⟨.hbm, 203, rfl⟩
abbrev main_v148 : Ref sig .tc := ⟨.hbm, 204, rfl⟩
abbrev main_v149 : Ref sig .tc := ⟨.hbm, 205, rfl⟩
abbrev main_cst_27 : Ref sig .tc := ⟨.hbm, 206, rfl⟩
abbrev main_v150 : Ref sig .tc := ⟨.hbm, 207, rfl⟩
abbrev main_v151 : Ref sig .tc := ⟨.hbm, 208, rfl⟩
abbrev main_cst_28 : Ref sig .tc := ⟨.hbm, 209, rfl⟩
abbrev main_v152 : Ref sig .tc := ⟨.hbm, 210, rfl⟩
abbrev main_v153 : Ref sig .tc := ⟨.hbm, 211, rfl⟩
abbrev main_cst_29 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_30 : Ref sig .tc := ⟨.hbm, 218, rfl⟩
abbrev main_v159 : Ref sig .tc := ⟨.hbm, 219, rfl⟩
abbrev main_v160 : Ref sig .tc := ⟨.hbm, 220, rfl⟩
abbrev main_cst_31 : Ref sig .tc := ⟨.hbm, 221, rfl⟩
abbrev main_v161 : Ref sig .tc := ⟨.hbm, 222, rfl⟩
abbrev main_v162 : Ref sig .tc := ⟨.hbm, 223, rfl⟩
abbrev main_cst_32 : Ref sig .tc := ⟨.hbm, 224, rfl⟩
abbrev main_v163 : Ref sig .tc := ⟨.hbm, 225, rfl⟩
abbrev main_v164 : Ref sig .tc := ⟨.hbm, 226, rfl⟩
abbrev main_cst_33 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_cst_34 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x5632, .bf16⟩
  | .hbm, ⟨5, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S4x704x1024 : Shape := ⟨3, ![4, 704, 1024]⟩
abbrev S1024x1408 : Shape := ⟨2, ![1024, 1408]⟩
abbrev S1024x1024 : Shape := ⟨2, ![1024, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S4x704x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x704x1024, .f32⟩
  | .local _ .vmem, ⟨5, _⟩ => ⟨S2x704x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S4x704x1024 : Shape := ⟨3, ![4, 704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4x704x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x2304 : Shape := ⟨2, ![1024, 2304]⟩
abbrev S4096x2304 : Shape := ⟨2, ![4096, 2304]⟩
abbrev S4x1024x576 : Shape := ⟨3, ![4, 1024, 576]⟩
abbrev S1024x1024 : Shape := ⟨2, ![1024, 1024]⟩
abbrev S1024x576 : Shape := ⟨2, ![1024, 576]⟩
abbrev S1x1024x576 : Shape := ⟨3, ![1, 1024, 576]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x1024, .bf16⟩
  | .hbm, ⟨4, _⟩ => ⟨S4096x2304, .bf16⟩
  | .hbm, ⟨5, _⟩ => ⟨S4x1024x576, .f32⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S4x1024x576, .f32⟩
  | .local _ .vmem, ⟨5, _⟩ => ⟨S1024x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x1024 : Shape := ⟨2, ![4096, 1024]⟩
abbrev S1024x2304 : Shape := ⟨2, ![1024, 2304]⟩
abbrev S4096x2304 : Shape := ⟨2, ![4096, 2304]⟩
abbrev S2304x1024 : Shape := ⟨2, ![2304, 1024]⟩
abbrev S1024x4x576 : Shape := ⟨3, ![1024, 4, 576]⟩
abbrev S4x1024x576 : Shape := ⟨3, ![4, 1024, 576]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x2304, .f32⟩
  | .hbm, ⟨4, _⟩ => ⟨S2304x1024, .f32⟩
  | .hbm, ⟨5, _⟩ => ⟨S1024x2304, .f32⟩
  | .hbm, ⟨6, _⟩ => ⟨S1024x4x576, .f32⟩
  | .hbm, ⟨7, _⟩ => ⟨S4x1024x576, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x5632 : Shape := ⟨2, ![512, 5632]⟩
abbrev S512x1024 : Shape := ⟨2, ![512, 1024]⟩
abbrev S8x1024 : Shape := ⟨2, ![8, 1024]⟩
abbrev S1x1024x1408 : Shape := ⟨3, ![1, 1024, 1408]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩
abbrev S64x8x1024 : Shape := ⟨3, ![64, 8, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S4096x5632, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v68 : BitVec 1 := Scalar.cmpi .eq arg0 c7_i32
  let v69 : BitVec 32 := Scalar.extui v68
  let c0_i32_36 : BitVec 32 := 0#32
  let v70 : BitVec 1 := Scalar.cmpi .ne v69 c0_i32_36
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S1024x4x576 : Shape := ⟨3, ![1024, 4, 576]⟩
abbrev S4x1024x576 : Shape := ⟨3, ![4, 1024, 576]⟩
abbrev S1x1024 : Shape := ⟨2, ![1, 1024]⟩
abbrev S512x2304 : Shape := ⟨2, ![512, 2304]⟩
abbrev S512x1024 : Shape := ⟨2, ![512, 1024]⟩
abbrev S8x1024 : Shape := ⟨2, ![8, 1024]⟩
abbrev S1x1024x576 : Shape := ⟨3, ![1, 1024, 576]⟩
abbrev S1024x576 : Shape := ⟨2, ![1024, 576]⟩
abbrev S1024x768 : Shape := ⟨2, ![1024, 768]⟩
abbrev S512x768 : Shape := ⟨2, ![512, 768]⟩
abbrev S512 : Shape := ⟨1, ![512]⟩
abbrev S512x1 : Shape := ⟨2, ![512, 1]⟩
abbrev S64x8x1024 : Shape := ⟨3, ![64, 8, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S1024x2304, .bf16⟩
  | .hbm, ⟨6, _⟩ => ⟨S1024x4x576, .bf16⟩
  | .hbm, ⟨7, _⟩ => ⟨S4x1024x576, .bf16⟩
  | .hbm, ⟨8, _⟩ => ⟨S4096x2304, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S4x1024x576, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x1024, .f32⟩
  | .local _ .vmem, ⟨12, _⟩ => ⟨S1024x2304, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_31 : BitVec 32 := 0#32
  let v61 : BitVec 1 := Scalar.cmpi .ne v60 c0_i32_31
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2304, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel7.lean ====
abbrev S4x1024x576 : Shape := ⟨3, ![4, 1024, 576]⟩
abbrev S4096x576 : Shape := ⟨2, ![4096, 576]⟩
abbrev S512x576 : Shape := ⟨2, ![512, 576]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x576, .f32⟩
  | .hbm, ⟨1, _⟩ => ⟨S4x1024x576, .f32⟩
  | .hbm, ⟨2, _⟩ => ⟨S4x1024x576, .f32⟩
  | .hbm, ⟨3, _⟩ => ⟨S4x1024x576, .f32⟩
  | .hbm, ⟨4, _⟩ => ⟨S4096x576, .f32⟩
  | .hbm, ⟨5, _⟩ => ⟨S4096x576, .f32⟩
  | .hbm, ⟨6, _⟩ => ⟨S4096x576, .f32⟩
  | .hbm, ⟨7, _⟩ => ⟨S4096x576, .f32⟩
  | .hbm, ⟨8, _⟩ => ⟨S4096x576, .f32⟩
  | .hbm, ⟨9, _⟩ => ⟨S4096x576, .f32⟩
  | .hbm, ⟨10, _⟩ => ⟨S4096x576, .f32⟩
  | .local _ .vmem, ⟨0, _⟩ => ⟨S512x576, .f32⟩
  | .local _ .vmem, ⟨1, _⟩ => ⟨S512x576, .f32⟩
  | .local _ .vmem, ⟨2, _⟩ => ⟨S512x576, .f32⟩
  | .local _ .vmem, ⟨3, _⟩ => ⟨S512x576, .f32⟩
  | .local _ .vmem, ⟨4, _⟩ => ⟨S512x576, .f32⟩
  | .local _ .vmem, ⟨5, _⟩ => ⟨S512x576, .f32⟩
  | .local _ .vmem, ⟨6, _⟩ => ⟨S512x576, .f32⟩
  | .local _ .vmem, ⟨7, _⟩ => ⟨S512x576, .f32⟩
  | .local _ .vmem, ⟨8, _⟩ => ⟨S512x576, .f32⟩
  | .local _ .vmem, ⟨9, _⟩ => ⟨S512x576, .f32⟩
  | .local _ .vmem, ⟨10, _⟩ => ⟨S512x576, .f32⟩
  | .local _ .vmem, ⟨11, _⟩ => ⟨S512x576, .f32⟩
  | .local _ .vmem, ⟨12, _⟩ => ⟨S512x576, .f32⟩
  | .local _ .vmem, ⟨13, _⟩ => ⟨S512x576, .f32⟩
  | _, _ => ⟨S4x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
abbrev S4x1024x576 : Shape := ⟨3, ![4, 1024, 576]⟩
abbrev S4096x576 : Shape := ⟨2, ![4096, 576]⟩
abbrev S512x576 : Shape := ⟨2, ![512, 576]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x576, .f32⟩
  | .hbm, ⟨1, _⟩ => ⟨S4x1024x576, .f32⟩
  | .hbm, ⟨2, _⟩ => ⟨S4x1024x576, .f32⟩
  | .hbm, ⟨3, _⟩ => ⟨S4x1024x576, .f32⟩
  | .hbm, ⟨4, _⟩ => ⟨S4096x576, .f32⟩
  | .hbm, ⟨5, _⟩ => ⟨S4096x576, .f32⟩
  | .hbm, ⟨6, _⟩ => ⟨S4096x576, .f32⟩
  | .hbm, ⟨7, _⟩ => ⟨S4096x576, .f32⟩
  | .hbm, ⟨8, _⟩ => ⟨S4096x576, .f32⟩
  | .hbm, ⟨9, _⟩ => ⟨S4096x576, .f32⟩
  | .hbm, ⟨10, _⟩ => ⟨S4096x576, .f32⟩
  | .local _ .vmem, ⟨0, _⟩ => ⟨S512x576, .f32⟩
  | .local _ .vmem, ⟨1, _⟩ => ⟨S512x576, .f32⟩
  | .local _ .vmem, ⟨2, _⟩ => ⟨S512x576, .f32⟩
  | .local _ .vmem, ⟨3, _⟩ => ⟨S512x576, .f32⟩
  | .local _ .vmem, ⟨4, _⟩ => ⟨S512x576, .f32⟩
  | .local _ .vmem, ⟨5, _⟩ => ⟨S512x576, .f32⟩
  | .local _ .vmem, ⟨6, _⟩ => ⟨S512x576, .f32⟩
  | .local _ .vmem, ⟨7, _⟩ => ⟨S512x576, .f32⟩
  | .local _ .vmem, ⟨8, _⟩ => ⟨S512x576, .f32⟩
  | .local _ .vmem, ⟨9, _⟩ => ⟨S512x576, .f32⟩
  | .local _ .vmem, ⟨10, _⟩ => ⟨S512x576, .f32⟩
  | .local _ .vmem, ⟨11, _⟩ => ⟨S512x576, .f32⟩
  | .local _ .vmem, ⟨12, _⟩ => ⟨S512x576, .f32⟩
  | .local _ .vmem, ⟨13, _⟩ => ⟨S512x576, .f32⟩
  | _, _ => ⟨S4x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4x1024x576 : Shape := ⟨3, ![4, 1024, 576]⟩
abbrev S4096x576 : Shape := ⟨2, ![4096, 576]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x576, .f32⟩
  | .hbm, ⟨1, _⟩ => ⟨S4x1024x576, .f32⟩
  | .hbm, ⟨2, _⟩ => ⟨S4x1024x576, .f32⟩
  | .hbm, ⟨3, _⟩ => ⟨S4x1024x576, .f32⟩
  | .hbm, ⟨4, _⟩ => ⟨S4096x576, .f32⟩
  | .hbm, ⟨5, _⟩ => ⟨S4096x576, .f32⟩
  | .hbm, ⟨6, _⟩ => ⟨S4096x576, .f32⟩
  | .hbm, ⟨7, _⟩ => ⟨S4096x576, .f32⟩
  | .hbm, ⟨8, _⟩ => ⟨S_, .f32⟩
  | .hbm, ⟨9, _⟩ => ⟨S4096x576, .f32⟩
  | .hbm, ⟨10, _⟩ => ⟨S4096x576, .f32⟩
  | .hbm, ⟨11, _⟩ => ⟨S_, .f32⟩
  | .hbm, ⟨12, _⟩ => ⟨S4096x576, .f32⟩
  | .hbm, ⟨13, _⟩ => ⟨S4096x576, .f32⟩
  | .hbm, ⟨14, _⟩ => ⟨S4096x576, .f32⟩
  | .hbm, ⟨15, _⟩ => ⟨S_, .f32⟩
  | .hbm, ⟨16, _⟩ => ⟨S4096x576, .f32⟩
  | .hbm, ⟨17, _⟩ => ⟨S4096x576, .f32⟩
  | .hbm, ⟨18, _⟩ => ⟨S4096x576, .f32⟩
  | .hbm, ⟨19, _⟩ => ⟨S_, .f32⟩
  | .hbm, ⟨20, _⟩ => ⟨S4096x576, .f32⟩
  | .hbm, ⟨21, _⟩ => ⟨S4096x576, .f32⟩
  | .hbm, ⟨22, _⟩ => ⟨S4096x576, .f32⟩
  | .hbm, ⟨23, _⟩ => ⟨S_, .f32⟩
  | .hbm, ⟨24, _⟩ => ⟨S4096x576, .f32⟩
  | .hbm, ⟨25, _⟩ => ⟨S4096x576, .f32⟩
  | .hbm, ⟨26, _⟩ => ⟨S_, .f32⟩
  | .hbm, ⟨27, _⟩ => ⟨S4096x576, .f32⟩
  | .hbm, ⟨28, _⟩ => ⟨S4096x576, .f32⟩
  | .hbm, ⟨29, _⟩ => ⟨S4096x576, .f32⟩
  | .hbm, ⟨30, _⟩ => ⟨S_, .f32⟩
  | .hbm, ⟨31, _⟩ => ⟨S4096x576, .f32⟩
  | .hbm, ⟨32, _⟩ => ⟨S4096x576, .f32⟩
  | .hbm, ⟨33, _⟩ => ⟨S4096x576, .f32⟩
  | .hbm, ⟨34, _⟩ => ⟨S_, .f32⟩
  | .hbm, ⟨35, _⟩ => ⟨S4096x576, .f32⟩
  | .hbm, ⟨36, _⟩ => ⟨S4096x576, .f32⟩
  | .hbm, ⟨37, _⟩ => ⟨S4096x576, .f32⟩
  | .hbm, ⟨38, _⟩ => ⟨S_, .f32⟩
  | .hbm, ⟨39, _⟩ => ⟨S4096x576, .f32⟩
  | .hbm, ⟨40, _⟩ => ⟨S4096x576, .f32⟩
  | _, _ => ⟨S4x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel8.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4x256x1024 : Shape := ⟨3, ![4, 256, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel9.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x1024x1408 : Shape := ⟨3, ![4, 1024, 1408]⟩
abbrev S4096x1408 : Shape := ⟨2, ![4096, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S_, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S4096x1408, .f32⟩
  | .hbm, ⟨23, _⟩ => ⟨S_, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | .hbm, ⟨37, _⟩ => ⟨S4096x1408, .f32⟩
  | .hbm, ⟨38, _⟩ => ⟨S_, .f32⟩
  | .hbm, ⟨39, _⟩ => ⟨S4096x1408, .f32⟩
  | .hbm, ⟨40, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel10.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4x704x1024 : Shape := ⟨3, ![4, 704, 1024]⟩
abbrev S2816x1024 : Shape := ⟨2, ![2816, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S_, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S2816x1024, .f32⟩
  | .hbm, ⟨23, _⟩ => ⟨S_, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | .hbm, ⟨37, _⟩ => ⟨S2816x1024, .f32⟩
  | .hbm, ⟨38, _⟩ => ⟨S_, .f32⟩
  | .hbm, ⟨39, _⟩ => ⟨S2816x1024, .f32⟩
  | .hbm, ⟨40, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel11.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4x3x64 : Shape := ⟨3, ![4, 3, 64]⟩
abbrev S12x64 : Shape := ⟨2, ![12, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S12x64, .f32⟩
  | .hbm, ⟨9, _⟩ => ⟨S12x64, .f32⟩
  | .hbm, ⟨10, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S4x3x64 : Shape := ⟨3, ![4, 3, 64]⟩
abbrev S12x64 : Shape := ⟨2, ![12, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S12x64, .f32⟩
  | .hbm, ⟨9, _⟩ => ⟨S12x64, .f32⟩
  | .hbm, ⟨10, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S4x3x64 : Shape := ⟨3, ![4, 3, 64]⟩
abbrev S12x64 : Shape := ⟨2, ![12, 64]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S_, .f32⟩
  | .hbm, ⟨9, _⟩ => ⟨S12x64, .f32⟩
  | .hbm, ⟨10, _⟩ => ⟨S12x64, .f32⟩
  | .hbm, ⟨11, _⟩ => ⟨S_, .f32⟩
  | .hbm, ⟨12, _⟩ => ⟨S12x64, .f32⟩
  | .hbm, ⟨13, _⟩ => ⟨S12x64, .f32⟩
  | .hbm, ⟨14, _⟩ => ⟨S12x64, .f32⟩
  | .hbm, ⟨15, _⟩ => ⟨S_, .f32⟩
  | .hbm, ⟨16, _⟩ => ⟨S12x64, .f32⟩
  | .hbm, ⟨17, _⟩ => ⟨S12x64, .f32⟩
  | .hbm, ⟨18, _⟩ => ⟨S12x64, .f32⟩
  | .hbm, ⟨19, _⟩ => ⟨S_, .f32⟩
  | .hbm, ⟨20, _⟩ => ⟨S12x64, .f32⟩
  | .hbm, ⟨21, _⟩ => ⟨S12x64, .f32⟩
  | .hbm, ⟨22, _⟩ => ⟨S12x64, .f32⟩
  | .hbm, ⟨23, _⟩ => ⟨S_, .f32⟩
  | .hbm, ⟨24, _⟩ => ⟨S12x64, .f32⟩
  | .hbm, ⟨25, _⟩ => ⟨S12x64, .f32⟩
  | .hbm, ⟨26, _⟩ => ⟨S_, .f32⟩
  | .hbm, ⟨27, _⟩ => ⟨S12x64, .f32⟩
  | .hbm, ⟨28, _⟩ => ⟨S12x64, .f32⟩
  | .hbm, ⟨29, _⟩ => ⟨S12x64, .f32⟩
  | .hbm, ⟨30, _⟩ => ⟨S_, .f32⟩
  | .hbm, ⟨31, _⟩ => ⟨S12x64, .f32⟩
  | .hbm, ⟨32, _⟩ => ⟨S12x64, .f32⟩
  | .hbm, ⟨33, _⟩ => ⟨S12x64, .f32⟩
  | .hbm, ⟨34, _⟩ => ⟨S_, .f32⟩
  | .hbm, ⟨35, _⟩ => ⟨S12x64, .f32⟩
  | .hbm, ⟨36, _⟩ => ⟨S12x64, .f32⟩
  | .hbm, ⟨37, _⟩ => ⟨S12x64, .f32⟩
  | .hbm, ⟨38, _⟩ => ⟨S_, .f32⟩
  | .hbm, ⟨39, _⟩ => ⟨S12x64, .f32⟩
  | .hbm, ⟨40, _⟩ => ⟨S12x64, .f32⟩
  | _, _ => ⟨S4x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S4x31x96 : Shape := ⟨3, ![4, 31, 96]⟩
abbrev S124x96 : Shape := ⟨2, ![124, 96]⟩

abbrev nBuf : Space → Nat
  | .hbm => 11
  | .vmem => 7
  | .smem => 0
  | _ => 0

abbrev bufTy : (tb : Table) → Fin (tcTables nBuf tb) → BufTy
  | .hbm, ⟨0, _⟩ => ⟨S4x31x96, .f32⟩
  | .hbm, ⟨1, _⟩ => ⟨S4x31x96, .f32⟩
  | .hbm, ⟨2, _⟩ => ⟨S4x31x96, .f32⟩
  | .hbm, ⟨3, _⟩ => ⟨S4x31x96, .f32⟩
  | .hbm, ⟨4, _⟩ => ⟨S124x96, .f32⟩
  | .hbm, ⟨5, _⟩ => ⟨S124x96, .f32⟩
  | .hbm, ⟨6, _⟩ => ⟨S124x96, .f32⟩
  | .hbm, ⟨7, _⟩ => ⟨S124x96, .f32⟩
  | .hbm, ⟨8, _⟩ => ⟨S124x96, .f32⟩
  | .hbm, ⟨9, _⟩ => ⟨S124x96, .f32⟩
  | .hbm, ⟨10, _⟩ => ⟨S124x96, .f32⟩
  | .local _ .vmem, ⟨0, _⟩ => ⟨S124x96, .f32⟩
  | .local _ .vmem, ⟨1, _⟩ => ⟨S124x96, .f32⟩
  | .local _ .vmem, ⟨2, _⟩ => ⟨S124x96, .f32⟩
  | .local _ .vmem, ⟨3, _⟩ => ⟨S124x96, .f32⟩
  | .local _ .vmem, ⟨4, _⟩ => ⟨S124x96, .f32⟩
  | .local _ .vmem, ⟨5, _⟩ => ⟨S124x96, .f32⟩
  | .local _ .vmem, ⟨6, _⟩ => ⟨S124x96, .f32⟩
  | _, _ => ⟨S4x31x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S4x31x96 : Shape := ⟨3, ![4, 31, 96]⟩
abbrev S124x96 : Shape := ⟨2, ![124, 96]⟩

abbrev nBuf : Space → Nat
  | .hbm => 11
  | .vmem => 7
  | .smem => 0
  | _ => 0

abbrev bufTy : (tb : Table) → Fin (tcTables nBuf tb) → BufTy
  | .hbm, ⟨0, _⟩ => ⟨S4x31x96, .f32⟩
  | .hbm, ⟨1, _⟩ => ⟨S4x31x96, .f32⟩
  | .hbm, ⟨2, _⟩ => ⟨S4x31x96, .f32⟩
  | .hbm, ⟨3, _⟩ => ⟨S4x31x96, .f32⟩
  | .hbm, ⟨4, _⟩ => ⟨S124x96, .f32⟩
  | .hbm, ⟨5, _⟩ => ⟨S124x96, .f32⟩
  | .hbm, ⟨6, _⟩ => ⟨S124x96, .f32⟩
  | .hbm, ⟨7, _⟩ => ⟨S124x96, .f32⟩
  | .hbm, ⟨8, _⟩ => ⟨S124x96, .f32⟩
  | .hbm, ⟨9, _⟩ => ⟨S124x96, .f32⟩
  | .hbm, ⟨10, _⟩ => ⟨S124x96, .f32⟩
  | .local _ .vmem, ⟨0, _⟩ => ⟨S124x96, .f32⟩
  | .local _ .vmem, ⟨1, _⟩ => ⟨S124x96, .f32⟩
  | .local _ .vmem, ⟨2, _⟩ => ⟨S124x96, .f32⟩
  | .local _ .vmem, ⟨3, _⟩ => ⟨S124x96, .f32⟩
  | .local _ .vmem, ⟨4, _⟩ => ⟨S124x96, .f32⟩
  | .local _ .vmem, ⟨5, _⟩ => ⟨S124x96, .f32⟩
  | .local _ .vmem, ⟨6, _⟩ => ⟨S124x96, .f32⟩
  | _, _ => ⟨S4x31x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S4x31x96 : Shape := ⟨3, ![4, 31, 96]⟩
abbrev S124x96 : Shape := ⟨2, ![124, 96]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x31x96, .f32⟩
  | .hbm, ⟨1, _⟩ => ⟨S4x31x96, .f32⟩
  | .hbm, ⟨2, _⟩ => ⟨S4x31x96, .f32⟩
  | .hbm, ⟨3, _⟩ => ⟨S4x31x96, .f32⟩
  | .hbm, ⟨4, _⟩ => ⟨S124x96, .f32⟩
  | .hbm, ⟨5, _⟩ => ⟨S124x96, .f32⟩
  | .hbm, ⟨6, _⟩ => ⟨S124x96, .f32⟩
  | .hbm, ⟨7, _⟩ => ⟨S124x96, .f32⟩
  | .hbm, ⟨8, _⟩ => ⟨S_, .f32⟩
  | .hbm, ⟨9, _⟩ => ⟨S124x96, .f32⟩
  | .hbm, ⟨10, _⟩ => ⟨S124x96, .f32⟩
  | .hbm, ⟨11, _⟩ => ⟨S_, .f32⟩
  | .hbm, ⟨12, _⟩ => ⟨S124x96, .f32⟩
  | .hbm, ⟨13, _⟩ => ⟨S124x96, .f32⟩
  | .hbm, ⟨14, _⟩ => ⟨S124x96, .f32⟩
  | .hbm, ⟨15, _⟩ => ⟨S_, .f32⟩
  | .hbm, ⟨16, _⟩ => ⟨S124x96, .f32⟩
  | .hbm, ⟨17, _⟩ => ⟨S124x96, .f32⟩
  | .hbm, ⟨18, _⟩ => ⟨S124x96, .f32⟩
  | .hbm, ⟨19, _⟩ => ⟨S_, .f32⟩
  | .hbm, ⟨20, _⟩ => ⟨S124x96, .f32⟩
  | .hbm, ⟨21, _⟩ => ⟨S124x96, .f32⟩
  | .hbm, ⟨22, _⟩ => ⟨S124x96, .f32⟩
  | .hbm, ⟨23, _⟩ => ⟨S_, .f32⟩
  | .hbm, ⟨24, _⟩ => ⟨S124x96, .f32⟩
  | .hbm, ⟨25, _⟩ => ⟨S124x96, .f32⟩
  | .hbm, ⟨26, _⟩ => ⟨S_, .f32⟩
  | .hbm, ⟨27, _⟩ => ⟨S124x96, .f32⟩
  | .hbm, ⟨28, _⟩ => ⟨S124x96, .f32⟩
  | .hbm, ⟨29, _⟩ => ⟨S124x96, .f32⟩
  | .hbm, ⟨30, _⟩ => ⟨S_, .f32⟩
  | .hbm, ⟨31, _⟩ => ⟨S124x96, .f32⟩
  | .hbm, ⟨32, _⟩ => ⟨S124x96, .f32⟩
  | .hbm, ⟨33, _⟩ => ⟨S124x96, .f32⟩
  | .hbm, ⟨34, _⟩ => ⟨S_, .f32⟩
  | .hbm, ⟨35, _⟩ => ⟨S124x96, .f32⟩
  | .hbm, ⟨36, _⟩ => ⟨S124x96, .f32⟩
  | .hbm, ⟨37, _⟩ => ⟨S124x96, .f32⟩
  | .hbm, ⟨38, _⟩ => ⟨S_, .f32⟩
  | .hbm, ⟨39, _⟩ => ⟨S124x96, .f32⟩
  | .hbm, ⟨40, _⟩ => ⟨S124x96, .f32⟩
  | _, _ => ⟨S4x31x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel15.lean ====
abbrev S4x3x1408 : Shape := ⟨3, ![4, 3, 1408]⟩
abbrev S12x1408 : Shape := ⟨2, ![12, 1408]⟩

abbrev nBuf : Space → Nat
  | .hbm => 11
  | .vmem => 7
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S12x1408, .f32⟩
  | .hbm, ⟨9, _⟩ => ⟨S12x1408, .f32⟩
  | .hbm, ⟨10, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S4x3x1408 : Shape := ⟨3, ![4, 3, 1408]⟩
abbrev S12x1408 : Shape := ⟨2, ![12, 1408]⟩

abbrev nBuf : Space → Nat
  | .hbm => 11
  | .vmem => 7
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S12x1408, .f32⟩
  | .hbm, ⟨9, _⟩ => ⟨S12x1408, .f32⟩
  | .hbm, ⟨10, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S4x3x1408 : Shape := ⟨3, ![4, 3, 1408]⟩
abbrev S12x1408 : Shape := ⟨2, ![12, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S_, .f32⟩
  | .hbm, ⟨9, _⟩ => ⟨S12x1408, .f32⟩
  | .hbm, ⟨10, _⟩ => ⟨S12x1408, .f32⟩
  | .hbm, ⟨11, _⟩ => ⟨S_, .f32⟩
  | .hbm, ⟨12, _⟩ => ⟨S12x1408, .f32⟩
  | .hbm, ⟨13, _⟩ => ⟨S12x1408, .f32⟩
  | .hbm, ⟨14, _⟩ => ⟨S12x1408, .f32⟩
  | .hbm, ⟨15, _⟩ => ⟨S_, .f32⟩
  | .hbm, ⟨16, _⟩ => ⟨S12x1408, .f32⟩
  | .hbm, ⟨17, _⟩ => ⟨S12x1408, .f32⟩
  | .hbm, ⟨18, _⟩ => ⟨S12x1408, .f32⟩
  | .hbm, ⟨19, _⟩ => ⟨S_, .f32⟩
  | .hbm, ⟨20, _⟩ => ⟨S12x1408, .f32⟩
  | .hbm, ⟨21, _⟩ => ⟨S12x1408, .f32⟩
  | .hbm, ⟨22, _⟩ => ⟨S12x1408, .f32⟩
  | .hbm, ⟨23, _⟩ => ⟨S_, .f32⟩
  | .hbm, ⟨24, _⟩ => ⟨S12x1408, .f32⟩
  | .hbm, ⟨25, _⟩ => ⟨S12x1408, .f32⟩
  | .hbm, ⟨26, _⟩ => ⟨S_, .f32⟩
  | .hbm, ⟨27, _⟩ => ⟨S12x1408, .f32⟩
  | .hbm, ⟨28, _⟩ => ⟨S12x1408, .f32⟩
  | .hbm, ⟨29, _⟩ => ⟨S12x1408, .f32⟩
  | .hbm, ⟨30, _⟩ => ⟨S_, .f32⟩
  | .hbm, ⟨31, _⟩ => ⟨S12x1408, .f32⟩
  | .hbm, ⟨32, _⟩ => ⟨S12x1408, .f32⟩
  | .hbm, ⟨33, _⟩ => ⟨S12x1408, .f32⟩
  | .hbm, ⟨34, _⟩ => ⟨S_, .f32⟩
  | .hbm, ⟨35, _⟩ => ⟨S12x1408, .f32⟩
  | .hbm, ⟨36, _⟩ => ⟨S12x1408, .f32⟩
  | .hbm, ⟨37, _⟩ => ⟨S12x1408, .f32⟩
  | .hbm, ⟨38, _⟩ => ⟨S_, .f32⟩
  | .hbm, ⟨39, _⟩ => ⟨S12x1408, .f32⟩
  | .hbm, ⟨40, _⟩ => ⟨S12x1408, .f32⟩
  | _, _ => ⟨S4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel16.lean ====
abbrev S4x6x128x128 : Shape := ⟨4, ![4, 6, 128, 128]⟩
abbrev S3072x128 : Shape := ⟨2, ![3072, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x6x128x128, .f32⟩
  | .hbm, ⟨1, _⟩ => ⟨S4x6x128x128, .f32⟩
  | .hbm, ⟨2, _⟩ => ⟨S4x6x128x128, .f32⟩
  | .hbm, ⟨3, _⟩ => ⟨S4x6x128x128, .f32⟩
  | .hbm, ⟨4, _⟩ => ⟨S3072x128, .f32⟩
  | .hbm, ⟨5, _⟩ => ⟨S3072x128, .f32⟩
  | .hbm, ⟨6, _⟩ => ⟨S3072x128, .f32⟩
  | .hbm, ⟨7, _⟩ => ⟨S3072x128, .f32⟩
  | .hbm, ⟨8, _⟩ => ⟨S3072x128, .f32⟩
  | .hbm, ⟨9, _⟩ => ⟨S3072x128, .f32⟩
  | .hbm, ⟨10, _⟩ => ⟨S3072x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x6x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S4x6x128x128 : Shape := ⟨4, ![4, 6, 128, 128]⟩
abbrev S3072x128 : Shape := ⟨2, ![3072, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x6x128x128, .f32⟩
  | .hbm, ⟨1, _⟩ => ⟨S4x6x128x128, .f32⟩
  | .hbm, ⟨2, _⟩ => ⟨S4x6x128x128, .f32⟩
  | .hbm, ⟨3, _⟩ => ⟨S4x6x128x128, .f32⟩
  | .hbm, ⟨4, _⟩ => ⟨S3072x128, .f32⟩
  | .hbm, ⟨5, _⟩ => ⟨S3072x128, .f32⟩
  | .hbm, ⟨6, _⟩ => ⟨S3072x128, .f32⟩
  | .hbm, ⟨7, _⟩ => ⟨S3072x128, .f32⟩
  | .hbm, ⟨8, _⟩ => ⟨S3072x128, .f32⟩
  | .hbm, ⟨9, _⟩ => ⟨S3072x128, .f32⟩
  | .hbm, ⟨10, _⟩ => ⟨S3072x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x6x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x6x128x128 : Shape := ⟨4, ![4, 6, 128, 128]⟩
abbrev S3072x128 : Shape := ⟨2, ![3072, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x6x128x128, .f32⟩
  | .hbm, ⟨1, _⟩ => ⟨S4x6x128x128, .f32⟩
  | .hbm, ⟨2, _⟩ => ⟨S4x6x128x128, .f32⟩
  | .hbm, ⟨3, _⟩ => ⟨S4x6x128x128, .f32⟩
  | .hbm, ⟨4, _⟩ => ⟨S3072x128, .f32⟩
  | .hbm, ⟨5, _⟩ => ⟨S3072x128, .f32⟩
  | .hbm, ⟨6, _⟩ => ⟨S3072x128, .f32⟩
  | .hbm, ⟨7, _⟩ => ⟨S3072x128, .f32⟩
  | .hbm, ⟨8, _⟩ => ⟨S_, .f32⟩
  | .hbm, ⟨9, _⟩ => ⟨S3072x128, .f32⟩
  | .hbm, ⟨10, _⟩ => ⟨S3072x128, .f32⟩
  | .hbm, ⟨11, _⟩ => ⟨S_, .f32⟩
  | .hbm, ⟨12, _⟩ => ⟨S3072x128, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S3072x128, .f32⟩
  | .hbm, ⟨23, _⟩ => ⟨S_, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | .hbm, ⟨37, _⟩ => ⟨S3072x128, .f32⟩
  | .hbm, ⟨38, _⟩ => ⟨S_, .f32⟩
  | .hbm, ⟨39, _⟩ => ⟨S3072x128, .f32⟩
  | .hbm, ⟨40, _⟩ => ⟨S3072x128, .f32⟩
  | _, _ => ⟨S4x6x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel17.lean ====
abbrev S4x6x128 : Shape := ⟨3, ![4, 6, 128]⟩
abbrev S24x128 : Shape := ⟨2, ![24, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x6x128, .f32⟩
  | .hbm, ⟨1, _⟩ => ⟨S4x6x128, .f32⟩
  | .hbm, ⟨2, _⟩ => ⟨S4x6x128, .f32⟩
  | .hbm, ⟨3, _⟩ => ⟨S4x6x128, .f32⟩
  | .hbm, ⟨4, _⟩ => ⟨S24x128, .f32⟩
  | .hbm, ⟨5, _⟩ => ⟨S24x128, .f32⟩
  | .hbm, ⟨6, _⟩ => ⟨S24x128, .f32⟩
  | .hbm, ⟨7, _⟩ => ⟨S24x128, .f32⟩
  | .hbm, ⟨8, _⟩ => ⟨S24x128, .f32⟩
  | .hbm, ⟨9, _⟩ => ⟨S24x128, .f32⟩
  | .hbm, ⟨10, _⟩ => ⟨S24x128, .f32⟩
  | .local _ .vmem, ⟨0, _⟩ => ⟨S24x128, .f32⟩
  | .local _ .vmem, ⟨1, _⟩ => ⟨S24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | _, _ => ⟨S4x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S4x6x128 : Shape := ⟨3, ![4, 6, 128]⟩
abbrev S24x128 : Shape := ⟨2, ![24, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x6x128, .f32⟩
  | .hbm, ⟨1, _⟩ => ⟨S4x6x128, .f32⟩
  | .hbm, ⟨2, _⟩ => ⟨S4x6x128, .f32⟩
  | .hbm, ⟨3, _⟩ => ⟨S4x6x128, .f32⟩
  | .hbm, ⟨4, _⟩ => ⟨S24x128, .f32⟩
  | .hbm, ⟨5, _⟩ => ⟨S24x128, .f32⟩
  | .hbm, ⟨6, _⟩ => ⟨S24x128, .f32⟩
  | .hbm, ⟨7, _⟩ => ⟨S24x128, .f32⟩
  | .hbm, ⟨8, _⟩ => ⟨S_, .f32⟩
  | .hbm, ⟨9, _⟩ => ⟨S24x128, .f32⟩
  | .hbm, ⟨10, _⟩ => ⟨S24x128, .f32⟩
  | .hbm, ⟨11, _⟩ => ⟨S_, .f32⟩
  | .hbm, ⟨12, _⟩ => ⟨S24x128, .f32⟩
  | .hbm, ⟨13, _⟩ => ⟨S24x128, .f32⟩
  | .hbm, ⟨14, _⟩ => ⟨S24x128, .f32⟩
  | .hbm, ⟨15, _⟩ => ⟨S_, .f32⟩
  | .hbm, ⟨16, _⟩ => ⟨S24x128, .f32⟩
  | .hbm, ⟨17, _⟩ => ⟨S24x128, .f32⟩
  | .hbm, ⟨18, _⟩ => ⟨S24x128, .f32⟩
  | .hbm, ⟨19, _⟩ => ⟨S_, .f32⟩
  | .hbm, ⟨20, _⟩ => ⟨S24x128, .f32⟩
  | .hbm, ⟨21, _⟩ => ⟨S24x128, .f32⟩
  | .hbm, ⟨22, _⟩ => ⟨S24x128, .f32⟩
  | .hbm, ⟨23, _⟩ => ⟨S_, .f32⟩
  | .hbm, ⟨24, _⟩ => ⟨S24x128, .f32⟩
  | .hbm, ⟨25, _⟩ => ⟨S24x128, .f32⟩
  | .hbm, ⟨26, _⟩ => ⟨S_, .f32⟩
  | .hbm, ⟨27, _⟩ => ⟨S24x128, .f32⟩
  | .hbm, ⟨28, _⟩ => ⟨S24x128, .f32⟩
  | .hbm, ⟨29, _⟩ => ⟨S24x128, .f32⟩
  | .hbm, ⟨30, _⟩ => ⟨S_, .f32⟩
  | .hbm, ⟨31, _⟩ => ⟨S24x128, .f32⟩
  | .hbm, ⟨32, _⟩ => ⟨S24x128, .f32⟩
  | .hbm, ⟨33, _⟩ => ⟨S24x128, .f32⟩
  | .hbm, ⟨34, _⟩ => ⟨S_, .f32⟩
  | .hbm, ⟨35, _⟩ => ⟨S24x128, .f32⟩
  | .hbm, ⟨36, _⟩ => ⟨S24x128, .f32⟩
  | .hbm, ⟨37, _⟩ => ⟨S24x128, .f32⟩
  | .hbm, ⟨38, _⟩ => ⟨S_, .f32⟩
  | .hbm, ⟨39, _⟩ => ⟨S24x128, .f32⟩
  | .hbm, ⟨40, _⟩ => ⟨S24x128, .f32⟩
  | _, _ => ⟨S4x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S16x8x32x1024 : Shape := ⟨4, ![16, 8, 32, 1024]⟩
abbrev S16x32x8x1024 : Shape := ⟨4, ![16, 32, 8, 1024]⟩
abbrev S1x1024 : Shape := ⟨2, ![1, 1024]⟩
abbrev S_ : Shape := ⟨0, ![]⟩
abbrev S8x5632 : Shape := ⟨2, ![8, 5632]⟩
abbrev S4096x5632 : Shape := ⟨2, ![4096, 5632]⟩
abbrev S256x1024 : Shape := ⟨2, ![256, 1024]⟩
abbrev S256x5632 : Shape := ⟨2, ![256, 5632]⟩
abbrev S272x5632 : Shape := ⟨2, ![272, 5632]⟩
abbrev S16x5632 : Shape := ⟨2, ![16, 5632]⟩
abbrev S4 : Shape := ⟨1, ![4]⟩
abbrev S1 : Shape := ⟨1, ![1]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S2x8x5632 : Shape := ⟨3, ![2, 8, 5632]⟩
abbrev S1x1408 : Shape := ⟨2, ![1, 1408]⟩
abbrev S1408x1024 : Shape := ⟨2, ![1408, 1024]⟩

abbrev nBuf : Space → Nat
  | .hbm => 23
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S2816x1024, .bf16⟩
  | .hbm, ⟨10, _⟩ => ⟨S4x704x1024, .bf16⟩
  | .hbm, ⟨11, _⟩ => ⟨S16x8x32x1024, .f32⟩
  | .hbm, ⟨12, _⟩ => ⟨S16x32x8x1024, .f32⟩
  | .hbm, ⟨13, _⟩ => ⟨S4096x1024, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S8x5632, .f32⟩
  | .hbm, ⟨18, _⟩ => ⟨S1x1024, .f32⟩
  | .hbm, ⟨19, _⟩ => ⟨S4096x5632, .f32⟩
  | .hbm, ⟨20, _⟩ => ⟨S4096x1024, .bf16⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S8x5632, .f32⟩
  | .local _ .vmem, ⟨5, _⟩ => ⟨S1x1024, .f32⟩
  | .local _ .vmem, ⟨6, _⟩ => ⟨S256x5632, .f32⟩
  | .local _ .vmem, ⟨7, _⟩ => ⟨S256x5632, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S272x5632, .f32⟩
  | .local _ .vmem, ⟨15, _⟩ => ⟨S16x5632, .f32⟩
  | .local _ .vmem, ⟨16, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S16x8x32x5632 : Shape := ⟨4, ![16, 8, 32, 5632]⟩
abbrev S16x32x8x5632 : Shape := ⟨4, ![16, 32, 8, 5632]⟩
abbrev S16x8x32x1024 : Shape := ⟨4, ![16, 8, 32, 1024]⟩
abbrev S16x32x8x1024 : Shape := ⟨4, ![16, 32, 8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S_, .f32⟩
  | .hbm, ⟨24, _⟩ => ⟨S2x5632, .f32⟩
  | .hbm, ⟨25, _⟩ => ⟨S4098x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S1x5632, .f32⟩
  | .hbm, ⟨36, _⟩ => ⟨S5632, .f32⟩
  | .hbm, ⟨37, _⟩ => ⟨S1x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S1x5632, .f32⟩
  | .hbm, ⟨43, _⟩ => ⟨S5632, .f32⟩
  | .hbm, ⟨44, _⟩ => ⟨S1x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x1024, .f32⟩
  | .hbm, ⟨62, _⟩ => ⟨S16x8x32x5632, .f32⟩
  | .hbm, ⟨63, _⟩ => ⟨S16x32x8x5632, .f32⟩
  | .hbm, ⟨64, _⟩ => ⟨S4096x5632, .f32⟩
  | .hbm, ⟨65, _⟩ => ⟨S16x8x32x1024, .f32⟩
  | .hbm, ⟨66, _⟩ => ⟨S16x32x8x1024, .f32⟩
  | .hbm, ⟨67, _⟩ => ⟨S4096x1024, .f32⟩
  | .hbm, ⟨68, _⟩ => ⟨S4096x1024, .bf16⟩
  | .hbm, ⟨69, _⟩ => ⟨S16x8x32x1024, .f32⟩
  | .hbm, ⟨70, _⟩ => ⟨S16x32x8x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S16x8x32x1024, .f32⟩
  | .hbm, ⟨90, _⟩ => ⟨S16x32x8x1024, .f32⟩
  | .hbm, ⟨91, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel19.lean ====
abbrev S4096x1024 : Shape := ⟨2, ![4096, 1024]⟩
abbrev S1x1 : Shape := ⟨2, ![1, 1]⟩
abbrev S512x1024 : Shape := ⟨2, ![512, 1024]⟩
abbrev S8x1024 : Shape := ⟨2, ![8, 1024]⟩
abbrev S64x8x1024 : Shape := ⟨3, ![64, 8, 1024]⟩
abbrev S1024 : Shape := ⟨1, ![1024]⟩
abbrev S1x1024 : Shape := ⟨2, ![1, 1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference19Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Bufs.lean ====
module

public import proofs.«01_k».proof.Proof.Gen.KernelIdeal.Frame.Runs

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- The buffers one call of the body works on: the six staged inputs, the five staged results, the six scratch buffers, each the whole of its buffer. -/
structure Bufs where
  ct : Memref sig .tc .vmem S256x1024 .f32
  ct_whole : ct.IsWhole
  d : Memref sig .tc .vmem S256x1024 .f32
  d_whole : d.IsWhole
  up : Memref sig .tc .vmem S256x5632 .f32
  up_whole : up.IsWhole
  halo : Memref sig .tc .vmem S16x5632 .f32
  halo_whole : halo.IsWhole
  cw : Memref sig .tc .vmem S8x5632 .f32
  cw_whole : cw.IsWhole
  g : Memref sig .tc .vmem S1x1024 .f32
  g_whole : g.IsWhole
  oDd : Memref sig .tc .vmem S256x1024 .bf16
  oDd_whole : oDd.IsWhole
  oAct : Memref sig .tc .vmem S256x2816 .bf16
  oAct_whole : oAct.IsWhole
  oDup : Memref sig .tc .vmem S256x5632 .bf16
  oDup_whole : oDup.IsWhole
  oPg : Memref sig .tc .vmem S1x1024 .f32
  oPg_whole : oPg.IsWhole
  oCw : Memref sig .tc .vmem S8x5632 .f32
  oCw_whole : oCw.IsWhole
  ext : Memref sig .tc .vmem S272x5632 .f32
  ext_whole : ext.IsWhole
  dup : Memref sig .tc .vmem S272x5632 .f32
  dup_whole : dup.IsWhole
  first : Memref sig .tc .vmem S16x5632 .f32
  first_whole : first.IsWhole
  apg : Memref sig .tc .vmem S8x1024 .f32
  apg_whole : apg.IsWhole
  acw : Memref sig .tc .vmem S8x8x5632 .f32
  acw_whole : acw.IsWhole
  wd : Memref sig .tc .vmem S2816x1024 .bf16
  wd_whole : wd.IsWhole

/-- The blocks the body reads at a point. -/
structure Ins (F : FTy → Type) where
  ct : Vec F S256x1024 .f32
  d : Vec F S256x1024 .f32
  up : Vec F S256x5632 .f32
  halo : Vec F S16x5632 .f32
  cw : Vec F S8x5632 .f32
  g : Vec F S1x1024 .f32

/-- What the scratch carried from one point to the next holds: the head rows of the gated gradient, the two running sums, the weights. -/
structure Carry (F : FTy → Type) where
  first : Vec F S16x5632 .f32
  apg : Vec F S8x1024 .f32
  acw : Vec F S8x8x5632 .f32
  wd : Vec F S2816x1024 .bf16

/-- The body on the buffers `b`. -/
abbrev body (i : grid0.Coords) (b : Bufs) :=
  cc0_ffn_bwd (F := F) i b.ct b.ct_whole b.d b.d_whole b.up b.up_whole b.halo b.halo_whole b.cw b.cw_whole (Memref.whole main_v30) (Memref.isWhole_whole _) b.g b.g_whole b.oDd b.oDd_whole b.oAct b.oAct_whole b.oDup b.oDup_whole b.oPg b.oPg_whole b.oCw b.oCw_whole b.ext b.ext_whole b.dup b.dup_whole b.first b.first_whole b.apg b.apg_whole b.acw b.acw_whole b.wd b.wd_whole cc0_scratch6

/-- The four copy counters of the body at zero. -/
abbrev cells (c : Dev nD) : sProp 𝕄 :=
  iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- The inputs' buffers hold the blocks `x`. -/
abbrev holds (c : Dev nD) (b : Bufs) (x : Ins F) : sProp 𝕄 :=
  iprop(owns (c : Thread nD τ) b.ct fullShare x.ct ∗ owns (c : Thread nD τ) b.d fullShare x.d ∗ owns (c : Thread nD τ) b.up fullShare x.up ∗ owns (c : Thread nD τ) b.halo fullShare x.halo ∗ owns (c : Thread nD τ) b.cw fullShare x.cw ∗ owns (c : Thread nD τ) b.g fullShare x.g)

/-- Buffer `a` holds the pieces `L` written over some contents. -/
abbrev wrote (c : Dev nD) {S : Shape} {e : EltTy} (a : Memref sig .tc .vmem S e) (L : List (View.Piece (Elt F) S e)) : sProp 𝕄 :=
  iprop(∃ f, a.view.loc (c : Thread nD τ) ↦[a.view.set]{fullShare} a.view.writes (Elt F) f L)

/-- Buffer `a` holds anything. -/
abbrev any (c : Dev nD) {S : Shape} {e : EltTy} (a : Memref sig .tc .vmem S e) : sProp 𝕄 :=
  iprop(∃ d : Vec F S e, owns (c : Thread nD τ) a fullShare d)

end Cert.Ffn

end

end
-- ==== Proof.RunA.lean ====
module

public import proofs.«01_k».proof.Proof.Bufs

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 4000000 in
set_option sl_exec.dmaWindow true in
set_option sl_exec.dmaWindowSet true in
/-- The body at the first point: the pieces its stores leave in each buffer, last first, with its triple. -/
def runA (c : Dev nD) (i : grid0.Coords) (b : Bufs) (h0 : cond0_0 i) (h1 : ¬cond0_1 i) (x : Ins F) (fh : HbBuf0 (F := F) c hbM0_0) :
    Σ' (LoDd : List (View.Piece (Elt F) S256x1024 .bf16)),
    Σ' (LoAct : List (View.Piece (Elt F) S256x2816 .bf16)),
    Σ' (LoDup : List (View.Piece (Elt F) S256x5632 .bf16)),
    Σ' (Lext : List (View.Piece (Elt F) S272x5632 .f32)),
    Σ' (Ldup : List (View.Piece (Elt F) S272x5632 .f32)),
    Σ' (Lfirst : List (View.Piece (Elt F) S16x5632 .f32)),
    Σ' (Lapg : List (View.Piece (Elt F) S8x1024 .f32)),
    Σ' (Lacw : List (View.Piece (Elt F) S8x8x5632 .f32)),
    { Lwd : List (View.Piece (Elt F) S2816x1024 .bf16) //
      ∀ (p : Vec F S1x1024 .f32) (w : Vec F S8x5632 .f32) (W : Waits sig Unit) (K : PUnit → sProp 𝕄),
        iprop(holds c b x ∗ any (F := F) c b.oDd ∗ any (F := F) c b.oAct ∗ any (F := F) c b.oDup ∗ owns (c : Thread nD τ) b.oPg fullShare p ∗ owns (c : Thread nD τ) b.oCw fullShare w ∗ any (F := F) c b.ext ∗ any (F := F) c b.dup ∗ any (F := F) c b.first ∗ any (F := F) c b.apg ∗ any (F := F) c b.acw ∗ any (F := F) c b.wd ∗ cells c ∗ hbPt0 c hbM0_0 fh ∗ owes (c : Thread nD τ) 0 W
          ∗ (iprop(holds c b x ∗ wrote c b.oDd LoDd ∗ wrote c b.oAct LoAct ∗ wrote c b.oDup LoDup ∗ owns (c : Thread nD τ) b.oPg fullShare p ∗ owns (c : Thread nD τ) b.oCw fullShare w ∗ wrote c b.ext Lext ∗ wrote c b.dup Ldup ∗ wrote c b.first Lfirst ∗ wrote c b.apg Lapg ∗ wrote c b.acw Lacw ∗ wrote c b.wd Lwd ∗ cells c ∗ hbPt0 c hbM0_0 fh ∗ (∃ W', owes (c : Thread nD τ) 0 W')) -∗ K ⟨⟩))
        ⊢ wp frame (wpE (defs₀ (F := F)) Variants.none c none) Set.univ (body i b) K } := by
  refine ⟨?_, ?_, ?_, ?_, ?_, ?_, ?_, ?_, ?_, fun p w W K => ?run⟩
  case run =>
    unfold body holds cells wrote any
    simp only [cc0_ffn_bwd_eq_skeleton]; unfold cc0_ffn_bwd_skel
    simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨⟨%fct, %ect, Hct⟩, ⟨%fd, %ed, Hd⟩, ⟨%fup, %eup, Hup⟩, ⟨%fhalo, %ehalo, Hhalo⟩, ⟨%fcw, %ecw, Hcw⟩, ⟨%fg, %eg, Hg⟩⟩, ⟨%doDd, %foDd, -, HoDd⟩, ⟨%doAct, %foAct, -, HoAct⟩, ⟨%doDup, %foDup, -, HoDup⟩, ⟨%foPg, %eoPg, HoPg⟩, ⟨%foCw, %eoCw, HoCw⟩, ⟨%dext, %fext, -, Hext⟩, ⟨%ddup, %fdup, -, Hdup⟩, ⟨%dfirst, %ffirst, -, Hfirst⟩, ⟨%dapg, %fapg, -, Hapg⟩, ⟨%dacw, %facw, -, Hacw⟩, ⟨%dwd, %fwd, -, Hwd⟩, ⟨Hq0, Hq1, Hq2, Hq3⟩, Hh, HW, Hk⟩
    obtain rfl := b.ct_whole.eq_unread ect; obtain rfl := b.d_whole.eq_unread ed; obtain rfl := b.up_whole.eq_unread eup; obtain rfl := b.halo_whole.eq_unread ehalo; obtain rfl := b.cw_whole.eq_unread ecw; obtain rfl := b.g_whole.eq_unread eg; obtain rfl := b.oPg_whole.eq_unread eoPg; obtain rfl := b.oCw_whole.eq_unread eoCw
    sl_exec (disch := first | sl_exact h0 | sl_exact h1)
    sl_step
    iapply Hk
    isplitl [Hct Hd Hup Hhalo Hcw Hg]
    · isplitl [Hct]
      · iexists _; isplitr; · ipureintro; exact b.ct_whole.read_unread _
        iexact Hct
      isplitl [Hd]
      · iexists _; isplitr; · ipureintro; exact b.d_whole.read_unread _
        iexact Hd
      isplitl [Hup]
      · iexists _; isplitr; · ipureintro; exact b.up_whole.read_unread _
        iexact Hup
      isplitl [Hhalo]
      · iexists _; isplitr; · ipureintro; exact b.halo_whole.read_unread _
        iexact Hhalo
      isplitl [Hcw]
      · iexists _; isplitr; · ipureintro; exact b.cw_whole.read_unread _
        iexact Hcw
      iexists _; isplitr; · ipureintro; exact b.g_whole.read_unread _
      iexact Hg
    isplitl [HoDd]
    · iexists _; iexact HoDd
    isplitl [HoAct]
    · iexists _; iexact HoAct
    isplitl [HoDup]
    · iexists _; iexact HoDup
    isplitl [HoPg]
    · iexists _; isplitr; · ipureintro; exact b.oPg_whole.read_unread _
      iexact HoPg
    isplitl [HoCw]
    · iexists _; isplitr; · ipureintro; exact b.oCw_whole.read_unread _
      iexact HoCw
    isplitl [Hext]
    · iexists _; iexact Hext
    isplitl [Hdup]
    · iexists _; iexact Hdup
    isplitl [Hfirst]
    · iexists _; iexact Hfirst
    isplitl [Hapg]
    · iexists _; iexact Hapg
    isplitl [Hacw]
    · iexists _; iexact Hacw
    isplitl [Hwd]
    · iexists _; iexact Hwd
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.Ffn

end

end
-- ==== Proof.RunB.lean ====
module

public import proofs.«01_k».proof.Proof.Bufs

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body at the middle point: the pieces its stores leave in each buffer, last first, with its triple. -/
def runB (c : Dev nD) (i : grid0.Coords) (b : Bufs) (h0 : ¬cond0_0 i) (h1 : ¬cond0_1 i) (x : Ins F) (s : Carry F) (fh : HbBuf0 (F := F) c hbM0_0) :
    Σ' (LoDd : List (View.Piece (Elt F) S256x1024 .bf16)),
    Σ' (LoAct : List (View.Piece (Elt F) S256x2816 .bf16)),
    Σ' (LoDup : List (View.Piece (Elt F) S256x5632 .bf16)),
    Σ' (Lext : List (View.Piece (Elt F) S272x5632 .f32)),
    Σ' (Ldup : List (View.Piece (Elt F) S272x5632 .f32)),
    Σ' (Lfirst : List (View.Piece (Elt F) S16x5632 .f32)),
    Σ' (Lapg : List (View.Piece (Elt F) S8x1024 .f32)),
    { Lacw : List (View.Piece (Elt F) S8x8x5632 .f32) //
      ∀ (p : Vec F S1x1024 .f32) (w : Vec F S8x5632 .f32) (W : Waits sig Unit) (K : PUnit → sProp 𝕄),
        iprop(holds c b x ∗ any (F := F) c b.oDd ∗ any (F := F) c b.oAct ∗ any (F := F) c b.oDup ∗ owns (c : Thread nD τ) b.oPg fullShare p ∗ owns (c : Thread nD τ) b.oCw fullShare w ∗ any (F := F) c b.ext ∗ any (F := F) c b.dup ∗ owns (c : Thread nD τ) b.first fullShare s.first ∗ owns (c : Thread nD τ) b.apg fullShare s.apg ∗ owns (c : Thread nD τ) b.acw fullShare s.acw ∗ owns (c : Thread nD τ) b.wd fullShare s.wd ∗ cells c ∗ hbPt0 c hbM0_0 fh ∗ owes (c : Thread nD τ) 0 W
          ∗ (iprop(holds c b x ∗ wrote c b.oDd LoDd ∗ wrote c b.oAct LoAct ∗ wrote c b.oDup LoDup ∗ owns (c : Thread nD τ) b.oPg fullShare p ∗ owns (c : Thread nD τ) b.oCw fullShare w ∗ wrote c b.ext Lext ∗ wrote c b.dup Ldup ∗ wrote c b.first Lfirst ∗ wrote c b.apg Lapg ∗ (b.acw.view.loc (c : Thread nD τ) ↦[b.acw.view.set]{fullShare} b.acw.view.writes (Elt F) (b.acw_whole.unread s.acw) Lacw) ∗ owns (c : Thread nD τ) b.wd fullShare s.wd ∗ cells c ∗ hbPt0 c hbM0_0 fh ∗ (∃ W', owes (c : Thread nD τ) 0 W')) -∗ K ⟨⟩))
        ⊢ wp frame (wpE (defs₀ (F := F)) Variants.none c none) Set.univ (body i b) K } := by
  refine ⟨?_, ?_, ?_, ?_, ?_, ?_, ?_, ?_, fun p w W K => ?run⟩
  case run =>
    unfold body holds cells wrote any
    simp only [cc0_ffn_bwd_eq_skeleton]; unfold cc0_ffn_bwd_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨⟨%fct, %ect, Hct⟩, ⟨%fd, %ed, Hd⟩, ⟨%fup, %eup, Hup⟩, ⟨%fhalo, %ehalo, Hhalo⟩, ⟨%fcw, %ecw, Hcw⟩, ⟨%fg, %eg, Hg⟩⟩, ⟨%doDd, %foDd, -, HoDd⟩, ⟨%doAct, %foAct, -, HoAct⟩, ⟨%doDup, %foDup, -, HoDup⟩, ⟨%foPg, %eoPg, HoPg⟩, ⟨%foCw, %eoCw, HoCw⟩, ⟨%dext, %fext, -, Hext⟩, ⟨%ddup, %fdup, -, Hdup⟩, ⟨%ffirst, %efirst, Hfirst⟩, ⟨%fapg, %eapg, Hapg⟩, ⟨%facw, %eacw, Hacw⟩, ⟨%fwd, %ewd, Hwd⟩, ⟨Hq0, Hq1, Hq2, Hq3⟩, Hh, HW, Hk⟩
    obtain rfl := b.ct_whole.eq_unread ect; obtain rfl := b.d_whole.eq_unread ed; obtain rfl := b.up_whole.eq_unread eup; obtain rfl := b.halo_whole.eq_unread ehalo; obtain rfl := b.cw_whole.eq_unread ecw; obtain rfl := b.g_whole.eq_unread eg; obtain rfl := b.oPg_whole.eq_unread eoPg; obtain rfl := b.oCw_whole.eq_unread eoCw; obtain rfl := b.first_whole.eq_unread efirst; obtain rfl := b.apg_whole.eq_unread eapg; obtain rfl := b.acw_whole.eq_unread eacw; obtain rfl := b.wd_whole.eq_unread ewd
    sl_exec (disch := first | sl_exact h0 | sl_exact h1)
    sl_step
    iapply Hk
    isplitl [Hct Hd Hup Hhalo Hcw Hg]
    · isplitl [Hct]
      · iexists _; isplitr; · ipureintro; exact b.ct_whole.read_unread _
        iexact Hct
      isplitl [Hd]
      · iexists _; isplitr; · ipureintro; exact b.d_whole.read_unread _
        iexact Hd
      isplitl [Hup]
      · iexists _; isplitr; · ipureintro; exact b.up_whole.read_unread _
        iexact Hup
      isplitl [Hhalo]
      · iexists _; isplitr; · ipureintro; exact b.halo_whole.read_unread _
        iexact Hhalo
      isplitl [Hcw]
      · iexists _; isplitr; · ipureintro; exact b.cw_whole.read_unread _
        iexact Hcw
      iexists _; isplitr; · ipureintro; exact b.g_whole.read_unread _
      iexact Hg
    isplitl [HoDd]
    · iexists _; iexact HoDd
    isplitl [HoAct]
    · iexists _; iexact HoAct
    isplitl [HoDup]
    · iexists _; iexact HoDup
    isplitl [HoPg]
    · iexists _; isplitr; · ipureintro; exact b.oPg_whole.read_unread _
      iexact HoPg
    isplitl [HoCw]
    · iexists _; isplitr; · ipureintro; exact b.oCw_whole.read_unread _
      iexact HoCw
    isplitl [Hext]
    · iexists _; iexact Hext
    isplitl [Hdup]
    · iexists _; iexact Hdup
    isplitl [Hfirst]
    · iexists _; iexact Hfirst
    isplitl [Hapg]
    · iexists _; iexact Hapg
    isplitl [Hacw]
    · iexact Hacw
    isplitl [Hwd]
    · iexists _; isplitr; · ipureintro; exact b.wd_whole.read_unread _
      iexact Hwd
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.Ffn

end

end
-- ==== Proof.RunC.lean ====
module

public import proofs.«01_k».proof.Proof.Bufs

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body at the last point: the pieces its stores leave in each buffer, last first, with its triple. -/
def runC (c : Dev nD) (i : grid0.Coords) (b : Bufs) (h0 : ¬cond0_0 i) (h1 : cond0_1 i) (x : Ins F) (s : Carry F) (fh : HbBuf0 (F := F) c hbM0_0) :
    Σ' (LoDd : List (View.Piece (Elt F) S256x1024 .bf16)),
    Σ' (LoAct : List (View.Piece (Elt F) S256x2816 .bf16)),
    Σ' (LoDup : List (View.Piece (Elt F) S256x5632 .bf16)),
    Σ' (LoPg : List (View.Piece (Elt F) S1x1024 .f32)),
    Σ' (LoCw : List (View.Piece (Elt F) S8x5632 .f32)),
    Σ' (Lext : List (View.Piece (Elt F) S272x5632 .f32)),
    Σ' (Ldup : List (View.Piece (Elt F) S272x5632 .f32)),
    Σ' (Lfirst : List (View.Piece (Elt F) S16x5632 .f32)),
    Σ' (Lapg : List (View.Piece (Elt F) S8x1024 .f32)),
    { Lacw : List (View.Piece (Elt F) S8x8x5632 .f32) //
      ∀ (W : Waits sig Unit) (K : PUnit → sProp 𝕄),
        iprop(holds c b x ∗ any (F := F) c b.oDd ∗ any (F := F) c b.oAct ∗ any (F := F) c b.oDup ∗ any (F := F) c b.oPg ∗ any (F := F) c b.oCw ∗ any (F := F) c b.ext ∗ any (F := F) c b.dup ∗ owns (c : Thread nD τ) b.first fullShare s.first ∗ owns (c : Thread nD τ) b.apg fullShare s.apg ∗ owns (c : Thread nD τ) b.acw fullShare s.acw ∗ owns (c : Thread nD τ) b.wd fullShare s.wd ∗ cells c ∗ hbPt0 c hbM0_0 fh ∗ owes (c : Thread nD τ) 0 W
          ∗ (iprop(holds c b x ∗ wrote c b.oDd LoDd ∗ wrote c b.oAct LoAct ∗ wrote c b.oDup LoDup ∗ wrote c b.oPg LoPg ∗ wrote c b.oCw LoCw ∗ wrote c b.ext Lext ∗ wrote c b.dup Ldup ∗ wrote c b.first Lfirst ∗ wrote c b.apg Lapg ∗ (b.acw.view.loc (c : Thread nD τ) ↦[b.acw.view.set]{fullShare} b.acw.view.writes (Elt F) (b.acw_whole.unread s.acw) Lacw) ∗ owns (c : Thread nD τ) b.wd fullShare s.wd ∗ cells c ∗ hbPt0 c hbM0_0 fh ∗ (∃ W', owes (c : Thread nD τ) 0 W')) -∗ K ⟨⟩))
        ⊢ wp frame (wpE (defs₀ (F := F)) Variants.none c none) Set.univ (body i b) K } := by
  refine ⟨?_, ?_, ?_, ?_, ?_, ?_, ?_, ?_, ?_, ?_, fun W K => ?run⟩
  case run =>
    unfold body holds cells wrote any
    simp only [cc0_ffn_bwd_eq_skeleton]; unfold cc0_ffn_bwd_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨⟨%fct, %ect, Hct⟩, ⟨%fd, %ed, Hd⟩, ⟨%fup, %eup, Hup⟩, ⟨%fhalo, %ehalo, Hhalo⟩, ⟨%fcw, %ecw, Hcw⟩, ⟨%fg, %eg, Hg⟩⟩, ⟨%doDd, %foDd, -, HoDd⟩, ⟨%doAct, %foAct, -, HoAct⟩, ⟨%doDup, %foDup, -, HoDup⟩, ⟨%doPg, %foPg, -, HoPg⟩, ⟨%doCw, %foCw, -, HoCw⟩, ⟨%dext, %fext, -, Hext⟩, ⟨%ddup, %fdup, -, Hdup⟩, ⟨%ffirst, %efirst, Hfirst⟩, ⟨%fapg, %eapg, Hapg⟩, ⟨%facw, %eacw, Hacw⟩, ⟨%fwd, %ewd, Hwd⟩, ⟨Hq0, Hq1, Hq2, Hq3⟩, Hh, HW, Hk⟩
    obtain rfl := b.ct_whole.eq_unread ect; obtain rfl := b.d_whole.eq_unread ed; obtain rfl := b.up_whole.eq_unread eup; obtain rfl := b.halo_whole.eq_unread ehalo; obtain rfl := b.cw_whole.eq_unread ecw; obtain rfl := b.g_whole.eq_unread eg; obtain rfl := b.first_whole.eq_unread efirst; obtain rfl := b.apg_whole.eq_unread eapg; obtain rfl := b.acw_whole.eq_unread eacw; obtain rfl := b.wd_whole.eq_unread ewd
    sl_exec (disch := first | sl_exact h0 | sl_exact h1)
    sl_step
    iapply Hk
    isplitl [Hct Hd Hup Hhalo Hcw Hg]
    · isplitl [Hct]
      · iexists _; isplitr; · ipureintro; exact b.ct_whole.read_unread _
        iexact Hct
      isplitl [Hd]
      · iexists _; isplitr; · ipureintro; exact b.d_whole.read_unread _
        iexact Hd
      isplitl [Hup]
      · iexists _; isplitr; · ipureintro; exact b.up_whole.read_unread _
        iexact Hup
      isplitl [Hhalo]
      · iexists _; isplitr; · ipureintro; exact b.halo_whole.read_unread _
        iexact Hhalo
      isplitl [Hcw]
      · iexists _; isplitr; · ipureintro; exact b.cw_whole.read_unread _
        iexact Hcw
      iexists _; isplitr; · ipureintro; exact b.g_whole.read_unread _
      iexact Hg
    isplitl [HoDd]
    · iexists _; iexact HoDd
    isplitl [HoAct]
    · iexists _; iexact HoAct
    isplitl [HoDup]
    · iexists _; iexact HoDup
    isplitl [HoPg]
    · iexists _; iexact HoPg
    isplitl [HoCw]
    · iexists _; iexact HoCw
    isplitl [Hext]
    · iexists _; iexact Hext
    isplitl [Hdup]
    · iexists _; iexact Hdup
    isplitl [Hfirst]
    · iexists _; iexact Hfirst
    isplitl [Hapg]
    · iexists _; iexact Hapg
    isplitl [Hacw]
    · iexact Hacw
    isplitl [Hwd]
    · iexists _; isplitr; · ipureintro; exact b.wd_whole.read_unread _
      iexact Hwd
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.Ffn

end

end
-- ==== Proof.Triple.lean ====
module

public import proofs.«01_k».proof.Proof.RunA
public import proofs.«01_k».proof.Proof.RunB
public import proofs.«01_k».proof.Proof.RunC

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

variable {Val : EltTy → Type} {S : Shape} {e : EltTy}

/-- The contents `X` with the pieces `L`, last first, laid over it. -/
def over (X : S.Idx → Val e) : List (View.Piece Val S e) → S.Idx → Val e
  | [] => X
  | p :: L => p.1.overlay (over X L) p.2

theorem read_writes_over {sig : RefSig} {κ : Kind} {sp : Space} (v : View sig κ sp S e) (f : v.ty.Contents Val) :
    ∀ L : List (View.Piece Val S e), v.read Val (v.writes Val f L) = over (v.read Val f) L
  | [] => rfl
  | p :: L => funext fun y => by
    by_cases hy : y ∈ p.1.set
    · obtain ⟨r, w⟩ := p
      obtain ⟨x, rfl⟩ : ∃ x, r.emb x = y := r.exists_idx_of_mem hy
      rw [View.read_writes_cons_emb]; exact (r.overlay_emb _ _ x).symm
    · have hy' : y ∉ Finset.univ.map p.1.emb := by rwa [Rect.map_emb_univ]
      rw [View.writes_cons, View.read_slice_write_of_not_mem p.1 _ _ _ hy', read_writes_over v f L]
      exact (p.1.overlay_of_not_mem _ _ hy).symm

/-- A buffer whose writes cover it holds what they leave. -/
theorem owns_of_wrote (c : Dev nD) (a : Memref sig .tc .vmem S e) (L : List (View.Piece (Elt F) S e))
    (h : ∀ y, ∃ p ∈ L, y ∈ p.1.set) : (wrote c a L : sProp 𝕄) ⊢ owns (c : Thread nD τ) a fullShare (View.canon L) := by
  unfold wrote owns
  iintro ⟨%f, H⟩
  iexists _; isplitr
  swap; · iexact H
  ipureintro; exact View.read_writes_eq_canon _ _ _ h

/-- A whole buffer written over known contents holds them with the pieces laid over. -/
theorem owns_of_over (c : Dev nD) (a : Memref sig .tc .vmem S e) (h : a.IsWhole) (X : Vec F S e) (L : List (View.Piece (Elt F) S e)) :
    (a.view.loc (c : Thread nD τ) ↦[a.view.set]{fullShare} a.view.writes (Elt F) (h.unread X) L : sProp 𝕄)
      ⊢ owns (c : Thread nD τ) a fullShare (over X L) := by
  unfold owns
  iintro H
  iexists _; isplitr
  swap; · iexact H
  ipureintro; rw [read_writes_over, h.read_unread]

/-- A buffer written to holds something. -/
theorem any_of_wrote (c : Dev nD) (a : Memref sig .tc .vmem S e) (L : List (View.Piece (Elt F) S e)) :
    (wrote c a L : sProp 𝕄) ⊢ any (F := F) c a := by
  unfold wrote any owns
  iintro ⟨%f, H⟩
  iexists _; iexists _; isplitr
  swap; · iexact H
  ipureintro; rfl

/-- What a point leaves: the blocks of the five results and the carried scratch. -/
structure Out (F : FTy → Type) where
  dd : Vec F S256x1024 .bf16
  act : Vec F S256x2816 .bf16
  dup : Vec F S256x5632 .bf16
  pg : Vec F S1x1024 .f32
  cw : Vec F S8x5632 .f32
  next : Carry F

/-- The carried scratch of `b` holds `s`. -/
abbrev carries (c : Dev nD) (b : Bufs) (s : Carry F) : sProp 𝕄 :=
  iprop(owns (c : Thread nD τ) b.first fullShare s.first ∗ owns (c : Thread nD τ) b.apg fullShare s.apg ∗ owns (c : Thread nD τ) b.acw fullShare s.acw ∗ owns (c : Thread nD τ) b.wd fullShare s.wd)

/-- The carried scratch of `b` holds anything. -/
abbrev carriesAny (c : Dev nD) (b : Bufs) : sProp 𝕄 :=
  iprop(any (F := F) c b.first ∗ any (F := F) c b.apg ∗ any (F := F) c b.acw ∗ any (F := F) c b.wd)

/-- The result buffers written at every point hold the blocks of `o`. -/
abbrev results (c : Dev nD) (b : Bufs) (o : Out F) : sProp 𝕄 :=
  iprop(owns (c : Thread nD τ) b.oDd fullShare o.dd ∗ owns (c : Thread nD τ) b.oAct fullShare o.act ∗ owns (c : Thread nD τ) b.oDup fullShare o.dup)

section A

variable (c : Dev nD) (i : grid0.Coords) (b : Bufs) (h0 : cond0_0 i) (h1 : ¬cond0_1 i) (x : Ins F) (fh : HbBuf0 (F := F) c hbM0_0)

theorem coverA_oDd (y : S256x1024.Idx) : ∃ p ∈ (runA c i b h0 h1 x fh).1, y ∈ p.1.set :=
  View.cover_of_tiledL (runA c i b h0 h1 x fh).1 S256x1024.size (by sl_kernel_rfl) y

theorem coverA_oAct (y : S256x2816.Idx) : ∃ p ∈ (runA c i b h0 h1 x fh).2.1, y ∈ p.1.set :=
  View.cover_of_tiledL (runA c i b h0 h1 x fh).2.1 S256x1408.size (by sl_kernel_rfl) y

theorem coverA_oDup (y : S256x5632.Idx) : ∃ p ∈ (runA c i b h0 h1 x fh).2.2.1, y ∈ p.1.set :=
  View.cover_of_tiledL (runA c i b h0 h1 x fh).2.2.1 S256x1408.size (by sl_kernel_rfl) y

theorem coverA_first (y : S16x5632.Idx) : ∃ p ∈ (runA c i b h0 h1 x fh).2.2.2.2.2.1, y ∈ p.1.set :=
  View.cover_of_tiledL (runA c i b h0 h1 x fh).2.2.2.2.2.1 S16x5632.size (by sl_kernel_rfl) y

theorem coverA_apg (y : S8x1024.Idx) : ∃ p ∈ (runA c i b h0 h1 x fh).2.2.2.2.2.2.1, y ∈ p.1.set :=
  View.cover_of_tiledL (runA c i b h0 h1 x fh).2.2.2.2.2.2.1 S8x1024.size (by sl_kernel_rfl) y

theorem coverA_wd (y : S2816x1024.Idx) : ∃ p ∈ (runA c i b h0 h1 x fh).2.2.2.2.2.2.2.2.1, y ∈ p.1.set :=
  View.cover_of_tiledL (runA c i b h0 h1 x fh).2.2.2.2.2.2.2.2.1 S704x1024.size (by sl_kernel_rfl) y

theorem coverA_acw (y : S8x8x5632.Idx) : ∃ p ∈ (runA c i b h0 h1 x fh).2.2.2.2.2.2.2.1, y ∈ p.1.set :=
  View.cover_of_wholeMem (runA c i b h0 h1 x fh).2.2.2.2.2.2.2.1 (by sl_whole_mem) y

/-- What the first point leaves. -/
def outA : Out F where
  dd := View.canon (runA c i b h0 h1 x fh).1
  act := View.canon (runA c i b h0 h1 x fh).2.1
  dup := View.canon (runA c i b h0 h1 x fh).2.2.1
  pg := View.canon []
  cw := View.canon []
  next :=
    { first := View.canon (runA c i b h0 h1 x fh).2.2.2.2.2.1
      apg := View.canon (runA c i b h0 h1 x fh).2.2.2.2.2.2.1
      acw := View.canon (runA c i b h0 h1 x fh).2.2.2.2.2.2.2.1
      wd := View.canon (runA c i b h0 h1 x fh).2.2.2.2.2.2.2.2.1 }

/-- The body's triple at the first point, at what it leaves. -/
theorem tripleA (p : Vec F S1x1024 .f32) (w : Vec F S8x5632 .f32) (W : Waits sig Unit) (K : PUnit → sProp 𝕄) :
    iprop(holds c b x ∗ (any (F := F) c b.oDd ∗ any (F := F) c b.oAct ∗ any (F := F) c b.oDup) ∗ (owns (c : Thread nD τ) b.oPg fullShare p ∗ owns (c : Thread nD τ) b.oCw fullShare w) ∗ (any (F := F) c b.ext ∗ any (F := F) c b.dup) ∗ carriesAny (F := F) c b ∗ cells c ∗ hbPt0 c hbM0_0 fh ∗ owes (c : Thread nD τ) 0 W
      ∗ (iprop(holds c b x ∗ results c b (outA c i b h0 h1 x fh) ∗ (owns (c : Thread nD τ) b.oPg fullShare p ∗ owns (c : Thread nD τ) b.oCw fullShare w) ∗ (any (F := F) c b.ext ∗ any (F := F) c b.dup) ∗ carries c b (outA c i b h0 h1 x fh).next ∗ cells c ∗ hbPt0 c hbM0_0 fh ∗ (∃ W', owes (c : Thread nD τ) 0 W')) -∗ K ⟨⟩))
    ⊢ wp frame (wpE (defs₀ (F := F)) Variants.none c none) Set.univ (body i b) K := by
  unfold results carries outA; dsimp only
  iintro ⟨Hin, ⟨Hdd, Hact, Hdup⟩, ⟨Hpg, Hcw⟩, ⟨Hext, Hde⟩, ⟨Hf, Ha, Hac, Hw⟩, Hq, Hh, HW, Hk⟩
  iapply ((runA c i b h0 h1 x fh).2.2.2.2.2.2.2.2.2 _ _ W K)
  isplitl [Hin]; · iexact Hin
  isplitl [Hdd]; · iexact Hdd
  isplitl [Hact]; · iexact Hact
  isplitl [Hdup]; · iexact Hdup
  isplitl [Hpg]; · iexact Hpg
  isplitl [Hcw]; · iexact Hcw
  isplitl [Hext]; · iexact Hext
  isplitl [Hde]; · iexact Hde
  isplitl [Hf]; · iexact Hf
  isplitl [Ha]; · iexact Ha
  isplitl [Hac]; · iexact Hac
  isplitl [Hw]; · iexact Hw
  isplitl [Hq]; · iexact Hq
  isplitl [Hh]; · iexact Hh
  isplitl [HW]; · iexact HW
  iintro ⟨Hin, Hdd, Hact, Hdup, Hpg, Hcw, Hext, Hde, Hf, Ha, Hac, Hw, Hq, Hh, HW⟩
  iapply Hk
  isplitl [Hin]; · iexact Hin
  isplitl [Hdd Hact Hdup]
  · isplitl [Hdd]; · iapply (owns_of_wrote c b.oDd _ (coverA_oDd c i b h0 h1 x fh)); iexact Hdd
    isplitl [Hact]; · iapply (owns_of_wrote c b.oAct _ (coverA_oAct c i b h0 h1 x fh)); iexact Hact
    iapply (owns_of_wrote c b.oDup _ (coverA_oDup c i b h0 h1 x fh)); iexact Hdup
  isplitl [Hpg Hcw]
  · isplitl [Hpg]; · iexact Hpg
    iexact Hcw
  isplitl [Hext Hde]
  · isplitl [Hext]; · iapply (any_of_wrote c b.ext _); iexact Hext
    iapply (any_of_wrote c b.dup _); iexact Hde
  isplitl [Hf Ha Hac Hw]
  · isplitl [Hf]; · iapply (owns_of_wrote c b.first _ (coverA_first c i b h0 h1 x fh)); iexact Hf
    isplitl [Ha]; · iapply (owns_of_wrote c b.apg _ (coverA_apg c i b h0 h1 x fh)); iexact Ha
    isplitl [Hac]; · iapply (owns_of_wrote c b.acw _ (coverA_acw c i b h0 h1 x fh)); iexact Hac
    iapply (owns_of_wrote c b.wd _ (coverA_wd c i b h0 h1 x fh)); iexact Hw
  isplitl [Hq]; · iexact Hq
  isplitl [Hh]; · iexact Hh
  iexact HW

end A
section B

variable (c : Dev nD) (i : grid0.Coords) (b : Bufs) (h0 : ¬cond0_0 i) (h1 : ¬cond0_1 i) (x : Ins F) (s : Carry F) (fh : HbBuf0 (F := F) c hbM0_0)

theorem coverB_oDd (y : S256x1024.Idx) : ∃ p ∈ (runB c i b h0 h1 x s fh).1, y ∈ p.1.set :=
  View.cover_of_tiledL (runB c i b h0 h1 x s fh).1 S256x1024.size (by sl_kernel_rfl) y

theorem coverB_oAct (y : S256x2816.Idx) : ∃ p ∈ (runB c i b h0 h1 x s fh).2.1, y ∈ p.1.set :=
  View.cover_of_tiledL (runB c i b h0 h1 x s fh).2.1 S256x1408.size (by sl_kernel_rfl) y

theorem coverB_oDup (y : S256x5632.Idx) : ∃ p ∈ (runB c i b h0 h1 x s fh).2.2.1, y ∈ p.1.set :=
  View.cover_of_tiledL (runB c i b h0 h1 x s fh).2.2.1 S256x1408.size (by sl_kernel_rfl) y

theorem coverB_first (y : S16x5632.Idx) : ∃ p ∈ (runB c i b h0 h1 x s fh).2.2.2.2.2.1, y ∈ p.1.set :=
  View.cover_of_tiledL (runB c i b h0 h1 x s fh).2.2.2.2.2.1 S16x5632.size (by sl_kernel_rfl) y

theorem coverB_apg (y : S8x1024.Idx) : ∃ p ∈ (runB c i b h0 h1 x s fh).2.2.2.2.2.2.1, y ∈ p.1.set :=
  View.cover_of_tiledL (runB c i b h0 h1 x s fh).2.2.2.2.2.2.1 S8x1024.size (by sl_kernel_rfl) y

/-- What the middle point leaves. -/
def outB : Out F where
  dd := View.canon (runB c i b h0 h1 x s fh).1
  act := View.canon (runB c i b h0 h1 x s fh).2.1
  dup := View.canon (runB c i b h0 h1 x s fh).2.2.1
  pg := View.canon []
  cw := View.canon []
  next :=
    { first := View.canon (runB c i b h0 h1 x s fh).2.2.2.2.2.1
      apg := View.canon (runB c i b h0 h1 x s fh).2.2.2.2.2.2.1
      acw := over s.acw (runB c i b h0 h1 x s fh).2.2.2.2.2.2.2.1
      wd := s.wd }

/-- The body's triple at the middle point, at what it leaves. -/
theorem tripleB (p : Vec F S1x1024 .f32) (w : Vec F S8x5632 .f32) (W : Waits sig Unit) (K : PUnit → sProp 𝕄) :
    iprop(holds c b x ∗ (any (F := F) c b.oDd ∗ any (F := F) c b.oAct ∗ any (F := F) c b.oDup) ∗ (owns (c : Thread nD τ) b.oPg fullShare p ∗ owns (c : Thread nD τ) b.oCw fullShare w) ∗ (any (F := F) c b.ext ∗ any (F := F) c b.dup) ∗ carries c b s ∗ cells c ∗ hbPt0 c hbM0_0 fh ∗ owes (c : Thread nD τ) 0 W
      ∗ (iprop(holds c b x ∗ results c b (outB c i b h0 h1 x s fh) ∗ (owns (c : Thread nD τ) b.oPg fullShare p ∗ owns (c : Thread nD τ) b.oCw fullShare w) ∗ (any (F := F) c b.ext ∗ any (F := F) c b.dup) ∗ carries c b (outB c i b h0 h1 x s fh).next ∗ cells c ∗ hbPt0 c hbM0_0 fh ∗ (∃ W', owes (c : Thread nD τ) 0 W')) -∗ K ⟨⟩))
    ⊢ wp frame (wpE (defs₀ (F := F)) Variants.none c none) Set.univ (body i b) K := by
  unfold results carries outB; dsimp only
  iintro ⟨Hin, ⟨Hdd, Hact, Hdup⟩, ⟨Hpg, Hcw⟩, ⟨Hext, Hde⟩, ⟨Hf, Ha, Hac, Hw⟩, Hq, Hh, HW, Hk⟩
  iapply ((runB c i b h0 h1 x s fh).2.2.2.2.2.2.2.2 _ _ W K)
  isplitl [Hin]; · iexact Hin
  isplitl [Hdd]; · iexact Hdd
  isplitl [Hact]; · iexact Hact
  isplitl [Hdup]; · iexact Hdup
  isplitl [Hpg]; · iexact Hpg
  isplitl [Hcw]; · iexact Hcw
  isplitl [Hext]; · iexact Hext
  isplitl [Hde]; · iexact Hde
  isplitl [Hf]; · iexact Hf
  isplitl [Ha]; · iexact Ha
  isplitl [Hac]; · iexact Hac
  isplitl [Hw]; · iexact Hw
  isplitl [Hq]; · iexact Hq
  isplitl [Hh]; · iexact Hh
  isplitl [HW]; · iexact HW
  iintro ⟨Hin, Hdd, Hact, Hdup, Hpg, Hcw, Hext, Hde, Hf, Ha, Hac, Hw, Hq, Hh, HW⟩
  iapply Hk
  isplitl [Hin]; · iexact Hin
  isplitl [Hdd Hact Hdup]
  · isplitl [Hdd]; · iapply (owns_of_wrote c b.oDd _ (coverB_oDd c i b h0 h1 x s fh)); iexact Hdd
    isplitl [Hact]; · iapply (owns_of_wrote c b.oAct _ (coverB_oAct c i b h0 h1 x s fh)); iexact Hact
    iapply (owns_of_wrote c b.oDup _ (coverB_oDup c i b h0 h1 x s fh)); iexact Hdup
  isplitl [Hpg Hcw]
  · isplitl [Hpg]; · iexact Hpg
    iexact Hcw
  isplitl [Hext Hde]
  · isplitl [Hext]; · iapply (any_of_wrote c b.ext _); iexact Hext
    iapply (any_of_wrote c b.dup _); iexact Hde
  isplitl [Hf Ha Hac Hw]
  · isplitl [Hf]; · iapply (owns_of_wrote c b.first _ (coverB_first c i b h0 h1 x s fh)); iexact Hf
    isplitl [Ha]; · iapply (owns_of_wrote c b.apg _ (coverB_apg c i b h0 h1 x s fh)); iexact Ha
    isplitl [Hac]; · iapply (owns_of_over c b.acw b.acw_whole s.acw _); iexact Hac
    iexact Hw
  isplitl [Hq]; · iexact Hq
  isplitl [Hh]; · iexact Hh
  iexact HW

end B
section C

variable (c : Dev nD) (i : grid0.Coords) (b : Bufs) (h0 : ¬cond0_0 i) (h1 : cond0_1 i) (x : Ins F) (s : Carry F) (fh : HbBuf0 (F := F) c hbM0_0)

theorem coverC_oDd (y : S256x1024.Idx) : ∃ p ∈ (runC c i b h0 h1 x s fh).1, y ∈ p.1.set :=
  View.cover_of_tiledL (runC c i b h0 h1 x s fh).1 S256x1024.size (by sl_kernel_rfl) y

theorem coverC_oAct (y : S256x2816.Idx) : ∃ p ∈ (runC c i b h0 h1 x s fh).2.1, y ∈ p.1.set :=
  View.cover_of_tiledL (runC c i b h0 h1 x s fh).2.1 S256x1408.size (by sl_kernel_rfl) y

theorem coverC_oDup (y : S256x5632.Idx) : ∃ p ∈ (runC c i b h0 h1 x s fh).2.2.1, y ∈ p.1.set :=
  View.cover_of_tiledL (runC c i b h0 h1 x s fh).2.2.1 S256x1408.size (by sl_kernel_rfl) y

theorem coverC_oPg (y : S1x1024.Idx) : ∃ p ∈ (runC c i b h0 h1 x s fh).2.2.2.1, y ∈ p.1.set :=
  View.cover_of_tiledL (runC c i b h0 h1 x s fh).2.2.2.1 S1x1024.size (by sl_kernel_rfl) y

theorem coverC_oCw (y : S8x5632.Idx) : ∃ p ∈ (runC c i b h0 h1 x s fh).2.2.2.2.1, y ∈ p.1.set :=
  View.cover_of_tiledL (runC c i b h0 h1 x s fh).2.2.2.2.1 S8x5632.size (by sl_kernel_rfl) y

theorem coverC_first (y : S16x5632.Idx) : ∃ p ∈ (runC c i b h0 h1 x s fh).2.2.2.2.2.2.2.1, y ∈ p.1.set :=
  View.cover_of_tiledL (runC c i b h0 h1 x s fh).2.2.2.2.2.2.2.1 S16x5632.size (by sl_kernel_rfl) y

theorem coverC_apg (y : S8x1024.Idx) : ∃ p ∈ (runC c i b h0 h1 x s fh).2.2.2.2.2.2.2.2.1, y ∈ p.1.set :=
  View.cover_of_tiledL (runC c i b h0 h1 x s fh).2.2.2.2.2.2.2.2.1 S8x1024.size (by sl_kernel_rfl) y

/-- What the last point leaves. -/
def outC : Out F where
  dd := View.canon (runC c i b h0 h1 x s fh).1
  act := View.canon (runC c i b h0 h1 x s fh).2.1
  dup := View.canon (runC c i b h0 h1 x s fh).2.2.1
  pg := View.canon (runC c i b h0 h1 x s fh).2.2.2.1
  cw := View.canon (runC c i b h0 h1 x s fh).2.2.2.2.1
  next :=
    { first := View.canon (runC c i b h0 h1 x s fh).2.2.2.2.2.2.2.1
      apg := View.canon (runC c i b h0 h1 x s fh).2.2.2.2.2.2.2.2.1
      acw := over s.acw (runC c i b h0 h1 x s fh).2.2.2.2.2.2.2.2.2.1
      wd := s.wd }

/-- The body's triple at the last point, at what it leaves. -/
theorem tripleC (W : Waits sig Unit) (K : PUnit → sProp 𝕄) :
    iprop(holds c b x ∗ (any (F := F) c b.oDd ∗ any (F := F) c b.oAct ∗ any (F := F) c b.oDup) ∗ (any (F := F) c b.oPg ∗ any (F := F) c b.oCw) ∗ (any (F := F) c b.ext ∗ any (F := F) c b.dup) ∗ carries c b s ∗ cells c ∗ hbPt0 c hbM0_0 fh ∗ owes (c : Thread nD τ) 0 W
      ∗ (iprop(holds c b x ∗ results c b (outC c i b h0 h1 x s fh) ∗ (owns (c : Thread nD τ) b.oPg fullShare (outC c i b h0 h1 x s fh).pg ∗ owns (c : Thread nD τ) b.oCw fullShare (outC c i b h0 h1 x s fh).cw) ∗ (any (F := F) c b.ext ∗ any (F := F) c b.dup) ∗ carries c b (outC c i b h0 h1 x s fh).next ∗ cells c ∗ hbPt0 c hbM0_0 fh ∗ (∃ W', owes (c : Thread nD τ) 0 W')) -∗ K ⟨⟩))
    ⊢ wp frame (wpE (defs₀ (F := F)) Variants.none c none) Set.univ (body i b) K := by
  unfold results carries outC; dsimp only
  iintro ⟨Hin, ⟨Hdd, Hact, Hdup⟩, ⟨Hpg, Hcw⟩, ⟨Hext, Hde⟩, ⟨Hf, Ha, Hac, Hw⟩, Hq, Hh, HW, Hk⟩
  iapply ((runC c i b h0 h1 x s fh).2.2.2.2.2.2.2.2.2.2 W K)
  isplitl [Hin]; · iexact Hin
  isplitl [Hdd]; · iexact Hdd
  isplitl [Hact]; · iexact Hact
  isplitl [Hdup]; · iexact Hdup
  isplitl [Hpg]; · iexact Hpg
  isplitl [Hcw]; · iexact Hcw
  isplitl [Hext]; · iexact Hext
  isplitl [Hde]; · iexact Hde
  isplitl [Hf]; · iexact Hf
  isplitl [Ha]; · iexact Ha
  isplitl [Hac]; · iexact Hac
  isplitl [Hw]; · iexact Hw
  isplitl [Hq]; · iexact Hq
  isplitl [Hh]; · iexact Hh
  isplitl [HW]; · iexact HW
  iintro ⟨Hin, Hdd, Hact, Hdup, Hpg, Hcw, Hext, Hde, Hf, Ha, Hac, Hw, Hq, Hh, HW⟩
  iapply Hk
  isplitl [Hin]; · iexact Hin
  isplitl [Hdd Hact Hdup]
  · isplitl [Hdd]; · iapply (owns_of_wrote c b.oDd _ (coverC_oDd c i b h0 h1 x s fh)); iexact Hdd
    isplitl [Hact]; · iapply (owns_of_wrote c b.oAct _ (coverC_oAct c i b h0 h1 x s fh)); iexact Hact
    iapply (owns_of_wrote c b.oDup _ (coverC_oDup c i b h0 h1 x s fh)); iexact Hdup
  isplitl [Hpg Hcw]
  · isplitl [Hpg]; · iapply (owns_of_wrote c b.oPg _ (coverC_oPg c i b h0 h1 x s fh)); iexact Hpg
    iapply (owns_of_wrote c b.oCw _ (coverC_oCw c i b h0 h1 x s fh)); iexact Hcw
  isplitl [Hext Hde]
  · isplitl [Hext]; · iapply (any_of_wrote c b.ext _); iexact Hext
    iapply (any_of_wrote c b.dup _); iexact Hde
  isplitl [Hf Ha Hac Hw]
  · isplitl [Hf]; · iapply (owns_of_wrote c b.first _ (coverC_first c i b h0 h1 x s fh)); iexact Hf
    isplitl [Ha]; · iapply (owns_of_wrote c b.apg _ (coverC_apg c i b h0 h1 x s fh)); iexact Ha
    isplitl [Hac]; · iapply (owns_of_over c b.acw b.acw_whole s.acw _); iexact Hac
    iexact Hw
  isplitl [Hq]; · iexact Hq
  isplitl [Hh]; · iexact Hh
  iexact HW

end C

end Cert.Ffn

end

end
-- ==== Proof.Launched.lean ====
module

public import proofs.«01_k».proof.Proof.Triple
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the body works on at point `t`. -/
def bufs (t : Fin cfg0.N) : Bufs where
  ct := ms0_0 t
  ct_whole := hs0_0 t
  d := ms0_1 t
  d_whole := hs0_1 t
  up := ms0_2 t
  up_whole := hs0_2 t
  halo := ms0_3 t
  halo_whole := hs0_3 t
  cw := ms0_4 t
  cw_whole := hs0_4 t
  g := ms0_5 t
  g_whole := hs0_5 t
  oDd := ms0_6 t
  oDd_whole := hs0_6 t
  oAct := ms0_7 t
  oAct_whole := hs0_7 t
  oDup := ms0_8 t
  oDup_whole := hs0_8 t
  oPg := ms0_9 t
  oPg_whole := hs0_9 t
  oCw := ms0_10 t
  oCw_whole := hs0_10 t
  ext := scM0_0
  ext_whole := Memref.isWhole_whole _
  dup := scM0_1
  dup_whole := Memref.isWhole_whole _
  first := scM0_2
  first_whole := Memref.isWhole_whole _
  apg := scM0_3
  apg_whole := Memref.isWhole_whole _
  acw := scM0_4
  acw_whole := Memref.isWhole_whole _
  wd := scM0_5
  wd_whole := Memref.isWhole_whole _

/-- The blocks the body reads at point `t`. -/
def blocks (c : Dev nD) (t : Fin cfg0.N) : Ins F where
  ct := iblk m c 0 t
  d := iblk m c 1 t
  up := iblk m c 2 t
  halo := iblk m c 3 t
  cw := iblk m c 4 t
  g := iblk m c 5 t

/-- What point `t` leaves, if the scratch held `s` before it. -/
def leaves (c : Dev nD) (t : Fin cfg0.N) (s : Carry F) : Out F :=
  if h0 : t.val % 16 = 0 then
    outA c (grid0.coords t) (bufs t) ((hcond0_0 t).mpr h0) (fun h => by have := (hcond0_1 t).mp h; omega) (blocks m c t) (V m c main_v30)
  else if h1 : t.val % 16 = 15 then
    outC c (grid0.coords t) (bufs t) (fun h => h0 ((hcond0_0 t).mp h)) ((hcond0_1 t).mpr h1) (blocks m c t) s (V m c main_v30)
  else
    outB c (grid0.coords t) (bufs t) (fun h => h0 ((hcond0_0 t).mp h)) (fun h => h1 ((hcond0_1 t).mp h)) (blocks m c t) s (V m c main_v30)

/-- Scratch nothing is known of. -/
def unknown : Carry F := ⟨View.canon [], View.canon [], View.canon [], View.canon []⟩

/-- What the point at position `n` leaves. -/
def left (c : Dev nD) : (n : ℕ) → n < cfg0.N → Out F
  | 0, h => leaves m c ⟨0, h⟩ unknown
  | n + 1, h => leaves m c ⟨n + 1, h⟩ (left c n (Nat.lt_of_succ_lt h)).next

theorem left_zero (c : Dev nD) (t : Fin cfg0.N) (h : t.val = 0) : left m c t.val t.isLt = leaves m c t unknown := by
  obtain ⟨n, hn⟩ := t
  cases n with
  | zero => rfl
  | succ n => exact absurd h (Nat.succ_ne_zero n)

theorem left_pos (c : Dev nD) (t : Fin cfg0.N) (h : t.val ≠ 0) :
    left m c t.val t.isLt = leaves m c t (left m c (t.val - 1) (by have := t.isLt; omega)).next := by
  obtain ⟨n, hn⟩ := t
  cases n with
  | zero => exact absurd rfl h
  | succ n => rfl

/-- The scratch, the generator register, the copy counters and the weights in HBM, the carried scratch at `s`. -/
def stateAt (c : Dev nD) (s : Carry F) : sProp 𝕄 :=
  iprop(iprop(any (F := F) c scM0_0 ∗ any (F := F) c scM0_1 ∗ owns (c : Thread nD τ) scM0_2 fullShare s.first ∗ owns (c : Thread nD τ) scM0_3 fullShare s.apg ∗ owns (c : Thread nD τ) scM0_4 fullShare s.acw ∗ owns (c : Thread nD τ) scM0_5 fullShare s.wd)
    ∗ (∃ r, prngReg c r) ∗ cells c ∗ hbPt0 c hbM0_0 (V m c main_v30))

/-- The invariant before position `n`. -/
def inv (c : Dev nD) : (n : ℕ) → n ≤ cfg0.N → sProp 𝕄
  | 0, _ => Pipeline.ΦD osem0 spec0 H0 (V m) c
  | n + 1, hn => stateAt m c (left m c n hn).next

theorem inv_pos (c : Dev nD) (n : ℕ) (h : n ≤ cfg0.N) (hz : n ≠ 0) :
    inv m c n h = stateAt m c (left m c (n - 1) (by omega)).next := by
  cases n with
  | zero => exact absurd rfl hz
  | succ n => rfl

/-- The proof data of the pipeline: the arrays as the region finds them, what each point leaves, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).dd
    | ⟨7, _⟩ => (left m c t.val t.isLt).act
    | ⟨8, _⟩ => (left m c t.val t.isLt).dup
    | ⟨9, _⟩ => (left m c t.val t.isLt).pg
    | ⟨10, _⟩ => (left m c t.val t.isLt).cw
  Φ t := inv m c t.val (Nat.le_of_lt_succ t.isLt)
  q w := Pipeline.shareOf spec0 w
  owed _ := 0

theorem dats_A (c : Dev nD) (w : Fin cfg0.W) : (dats m 0 c).A w = V m c (Pipeline.arrRef spec0 w) := by
  dsimp only [dats]

theorem dats_start (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (left m c t.val t.isLt).dd := by dsimp only [dats]
theorem after_7 (c : Dev nD) (t : Fin cfg0.N) : (dats m 0 c).after 7 t = (left m c t.val t.isLt).act := by dsimp only [dats]
theorem after_8 (c : Dev nD) (t : Fin cfg0.N) : (dats m 0 c).after 8 t = (left m c t.val t.isLt).dup := by dsimp only [dats]
theorem after_9 (c : Dev nD) (t : Fin cfg0.N) : (dats m 0 c).after 9 t = (left m c t.val t.isLt).pg := by dsimp only [dats]
theorem after_10 (c : Dev nD) (t : Fin cfg0.N) : (dats m 0 c).after 10 t = (left m c t.val t.isLt).cw := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

theorem leaves_0 (c : Dev nD) (t : Fin cfg0.N) : (dats m 0 c).leavesExact 0 t = owns (c : Thread nD τ) (ms0_0 t) fullShare ((dats m 0 c).after 0 t) := by
  unfold Dat.leavesExact; rw [liveAt0_0 t]
theorem leaves_1 (c : Dev nD) (t : Fin cfg0.N) : (dats m 0 c).leavesExact 1 t = owns (c : Thread nD τ) (ms0_1 t) fullShare ((dats m 0 c).after 1 t) := by
  unfold Dat.leavesExact; rw [liveAt0_1 t]
theorem leaves_2 (c : Dev nD) (t : Fin cfg0.N) : (dats m 0 c).leavesExact 2 t = owns (c : Thread nD τ) (ms0_2 t) fullShare ((dats m 0 c).after 2 t) := by
  unfold Dat.leavesExact; rw [liveAt0_2 t]
theorem leaves_3 (c : Dev nD) (t : Fin cfg0.N) : (dats m 0 c).leavesExact 3 t = owns (c : Thread nD τ) (ms0_3 t) fullShare ((dats m 0 c).after 3 t) := by
  unfold Dat.leavesExact; rw [liveAt0_3 t]
theorem leaves_4 (c : Dev nD) (t : Fin cfg0.N) : (dats m 0 c).leavesExact 4 t = owns (c : Thread nD τ) (ms0_4 t) fullShare ((dats m 0 c).after 4 t) := by
  unfold Dat.leavesExact; rw [liveAt0_4 t]
theorem leaves_5 (c : Dev nD) (t : Fin cfg0.N) : (dats m 0 c).leavesExact 5 t = owns (c : Thread nD τ) (ms0_5 t) fullShare ((dats m 0 c).after 5 t) := by
  unfold Dat.leavesExact; rw [liveAt0_5 t]
theorem leaves_6 (c : Dev nD) (t : Fin cfg0.N) : (dats m 0 c).leavesExact 6 t = owns (c : Thread nD τ) (ms0_6 t) fullShare ((dats m 0 c).after 6 t) := by
  unfold Dat.leavesExact; rw [liveAt0_6 t]
theorem leaves_7 (c : Dev nD) (t : Fin cfg0.N) : (dats m 0 c).leavesExact 7 t = owns (c : Thread nD τ) (ms0_7 t) fullShare ((dats m 0 c).after 7 t) := by
  unfold Dat.leavesExact; rw [liveAt0_7 t]
theorem leaves_8 (c : Dev nD) (t : Fin cfg0.N) : (dats m 0 c).leavesExact 8 t = owns (c : Thread nD τ) (ms0_8 t) fullShare ((dats m 0 c).after 8 t) := by
  unfold Dat.leavesExact; rw [liveAt0_8 t]

/-- What the body is handed at point `t`, -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it gives back. -/
def handed (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point takes what it is handed to what it gives back. -/
theorem body_sound (c : Dev nD) (t : Fin cfg0.N) :
    given m c t ⊢ wp frame (wpE (defs₀ (F := F)) Variants.none c none) Set.univ (bodyAt0 t) (fun _ => handed m c t) := by
  unfold given handed
  rw [show (bodyAt0 t : Prog (TpuEff nD τ sig (Elt F) Λ₀ .tc) PUnit) = body (grid0.coords t) (bufs t) from rfl]
  simp only [before_0, before_1, before_2, before_3, before_4, before_5]
  rw [show (dats m 0 c).Φ t.succ = stateAt m c (left m c t.val t.isLt).next from rfl, dats_start m c t]
  unfold Dat.owesAt Pipeline.owesWithin
  rw [show (dats m 0 c).owed t.castSucc = 0 from rfl, show (dats m 0 c).owed t.succ = 0 from rfl]
  rw [leaves_0 m c t, after_0]
  rw [leaves_1 m c t, after_1]
  rw [leaves_2 m c t, after_2]
  rw [leaves_3 m c t, after_3]
  rw [leaves_4 m c t, after_4]
  rw [leaves_5 m c t, after_5]
  rw [leaves_6 m c t, after_6]
  rw [leaves_7 m c t, after_7]
  rw [leaves_8 m c t, after_8]
  have hN : t.val < 16 := lt_of_lt_of_eq t.isLt (show cfg0.N = 16 from N_0)
  by_cases h0 : t.val % 16 = 0
  · have hz : t.val = 0 := by omega
    have h1 : ¬t.val % 16 = 15 := by omega
    rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
    rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
    rw [show inv m c t.val (Nat.le_of_lt t.isLt) = Pipeline.ΦD osem0 spec0 H0 (V m) c from by unfold inv; split <;> simp_all, PhiD0_eq]
    rw [left_zero m c t hz, show leaves m c t unknown = outA c (grid0.coords t) (bufs t) ((hcond0_0 t).mpr h0) (fun h => by have := (hcond0_1 t).mp h; omega) (blocks m c t) (V m c main_v30) from dif_pos h0]
    unfold stateAt
    iintro ⟨⟨⟨HS0, HS1, HS2, HS3, HS4, HS5⟩, Hr, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (tripleA c (grid0.coords t) (bufs t) ((hcond0_0 t).mpr h0) (fun h => h1 ((hcond0_1 t).mp h)) (blocks m c t) (V m c main_v30) _ _ W _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8]
    · isplitl [H6]; · iexists _; iexact H6
      isplitl [H7]; · iexists _; iexact H7
      iexists _; iexact H8
    isplitl [H9 H10]
    · isplitl [H9]; · iexact H9
      iexact H10
    isplitl [HS0 HS1]
    · isplitl [HS0]; · iexact HS0
      iexact HS1
    isplitl [HS2 HS3 HS4 HS5]
    · isplitl [HS2]; · iexact HS2
      isplitl [HS3]; · iexact HS3
      isplitl [HS4]; · iexact HS4
      iexact HS5
    isplitl [Hq]; · iexact Hq
    isplitl [Hh]; · iexact Hh
    isplitl [HW]; · iexact HW
    iintro ⟨⟨H0, H1, H2, H3, H4, H5⟩, ⟨H6, H7, H8⟩, ⟨H9, H10⟩, ⟨HS0, HS1⟩, ⟨HS2, HS3, HS4, HS5⟩, Hq, Hh, ⟨%W', HW⟩⟩
    isplitl [HS0 HS1 HS2 HS3 HS4 HS5 Hr Hq Hh]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hr]; · iexact Hr
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  by_cases h1 : t.val % 16 = 15
  · have hz : t.val ≠ 0 := by rintro h; rw [h] at h0; exact h0 rfl
    rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after_9]
    rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after_10]
    rw [inv_pos m c _ _ hz, left_pos m c t hz]
    generalize (left m c (t.val - 1) (by have := t.isLt; omega)).next = s
    rw [show leaves m c t s = outC c (grid0.coords t) (bufs t) (fun h => h0 ((hcond0_0 t).mp h)) ((hcond0_1 t).mpr h1) (blocks m c t) s (V m c main_v30) from (dif_neg h0).trans (dif_pos h1)]
    unfold stateAt
    iintro ⟨⟨⟨HS0, HS1, HS2, HS3, HS4, HS5⟩, Hr, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (tripleC c (grid0.coords t) (bufs t) (fun h => h0 ((hcond0_0 t).mp h)) ((hcond0_1 t).mpr h1) (blocks m c t) s (V m c main_v30) W _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8]
    · isplitl [H6]; · iexists _; iexact H6
      isplitl [H7]; · iexists _; iexact H7
      iexists _; iexact H8
    isplitl [H9 H10]
    · isplitl [H9]; · iexists _; iexact H9
      iexists _; iexact H10
    isplitl [HS0 HS1]
    · isplitl [HS0]; · iexact HS0
      iexact HS1
    isplitl [HS2 HS3 HS4 HS5]
    · isplitl [HS2]; · iexact HS2
      isplitl [HS3]; · iexact HS3
      isplitl [HS4]; · iexact HS4
      iexact HS5
    isplitl [Hq]; · iexact Hq
    isplitl [Hh]; · iexact Hh
    isplitl [HW]; · iexact HW
    iintro ⟨⟨H0, H1, H2, H3, H4, H5⟩, ⟨H6, H7, H8⟩, ⟨H9, H10⟩, ⟨HS0, HS1⟩, ⟨HS2, HS3, HS4, HS5⟩, Hq, Hh, ⟨%W', HW⟩⟩
    isplitl [HS0 HS1 HS2 HS3 HS4 HS5 Hr Hq Hh]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hr]; · iexact Hr
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := by rintro h; rw [h] at h0; exact h0 rfl
    rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
    rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
    rw [inv_pos m c _ _ hz, left_pos m c t hz]
    generalize (left m c (t.val - 1) (by have := t.isLt; omega)).next = s
    rw [show leaves m c t s = outB c (grid0.coords t) (bufs t) (fun h => h0 ((hcond0_0 t).mp h)) (fun h => h1 ((hcond0_1 t).mp h)) (blocks m c t) s (V m c main_v30) from (dif_neg h0).trans (dif_neg h1)]
    unfold stateAt
    iintro ⟨⟨⟨HS0, HS1, HS2, HS3, HS4, HS5⟩, Hr, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (tripleB c (grid0.coords t) (bufs t) (fun h => h0 ((hcond0_0 t).mp h)) (fun h => h1 ((hcond0_1 t).mp h)) (blocks m c t) s (V m c main_v30) _ _ W _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8]
    · isplitl [H6]; · iexists _; iexact H6
      isplitl [H7]; · iexists _; iexact H7
      iexists _; iexact H8
    isplitl [H9 H10]
    · isplitl [H9]; · iexact H9
      iexact H10
    isplitl [HS0 HS1]
    · isplitl [HS0]; · iexact HS0
      iexact HS1
    isplitl [HS2 HS3 HS4 HS5]
    · isplitl [HS2]; · iexact HS2
      isplitl [HS3]; · iexact HS3
      isplitl [HS4]; · iexact HS4
      iexact HS5
    isplitl [Hq]; · iexact Hq
    isplitl [Hh]; · iexact Hh
    isplitl [HW]; · iexact HW
    iintro ⟨⟨H0, H1, H2, H3, H4, H5⟩, ⟨H6, H7, H8⟩, ⟨H9, H10⟩, ⟨HS0, HS1⟩, ⟨HS2, HS3, HS4, HS5⟩, Hq, Hh, ⟨%W', HW⟩⟩
    isplitl [HS0 HS1 HS2 HS3 HS4 HS5 Hr Hq Hh]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hr]; · iexact Hr
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem inv_in (c : Dev nD) : Pipeline.ΦD osem0 spec0 H0 (V m) c ⊢ (dats m 0 c).Φ 0 := by
  rw [show (dats m 0 c).Φ 0 = Pipeline.ΦD osem0 spec0 H0 (V m) c from rfl]

theorem inv_out (c : Dev nD) : (dats m 0 c).Φ (Fin.last cfg0.N) ⊢ Pipeline.ΦD osem0 spec0 H0 (V m) c := by
  have hN : cfg0.N = 16 := N_0
  rw [show (dats m 0 c).Φ (Fin.last cfg0.N) = inv m c (Fin.last cfg0.N).val (Nat.le_of_lt_succ (Fin.last cfg0.N).isLt) from rfl,
    inv_pos m c _ _ (by rw [Fin.val_last]; omega), PhiD0_eq]
  unfold stateAt
  iintro ⟨⟨HS0, HS1, HS2, HS3, HS4, HS5⟩, Hr, Hq, Hh⟩
  isplitl [HS0 HS1 HS2 HS3 HS4 HS5]
  · isplitl [HS0]; · iexact HS0
    isplitl [HS1]; · iexact HS1
    isplitl [HS2]; · iexists _; iexact HS2
    isplitl [HS3]; · iexists _; iexact HS3
    isplitl [HS4]; · iexists _; iexact HS4
    iexists _; iexact HS5
  isplitl [Hr]; · iexact Hr
  isplitl [Hq]; · iexact Hq
  iexact Hh

set_option backward.isDefEq.respectTransparency.types false in
/-- The launch ends with the arrays the proof data give and every counter at zero. -/
theorem launched : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (obligation m c).loose) (hq := fun _ _ _ => rfl)
    (howed := fun _ _ => rfl) (V := V m) (hmain := hmain m Variants.none) (hA := dats_A m)
    (hin := inv_in m) (hout := inv_out m)

theorem launched_arrays : θ_run defs (onTc (τ := τ) (main (F := F))) (s₀ m ρ) (Pipeline.FramePost cfgs (dats m) 0 (V m)) :=
  (θ_run defs _ _).mono (fun _ h => h.1) (launched m ρ)

/-- The arguments end as they were and every counter ends at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) (launched_arrays m ρ)) ((θ_run defs _ _).mono (fun _ h => h.2) (launched m ρ))

end Cert.Ffn

end

end
-- ==== Proof.Words.lean ====
/- The kernel over words and its idealization have one text: their programs are equal, so a run of the second is a run of the first. -/
module

public import proofs.«01_k».proof.Proof.Launched
public import proofs.«01_k».proof.Defs
public import proofs.«01_k».proof.Proof.Gen.Kernel
public import proofs.«01_k».proof.Proof.Gen.KernelIdeal

@[expose] public section

set_option maxRecDepth 20000
set_option maxHeartbeats 1000000

noncomputable section

namespace Cert.Ffn

open Idealize.ShloMosaic Idealize.SL.Sem

/-- The two body tables are equal: label by label, the same function. -/
theorem bodies_eq : Cert.Kernel.defs₀ (F := Bits) = Cert.KernelIdeal.defs₀ (F := Bits) := by
  refine congrArg (Defs.onTc (nD := Cert.KernelIdeal.nD) (τ := Cert.KernelIdeal.τ) (sig := Cert.KernelIdeal.sig) (Λ := Cert.KernelIdeal.Λ₀) (Val := Elt Bits))
    (funext fun l => funext fun x => ?_)
  match l, x with
  | 0, (t, s) => rfl
  | ⟨_ + 1, h⟩, _ => exact absurd h (Nat.not_lt.2 (Nat.le_add_left _ _))

/-- So the two tables with their pipelines are equal. -/
theorem defs_eq : Cert.Kernel.defs (F := Bits) = Cert.KernelIdeal.defs (F := Bits) :=
  congrArg (Pipeline.defs (Cert.KernelIdeal.pcfgs (F := Bits))) bodies_eq

/-- The kernel over words keeps its arguments and ends with its counters at zero: the run `framed` of its idealization's text, read at words. -/
theorem frame_words : Cert.quiescent_Kernel (hKernel := Cert.Kernel.Gen.facts) := fun m ρ _ => by
  rw [defs_eq]
  exact framed (F := Bits) m ρ

end Cert.Ffn

end

end
-- ==== Proof.WUp.lean ====
/- The gradient of the up projection's weight: what the call's blocks add up to, and that it is the reference's product. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.WUp

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg)

/-- The normed activations that the call multiplies. -/
abbrev hid (c : Dev nD) : FVec Ideal S4096x1024 .f32 := m ((c.tc : Thread nD τ).loc main_arg0)
/-- The gradient that comes back to the product. -/
abbrev cot (c : Dev nD) : FVec Ideal S4096x5632 .f32 := m ((c.tc : Thread nD τ).loc main_arg2)

/-- The region finds the activations as they were given: over the reals the cast is the identity. -/
theorem found_hid (c : Dev nD) : V m c main_v0 = hid m c := by
  unfold_abbrev_sides
  after_results
  rfl

theorem found_cot (c : Dev nD) : V m c main_v1 = cot m c := by
  unfold_abbrev_sides
  after_results
  rfl

/-- Point `n` multiplies rows `1024·(n % 4) …` of the activations … -/
theorem rows_hid (c : Dev nD) (t : Fin cfg0.N) (k : Fin 1024) (a : Fin 1024) :
    iblk m c 0 t (ix2 k a) = hid m c (ix2 ⟨t.val % 4 * 1024 + k.val, by omega⟩ a) := by
  show V m c main_v0 _ = _
  rw [found_hid]
  have e : ∀ t : Fin cfg0.N, win0_0.index t (0 : Fin 2) = t.val % 4 ∧ win0_0.index t (1 : Fin 2) = 0 :=
    (by decide +kernel : ∀ t : Fin grid0.N, _)
  obtain ⟨e0, e1⟩ := e t
  blk_ext [e0, e1]

/-- … with the same rows of the gradient, in columns `1408·(n / 4) …`. -/
theorem rows_cot (c : Dev nD) (t : Fin cfg0.N) (k : Fin 1024) (b : Fin 1408) :
    iblk m c 1 t (ix2 k b) = cot m c (ix2 ⟨t.val % 4 * 1024 + k.val, by omega⟩ ⟨t.val / 4 * 1408 + b.val, by have := t.isLt; have : cfg0.N = 16 := N_0; omega⟩) := by
  show V m c main_v1 _ = _
  rw [found_cot]
  have e : ∀ t : Fin cfg0.N, win0_1.index t (0 : Fin 2) = t.val % 4 ∧ win0_1.index t (1 : Fin 2) = t.val / 4 :=
    (by decide +kernel : ∀ t : Fin grid0.N, _)
  obtain ⟨e0, e1⟩ := e t
  blk_ext [e0, e1]

/-- One point adds the product of its two blocks. -/
theorem pay2_at (acc : FVec Ideal S1x1024x1408 .f32) (x : FVec Ideal S1024x1024 .bf16) (y : FVec Ideal S1024x1408 .bf16) (a : Fin 1024) (b : Fin 1408) :
    k0_pay2 (F := Ideal) acc x y (ix3 0 a b) = acc (ix3 0 a b) + ∑ k : Fin 1024, x (ix2 k a) * y (ix2 k b) := by
  pointwise [k0_pay2]

theorem pay1_at (j : S1x1024x1408.Idx) : k0_pay1 (F := Ideal) j = 0 := by
  pointwise [k0_pay1]

/-- What point `n` adds at a place of its block (past the grid: nothing). -/
def part (c : Dev nD) (n : ℕ) (j : S1x1024x1408.Idx) : EReal :=
  if h : n < cfg0.N then ∑ k : Fin 1024, hid m c (ix2 ⟨n % 4 * 1024 + k.val, by omega⟩ (j 1)) *
    cot m c (ix2 ⟨n % 4 * 1024 + k.val, by omega⟩ ⟨n / 4 * 1408 + (j 2).val, by have := (j 2).isLt; have : cfg0.N = 16 := N_0; simp only [S1x1024x1408] at *; dsimp at *; omega⟩) else 0

/-- A place of a block by its two coordinates. -/
theorem place (j : S1x1024x1408.Idx) : ∃ (a : Fin 1024) (b : Fin 1408), j = ix3 0 a b := by
  refine ⟨j 1, j 2, ?_⟩
  funext a
  match a with
  | ⟨0, _⟩ => exact Subsingleton.elim (α := Fin 1) _ _
  | ⟨1, _⟩ => rfl
  | ⟨2, _⟩ => rfl

theorem pay2_part (c : Dev nD) (n : ℕ) (h : n < cfg0.N) (acc : FVec Ideal S1x1024x1408 .f32) (j : S1x1024x1408.Idx) :
    k0_pay2 (F := Ideal) acc (iblk m c 0 ⟨n, h⟩) (iblk m c 1 ⟨n, h⟩) j = acc j + part m c n j := by
  obtain ⟨a, b, rfl⟩ := place j
  refine (pay2_at acc _ _ a b).trans ?_
  rw [part, dif_pos h]
  exact congrArg (acc (ix3 0 a b) + ·) (Finset.sum_congr rfl fun k _ => congrArg₂ (fun x y : EReal => x * y) (rows_hid m c ⟨n, h⟩ k a) (rows_cot m c ⟨n, h⟩ k b))

/-- The array at an index: the whole product's column, all 4096 rows of it. -/
theorem whole (c : Dev nD) (q : Fin 4) (a : Fin 1024) (b : Fin 1408) :
    Value.G2 m c (ix3 q a b) = ∑ l : Fin 4096, hid m c (ix2 l a) * cot m c (ix2 l ⟨q.val * 1408 + b.val, by omega⟩) := by
  have hq : Value.run2Of (ix3 q a b) = q.val := by
    show 1 * (q.val / 1 - 0) + 1 * (a.val / 1024 - 0) + 1 * (b.val / 1408 - 0) = q.val
    omega
  have hl : Value.loc2Of (ix3 q a b) = ix3 0 a b := by
    funext x
    match x with
    | ⟨0, _⟩ => exact Subsingleton.elim (α := Fin 1) _ _
    | ⟨1, _⟩ => exact Fin.ext (Nat.mod_eq_of_lt a.isLt)
    | ⟨2, _⟩ => exact Fin.ext (Nat.mod_eq_of_lt b.isLt)
  have hN : cfg0.N = 16 := N_0
  unfold Value.G2
  rw [dif_pos (by rw [hq, hN]; omega), hl,
    Pipeline.accAt_add_apply (Value.reset2 m c) (Value.step2 m c) (fun _ => (0 : EReal)) (part m c) _ 3
      (fun h i => by rw [Value.reset2, pay2_part, pay1_at]) (fun n h acc i _ _ => pay2_part m c n h acc i) 3 le_rfl,
    zero_add, hq, Finset.sum_range]
  refine Eq.trans (Fin.sum_fin_congr fun s => ?_) (Fin.sum_mul_add_fin 4 1024 fun l => hid m c (ix2 l a) * cot m c (ix2 l ⟨q.val * 1408 + b.val, by omega⟩))
  rw [part, dif_pos (by rw [hN]; omega)]
  refine Fin.sum_fin_congr fun k => ?_
  have e1 : (4 * q.val + s.val) % 4 = s.val := by omega
  have e2 : (4 * q.val + s.val) / 4 = q.val := by omega
  simp only [e1, e2]
  rfl

/-- The reference at an index: the same product. -/
theorem ref_at (x : FVec Ideal S4096x1024 .f32) (y : FVec Ideal S4096x5632 .f32) (q : Fin 4) (a : Fin 1024) (b : Fin 1408) :
    Cert.Reference2Ideal.Read.val_main_v4 (F := Ideal) x y (ix3 q a b)
      = ∑ l : Fin 4096, x (ix2 l a) * y (ix2 l ⟨q.val * 1408 + b.val, by omega⟩) := by
  rw [Cert.Reference2Ideal.Read.val_main_v4_apply, Cert.Reference2Ideal.Read.val_main_v3_apply, Cert.Reference2Ideal.Read.val_main_v2_apply,
    Cert.Reference2Ideal.Read.val_main_v1_apply]
  refine Finset.sum_congr rfl fun l _ => ?_
  rw [mul_comm]
  congr 1
  · congr 1
    funext z
    match z with
    | ⟨0, _⟩ => rfl
    | ⟨1, _⟩ => exact Fin.ext (show ((a.val * 4 + q.val) * 1408 + b.val) / 5632 = a.val by omega)
  · congr 1
    funext z
    match z with
    | ⟨0, _⟩ => rfl
    | ⟨1, _⟩ => exact Fin.ext (show ((a.val * 4 + q.val) * 1408 + b.val) % 5632 = q.val * 1408 + b.val by omega)

/-- The array that the call leaves is the reference's array. -/
theorem same (c : Dev nD) : Value.G2 m c = Cert.Reference2Ideal.Read.val_main_v4 (F := Ideal) (hid m c) (cot m c) := by
  funext i
  have e : i = ix3 (i 0) (i 1) (i 2) := by
    funext z
    match z with
    | ⟨0, _⟩ => rfl
    | ⟨1, _⟩ => rfl
    | ⟨2, _⟩ => rfl
  rw [e]
  exact (whole m c _ _ _).trans (ref_at _ _ _ _ _).symm

/-- The two body tables are equal: label by label, the same function. -/
theorem bodies_eq : Cert.Kernel2.defs₀ (F := Bits) = Cert.Kernel2Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel2.defs (F := Bits) = Cert.Kernel2Ideal.defs (F := Bits) :=
  congrArg (Pipeline.defs (pcfgs (F := Bits))) bodies_eq

/-- The call over words keeps its arguments and ends with its counters at zero. -/
theorem frame_words : Cert.quiescent_Kernel2 (hKernel2 := Cert.Kernel2.Gen.facts) := fun m ρ _ => by
  rw [defs_eq]
  exact Cert.Kernel2Ideal.Gen.frame (F := Bits) m ρ

/-- So does the call over the extended reals. -/
theorem frame_ideal : Cert.quiescent_Kernel2Ideal (hKernel2Ideal := Cert.Kernel2Ideal.Gen.facts) := fun m ρ _ =>
  Cert.Kernel2Ideal.Gen.frame m ρ

/-- The reference keeps its arguments, and it has no counter. -/
theorem frame_reference : Cert.quiescent_Reference2Ideal (hReference2Ideal := Cert.Reference2Ideal.Gen.facts) := fun m ρ _ =>
  (θ_run Cert.Reference2Ideal.defs _ _).mono (fun r h => ⟨fun c => (h c).2,
    sem_eq_zero_of_no_sems (by decide) r.2⟩) (Cert.Reference2Ideal.Value.run m ρ)

/-- From equal arguments the call and the reference leave the same array. -/
theorem value : Cert.algebraic_Kernel2Ideal_Reference2Ideal (hKernel2Ideal := Cert.Kernel2Ideal.Gen.facts)
    (hReference2Ideal := Cert.Reference2Ideal.Gen.facts) := fun m g m' g' _ hargs => by
  refine ⟨fun c => Value.G2 m c, Value.run m g, ?_⟩
  refine (θ_run Cert.Reference2Ideal.defs _ _).mono (fun r h c => ⟨?_, (h c).2⟩) (Cert.Reference2Ideal.Value.run m' g')
  rw [(h c).1, Cert.Reference2Ideal.Read.val_main_v4_eq]
  obtain ⟨h0, h1, h2⟩ := hargs c
  rw [h0, h2]
  exact (same m c).symm

end Cert.WUp

end

end
-- ==== Proof.WDown.lean ====
/- The gradient of the down projection's weight: the running sum over the row blocks, its two halves, and that the array is the reference's product. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.WDown

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg)

/-- The gated activations that the call multiplies. -/
abbrev act (c : Dev nD) : FVec Ideal S4096x2816 .f32 := m ((c.tc : Thread nD τ).loc main_arg0)
/-- The gradient that comes back to the product. -/
abbrev cot (c : Dev nD) : FVec Ideal S4096x1024 .f32 := m ((c.tc : Thread nD τ).loc main_arg2)

theorem found_act (c : Dev nD) : V m c main_v0 = act m c := by
  unfold_abbrev_sides
  after_results
  rfl

theorem found_cot (c : Dev nD) : V m c main_v1 = cot m c := by
  unfold_abbrev_sides
  after_results
  rfl

/-- Point `n` multiplies rows `1024·(n % 4) …` of the activations, in columns `1408·(n / 4) …`, … -/
theorem rows_act (c : Dev nD) (t : Fin cfg0.N) (k : Fin 1024) (a : Fin 1408) :
    iblk m c 0 t (ix2 k a) = act m c (ix2 ⟨t.val % 4 * 1024 + k.val, by omega⟩ ⟨t.val / 4 * 1408 + a.val, by have := t.isLt; have : cfg0.N = 8 := N_0; omega⟩) := by
  show V m c main_v0 _ = _
  rw [found_act]
  have e : ∀ t : Fin cfg0.N, win0_0.index t (0 : Fin 2) = t.val % 4 ∧ win0_0.index t (1 : Fin 2) = t.val / 4 :=
    (by decide +kernel : ∀ t : Fin grid0.N, _)
  obtain ⟨e0, e1⟩ := e t
  blk_ext [e0, e1]

/-- … with the same rows of the gradient. -/
theorem rows_cot (c : Dev nD) (t : Fin cfg0.N) (k : Fin 1024) (b : Fin 1024) :
    iblk m c 1 t (ix2 k b) = cot m c (ix2 ⟨t.val % 4 * 1024 + k.val, by omega⟩ b) := by
  show V m c main_v1 _ = _
  rw [found_cot]
  have e : ∀ t : Fin cfg0.N, win0_1.index t (0 : Fin 2) = t.val % 4 ∧ win0_1.index t (1 : Fin 2) = 0 :=
    (by decide +kernel : ∀ t : Fin grid0.N, _)
  obtain ⟨e0, e1⟩ := e t
  blk_ext [e0, e1]

/-- One point adds the product of its two blocks. -/
theorem pay2_at (acc : FVec Ideal S1408x1024 .f32) (x : FVec Ideal S1024x1408 .bf16) (y : FVec Ideal S1024x1024 .bf16) (a : Fin 1408) (b : Fin 1024) :
    k0_pay2 (F := Ideal) acc x y (ix2 a b) = acc (ix2 a b) + ∑ k : Fin 1024, x (ix2 k a) * y (ix2 k b) := by
  pointwise [k0_pay2]

theorem pay1_at (j : S1408x1024.Idx) : k0_pay1 (F := Ideal) j = 0 := by
  pointwise [k0_pay1]

theorem pay3_at (v : FVec Ideal S704x1024 .f32) (a : Fin 704) (b : Fin 1024) : k0_pay3 (F := Ideal) v (ix3 0 a b) = v (ix2 a b) := by
  pointwise [k0_pay3]

theorem pay4_at (v : FVec Ideal S704x1024 .f32) (a : Fin 704) (b : Fin 1024) : k0_pay4 (F := Ideal) v (ix3 0 a b) = v (ix2 a b) := by
  pointwise [k0_pay4]

theorem zero2 : (![0, 0] : Fin 2 → ℕ) = fun _ => 0 := funext fun a => by match a with | ⟨0, _⟩ => rfl | ⟨1, _⟩ => rfl

/-- A place of a half by its two coordinates. -/
theorem place (j : S1x704x1024.Idx) : ∃ (a : Fin 704) (b : Fin 1024), j = ix3 0 a b := by
  refine ⟨j 1, j 2, ?_⟩
  funext a
  match a with
  | ⟨0, _⟩ => exact Subsingleton.elim (α := Fin 1) _ _
  | ⟨1, _⟩ => rfl
  | ⟨2, _⟩ => rfl

section Cases

variable (c : Dev nD) (i : grid0.Coords) (arg2 : Memref sig .tc .vmem S1024x1408 .bf16) (harg2 : arg2.IsWhole) (arg3 : Memref sig .tc .vmem S1024x1024 .bf16) (harg3 : arg3.IsWhole)
  (arg4 : Memref sig .tc .vmem S2x704x1024 .f32) (harg4 : arg4.IsWhole) (arg5 : Memref sig .tc .vmem S1408x1024 .f32) (harg5 : arg5.IsWhole)
  (x0 : Vec Ideal S1024x1408 .bf16) (x1 : Vec Ideal S1024x1024 .bf16) (acc : Vec Ideal S1408x1024 .f32)

/-- The first point of a run clears the sum and adds its product. -/
theorem first_sum (hc0 : cond0_0 i) (hc1 : ¬cond0_1 i) :
    sout0_A_0 c i arg2 harg2 arg3 harg3 arg4 harg4 arg5 harg5 hc0 hc1 x0 x1 = k0_pay2 (F := Ideal) (k0_pay1 (F := Ideal)) x0 x1 := by
  unfold sout0_A_0
  rw [View.read_writes_junk_eq_canon]
  unfold kernelRun0_A
  dsimp only
  try sl_unfold_words
  rw [View.canon_cons_unit_zero (S := S1408x1024) zero2, View.readCov_unit_zero (S := S1408x1024) _ zero2]
  simp only [View.readAt_eq_ld, harg2.read_unread, harg3.read_unread, View.ld_unit_zero (S := S1024x1408) zero2, View.ld_unit_zero (S := S1024x1024) zero2, shapeCast_self]

/-- A later one adds its product to what it finds. -/
theorem middle_sum (hc0 : ¬cond0_0 i) (hc1 : ¬cond0_1 i) :
    sout0_B_0 c i arg2 harg2 arg3 harg3 arg4 harg4 arg5 harg5 hc0 hc1 x0 x1 acc = k0_pay2 (F := Ideal) acc x0 x1 := by
  unfold sout0_B_0
  rw [View.read_writes_junk_eq_canon]
  unfold kernelRun0_B
  dsimp only
  try sl_unfold_words
  rw [View.canon_unit_zero (S := S1408x1024) zero2]
  simp only [View.readAt_eq_ld, harg2.read_unread, harg3.read_unread, harg5.read_unread, View.ld_unit_zero (S := S1024x1408) zero2, View.ld_unit_zero (S := S1024x1024) zero2, View.ld_unit_zero (S := S1408x1024) zero2, shapeCast_self]

theorem last_sum (hc0 : ¬cond0_0 i) (hc1 : cond0_1 i) :
    sout0_C_0 c i arg2 harg2 arg3 harg3 arg4 harg4 arg5 harg5 hc0 hc1 x0 x1 acc = k0_pay2 (F := Ideal) acc x0 x1 := by
  unfold sout0_C_0
  rw [View.read_writes_junk_eq_canon]
  unfold kernelRun0_C
  dsimp only
  try sl_unfold_words
  rw [View.canon_unit_zero (S := S1408x1024) zero2]
  simp only [View.readAt_eq_ld, harg2.read_unread, harg3.read_unread, harg5.read_unread, View.ld_unit_zero (S := S1024x1408) zero2, View.ld_unit_zero (S := S1024x1024) zero2, View.ld_unit_zero (S := S1408x1024) zero2, shapeCast_self]

/-- The last point hands the sum out in two halves. -/
theorem halves (hc0 : ¬cond0_0 i) (hc1 : cond0_1 i) (j : S2x704x1024.Idx) :
    out0_C_2 c i arg2 harg2 arg3 harg3 arg4 harg4 arg5 harg5 hc0 hc1 x0 x1 acc j
      = k0_pay2 (F := Ideal) acc x0 x1 (ix2 ⟨(j 0).val * 704 + (j 1).val, by have h0 : (j 0).val < 2 := (j 0).isLt; have h1 : (j 1).val < 704 := (j 1).isLt; omega⟩ (j 2)) := by
  have hc := cover0_C_2 c i arg2 harg2 arg3 harg3 arg4 harg4 arg5 harg5 hc0 hc1 x0 x1 acc j
  unfold out0_C_2
  rw [View.read_writes_junk_eq_canon]
  refine View.canon_apply_of_pieces (fun j => k0_pay2 (F := Ideal) acc x0 x1 (ix2 ⟨(j 0).val * 704 + (j 1).val, by have h0 : (j 0).val < 2 := (j 0).isLt; have h1 : (j 1).val < 704 := (j 1).isLt; omega⟩ (j 2))) _ ?_ j hc
  unfold kernelRun0_C
  dsimp only
  try sl_unfold_words
  simp only [View.readAt_eq_ld, View.readCov_eq_canon', View.canon_unit_zero (S := S1408x1024) zero2, harg2.read_unread, harg3.read_unread, harg5.read_unread, View.ld_unit_zero (S := S1024x1408) zero2,
    View.ld_unit_zero (S := S1024x1024) zero2, View.ld_unit_zero (S := S1408x1024) zero2]
  intro p hp
  rcases List.mem_cons.1 hp with rfl | hp
  · intro x
    obtain ⟨a, b, rfl⟩ := place x
    refine (pay4_at (fun j => k0_pay2 (F := Ideal) acc x0 x1 ((Rect.unit (s := S1408x1024) ![704, 0] S704x1024.size inb_S1408x1024_S704x1024_704_0).idx j)) a b).trans
      (congrArg (k0_pay2 (F := Ideal) acc x0 x1) (funext fun z => ?_))
    match z with
    | ⟨0, _⟩ => exact Fin.ext (show 704 + 1 * a.val = (1 + 1 * 0) * 704 + (0 + 1 * a.val) by omega)
    | ⟨1, _⟩ => exact Fin.ext (show 0 + 1 * b.val = 0 + 1 * b.val from rfl)
  rcases List.mem_cons.1 hp with rfl | hp
  · intro x
    obtain ⟨a, b, rfl⟩ := place x
    refine (pay3_at (fun j => k0_pay2 (F := Ideal) acc x0 x1 ((Rect.unit (s := S1408x1024) ![0, 0] S704x1024.size inb_S1408x1024_S704x1024_0_0).idx j)) a b).trans
      (congrArg (k0_pay2 (F := Ideal) acc x0 x1) (funext fun z => ?_))
    match z with
    | ⟨0, _⟩ => exact Fin.ext (show 0 + 1 * a.val = (0 + 1 * 0) * 704 + (0 + 1 * a.val) by omega)
    | ⟨1, _⟩ => exact Fin.ext (show 0 + 1 * b.val = 0 + 1 * b.val from rfl)
  · exact absurd hp List.not_mem_nil

end Cases

/-- What point `n` adds at a place of the sum (past the grid: nothing). -/
def part (c : Dev nD) (n : ℕ) (j : S1408x1024.Idx) : EReal :=
  if h : n < cfg0.N then ∑ k : Fin 1024, act m c (ix2 ⟨n % 4 * 1024 + k.val, by omega⟩
      ⟨n / 4 * 1408 + (j 0).val, by have h0 : (j 0).val < 1408 := (j 0).isLt; have : cfg0.N = 8 := N_0; omega⟩) *
    cot m c (ix2 ⟨n % 4 * 1024 + k.val, by omega⟩ (j 1)) else 0

theorem pay2_part (c : Dev nD) (n : ℕ) (h : n < cfg0.N) (acc : FVec Ideal S1408x1024 .f32) (j : S1408x1024.Idx) :
    k0_pay2 (F := Ideal) acc (iblk m c 0 ⟨n, h⟩) (iblk m c 1 ⟨n, h⟩) j = acc j + part m c n j := by
  obtain ⟨a, b, rfl⟩ : ∃ (a : Fin 1408) (b : Fin 1024), j = ix2 a b :=
    ⟨j 0, j 1, funext fun z => by match z with | ⟨0, _⟩ => rfl | ⟨1, _⟩ => rfl⟩
  refine (pay2_at acc _ _ a b).trans ?_
  rw [part, dif_pos h]
  exact congrArg (acc (ix2 a b) + ·) (Finset.sum_congr rfl fun k _ => congrArg₂ (fun x y : EReal => x * y) (rows_act m c ⟨n, h⟩ k a) (rows_cot m c ⟨n, h⟩ k b))

/-- The sum after a point that starts a run, and after one that goes on. -/
def restart (c : Dev nD) (n : ℕ) (h : n < cfg0.N) : Vec Ideal S1408x1024 .f32 :=
  k0_pay2 (F := Ideal) (k0_pay1 (F := Ideal)) (iblk m c 0 ⟨n, h⟩) (iblk m c 1 ⟨n, h⟩)
def goOn (c : Dev nD) (n : ℕ) (h : n < cfg0.N) (acc : Vec Ideal S1408x1024 .f32) : Vec Ideal S1408x1024 .f32 :=
  k0_pay2 (F := Ideal) acc (iblk m c 0 ⟨n, h⟩) (iblk m c 1 ⟨n, h⟩)

theorem sums (c : Dev nD) (n : ℕ) (hn : n < cfg0.N) :
    (outsAt0 m c n hn).2 = Pipeline.accAt (restart m c) (goOn m c) (4 * (n / 4)) (n % 4)
      (by have h2 := Nat.div_add_mod n 4; omega) :=
  Pipeline.eq_accAt_of_mod (fun n h => (outsAt0 m c n h).2) 4 (restart m c) (goOn m c)
    (fun n h hn => by
      have h0 : n % 4 = 0 := hn
      rw [outsAt0_A m c ⟨n, h⟩ h0 (fun e => by have e' : n % 4 = 3 := e; omega)]
      dsimp only
      rw [first_sum]
      rfl)
    (fun n h hn => by
      have h0 : ¬(n + 1) % 4 = 0 := hn
      by_cases h1 : (n + 1) % 4 = 3
      · rw [outsAt0_C m c ⟨n + 1, h⟩ h0 h1]
        dsimp only
        rw [last_sum]
        rfl
      · rw [outsAt0_B m c ⟨n + 1, h⟩ h0 h1]
        dsimp only
        rw [middle_sum]
        rfl)
    (by decide) n hn _

/-- Two folds of equal bounds are one. -/
theorem fold_congr (c : Dev nD) : ∀ (a a' j j' : ℕ) (h : a + j < cfg0.N) (h' : a' + j' < cfg0.N), a = a' → j = j' →
    Pipeline.accAt (restart m c) (goOn m c) a j h = Pipeline.accAt (restart m c) (goOn m c) a' j' h' := by
  intro a a' j j' h h' ea ej
  subst ea ej
  rfl

/-- The array at an index is the finished sum of its run. -/
theorem array_sum (c : Dev nD) (p : Fin 2) (q : Fin 2) (a : Fin 704) (b : Fin 1024) :
    Value.G2 m c (ix3 ⟨2 * p.val + q.val, by omega⟩ a b)
      = (outsAt0 m c (4 * p.val + 3) (by have : cfg0.N = 8 := N_0; omega)).2 (ix2 ⟨q.val * 704 + a.val, by omega⟩ b) := by
  have hN : cfg0.N = 8 := N_0
  have hp : Value.pt2Of (ix3 ⟨2 * p.val + q.val, by omega⟩ a b : S4x704x1024.Idx) = 4 * p.val + 3 := by
    show 4 * (1 * ((2 * p.val + q.val) / 2 - 0) + 1 * (a.val / 704 - 0) + 1 * (b.val / 1024 - 0)) + 3 = 4 * p.val + 3
    omega
  have hl : Value.loc2Of (ix3 ⟨2 * p.val + q.val, by omega⟩ a b : S4x704x1024.Idx) = ix3 q a b := by
    funext x
    match x with
    | ⟨0, _⟩ => exact Fin.ext (show (2 * p.val + q.val) % 2 = q.val by omega)
    | ⟨1, _⟩ => exact Fin.ext (Nat.mod_eq_of_lt a.isLt)
    | ⟨2, _⟩ => exact Fin.ext (Nat.mod_eq_of_lt b.isLt)
  unfold Value.G2
  rw [dif_pos (by rw [hp, hN]; omega), hl, Value.fold0_congr m c _ _ (4 * p.val + 3) (by rw [hN]; omega) hp,
    ← Value.outsAt0_sweep m c (4 * p.val + 3) (by rw [hN]; omega)]
  have e := outsAt0_C m c ⟨4 * p.val + 3, by rw [hN]; omega⟩ (fun e => by have e' : (4 * p.val + 3) % 4 = 0 := e; omega) (show (4 * p.val + 3) % 4 = 3 by omega)
  dsimp only at e
  rw [e]
  dsimp only
  rw [halves, last_sum]
  rfl

/-- The array at an index: the whole product's entry, all 4096 rows of it. -/
theorem whole (c : Dev nD) (p : Fin 2) (q : Fin 2) (a : Fin 704) (b : Fin 1024) :
    Value.G2 m c (ix3 ⟨2 * p.val + q.val, by omega⟩ a b)
      = ∑ l : Fin 4096, act m c (ix2 l ⟨(2 * p.val + q.val) * 704 + a.val, by omega⟩) * cot m c (ix2 l b) := by
  have hN : cfg0.N = 8 := N_0
  have e1 : (4 * p.val + 3) / 4 = p.val := by omega
  have e2 : (4 * p.val + 3) % 4 = 3 := by omega
  rw [array_sum, sums, fold_congr m c _ (4 * p.val) _ 3 _ (by rw [hN]; omega) (by rw [e1]) e2,
    Pipeline.accAt_add_apply (restart m c) (goOn m c) (fun _ => (0 : EReal)) (part m c) _ 3
      (fun h i => by rw [restart, pay2_part, pay1_at]) (fun n h acc i _ _ => pay2_part m c n h acc i) 3 le_rfl,
    zero_add, Finset.sum_range]
  refine Eq.trans (Fin.sum_fin_congr fun s => ?_) (Fin.sum_mul_add_fin 4 1024 fun l => act m c (ix2 l ⟨(2 * p.val + q.val) * 704 + a.val, by omega⟩) * cot m c (ix2 l b))
  rw [part, dif_pos (by rw [hN]; omega)]
  refine Fin.sum_fin_congr fun k => ?_
  have e3 : (4 * p.val + s.val) % 4 = s.val := by omega
  have e4 : (4 * p.val + s.val) / 4 = p.val := by omega
  simp only [e3, e4]
  refine congrArg₂ (fun x y : EReal => x * y) (congrArg (act m c) (funext fun z => ?_)) rfl
  match z with
  | ⟨0, _⟩ => rfl
  | ⟨1, _⟩ => exact Fin.ext (show p.val * 1408 + (q.val * 704 + a.val) = (2 * p.val + q.val) * 704 + a.val by omega)

/-- The reference at an index: the same product. -/
theorem ref_at (x : FVec Ideal S4096x2816 .f32) (y : FVec Ideal S4096x1024 .f32) (q : Fin 4) (a : Fin 704) (b : Fin 1024) :
    Cert.Reference3Ideal.Read.val_main_v3 (F := Ideal) x y (ix3 q a b)
      = ∑ l : Fin 4096, x (ix2 l ⟨q.val * 704 + a.val, by omega⟩) * y (ix2 l b) := by
  rw [Cert.Reference3Ideal.Read.val_main_v3_apply, Cert.Reference3Ideal.Read.val_main_v2_apply, Cert.Reference3Ideal.Read.val_main_v1_apply]
  refine Finset.sum_congr rfl fun l _ => ?_
  rw [mul_comm]
  congr 1
  · congr 1
    funext z
    match z with
    | ⟨0, _⟩ => rfl
    | ⟨1, _⟩ => exact Fin.ext (show ((q.val * 704 + a.val) * 1024 + b.val) / 1024 = q.val * 704 + a.val by omega)
  · congr 1
    funext z
    match z with
    | ⟨0, _⟩ => rfl
    | ⟨1, _⟩ => exact Fin.ext (show ((q.val * 704 + a.val) * 1024 + b.val) % 1024 = b.val by omega)

/-- A row block of the array is half `q` of run `p`'s. -/
theorem split (i : S4x704x1024.Idx) : ∃ (p : Fin 2) (q : Fin 2) (a : Fin 704) (b : Fin 1024), i = ix3 ⟨2 * p.val + q.val, by omega⟩ a b := by
  have h0 : (i 0).val < 4 := (i 0).isLt
  refine ⟨⟨(i 0).val / 2, by omega⟩, ⟨(i 0).val % 2, by omega⟩, i 1, i 2, ?_⟩
  funext z
  match z with
  | ⟨0, _⟩ => exact Fin.ext (show (i 0).val = 2 * ((i 0).val / 2) + (i 0).val % 2 by omega)
  | ⟨1, _⟩ => rfl
  | ⟨2, _⟩ => rfl

/-- The array that the call leaves is the reference's array. -/
theorem same (c : Dev nD) : Value.G2 m c = Cert.Reference3Ideal.Read.val_main_v3 (F := Ideal) (act m c) (cot m c) := by
  funext i
  obtain ⟨p, q, a, b, rfl⟩ := split i
  exact (whole m c p q a b).trans (ref_at (act m c) (cot m c) ⟨2 * p.val + q.val, by omega⟩ a b).symm

/-- The two body tables are equal: label by label, the same function. -/
theorem bodies_eq : Cert.Kernel3.defs₀ (F := Bits) = Cert.Kernel3Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel3.defs (F := Bits) = Cert.Kernel3Ideal.defs (F := Bits) :=
  congrArg (Pipeline.defs (pcfgs (F := Bits))) bodies_eq

/-- The call over words keeps its arguments and ends with its counters at zero. -/
theorem frame_words : Cert.quiescent_Kernel3 (hKernel3 := Cert.Kernel3.Gen.facts) := fun m ρ _ => by
  rw [defs_eq]
  exact Cert.Kernel3Ideal.Gen.frame (F := Bits) m ρ

/-- So does the call over the extended reals. -/
theorem frame_ideal : Cert.quiescent_Kernel3Ideal (hKernel3Ideal := Cert.Kernel3Ideal.Gen.facts) := fun m ρ _ =>
  Cert.Kernel3Ideal.Gen.frame m ρ

/-- The reference keeps its arguments, and it has no counter. -/
theorem frame_reference : Cert.quiescent_Reference3Ideal (hReference3Ideal := Cert.Reference3Ideal.Gen.facts) := fun m ρ _ =>
  (θ_run Cert.Reference3Ideal.defs _ _).mono (fun r h => ⟨fun c => (h c).2,
    sem_eq_zero_of_no_sems (by decide) r.2⟩) (Cert.Reference3Ideal.Value.run m ρ)

/-- From equal arguments the call and the reference leave the same array. -/
theorem value : Cert.algebraic_Kernel3Ideal_Reference3Ideal (hKernel3Ideal := Cert.Kernel3Ideal.Gen.facts)
    (hReference3Ideal := Cert.Reference3Ideal.Gen.facts) := fun m g m' g' _ hargs => by
  refine ⟨fun c => Value.G2 m c, Value.run m g, ?_⟩
  refine (θ_run Cert.Reference3Ideal.defs _ _).mono (fun r h c => ⟨?_, (h c).2⟩) (Cert.Reference3Ideal.Value.run m' g')
  rw [(h c).1, Cert.Reference3Ideal.Read.val_main_v3_eq]
  obtain ⟨h0, h1, h2⟩ := hargs c
  rw [h0, h2]
  exact (same m c).symm

end Cert.WDown

end

end
-- ==== Proof.WIn.lean ====
/- The gradient of the input projection's weight: the running sum over the row blocks, its four column blocks, and that the array is the reference's product. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.WIn

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg)

/-- The normed activations that the call multiplies. -/
abbrev hid (c : Dev nD) : FVec Ideal S4096x1024 .f32 := m ((c.tc : Thread nD τ).loc main_arg0)
/-- The gradient that comes back to the product. -/
abbrev cot (c : Dev nD) : FVec Ideal S4096x2304 .f32 := m ((c.tc : Thread nD τ).loc main_arg2)

theorem found_hid (c : Dev nD) : V m c main_v0 = hid m c := by
  unfold_abbrev_sides
  after_results
  rfl

theorem found_cot (c : Dev nD) : V m c main_v1 = cot m c := by
  unfold_abbrev_sides
  after_results
  rfl

/-- Point `n` multiplies rows `1024·n …` of the activations … -/
theorem rows_hid (c : Dev nD) (t : Fin cfg0.N) (k : Fin 1024) (a : Fin 1024) :
    iblk m c 0 t (ix2 k a) = hid m c (ix2 ⟨t.val % 4 * 1024 + k.val, by omega⟩ a) := by
  show V m c main_v0 _ = _
  rw [found_hid]
  have e : ∀ t : Fin cfg0.N, win0_0.index t (0 : Fin 2) = t.val % 4 ∧ win0_0.index t (1 : Fin 2) = 0 :=
    (by decide +kernel : ∀ t : Fin grid0.N, _)
  obtain ⟨e0, e1⟩ := e t
  blk_ext [e0, e1]

/-- … with the same rows of the gradient. -/
theorem rows_cot (c : Dev nD) (t : Fin cfg0.N) (k : Fin 1024) (b : Fin 2304) :
    iblk m c 1 t (ix2 k b) = cot m c (ix2 ⟨t.val % 4 * 1024 + k.val, by omega⟩ b) := by
  show V m c main_v1 _ = _
  rw [found_cot]
  have e : ∀ t : Fin cfg0.N, win0_1.index t (0 : Fin 2) = t.val % 4 ∧ win0_1.index t (1 : Fin 2) = 0 :=
    (by decide +kernel : ∀ t : Fin grid0.N, _)
  obtain ⟨e0, e1⟩ := e t
  blk_ext [e0, e1]

/-- One point adds the product of its two blocks. -/
theorem pay2_at (acc : FVec Ideal S1024x2304 .f32) (x : FVec Ideal S1024x1024 .bf16) (y : FVec Ideal S1024x2304 .bf16) (a : Fin 1024) (b : Fin 2304) :
    k0_pay2 (F := Ideal) acc x y (ix2 a b) = acc (ix2 a b) + ∑ k : Fin 1024, x (ix2 k a) * y (ix2 k b) := by
  pointwise [k0_pay2]

theorem pay1_at (j : S1024x2304.Idx) : k0_pay1 (F := Ideal) j = 0 := by
  pointwise [k0_pay1]

theorem pay3_at (v : FVec Ideal S1024x576 .f32) (a : Fin 1024) (b : Fin 576) : k0_pay3 (F := Ideal) v (ix3 0 a b) = v (ix2 a b) := by
  pointwise [k0_pay3]

theorem pay4_at (v : FVec Ideal S1024x576 .f32) (a : Fin 1024) (b : Fin 576) : k0_pay4 (F := Ideal) v (ix3 0 a b) = v (ix2 a b) := by
  pointwise [k0_pay4]

theorem pay5_at (v : FVec Ideal S1024x576 .f32) (a : Fin 1024) (b : Fin 576) : k0_pay5 (F := Ideal) v (ix3 0 a b) = v (ix2 a b) := by
  pointwise [k0_pay5]

theorem pay6_at (v : FVec Ideal S1024x576 .f32) (a : Fin 1024) (b : Fin 576) : k0_pay6 (F := Ideal) v (ix3 0 a b) = v (ix2 a b) := by
  pointwise [k0_pay6]

theorem zero2 : (![0, 0] : Fin 2 → ℕ) = fun _ => 0 := funext fun a => by match a with | ⟨0, _⟩ => rfl | ⟨1, _⟩ => rfl

/-- A place of a block by its two coordinates. -/
theorem place (j : S1x1024x576.Idx) : ∃ (a : Fin 1024) (b : Fin 576), j = ix3 0 a b := by
  refine ⟨j 1, j 2, ?_⟩
  funext a
  match a with
  | ⟨0, _⟩ => exact Subsingleton.elim (α := Fin 1) _ _
  | ⟨1, _⟩ => rfl
  | ⟨2, _⟩ => rfl

section Cases

variable (c : Dev nD) (i : grid0.Coords) (arg1 : Memref sig .tc .vmem S1024x1024 .bf16) (harg1 : arg1.IsWhole) (arg2 : Memref sig .tc .vmem S1024x2304 .bf16) (harg2 : arg2.IsWhole)
  (arg3 : Memref sig .tc .vmem S4x1024x576 .f32) (harg3 : arg3.IsWhole) (arg4 : Memref sig .tc .vmem S1024x2304 .f32) (harg4 : arg4.IsWhole)
  (x0 : Vec Ideal S1024x1024 .bf16) (x1 : Vec Ideal S1024x2304 .bf16) (acc : Vec Ideal S1024x2304 .f32)

/-- The first point of a run clears the sum and adds its product. -/
theorem first_sum (hc0 : cond0_0 i) (hc1 : ¬cond0_1 i) :
    sout0_A_0 c i arg1 harg1 arg2 harg2 arg3 harg3 arg4 harg4 hc0 hc1 x0 x1 = k0_pay2 (F := Ideal) (k0_pay1 (F := Ideal)) x0 x1 := by
  unfold sout0_A_0
  rw [View.read_writes_junk_eq_canon]
  unfold kernelRun0_A
  dsimp only
  try sl_unfold_words
  rw [View.canon_cons_unit_zero (S := S1024x2304) zero2, View.readCov_unit_zero (S := S1024x2304) _ zero2]
  simp only [View.readAt_eq_ld, harg1.read_unread, harg2.read_unread, View.ld_unit_zero (S := S1024x1024) zero2, View.ld_unit_zero (S := S1024x2304) zero2, shapeCast_self]

/-- A later one adds its product to what it finds. -/
theorem middle_sum (hc0 : ¬cond0_0 i) (hc1 : ¬cond0_1 i) :
    sout0_B_0 c i arg1 harg1 arg2 harg2 arg3 harg3 arg4 harg4 hc0 hc1 x0 x1 acc = k0_pay2 (F := Ideal) acc x0 x1 := by
  unfold sout0_B_0
  rw [View.read_writes_junk_eq_canon]
  unfold kernelRun0_B
  dsimp only
  try sl_unfold_words
  rw [View.canon_unit_zero (S := S1024x2304) zero2]
  simp only [View.readAt_eq_ld, harg1.read_unread, harg2.read_unread, harg4.read_unread, View.ld_unit_zero (S := S1024x1024) zero2, View.ld_unit_zero (S := S1024x2304) zero2, shapeCast_self]

theorem last_sum (hc0 : ¬cond0_0 i) (hc1 : cond0_1 i) :
    sout0_C_0 c i arg1 harg1 arg2 harg2 arg3 harg3 arg4 harg4 hc0 hc1 x0 x1 acc = k0_pay2 (F := Ideal) acc x0 x1 := by
  unfold sout0_C_0
  rw [View.read_writes_junk_eq_canon]
  unfold kernelRun0_C
  dsimp only
  try sl_unfold_words
  rw [View.canon_unit_zero (S := S1024x2304) zero2]
  simp only [View.readAt_eq_ld, harg1.read_unread, harg2.read_unread, harg4.read_unread, View.ld_unit_zero (S := S1024x1024) zero2, View.ld_unit_zero (S := S1024x2304) zero2, shapeCast_self]

/-- The last point hands the sum out in four column blocks. -/
theorem quarters (hc0 : ¬cond0_0 i) (hc1 : cond0_1 i) (j : S4x1024x576.Idx) :
    out0_C_2 c i arg1 harg1 arg2 harg2 arg3 harg3 arg4 harg4 hc0 hc1 x0 x1 acc j
      = k0_pay2 (F := Ideal) acc x0 x1 (ix2 (j 1) ⟨(j 0).val * 576 + (j 2).val, by have h0 : (j 0).val < 4 := (j 0).isLt; have h2 : (j 2).val < 576 := (j 2).isLt; omega⟩) := by
  have hc := cover0_C_2 c i arg1 harg1 arg2 harg2 arg3 harg3 arg4 harg4 hc0 hc1 x0 x1 acc j
  unfold out0_C_2
  rw [View.read_writes_junk_eq_canon]
  refine View.canon_apply_of_pieces (fun j => k0_pay2 (F := Ideal) acc x0 x1 (ix2 (j 1) ⟨(j 0).val * 576 + (j 2).val, by have h0 : (j 0).val < 4 := (j 0).isLt; have h2 : (j 2).val < 576 := (j 2).isLt; omega⟩)) _ ?_ j hc
  unfold kernelRun0_C
  dsimp only
  try sl_unfold_words
  simp only [View.readAt_eq_ld, View.readCov_eq_canon', View.canon_unit_zero (S := S1024x2304) zero2, harg1.read_unread, harg2.read_unread, harg4.read_unread, View.ld_unit_zero (S := S1024x1024) zero2,
    View.ld_unit_zero (S := S1024x2304) zero2]
  intro p hp
  rcases List.mem_cons.1 hp with rfl | hp
  · intro x
    obtain ⟨a, b, rfl⟩ := place x
    refine (pay6_at (fun j => k0_pay2 (F := Ideal) acc x0 x1 ((Rect.unit (s := S1024x2304) ![0, 1728] S1024x576.size inb_S1024x2304_S1024x576_0_1728).idx j)) a b).trans
      (congrArg (k0_pay2 (F := Ideal) acc x0 x1) (funext fun z => ?_))
    match z with
    | ⟨0, _⟩ => exact Fin.ext (show 0 + 1 * a.val = 0 + 1 * a.val from rfl)
    | ⟨1, _⟩ => exact Fin.ext (show 1728 + 1 * b.val = (3 + 1 * 0) * 576 + (0 + 1 * b.val) by omega)
  rcases List.mem_cons.1 hp with rfl | hp
  · intro x
    obtain ⟨a, b, rfl⟩ := place x
    refine (pay5_at (fun j => k0_pay2 (F := Ideal) acc x0 x1 ((Rect.unit (s := S1024x2304) ![0, 1152] S1024x576.size inb_S1024x2304_S1024x576_0_1152).idx j)) a b).trans
      (congrArg (k0_pay2 (F := Ideal) acc x0 x1) (funext fun z => ?_))
    match z with
    | ⟨0, _⟩ => exact Fin.ext (show 0 + 1 * a.val = 0 + 1 * a.val from rfl)
    | ⟨1, _⟩ => exact Fin.ext (show 1152 + 1 * b.val = (2 + 1 * 0) * 576 + (0 + 1 * b.val) by omega)
  rcases List.mem_cons.1 hp with rfl | hp
  · intro x
    obtain ⟨a, b, rfl⟩ := place x
    refine (pay4_at (fun j => k0_pay2 (F := Ideal) acc x0 x1 ((Rect.unit (s := S1024x2304) ![0, 576] S1024x576.size inb_S1024x2304_S1024x576_0_576).idx j)) a b).trans
      (congrArg (k0_pay2 (F := Ideal) acc x0 x1) (funext fun z => ?_))
    match z with
    | ⟨0, _⟩ => exact Fin.ext (show 0 + 1 * a.val = 0 + 1 * a.val from rfl)
    | ⟨1, _⟩ => exact Fin.ext (show 576 + 1 * b.val = (1 + 1 * 0) * 576 + (0 + 1 * b.val) by omega)
  rcases List.mem_cons.1 hp with rfl | hp
  · intro x
    obtain ⟨a, b, rfl⟩ := place x
    refine (pay3_at (fun j => k0_pay2 (F := Ideal) acc x0 x1 ((Rect.unit (s := S1024x2304) ![0, 0] S1024x576.size inb_S1024x2304_S1024x576_0_0).idx j)) a b).trans
      (congrArg (k0_pay2 (F := Ideal) acc x0 x1) (funext fun z => ?_))
    match z with
    | ⟨0, _⟩ => exact Fin.ext (show 0 + 1 * a.val = 0 + 1 * a.val from rfl)
    | ⟨1, _⟩ => exact Fin.ext (show 0 + 1 * b.val = (0 + 1 * 0) * 576 + (0 + 1 * b.val) by omega)
  · exact absurd hp List.not_mem_nil

end Cases

/-- What point `n` adds at a place of the sum (past the grid: nothing). -/
def part (c : Dev nD) (n : ℕ) (j : S1024x2304.Idx) : EReal :=
  if n < cfg0.N then ∑ k : Fin 1024, hid m c (ix2 ⟨n % 4 * 1024 + k.val, by omega⟩ (j 0)) * cot m c (ix2 ⟨n % 4 * 1024 + k.val, by omega⟩ (j 1)) else 0

theorem pay2_part (c : Dev nD) (n : ℕ) (h : n < cfg0.N) (acc : FVec Ideal S1024x2304 .f32) (j : S1024x2304.Idx) :
    k0_pay2 (F := Ideal) acc (iblk m c 0 ⟨n, h⟩) (iblk m c 1 ⟨n, h⟩) j = acc j + part m c n j := by
  obtain ⟨a, b, rfl⟩ : ∃ (a : Fin 1024) (b : Fin 2304), j = ix2 a b :=
    ⟨j 0, j 1, funext fun z => by match z with | ⟨0, _⟩ => rfl | ⟨1, _⟩ => rfl⟩
  refine (pay2_at acc _ _ a b).trans ?_
  rw [part, if_pos h]
  exact congrArg (acc (ix2 a b) + ·) (Finset.sum_congr rfl fun k _ => congrArg₂ (fun x y : EReal => x * y) (rows_hid m c ⟨n, h⟩ k a) (rows_cot m c ⟨n, h⟩ k b))

/-- The sum after a point that starts a run, and after one that goes on. -/
def restart (c : Dev nD) (n : ℕ) (h : n < cfg0.N) : Vec Ideal S1024x2304 .f32 :=
  k0_pay2 (F := Ideal) (k0_pay1 (F := Ideal)) (iblk m c 0 ⟨n, h⟩) (iblk m c 1 ⟨n, h⟩)
def goOn (c : Dev nD) (n : ℕ) (h : n < cfg0.N) (acc : Vec Ideal S1024x2304 .f32) : Vec Ideal S1024x2304 .f32 :=
  k0_pay2 (F := Ideal) acc (iblk m c 0 ⟨n, h⟩) (iblk m c 1 ⟨n, h⟩)

theorem sums (c : Dev nD) (n : ℕ) (hn : n < cfg0.N) :
    (outsAt0 m c n hn).2 = Pipeline.accAt (restart m c) (goOn m c) (4 * (n / 4)) (n % 4)
      (by have h2 := Nat.div_add_mod n 4; omega) :=
  Pipeline.eq_accAt_of_mod (fun n h => (outsAt0 m c n h).2) 4 (restart m c) (goOn m c)
    (fun n h hn => by
      have h0 : n % 4 = 0 := hn
      rw [outsAt0_A m c ⟨n, h⟩ h0 (fun e => by have e' : n % 4 = 3 := e; omega)]
      dsimp only
      rw [first_sum]
      rfl)
    (fun n h hn => by
      have h0 : ¬(n + 1) % 4 = 0 := hn
      by_cases h1 : (n + 1) % 4 = 3
      · rw [outsAt0_C m c ⟨n + 1, h⟩ h0 h1]
        dsimp only
        rw [last_sum]
        rfl
      · rw [outsAt0_B m c ⟨n + 1, h⟩ h0 h1]
        dsimp only
        rw [middle_sum]
        rfl)
    (by decide) n hn _

/-- Two folds of equal bounds are one. -/
theorem fold_congr (c : Dev nD) : ∀ (a a' j j' : ℕ) (h : a + j < cfg0.N) (h' : a' + j' < cfg0.N), a = a' → j = j' →
    Pipeline.accAt (restart m c) (goOn m c) a j h = Pipeline.accAt (restart m c) (goOn m c) a' j' h' := by
  intro a a' j j' h h' ea ej
  subst ea ej
  rfl

/-- The array at an index is the finished sum. -/
theorem array_sum (c : Dev nD) (q : Fin 4) (a : Fin 1024) (b : Fin 576) :
    Value.G2 m c (ix3 q a b) = (outsAt0 m c 3 (by have : cfg0.N = 4 := N_0; omega)).2 (ix2 a ⟨q.val * 576 + b.val, by omega⟩) := by
  have hN : cfg0.N = 4 := N_0
  have hp : Value.pt2Of (ix3 q a b : S4x1024x576.Idx) = 3 := by
    show 4 * (1 * (q.val / 4 - 0) + 1 * (a.val / 1024 - 0) + 1 * (b.val / 576 - 0)) + 3 = 3
    omega
  have hl : Value.loc2Of (ix3 q a b : S4x1024x576.Idx) = ix3 q a b := by
    funext x
    match x with
    | ⟨0, _⟩ => exact Fin.ext (Nat.mod_eq_of_lt q.isLt)
    | ⟨1, _⟩ => exact Fin.ext (Nat.mod_eq_of_lt a.isLt)
    | ⟨2, _⟩ => exact Fin.ext (Nat.mod_eq_of_lt b.isLt)
  unfold Value.G2
  rw [dif_pos (by rw [hp, hN]; omega), hl, Value.fold0_congr m c _ _ 3 (by rw [hN]; omega) hp,
    ← Value.outsAt0_sweep m c 3 (by rw [hN]; omega)]
  have e := outsAt0_C m c ⟨3, by rw [hN]; omega⟩ (fun e => by have e' : 3 % 4 = 0 := e; omega) (show 3 % 4 = 3 by omega)
  dsimp only at e
  rw [e]
  dsimp only
  rw [quarters, last_sum]
  rfl

/-- The array at an index: the whole product's entry, all 4096 rows of it. -/
theorem whole (c : Dev nD) (q : Fin 4) (a : Fin 1024) (b : Fin 576) :
    Value.G2 m c (ix3 q a b) = ∑ l : Fin 4096, hid m c (ix2 l a) * cot m c (ix2 l ⟨q.val * 576 + b.val, by omega⟩) := by
  have hN : cfg0.N = 4 := N_0
  rw [array_sum, sums, fold_congr m c _ 0 _ 3 _ (by rw [hN]; omega) rfl rfl,
    Pipeline.accAt_add_apply (restart m c) (goOn m c) (fun _ => (0 : EReal)) (part m c) _ 3
      (fun h i => by rw [restart, pay2_part, pay1_at]) (fun n h acc i _ _ => pay2_part m c n h acc i) 3 le_rfl,
    zero_add, Finset.sum_range]
  refine Eq.trans (Fin.sum_fin_congr fun s => ?_) (Fin.sum_mul_add_fin 4 1024 fun l => hid m c (ix2 l a) * cot m c (ix2 l ⟨q.val * 576 + b.val, by omega⟩))
  rw [part, if_pos (by rw [hN]; omega)]
  refine Fin.sum_fin_congr fun k => ?_
  have e3 : (0 + s.val) % 4 = s.val := by omega
  simp only [e3]
  rfl

/-- The reference at an index: the same product. -/
theorem ref_at (x : FVec Ideal S4096x1024 .f32) (y : FVec Ideal S4096x2304 .f32) (q : Fin 4) (a : Fin 1024) (b : Fin 576) :
    Cert.Reference4Ideal.Read.val_main_v4 (F := Ideal) x y (ix3 q a b)
      = ∑ l : Fin 4096, x (ix2 l a) * y (ix2 l ⟨q.val * 576 + b.val, by omega⟩) := by
  rw [Cert.Reference4Ideal.Read.val_main_v4_apply, Cert.Reference4Ideal.Read.val_main_v3_apply, Cert.Reference4Ideal.Read.val_main_v2_apply,
    Cert.Reference4Ideal.Read.val_main_v1_apply]
  refine Finset.sum_congr rfl fun l _ => ?_
  rw [mul_comm]
  congr 1
  · congr 1
    funext z
    match z with
    | ⟨0, _⟩ => rfl
    | ⟨1, _⟩ => exact Fin.ext (show ((a.val * 4 + q.val) * 576 + b.val) / 2304 = a.val by omega)
  · congr 1
    funext z
    match z with
    | ⟨0, _⟩ => rfl
    | ⟨1, _⟩ => exact Fin.ext (show ((a.val * 4 + q.val) * 576 + b.val) % 2304 = q.val * 576 + b.val by omega)

/-- The array that the call leaves is the reference's array. -/
theorem same (c : Dev nD) : Value.G2 m c = Cert.Reference4Ideal.Read.val_main_v4 (F := Ideal) (hid m c) (cot m c) := by
  funext i
  have e : i = ix3 (i 0) (i 1) (i 2) := by
    funext z
    match z with
    | ⟨0, _⟩ => rfl
    | ⟨1, _⟩ => rfl
    | ⟨2, _⟩ => rfl
  rw [e]
  exact (whole m c _ _ _).trans (ref_at (hid m c) (cot m c) _ _ _).symm

/-- The two body tables are equal: label by label, the same function. -/
theorem bodies_eq : Cert.Kernel4.defs₀ (F := Bits) = Cert.Kernel4Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel4.defs (F := Bits) = Cert.Kernel4Ideal.defs (F := Bits) :=
  congrArg (Pipeline.defs (pcfgs (F := Bits))) bodies_eq

/-- The call over words keeps its arguments and ends with its counters at zero. -/
theorem frame_words : Cert.quiescent_Kernel4 (hKernel4 := Cert.Kernel4.Gen.facts) := fun m ρ _ => by
  rw [defs_eq]
  exact Cert.Kernel4Ideal.Gen.frame (F := Bits) m ρ

/-- So does the call over the extended reals. -/
theorem frame_ideal : Cert.quiescent_Kernel4Ideal (hKernel4Ideal := Cert.Kernel4Ideal.Gen.facts) := fun m ρ _ =>
  Cert.Kernel4Ideal.Gen.frame m ρ

/-- The reference keeps its arguments, and it has no counter. -/
theorem frame_reference : Cert.quiescent_Reference4Ideal (hReference4Ideal := Cert.Reference4Ideal.Gen.facts) := fun m ρ _ =>
  (θ_run Cert.Reference4Ideal.defs _ _).mono (fun r h => ⟨fun c => (h c).2,
    sem_eq_zero_of_no_sems (by decide) r.2⟩) (Cert.Reference4Ideal.Value.run m ρ)

/-- From equal arguments the call and the reference leave the same array. -/
theorem value : Cert.algebraic_Kernel4Ideal_Reference4Ideal (hKernel4Ideal := Cert.Kernel4Ideal.Gen.facts)
    (hReference4Ideal := Cert.Reference4Ideal.Gen.facts) := fun m g m' g' _ hargs => by
  refine ⟨fun c => Value.G2 m c, Value.run m g, ?_⟩
  refine (θ_run Cert.Reference4Ideal.defs _ _).mono (fun r h c => ⟨?_, (h c).2⟩) (Cert.Reference4Ideal.Value.run m' g')
  rw [(h c).1, Cert.Reference4Ideal.Read.val_main_v4_eq]
  obtain ⟨h0, h1, h2⟩ := hargs c
  rw [h0, h2]
  exact (same m c).symm

end Cert.WIn

end

end
-- ==== Proof.NormRow.lean ====
/- One row of the normalisation's gradient over the extended reals: the reciprocal root as a cube, and the two spellings of the row's gradient. -/
module

public import Idealize.ShloMosaic.PureOps.Ideal
public import Idealize.ShloMosaic.Lib.Pointwise
public import Idealize.ShloMosaic.Lib.Pipeline.ValueKit.Acc

@[expose] public section

noncomputable section

namespace Cert.NormRow

open Idealize.ShloMosaic

/-- The width of a row, the small constant under the root, and minus one half, as the constants are written. -/
abbrev width : EReal := Ideal.ofBits .f32 0x44800000#32
abbrev small : EReal := Ideal.ofBits .f32 0x358637BD#32
abbrev minusHalf : EReal := Ideal.ofBits .f32 0xBF000000#32

theorem width_eq : width = ((1024 : ℝ) : EReal) := by
  simp [Ideal.ofBits, Ideal.ieee, -EReal.coe_mul]; norm_num

theorem minusHalf_eq : minusHalf = ((-1 / 2 : ℝ) : EReal) := by
  simp [Ideal.ofBits, Ideal.ieee, -EReal.coe_mul]; norm_num

theorem small_pos : ∃ e : ℝ, 0 < e ∧ small = (e : EReal) := by
  refine ⟨_, ?_, by simp [Ideal.ofBits, Ideal.ieee, -EReal.coe_mul]; rfl⟩
  norm_num

/-- What stands under the root of a row whose squares sum to `s`. -/
def under (s : EReal) : EReal := Ideal.div s width + small

theorem square_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

/-- It is infinite or a positive real. -/
theorem under_cases (s : EReal) (hs : 0 ≤ s) : under s = ⊤ ∨ ∃ v : ℝ, 0 < v ∧ under s = (v : EReal) := by
  obtain ⟨e, he, hse⟩ := small_pos
  rw [under, hse, width_eq, Ideal.div_coe (by norm_num)]
  induction s using EReal.rec with
  | bot => exact absurd hs (by simp)
  | top =>
    left
    rw [EReal.top_mul_coe_of_pos (by norm_num), EReal.top_add_coe]
  | coe r =>
    right
    have hr : 0 ≤ r := EReal.coe_nonneg.1 hs
    exact ⟨r * (1 / 1024) + e, by positivity, by rw [EReal.coe_add, EReal.coe_mul]⟩

/-- The cube of the reciprocal root is the reciprocal root over what stands under it. -/
theorem cube (s : EReal) (hs : 0 ≤ s) : Ideal.rsqrt (under s) * Ideal.rsqrt (under s) * Ideal.rsqrt (under s)
    = Ideal.div (Ideal.rsqrt (under s)) (under s) := by
  rcases under_cases s hs with h | ⟨v, hv, h⟩
  · rw [h, Ideal.rsqrt_top, Ideal.div, if_neg EReal.top_ne_zero]
    simp
  · rw [h, Ideal.rsqrt_coe, if_neg (not_lt.2 hv.le), if_neg hv.ne', Ideal.div_coe hv.ne', ← EReal.coe_mul, ← EReal.coe_mul, ← EReal.coe_mul]
    refine congrArg ((↑) : ℝ → EReal) ?_
    have hq : Real.sqrt v * Real.sqrt v = v := Real.mul_self_sqrt hv.le
    have h0 : Real.sqrt v ≠ 0 := (Real.sqrt_pos.2 hv).ne'
    rw [one_div, ← hq, Real.sqrt_mul_self (Real.sqrt_nonneg v), mul_inv, ← mul_assoc, mul_comm]

/-- Twice minus one half of a product is minus the product, at an infinite one too. -/
theorem halves (y : EReal) (k : ℝ) (hk : 0 < k) : y * ((-1 / 2 * k : ℝ) : EReal) + y * ((-1 / 2 * k : ℝ) : EReal) = -(y * (k : EReal)) := by
  have hn : -1 / 2 * k < 0 := by linarith
  induction y using EReal.rec with
  | bot => rw [EReal.bot_mul_coe_of_neg hn, EReal.bot_mul_coe_of_pos hk]; rfl
  | top => rw [EReal.top_mul_coe_of_neg hn, EReal.top_mul_coe_of_pos hk]; rfl
  | coe r =>
    rw [← EReal.coe_mul, ← EReal.coe_mul, ← EReal.coe_add, ← EReal.coe_neg]
    exact congrArg ((↑) : ℝ → EReal) (by ring)

/-- The gradient at one place of a row in the two spellings: `x` the row's entry, `g·d` the scaled gradient there, `t` its sum against the row,
    `q` the sum of the squares. -/
theorem place (q : EReal) (hq : 0 ≤ q) (a x g d t : EReal) :
    a + (Ideal.rsqrt (under q) * (g * d) - x * (Ideal.rsqrt (under q) * Ideal.rsqrt (under q) * Ideal.rsqrt (under q)) * Ideal.div t width)
      = a + (d * g * Ideal.rsqrt (under q) + x * Ideal.div (t * (minusHalf * Ideal.div (Ideal.rsqrt (under q)) (under q))) width
          + Ideal.div (t * (minusHalf * Ideal.div (Ideal.rsqrt (under q)) (under q))) width * x) := by
  rw [← cube q hq, width_eq, minusHalf_eq, Ideal.div_coe (by norm_num), Ideal.div_coe (by norm_num), add_assoc, sub_eq_add_neg]
  generalize Ideal.rsqrt (under q) = r
  have h := halves (x * t * (r * r * r)) (1 / 1024) (by norm_num)
  rw [EReal.coe_mul] at h
  refine congrArg (a + ·) (congrArg₂ (· + ·) (by rw [mul_comm, mul_comm g d]) ?_)
  refine Eq.trans (congrArg Neg.neg (by ac_rfl)) (h.symm.trans (congrArg₂ (· + ·) (by ac_rfl) (by ac_rfl)))

/-- The reciprocal root of row `l` of `x`. -/
def root (x : Fin 4096 → Fin 1024 → EReal) (l : Fin 4096) : EReal := Ideal.rsqrt (under (∑ k : Fin 1024, x l k * x l k))

/-- The gradient of the rows as the call writes it: `x` the rows, `g` the scale, `d` the gradient of the normalised rows, `s` the gradient beside. -/
def callRow (x d s : Fin 4096 → Fin 1024 → EReal) (g : Fin 1024 → EReal) (l : Fin 4096) (b : Fin 1024) : EReal :=
  s l b + (root x l * (g b * d l b) - x l b * (root x l * root x l * root x l) * Ideal.div (∑ k : Fin 1024, g k * d l k * x l k) width)

/-- The factor that the reference multiplies with a row and adds twice. -/
def factor (x d : Fin 4096 → Fin 1024 → EReal) (g : Fin 1024 → EReal) (l : Fin 4096) : EReal :=
  Ideal.div ((∑ k : Fin 1024, x l k * (d l k * g k)) * (minusHalf * Ideal.div (root x l) (under (∑ k : Fin 1024, x l k * x l k)))) width

/-- The gradient of the rows as the reference writes it. -/
def refRow (x d s : Fin 4096 → Fin 1024 → EReal) (g : Fin 1024 → EReal) (l : Fin 4096) (b : Fin 1024) : EReal :=
  s l b + (d l b * g b * root x l + x l b * factor x d g l + factor x d g l * x l b)

theorem row_eq (x d s : Fin 4096 → Fin 1024 → EReal) (g : Fin 1024 → EReal) (l : Fin 4096) (b : Fin 1024) :
    callRow x d s g l b = refRow x d s g l b := by
  have e : (∑ k : Fin 1024, x l k * (d l k * g k)) = ∑ k : Fin 1024, g k * d l k * x l k :=
    Finset.sum_congr rfl fun k _ => by rw [mul_comm, mul_comm (d l k)]
  unfold callRow refRow factor
  rw [e]
  exact place _ (Finset.sum_nonneg fun k _ => square_nonneg _) _ _ _ _ _

/-- The gradient of the scale as the reference writes it. -/
def refScale (x d : Fin 4096 → Fin 1024 → EReal) (b : Fin 1024) : EReal := ∑ l : Fin 4096, x l b * root x l * d l b

/-- Its rows in the order of the call: eight tiles of 512 rows, a tile's rows in groups of eight. -/
theorem scale_eq (x d : Fin 4096 → Fin 1024 → EReal) (b : Fin 1024) :
    (∑ a : Fin 8, ∑ n : Fin 8, ∑ k : Fin 64, d ⟨n.val * 512 + (k.val * 8 + a.val), by omega⟩ b * x ⟨n.val * 512 + (k.val * 8 + a.val), by omega⟩ b
        * root x ⟨n.val * 512 + (k.val * 8 + a.val), by omega⟩) = refScale x d b := by
  rw [Finset.sum_comm]
  unfold refScale
  refine Eq.trans (Fin.sum_fin_congr fun n => ?_) (Fin.sum_mul_add_fin 8 512 fun l => x l b * root x l * d l b)
  rw [Finset.sum_comm]
  refine Eq.trans (Fin.sum_fin_congr fun k => Fin.sum_fin_congr fun a => ?_)
    (Fin.sum_mul_add_fin 64 8 fun j => x ⟨n.val * 512 + j.val, by omega⟩ b * root x ⟨n.val * 512 + j.val, by omega⟩ * d ⟨n.val * 512 + j.val, by omega⟩ b)
  rw [mul_assoc, mul_comm]

end Cert.NormRow

end

end
-- ==== Proof.NormUp.lean ====
/- The backward call through the up projection and the normalisation: what its points leave and add up, and that its two arrays are the reference's. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import proofs.«01_k».proof.Proof.NormRow
public import Idealize.ShloMosaic.Lib.Pipeline.ValueKit.Acc
public import Idealize.ShloMosaic.Lib.Pipeline.ValueKit.Tiles
public import Idealize.ShloMosaic.Lib.Pipeline.ValueKit.Geometry

@[expose] public section

set_option maxRecDepth 16384

noncomputable section

namespace Cert.NormUp

open Idealize.ShloMosaic Idealize.ShloMosaic.TcCoe Idealize.SL.Sem
open Cert.Kernel5Ideal Cert.Kernel5Ideal.Gen

theorem pay1_at (v : FVec Ideal S8x1024 .f32) (b : Fin 1024) : k0_pay1 (F := Ideal) v (ix2 0 b) = ∑ k : Fin 8, v (ix2 k b) := by
  pointwise [k0_pay1]

theorem pay2_at (j : S8x1024.Idx) : k0_pay2 (F := Ideal) j = 0 := by
  pointwise [k0_pay2]

theorem pay3_at (w0 w1 w2 w3 : FVec Ideal S1x1024x1408 .bf16) (y0 y1 y2 y3 : FVec Ideal S512x1408 .bf16) (a : Fin 512) (b : Fin 1024) :
    k0_pay3 (F := Ideal) w0 y0 w1 y1 w2 y2 w3 y3 (ix2 a b)
      = ((∑ k : Fin 1408, y0 (ix2 a k) * w0 (ix3 0 b k) + ∑ k : Fin 1408, y1 (ix2 a k) * w1 (ix3 0 b k)) + ∑ k : Fin 1408, y2 (ix2 a k) * w2 (ix3 0 b k))
        + ∑ k : Fin 1408, y3 (ix2 a k) * w3 (ix3 0 b k) := by
  pointwise [k0_pay3]

theorem pay4_at (x : FVec Ideal S512x1024 .f32) (a : Fin 512) :
    k0_pay4 (F := Ideal) x (ix2 a 0) = Ideal.rsqrt (NormRow.under (∑ k : Fin 1024, x (ix2 a k) * x (ix2 a k))) := by
  unfold NormRow.under
  pointwise [k0_pay4]

theorem pay5_at (d x : FVec Ideal S512x1024 .f32) (g : FVec Ideal S1x1024 .f32) (s : FVec Ideal S512x1024 .f32) (a : Fin 512) (b : Fin 1024) :
    k0_pay5 (F := Ideal) d x g s (ix2 a b)
      = s (ix2 a b) + (k0_pay4 (F := Ideal) x (ix2 a 0) * (g (ix2 0 b) * d (ix2 a b))
        - x (ix2 a b) * (k0_pay4 (F := Ideal) x (ix2 a 0) * k0_pay4 (F := Ideal) x (ix2 a 0) * k0_pay4 (F := Ideal) x (ix2 a 0))
          * Ideal.div (∑ k : Fin 1024, g (ix2 0 k) * d (ix2 a k) * x (ix2 a k)) NormRow.width) := by
  unfold k0_pay5
  generalize k0_pay4 (F := Ideal) x = r
  pointwise []

theorem pay6_at (d x : FVec Ideal S512x1024 .f32) (acc : FVec Ideal S8x1024 .f32) (a : Fin 8) (b : Fin 1024) :
    k0_pay6 (F := Ideal) d x acc (ix2 a b)
      = acc (ix2 a b) + ∑ k : Fin 64, d (ix2 ⟨k.val * 8 + a.val, by omega⟩ b) * x (ix2 ⟨k.val * 8 + a.val, by omega⟩ b) * k0_pay4 (F := Ideal) x (ix2 ⟨k.val * 8 + a.val, by omega⟩ 0) := by
  unfold k0_pay6
  generalize k0_pay4 (F := Ideal) x = r
  pointwise []

/-- The product of a block of rows of the gradient with the transposed weight, as the body gathers it from four column blocks. -/
def prod (y : Vec Ideal S512x5632 .bf16) (w : Vec Ideal S4x1024x1408 .bf16) : FVec Ideal S512x1024 .f32 :=
  k0_pay3 (F := Ideal) (View.ld w (Rect.unit (s := S4x1024x1408) ![0, 0, 0] S1x1024x1408.size inb_S4x1024x1408_S1x1024x1408_0_0_0)) (View.ld y (Rect.unit (s := S512x5632) ![0, 0] S512x1408.size inb_S512x5632_S512x1408_0_0))
    (View.ld w (Rect.unit (s := S4x1024x1408) ![1, 0, 0] S1x1024x1408.size inb_S4x1024x1408_S1x1024x1408_1_0_0)) (View.ld y (Rect.unit (s := S512x5632) ![0, 1408] S512x1408.size inb_S512x5632_S512x1408_0_1408))
    (View.ld w (Rect.unit (s := S4x1024x1408) ![2, 0, 0] S1x1024x1408.size inb_S4x1024x1408_S1x1024x1408_2_0_0)) (View.ld y (Rect.unit (s := S512x5632) ![0, 2816] S512x1408.size inb_S512x5632_S512x1408_0_2816))
    (View.ld w (Rect.unit (s := S4x1024x1408) ![3, 0, 0] S1x1024x1408.size inb_S4x1024x1408_S1x1024x1408_3_0_0)) (View.ld y (Rect.unit (s := S512x5632) ![0, 4224] S512x1408.size inb_S512x5632_S512x1408_0_4224))

theorem zero2 : (![0, 0] : Fin 2 → ℕ) = fun _ => 0 := funext fun a => by match a with | ⟨0, _⟩ => rfl | ⟨1, _⟩ => rfl

section Cases

variable (c : Dev nD) (i : grid0.Coords) (arg1 : Memref sig .tc .vmem S512x5632 .bf16) (harg1 : arg1.IsWhole) (arg2 : Memref sig .tc .vmem S4x1024x1408 .bf16) (harg2 : arg2.IsWhole)
  (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S1x1024 .f32) (harg7 : arg7.IsWhole) (arg8 : Memref sig .tc .vmem S8x1024 .f32) (harg8 : arg8.IsWhole)
  (x0 : Vec Ideal S512x5632 .bf16) (x1 : Vec Ideal S4x1024x1408 .bf16) (x2 : Vec Ideal S512x1024 .f32) (x3 : Vec Ideal S1x1024 .f32) (x4 : Vec Ideal S512x1024 .f32) (acc : Vec Ideal S8x1024 .f32)

/-- Every point leaves its rows of the gradient, … -/
theorem rows_first (hc0 : cond0_0 i) (hc1 : ¬cond0_1 i) :
    out0_A_5 c i arg1 harg1 arg2 harg2 arg3 harg3 arg4 harg4 arg5 harg5 arg6 harg6 arg7 harg7 arg8 harg8 hc0 hc1 x0 x1 x2 x3 x4 = k0_pay5 (F := Ideal) (prod x0 x1) x2 x3 x4 := by
  unfold out0_A_5
  rw [View.read_writes_junk_eq_canon]
  unfold kernelRun0_A
  dsimp only
  try sl_unfold_words
  rw [View.canon_unit_zero (S := S512x1024) zero2]
  simp only [View.readAt_eq_ld, harg1.read_unread, harg2.read_unread, harg3.read_unread, harg4.read_unread, harg5.read_unread, harg8.read_unread,
    View.ld_unit_zero (S := S512x1024) zero2, View.ld_unit_zero (S := S1x1024) zero2, View.ld_unit_zero (S := S8x1024) zero2, shapeCast_self]
  rfl

theorem rows_middle (hc0 : ¬cond0_0 i) (hc1 : ¬cond0_1 i) :
    out0_B_5 c i arg1 harg1 arg2 harg2 arg3 harg3 arg4 harg4 arg5 harg5 arg6 harg6 arg7 harg7 arg8 harg8 hc0 hc1 x0 x1 x2 x3 x4 acc = k0_pay5 (F := Ideal) (prod x0 x1) x2 x3 x4 := by
  unfold out0_B_5
  rw [View.read_writes_junk_eq_canon]
  unfold kernelRun0_B
  dsimp only
  try sl_unfold_words
  rw [View.canon_unit_zero (S := S512x1024) zero2]
  simp only [View.readAt_eq_ld, harg1.read_unread, harg2.read_unread, harg3.read_unread, harg4.read_unread, harg5.read_unread, harg8.read_unread,
    View.ld_unit_zero (S := S512x1024) zero2, View.ld_unit_zero (S := S1x1024) zero2, View.ld_unit_zero (S := S8x1024) zero2, shapeCast_self]
  rfl

theorem rows_last (hc0 : ¬cond0_0 i) (hc1 : cond0_1 i) :
    out0_C_5 c i arg1 harg1 arg2 harg2 arg3 harg3 arg4 harg4 arg5 harg5 arg6 harg6 arg7 harg7 arg8 harg8 hc0 hc1 x0 x1 x2 x3 x4 acc = k0_pay5 (F := Ideal) (prod x0 x1) x2 x3 x4 := by
  unfold out0_C_5
  rw [View.read_writes_junk_eq_canon]
  unfold kernelRun0_C
  dsimp only
  try sl_unfold_words
  rw [View.canon_unit_zero (S := S512x1024) zero2]
  simp only [View.readAt_eq_ld, harg1.read_unread, harg2.read_unread, harg3.read_unread, harg4.read_unread, harg5.read_unread, harg8.read_unread,
    View.ld_unit_zero (S := S512x1024) zero2, View.ld_unit_zero (S := S1x1024) zero2, View.ld_unit_zero (S := S8x1024) zero2, shapeCast_self]
  rfl

/-- … the first clears the sum and adds its part, … -/
theorem sum_first (hc0 : cond0_0 i) (hc1 : ¬cond0_1 i) :
    sout0_A_0 c i arg1 harg1 arg2 harg2 arg3 harg3 arg4 harg4 arg5 harg5 arg6 harg6 arg7 harg7 arg8 harg8 hc0 hc1 x0 x1 x2 x3 x4 = k0_pay6 (F := Ideal) (prod x0 x1) x2 (k0_pay2 (F := Ideal)) := by
  unfold sout0_A_0
  rw [View.read_writes_junk_eq_canon]
  unfold kernelRun0_A
  dsimp only
  try sl_unfold_words
  rw [View.canon_cons_unit_zero (S := S8x1024) zero2, View.readCov_unit_zero (S := S8x1024) _ zero2]
  simp only [View.readAt_eq_ld, harg1.read_unread, harg2.read_unread, harg3.read_unread, harg4.read_unread, harg5.read_unread, harg8.read_unread,
    View.ld_unit_zero (S := S512x1024) zero2, View.ld_unit_zero (S := S1x1024) zero2, View.ld_unit_zero (S := S8x1024) zero2, shapeCast_self]
  rfl

/-- … a later one adds its part to what it finds, … -/
theorem sum_middle (hc0 : ¬cond0_0 i) (hc1 : ¬cond0_1 i) :
    sout0_B_0 c i arg1 harg1 arg2 harg2 arg3 harg3 arg4 harg4 arg5 harg5 arg6 harg6 arg7 harg7 arg8 harg8 hc0 hc1 x0 x1 x2 x3 x4 acc = k0_pay6 (F := Ideal) (prod x0 x1) x2 acc := by
  unfold sout0_B_0
  rw [View.read_writes_junk_eq_canon]
  unfold kernelRun0_B
  dsimp only
  try sl_unfold_words
  rw [View.canon_unit_zero (S := S8x1024) zero2]
  simp only [View.readAt_eq_ld, harg1.read_unread, harg2.read_unread, harg3.read_unread, harg4.read_unread, harg5.read_unread, harg8.read_unread,
    View.ld_unit_zero (S := S512x1024) zero2, View.ld_unit_zero (S := S1x1024) zero2, View.ld_unit_zero (S := S8x1024) zero2, shapeCast_self]
  rfl

theorem sum_last (hc0 : ¬cond0_0 i) (hc1 : cond0_1 i) :
    sout0_C_0 c i arg1 harg1 arg2 harg2 arg3 harg3 arg4 harg4 arg5 harg5 arg6 harg6 arg7 harg7 arg8 harg8 hc0 hc1 x0 x1 x2 x3 x4 acc = k0_pay6 (F := Ideal) (prod x0 x1) x2 acc := by
  unfold sout0_C_0
  rw [View.read_writes_junk_eq_canon]
  unfold kernelRun0_C
  dsimp only
  try sl_unfold_words
  rw [View.canon_unit_zero (S := S8x1024) zero2]
  simp only [View.readAt_eq_ld, harg1.read_unread, harg2.read_unread, harg3.read_unread, harg4.read_unread, harg5.read_unread, harg8.read_unread,
    View.ld_unit_zero (S := S512x1024) zero2, View.ld_unit_zero (S := S1x1024) zero2, View.ld_unit_zero (S := S8x1024) zero2, shapeCast_self]
  rfl

/-- … and the last hands out the sum over the eight rows. -/
theorem total_last (hc0 : ¬cond0_0 i) (hc1 : cond0_1 i) :
    out0_C_6 c i arg1 harg1 arg2 harg2 arg3 harg3 arg4 harg4 arg5 harg5 arg6 harg6 arg7 harg7 arg8 harg8 hc0 hc1 x0 x1 x2 x3 x4 acc = k0_pay1 (F := Ideal) (k0_pay6 (F := Ideal) (prod x0 x1) x2 acc) := by
  unfold out0_C_6
  rw [View.read_writes_junk_eq_canon]
  unfold kernelRun0_C
  dsimp only
  try sl_unfold_words
  rw [View.canon_unit_zero (S := S1x1024) zero2, View.readCov_unit_zero (S := S8x1024) _ zero2]
  simp only [View.readAt_eq_ld, harg1.read_unread, harg2.read_unread, harg3.read_unread, harg4.read_unread, harg5.read_unread, harg8.read_unread,
    View.ld_unit_zero (S := S512x1024) zero2, View.ld_unit_zero (S := S1x1024) zero2, View.ld_unit_zero (S := S8x1024) zero2, shapeCast_self]
  rfl

end Cases

variable (m : (ℓ : Loc nD τ sig) → Buf (Elt Ideal) ℓ) (ρ : Dev nD → PrngReg)

/-- The rows that were normalised, the scale, the weight, the gradient that comes back, and the gradient of the branch beside. -/
abbrev rows (c : Dev nD) : FVec Ideal S4096x1024 .f32 := m ((c.tc : Thread nD τ).loc main_arg0)
abbrev scale (c : Dev nD) : FVec Ideal S1024 .f32 := m ((c.tc : Thread nD τ).loc main_arg1)
abbrev weight (c : Dev nD) : FVec Ideal S1024x5632 .f32 := m ((c.tc : Thread nD τ).loc main_arg2)
abbrev cot (c : Dev nD) : FVec Ideal S4096x5632 .f32 := m ((c.tc : Thread nD τ).loc main_arg3)
abbrev beside (c : Dev nD) : FVec Ideal S4096x1024 .f32 := m ((c.tc : Thread nD τ).loc main_arg4)

theorem found_cot (c : Dev nD) : V m c main_v3 = cot m c := by
  unfold_abbrev_sides
  after_results
  rfl

theorem found_rows (c : Dev nD) : V m c main_arg0 = rows m c := by
  unfold_abbrev_sides
  after_results

theorem found_beside (c : Dev nD) : V m c main_arg4 = beside m c := by
  unfold_abbrev_sides
  after_results

theorem found_weight (c : Dev nD) : V m c main_v2 = (transpose S4x1024x1408 [1, 0, 2] (shapeCast S1024x4x1408 (weight m c : FVec Ideal S1024x5632 .bf16) shapeCasts_S1024x5632_S1024x4x1408)
    transposes_S1024x4x1408_S4x1024x1408_1_0_2 : FVec Ideal S4x1024x1408 .bf16) := by
  unfold_abbrev_sides
  after_results
  rfl

/-- The weight is handed over in four blocks of columns. -/
theorem weight_at (c : Dev nD) (q : Fin 4) (b : Fin 1024) (k : Fin 1408) :
    V m c main_v2 (ix3 q b k) = weight m c (ix2 b ⟨q.val * 1408 + k.val, by omega⟩) := by
  rw [found_weight]
  generalize weight m c = w
  pointwise []

theorem found_scale (c : Dev nD) (b : Fin 1024) : V m c main_v4 (ix2 0 b) = scale m c (ix1 b) := by
  unfold_abbrev_sides
  after_results
  pointwise []

/-- Point `t` finds rows `512·t …` of the gradient that comes back, … -/
theorem blk_cot (c : Dev nD) (t : Fin cfg0.N) (a : Fin 512) (k : Fin 5632) :
    iblk m c 0 t (ix2 a k) = cot m c (ix2 ⟨t.val * 512 + a.val, by have := t.isLt; have : cfg0.N = 8 := N_0; omega⟩ k) := by
  show V m c main_v3 _ = _
  rw [found_cot]
  have e : ∀ t : Fin cfg0.N, win0_0.index t (0 : Fin 2) = t.val ∧ win0_0.index t (1 : Fin 2) = 0 := (by decide +kernel : ∀ t : Fin grid0.N, _)
  obtain ⟨e0, e1⟩ := e t
  blk_ext [e0, e1]

/-- … the whole weight, … -/
theorem blk_weight (c : Dev nD) (t : Fin cfg0.N) (q : Fin 4) (b : Fin 1024) (k : Fin 1408) :
    iblk m c 1 t (ix3 q b k) = weight m c (ix2 b ⟨q.val * 1408 + k.val, by omega⟩) := by
  refine Eq.trans ?_ (weight_at m c q b k)
  show V m c main_v2 _ = _
  generalize V m c main_v2 = w
  have e : ∀ t : Fin cfg0.N, win0_1.index t (0 : Fin 3) = 0 ∧ win0_1.index t (1 : Fin 3) = 0 ∧ win0_1.index t (2 : Fin 3) = 0 := (by decide +kernel : ∀ t : Fin grid0.N, _)
  obtain ⟨e0, e1, e2⟩ := e t
  blk_ext [e0, e1, e2]

/-- … its rows, … -/
theorem blk_rows (c : Dev nD) (t : Fin cfg0.N) (a : Fin 512) (b : Fin 1024) :
    iblk m c 2 t (ix2 a b) = rows m c (ix2 ⟨t.val * 512 + a.val, by have := t.isLt; have : cfg0.N = 8 := N_0; omega⟩ b) := by
  show V m c main_arg0 _ = _
  rw [found_rows]
  have e : ∀ t : Fin cfg0.N, win0_2.index t (0 : Fin 2) = t.val ∧ win0_2.index t (1 : Fin 2) = 0 := (by decide +kernel : ∀ t : Fin grid0.N, _)
  obtain ⟨e0, e1⟩ := e t
  blk_ext [e0, e1]

/-- … the scale, … -/
theorem blk_scale (c : Dev nD) (t : Fin cfg0.N) (b : Fin 1024) : iblk m c 3 t (ix2 0 b) = scale m c (ix1 b) := by
  refine Eq.trans ?_ (found_scale m c b)
  show V m c main_v4 _ = _
  generalize V m c main_v4 = w
  have e : ∀ t : Fin cfg0.N, win0_3.index t (0 : Fin 2) = 0 ∧ win0_3.index t (1 : Fin 2) = 0 := (by decide +kernel : ∀ t : Fin grid0.N, _)
  obtain ⟨e0, e1⟩ := e t
  blk_ext [e0, e1]

/-- … and its rows of the gradient beside. -/
theorem blk_beside (c : Dev nD) (t : Fin cfg0.N) (a : Fin 512) (b : Fin 1024) :
    iblk m c 4 t (ix2 a b) = beside m c (ix2 ⟨t.val * 512 + a.val, by have := t.isLt; have : cfg0.N = 8 := N_0; omega⟩ b) := by
  show V m c main_arg4 _ = _
  rw [found_beside]
  have e : ∀ t : Fin cfg0.N, win0_4.index t (0 : Fin 2) = t.val ∧ win0_4.index t (1 : Fin 2) = 0 := (by decide +kernel : ∀ t : Fin grid0.N, _)
  obtain ⟨e0, e1⟩ := e t
  blk_ext [e0, e1]

/-- The gathered product at a place, from the weight as one matrix. -/
theorem prod_at (y : Vec Ideal S512x5632 .bf16) (w : Vec Ideal S4x1024x1408 .bf16) (W : Fin 1024 → Fin 5632 → EReal)
    (hw : ∀ (q : Fin 4) (b : Fin 1024) (k : Fin 1408), w (ix3 q b k) = W b ⟨q.val * 1408 + k.val, by omega⟩) (a : Fin 512) (b : Fin 1024) :
    prod y w (ix2 a b) = ∑ k : Fin 5632, y (ix2 a k) * W b k := by
  refine Eq.trans (pay3_at _ _ _ _ _ _ _ _ a b) (Eq.trans ?_ (Fin.sum_mul_add_fin 4 1408 fun k => y (ix2 a k) * W b k))
  rw [Fin.sum_univ_four]
  refine congrArg₂ (fun x y : EReal => x + y) (congrArg₂ (fun x y : EReal => x + y) (congrArg₂ (fun x y : EReal => x + y) ?_ ?_) ?_) ?_
  · refine Fin.sum_fin_congr fun k => congrArg₂ (fun x y : EReal => x * y) (View.ld_unit_apply_of y _ _ _ _ _ ?_)
      ((View.ld_unit_apply_of w _ _ _ _ (ix3 0 b k) ?_).trans (hw 0 b k))
    · intro z; match z with | ⟨0, _⟩ => exact (Nat.zero_add _).symm | ⟨1, _⟩ => exact rfl
    · intro z; match z with | ⟨0, _⟩ => rfl | ⟨1, _⟩ => exact (Nat.zero_add _).symm | ⟨2, _⟩ => exact (Nat.zero_add _).symm
  · refine Fin.sum_fin_congr fun k => congrArg₂ (fun x y : EReal => x * y) (View.ld_unit_apply_of y _ _ _ _ _ ?_)
      ((View.ld_unit_apply_of w _ _ _ _ (ix3 1 b k) ?_).trans (hw 1 b k))
    · intro z; match z with | ⟨0, _⟩ => exact (Nat.zero_add _).symm | ⟨1, _⟩ => exact rfl
    · intro z; match z with | ⟨0, _⟩ => rfl | ⟨1, _⟩ => exact (Nat.zero_add _).symm | ⟨2, _⟩ => exact (Nat.zero_add _).symm
  · refine Fin.sum_fin_congr fun k => congrArg₂ (fun x y : EReal => x * y) (View.ld_unit_apply_of y _ _ _ _ _ ?_)
      ((View.ld_unit_apply_of w _ _ _ _ (ix3 2 b k) ?_).trans (hw 2 b k))
    · intro z; match z with | ⟨0, _⟩ => exact (Nat.zero_add _).symm | ⟨1, _⟩ => exact rfl
    · intro z; match z with | ⟨0, _⟩ => rfl | ⟨1, _⟩ => exact (Nat.zero_add _).symm | ⟨2, _⟩ => exact (Nat.zero_add _).symm
  · refine Fin.sum_fin_congr fun k => congrArg₂ (fun x y : EReal => x * y) (View.ld_unit_apply_of y _ _ _ _ _ ?_)
      ((View.ld_unit_apply_of w _ _ _ _ (ix3 3 b k) ?_).trans (hw 3 b k))
    · intro z; match z with | ⟨0, _⟩ => exact (Nat.zero_add _).symm | ⟨1, _⟩ => exact rfl
    · intro z; match z with | ⟨0, _⟩ => rfl | ⟨1, _⟩ => exact (Nat.zero_add _).symm | ⟨2, _⟩ => exact (Nat.zero_add _).symm

/-- The arrays by their coordinates, and the gradient of the normalised rows. -/
abbrev X (c : Dev nD) : Fin 4096 → Fin 1024 → EReal := fun l b => rows m c (ix2 l b)
abbrev S (c : Dev nD) : Fin 4096 → Fin 1024 → EReal := fun l b => beside m c (ix2 l b)
abbrev Gs (c : Dev nD) : Fin 1024 → EReal := fun b => scale m c (ix1 b)
def D (c : Dev nD) (l : Fin 4096) (b : Fin 1024) : EReal := ∑ k : Fin 5632, cot m c (ix2 l k) * weight m c (ix2 b k)

/-- Row `a` of point `t`'s tile. -/
def tok (t : Fin cfg0.N) (a : Fin 512) : Fin 4096 := ⟨t.val * 512 + a.val, by have := t.isLt; have : cfg0.N = 8 := N_0; omega⟩

theorem prod_D (c : Dev nD) (t : Fin cfg0.N) (a : Fin 512) (b : Fin 1024) : prod (iblk m c 0 t) (iblk m c 1 t) (ix2 a b) = D m c (tok t a) b :=
  (prod_at _ _ (fun b k => weight m c (ix2 b k)) (blk_weight m c t) a b).trans
    (Finset.sum_congr rfl fun k _ => congrArg (fun x : EReal => x * _) (blk_cot m c t a k))

theorem root_at (c : Dev nD) (t : Fin cfg0.N) (a : Fin 512) : k0_pay4 (F := Ideal) (iblk m c 2 t) (ix2 a 0) = NormRow.root (X m c) (tok t a) :=
  (pay4_at _ a).trans (congrArg (fun x => Ideal.rsqrt (NormRow.under x)) (Finset.sum_congr rfl fun k _ =>
    congrArg₂ (fun x y : EReal => x * y) (blk_rows m c t a k) (blk_rows m c t a k)))

/-- A point's rows of the gradient. -/
theorem pay5_row (c : Dev nD) (t : Fin cfg0.N) (a : Fin 512) (b : Fin 1024) :
    k0_pay5 (F := Ideal) (prod (iblk m c 0 t) (iblk m c 1 t)) (iblk m c 2 t) (iblk m c 3 t) (iblk m c 4 t) (ix2 a b)
      = NormRow.callRow (X m c) (D m c) (S m c) (Gs m c) (tok t a) b := by
  refine (pay5_at _ _ _ _ a b).trans ?_
  rw [root_at, prod_D]
  unfold NormRow.callRow
  have e : ∀ k : Fin 1024, (iblk m c 3 t (ix2 0 k) : EReal) = Gs m c k := fun k => blk_scale m c t k
  have e2 : ∀ k : Fin 1024, (iblk m c 2 t (ix2 a k) : EReal) = X m c (tok t a) k := fun k => blk_rows m c t a k
  have e4 : (iblk m c 4 t (ix2 a b) : EReal) = S m c (tok t a) b := blk_beside m c t a b
  rw [e, e2, e4]
  exact congrArg (fun z : EReal => S m c (tok t a) b + (NormRow.root (X m c) (tok t a) * (Gs m c b * D m c (tok t a) b)
    - X m c (tok t a) b * (NormRow.root (X m c) (tok t a) * NormRow.root (X m c) (tok t a) * NormRow.root (X m c) (tok t a)) * Ideal.div z NormRow.width))
    (Finset.sum_congr rfl fun k _ => congrArg₂ (fun x y : EReal => x * y) (congrArg₂ (fun x y : EReal => x * y) (e k) (prod_D m c t a k)) (e2 k))

/-- What a point adds to the running sum (past the grid: nothing). -/
def part (c : Dev nD) (n : ℕ) (j : S8x1024.Idx) : EReal :=
  if h : n < cfg0.N then ∑ k : Fin 64, D m c (tok ⟨n, h⟩ ⟨k.val * 8 + (j 0).val, by have h0 : (j 0).val < 8 := (j 0).isLt; omega⟩) (j 1)
    * X m c (tok ⟨n, h⟩ ⟨k.val * 8 + (j 0).val, by have h0 : (j 0).val < 8 := (j 0).isLt; omega⟩) (j 1)
    * NormRow.root (X m c) (tok ⟨n, h⟩ ⟨k.val * 8 + (j 0).val, by have h0 : (j 0).val < 8 := (j 0).isLt; omega⟩) else 0

theorem pay6_part (c : Dev nD) (n : ℕ) (h : n < cfg0.N) (acc : FVec Ideal S8x1024 .f32) (j : S8x1024.Idx) :
    k0_pay6 (F := Ideal) (prod (iblk m c 0 ⟨n, h⟩) (iblk m c 1 ⟨n, h⟩)) (iblk m c 2 ⟨n, h⟩) acc j = acc j + part m c n j := by
  obtain ⟨a, b, rfl⟩ : ∃ (a : Fin 8) (b : Fin 1024), j = ix2 a b :=
    ⟨j 0, j 1, funext fun z => by match z with | ⟨0, _⟩ => rfl | ⟨1, _⟩ => rfl⟩
  refine (pay6_at _ _ acc a b).trans ?_
  rw [part, dif_pos h]
  refine congrArg (acc (ix2 a b) + ·) (Finset.sum_congr rfl fun k _ => ?_)
  exact congrArg₂ (fun x y : EReal => x * y) (congrArg₂ (fun x y : EReal => x * y) (prod_D m c ⟨n, h⟩ _ b) (blk_rows m c ⟨n, h⟩ _ b)) (root_at m c ⟨n, h⟩ _)

/-- The running sum after a point that starts, and after one that goes on. -/
def restart (c : Dev nD) (n : ℕ) (h : n < cfg0.N) : Vec Ideal S8x1024 .f32 :=
  k0_pay6 (F := Ideal) (prod (iblk m c 0 ⟨n, h⟩) (iblk m c 1 ⟨n, h⟩)) (iblk m c 2 ⟨n, h⟩) (k0_pay2 (F := Ideal))
def goOn (c : Dev nD) (n : ℕ) (h : n < cfg0.N) (acc : Vec Ideal S8x1024 .f32) : Vec Ideal S8x1024 .f32 :=
  k0_pay6 (F := Ideal) (prod (iblk m c 0 ⟨n, h⟩) (iblk m c 1 ⟨n, h⟩)) (iblk m c 2 ⟨n, h⟩) acc

theorem sums (c : Dev nD) (n : ℕ) (hn : n < cfg0.N) :
    (outsAt0 m c n hn).2.2 = Pipeline.accAt (restart m c) (goOn m c) (8 * (n / 8)) (n % 8)
      (by have h2 := Nat.div_add_mod n 8; omega) :=
  Pipeline.eq_accAt_of_mod (fun n h => (outsAt0 m c n h).2.2) 8 (restart m c) (goOn m c)
    (fun n h hn => by
      have h0 : n % 8 = 0 := hn
      rw [outsAt0_A m c ⟨n, h⟩ h0 (fun e => by have e' : n % 8 = 7 := e; omega)]
      dsimp only
      rw [sum_first]
      rfl)
    (fun n h hn => by
      have h0 : ¬(n + 1) % 8 = 0 := hn
      by_cases h1 : (n + 1) % 8 = 7
      · rw [outsAt0_C m c ⟨n + 1, h⟩ h0 h1]
        dsimp only
        rw [sum_last]
        rfl
      · rw [outsAt0_B m c ⟨n + 1, h⟩ h0 h1]
        dsimp only
        rw [sum_middle]
        rfl)
    (by decide) n hn _

/-- Two folds of equal bounds are one. -/
theorem fold_congr (c : Dev nD) : ∀ (a a' j j' : ℕ) (h : a + j < cfg0.N) (h' : a' + j' < cfg0.N), a = a' → j = j' →
    Pipeline.accAt (restart m c) (goOn m c) a j h = Pipeline.accAt (restart m c) (goOn m c) a' j' h' := by
  intro a a' j j' h h' ea ej
  subst ea ej
  rfl

/-- Every point leaves its rows of the gradient. -/
theorem rows_out (c : Dev nD) (t : Fin cfg0.N) :
    (outsAt0 m c t.val t.isLt).1 = k0_pay5 (F := Ideal) (prod (iblk m c 0 t) (iblk m c 1 t)) (iblk m c 2 t) (iblk m c 3 t) (iblk m c 4 t) := by
  by_cases h0 : t.val % 8 = 0
  · rw [outsAt0_A m c t h0 (fun e => by omega)]
    dsimp only
    rw [rows_first]
  by_cases h1 : t.val % 8 = 7
  · rw [outsAt0_C m c t h0 h1]
    dsimp only
    rw [rows_last]
  · rw [outsAt0_B m c t h0 h1]
    dsimp only
    rw [rows_middle]

/-- The array of the rows' gradient. -/
theorem dx_at (c : Dev nD) (t : Fin cfg0.N) (a : Fin 512) (b : Fin 1024) :
    Value.G5 m c (ix2 (tok t a) b) = NormRow.callRow (X m c) (D m c) (S m c) (Gs m c) (tok t a) b := by
  have hN : cfg0.N = 8 := N_0
  have ht := t.isLt
  have hp : Value.pt5Of (ix2 (tok t a) b : S4096x1024.Idx) = t.val := by
    show 1 * ((t.val * 512 + a.val) / 512 - 0) + 1 * (b.val / 1024 - 0) = t.val
    omega
  have hl : Value.loc5Of (ix2 (tok t a) b : S4096x1024.Idx) = ix2 a b := by
    funext x
    match x with
    | ⟨0, _⟩ => exact Fin.ext (show (t.val * 512 + a.val) % 512 = a.val by omega)
    | ⟨1, _⟩ => exact Fin.ext (Nat.mod_eq_of_lt b.isLt)
  unfold Value.G5
  rw [dif_pos (by rw [hp]; exact ht), hl, Value.fold0_congr m c _ _ t.val (by omega) hp, ← Value.outsAt0_sweep m c t.val ht, rows_out]
  exact pay5_row m c t a b

/-- The array of the scale's gradient. -/
theorem dg_at (c : Dev nD) (b : Fin 1024) : Value.G6 m c (ix2 0 b) = NormRow.refScale (X m c) (D m c) b := by
  have hN : cfg0.N = 8 := N_0
  rw [Value.G6_last, ← Value.outsAt0_sweep m c 7 (by rw [hN]; omega)]
  have e := outsAt0_C m c ⟨7, by rw [hN]; omega⟩ (fun e => by have e' : 7 % 8 = 0 := e; omega) (show 7 % 8 = 7 by omega)
  have e2 := sums m c 7 (by rw [hN]; omega)
  dsimp only at e
  rw [e] at e2 ⊢
  dsimp only at e2 ⊢
  rw [sum_last] at e2
  rw [total_last, e2]
  refine (pay1_at _ b).trans ?_
  rw [← NormRow.scale_eq]
  refine Finset.sum_congr rfl fun a _ => ?_
  rw [fold_congr m c _ 0 _ 7 _ (by rw [hN]; omega) rfl rfl,
    Pipeline.accAt_add_apply (restart m c) (goOn m c) (fun _ => (0 : EReal)) (part m c) _ 7
      (fun h i => by rw [restart, pay6_part, pay2_at]) (fun n h acc i _ _ => pay6_part m c n h acc i) 7 le_rfl,
    zero_add, Finset.sum_range]
  refine Fin.sum_fin_congr fun n => ?_
  rw [part, dif_pos (by rw [hN]; omega)]
  have e0 : 0 + n.val = n.val := Nat.zero_add _
  simp only [e0]
  rfl

open Cert.Reference5Ideal.Read

/-- The reference's gradient of the normalised rows. -/
theorem ref_D (w : FVec Ideal S1024x5632 .f32) (y : FVec Ideal S4096x5632 .f32) (l : Fin 4096) (b : Fin 1024) :
    val_main_v17 (F := Ideal) w y (ix2 l b) = ∑ k : Fin 5632, y (ix2 l k) * w (ix2 b k) := by
  rw [val_main_v17_apply]
  refine Finset.sum_congr rfl fun k _ => congrArg₂ (fun x y : EReal => x * y) (congrArg y (funext fun z => ?_)) (congrArg w (funext fun z => ?_))
  · match z with | ⟨0, _⟩ => rfl | ⟨1, _⟩ => rfl
  · match z with | ⟨0, _⟩ => rfl | ⟨1, _⟩ => rfl

theorem zero_word : (Ideal.ofBits .f32 0x00000000#32 : EReal) = 0 := by
  simp [Ideal.ofBits, Ideal.ieee]

theorem ref_under (x : FVec Ideal S4096x1024 .f32) (i : Cert.Reference5Ideal.S4096x1.Idx) (l : Fin 4096) (h : (i 0).val = l.val) :
    val_main_v6 (F := Ideal) x i = NormRow.under (∑ k : Fin 1024, x (ix2 l k) * x (ix2 l k)) := by
  rw [val_main_v6_apply, val_main_v4_apply, val_main_v2_apply, val_main_v1_apply, val_main_v3_apply, val_main_v5_apply]
  refine congrArg (fun z : EReal => Ideal.div z NormRow.width + NormRow.small) (Eq.trans (congrArg (fun z : EReal => z + _) zero_word) (Eq.trans (zero_add _) (Finset.sum_congr rfl fun k _ => ?_)))
  refine congrArg (fun z : EReal => z * z) (congrArg x (funext fun z => ?_))
  match z with
  | ⟨0, _⟩ => exact Fin.ext h
  | ⟨1, _⟩ => rfl

theorem ref_root (x : FVec Ideal S4096x1024 .f32) (i : Cert.Reference5Ideal.S4096x1.Idx) (l : Fin 4096) (h : (i 0).val = l.val) :
    val_main_v7 (F := Ideal) x i = NormRow.root (fun l k => x (ix2 l k)) l := by
  rw [val_main_v7_apply, ref_under x i l h]
  rfl

theorem ref_scaled (g : FVec Ideal S1024 .f32) (w : FVec Ideal S1024x5632 .f32) (y : FVec Ideal S4096x5632 .f32) (l : Fin 4096) (b : Fin 1024) :
    val_main_v22 (F := Ideal) g w y (ix2 l b) = (∑ k : Fin 5632, y (ix2 l k) * w (ix2 b k)) * g (ix1 b) := by
  rw [val_main_v22_apply, ref_D, val_main_v21_apply, val_main_v13_apply]
  refine congrArg (fun z : EReal => _ * z) (congrArg g (funext fun z => ?_))
  match z with
  | ⟨0, _⟩ => rfl

theorem ref_factor (x : FVec Ideal S4096x1024 .f32) (g : FVec Ideal S1024 .f32) (w : FVec Ideal S1024x5632 .f32) (y : FVec Ideal S4096x5632 .f32) (l : Fin 4096) (b : Fin 1024) :
    val_main_v33 (F := Ideal) x g w y (ix2 l b)
      = NormRow.factor (fun l k => x (ix2 l k)) (fun l b => ∑ k : Fin 5632, y (ix2 l k) * w (ix2 b k)) (fun b => g (ix1 b)) l := by
  rw [val_main_v33_apply, val_main_v32_apply]
  refine (congrArg (fun z : EReal => z + _) zero_word).trans ((zero_add _).trans ((Fin.sum_univ_one _).trans ?_))
  rw [val_main_v31_apply, val_main_v29_apply, val_main_v26_apply, val_main_v25_apply, val_main_v30_apply, val_main_v10_apply, val_main_v9_apply, val_main_v8_apply,
    ref_root x _ l rfl, ref_under x _ l rfl]
  refine congrArg (fun z : EReal => Ideal.div (z * (NormRow.minusHalf * Ideal.div (NormRow.root (fun l k => x (ix2 l k)) l) (NormRow.under (∑ k : Fin 1024, x (ix2 l k) * x (ix2 l k))))) NormRow.width)
    ((congrArg (fun z : EReal => z + _) zero_word).trans ((zero_add _).trans (Finset.sum_congr rfl fun k _ => ?_)))
  rw [val_main_v24_apply]
  have e : idx_main_v25 (idx_main_v26 (idx_main_v32 (idx_main_v33 (ix2 l b)) 0)) k = ix2 l k := by
    funext z
    match z with
    | ⟨0, _⟩ => exact Fin.ext (show l.val * 1 + 0 = l.val by omega)
    | ⟨1, _⟩ => rfl
  rw [e, ref_scaled]
  rfl

/-- The reference's gradient of the rows. -/
theorem ref_dx (x : FVec Ideal S4096x1024 .f32) (g : FVec Ideal S1024 .f32) (w : FVec Ideal S1024x5632 .f32) (y : FVec Ideal S4096x5632 .f32) (s : FVec Ideal S4096x1024 .f32)
    (l : Fin 4096) (b : Fin 1024) :
    val_main_v38 (F := Ideal) x g w y s (ix2 l b) = NormRow.refRow (fun l k => x (ix2 l k)) (fun l b => ∑ k : Fin 5632, y (ix2 l k) * w (ix2 b k)) (fun l b => s (ix2 l b)) (fun b => g (ix1 b)) l b := by
  rw [val_main_v38_apply, val_main_v37_apply, val_main_v35_apply, val_main_v36_apply, val_main_v34_apply, val_main_v28_apply, val_main_v27_apply, ref_factor, ref_scaled, ref_root x _ l rfl]
  rfl

/-- The reference's gradient of the scale. -/
theorem ref_dg (x : FVec Ideal S4096x1024 .f32) (w : FVec Ideal S1024x5632 .f32) (y : FVec Ideal S4096x5632 .f32) (b : Fin 1024) :
    val_main_v39 (F := Ideal) x w y (ix2 0 b) = NormRow.refScale (fun l k => x (ix2 l k)) (fun l b => ∑ k : Fin 5632, y (ix2 l k) * w (ix2 b k)) b := by
  rw [val_main_v39_apply, val_main_v23_apply]
  refine (congrArg (fun z : EReal => z + _) zero_word).trans ((zero_add _).trans ((Fin.sum_univ_one _).trans ?_))
  rw [val_main_v20_apply, val_main_v19_apply]
  refine (congrArg (fun z : EReal => z + _) zero_word).trans ((zero_add _).trans (Finset.sum_congr rfl fun l _ => ?_))
  have e : idx_main_v19 (idx_main_v20 (idx_main_v23 (idx_main_v39 (ix2 0 b)) 0)) l = ix2 l b := by
    funext z
    match z with
    | ⟨0, _⟩ => rfl
    | ⟨1, _⟩ => exact Fin.ext (show 0 * 1024 + b.val = b.val by omega)
  rw [e, val_main_v18_apply, val_main_v12_apply, val_main_v11_apply, ref_D, ref_root x _ l rfl]
  rfl

theorem split (i : S4096x1024.Idx) : ∃ (t : Fin cfg0.N) (a : Fin 512) (b : Fin 1024), i = ix2 (tok t a) b := by
  have hN : cfg0.N = 8 := N_0
  have h0 : (i 0).val < 4096 := (i 0).isLt
  refine ⟨⟨(i 0).val / 512, by rw [hN]; omega⟩, ⟨(i 0).val % 512, by omega⟩, i 1, ?_⟩
  funext z
  match z with
  | ⟨0, _⟩ => exact Fin.ext (show (i 0).val = (i 0).val / 512 * 512 + (i 0).val % 512 by omega)
  | ⟨1, _⟩ => rfl

/-- The two arrays that the call leaves are the reference's. -/
theorem same_dx (c : Dev nD) : Value.G5 m c = val_main_v38 (F := Ideal) (rows m c) (scale m c) (weight m c) (cot m c) (beside m c) := by
  funext i
  obtain ⟨t, a, b, rfl⟩ := split i
  exact (dx_at m c t a b).trans ((NormRow.row_eq _ _ _ _ _ _).trans (ref_dx (rows m c) (scale m c) (weight m c) (cot m c) (beside m c) (tok t a) b).symm)

theorem same_dg (c : Dev nD) : Value.G6 m c = val_main_v39 (F := Ideal) (rows m c) (weight m c) (cot m c) := by
  funext i
  obtain ⟨b, rfl⟩ : ∃ b : Fin 1024, i = ix2 0 b :=
    ⟨i 1, funext fun z => by match z with | ⟨0, _⟩ => exact Subsingleton.elim (α := Fin 1) _ _ | ⟨1, _⟩ => rfl⟩
  exact (dg_at m c b).trans (ref_dg (rows m c) (weight m c) (cot m c) b).symm

/-- The two body tables are equal: label by label, the same function. -/
theorem bodies_eq : Cert.Kernel5.defs₀ (F := Bits) = Cert.Kernel5Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel5.defs (F := Bits) = Cert.Kernel5Ideal.defs (F := Bits) :=
  congrArg (Pipeline.defs (pcfgs (F := Bits))) bodies_eq

/-- The call over words keeps its arguments and ends with its counters at zero. -/
theorem frame_words : Cert.quiescent_Kernel5 (hKernel5 := Cert.Kernel5.Gen.facts) := fun m ρ _ => by
  rw [defs_eq]
  exact Cert.Kernel5Ideal.Gen.frame (F := Bits) m ρ

/-- So does the call over the extended reals. -/
theorem frame_ideal : Cert.quiescent_Kernel5Ideal (hKernel5Ideal := Cert.Kernel5Ideal.Gen.facts) := fun m ρ _ =>
  Cert.Kernel5Ideal.Gen.frame m ρ

/-- The reference keeps its arguments, and it has no counter. -/
theorem frame_reference : Cert.quiescent_Reference5Ideal (hReference5Ideal := Cert.Reference5Ideal.Gen.facts) := fun m ρ _ =>
  (θ_run Cert.Reference5Ideal.defs _ _).mono (fun r h => ⟨fun c => (h c).2.2,
    sem_eq_zero_of_no_sems (by decide) r.2⟩) (Cert.Reference5Ideal.Value.run m ρ)

/-- From equal arguments the call and the reference leave the same two arrays. -/
theorem value : Cert.algebraic_Kernel5Ideal_Reference5Ideal (hKernel5Ideal := Cert.Kernel5Ideal.Gen.facts)
    (hReference5Ideal := Cert.Reference5Ideal.Gen.facts) := fun m g m' g' _ hargs => by
  refine ⟨fun c => Value.G5 m c, fun c => Value.G6 m c, Value.run m g, ?_⟩
  refine (θ_run Cert.Reference5Ideal.defs _ _).mono (fun r h c => ⟨?_, ?_, (h c).2.2⟩) (Cert.Reference5Ideal.Value.run m' g')
  · rw [(h c).1, val_main_v38_eq]
    obtain ⟨h0, h1, h2, h3, h4⟩ := hargs c
    rw [h0, h1, h2, h3, h4]
    exact (same_dx m c).symm
  · rw [(h c).2.1, val_main_v39_eq]
    obtain ⟨h0, h1, h2, h3, h4⟩ := hargs c
    rw [h0, h2, h3]
    exact (same_dg m c).symm

end Cert.NormUp

end

end
-- ==== Proof.NormIn.lean ====
/- The backward call through the input projection and the normalisation: what its points leave and add up, and that its two arrays are the reference's. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import proofs.«01_k».proof.Proof.NormRow
public import Idealize.ShloMosaic.Lib.Pipeline.ValueKit.Acc
public import Idealize.ShloMosaic.Lib.Pipeline.ValueKit.Tiles
public import Idealize.ShloMosaic.Lib.Pipeline.ValueKit.Geometry

@[expose] public section

set_option maxRecDepth 16384

noncomputable section

namespace Cert.NormIn

open Idealize.ShloMosaic Idealize.ShloMosaic.TcCoe Idealize.SL.Sem
open Cert.Kernel6Ideal Cert.Kernel6Ideal.Gen

theorem pay1_at (v : FVec Ideal S8x1024 .f32) (b : Fin 1024) : k0_pay3 (F := Ideal) v (ix2 0 b) = ∑ k : Fin 8, v (ix2 k b) := by
  pointwise [k0_pay3]

theorem pay2_at (j : S8x1024.Idx) : k0_pay4 (F := Ideal) j = 0 := by
  pointwise [k0_pay4]

theorem pay3_at (w0 w1 w2 : FVec Ideal S1024x768 .bf16) (y0 y1 y2 : FVec Ideal S512x768 .bf16) (a : Fin 512) (b : Fin 1024) :
    k0_pay9 (F := Ideal) w0 y0 w1 y1 w2 y2 (ix2 a b)
      = (∑ k : Fin 768, y0 (ix2 a k) * w0 (ix2 b k) + ∑ k : Fin 768, y1 (ix2 a k) * w1 (ix2 b k)) + ∑ k : Fin 768, y2 (ix2 a k) * w2 (ix2 b k) := by
  pointwise [k0_pay9]

theorem pay4_at (x : FVec Ideal S512x1024 .f32) (a : Fin 512) :
    k0_pay10 (F := Ideal) x (ix2 a 0) = Ideal.rsqrt (NormRow.under (∑ k : Fin 1024, x (ix2 a k) * x (ix2 a k))) := by
  unfold NormRow.under
  pointwise [k0_pay10]

theorem pay11_at (g : FVec Ideal S1x1024 .f32) : k0_pay11 (F := Ideal) g = g := by
  unfold k0_pay11
  exact shapeCast_self _ _

theorem pay5_at (d x : FVec Ideal S512x1024 .f32) (r : FVec Ideal S512x1 .f32) (g : FVec Ideal S1x1024 .f32) (s : FVec Ideal S512x1024 .f32) (a : Fin 512) (b : Fin 1024) :
    k0_pay1 (F := Ideal) d x r g s (ix2 a b)
      = s (ix2 a b) + (r (ix2 a 0) * (g (ix2 0 b) * d (ix2 a b)) - x (ix2 a b) * (r (ix2 a 0) * r (ix2 a 0) * r (ix2 a 0))
          * Ideal.div (∑ k : Fin 1024, g (ix2 0 k) * d (ix2 a k) * x (ix2 a k)) NormRow.width) := by
  pointwise [k0_pay1]

theorem pay6_at (d x : FVec Ideal S512x1024 .f32) (r : FVec Ideal S512x1 .f32) (acc : FVec Ideal S8x1024 .f32) (a : Fin 8) (b : Fin 1024) :
    k0_pay2 (F := Ideal) d x r acc (ix2 a b)
      = acc (ix2 a b) + ∑ k : Fin 64, d (ix2 ⟨k.val * 8 + a.val, by omega⟩ b) * x (ix2 ⟨k.val * 8 + a.val, by omega⟩ b) * r (ix2 ⟨k.val * 8 + a.val, by omega⟩ 0) := by
  pointwise [k0_pay2]

theorem copy_at (w : FVec Ideal S1x1024x576 .bf16) (a : Fin 1024) (b : Fin 576) :
    k0_pay5 (F := Ideal) w (ix2 a b) = w (ix3 0 a b) ∧ k0_pay6 (F := Ideal) w (ix2 a b) = w (ix3 0 a b)
      ∧ k0_pay7 (F := Ideal) w (ix2 a b) = w (ix3 0 a b) ∧ k0_pay8 (F := Ideal) w (ix2 a b) = w (ix3 0 a b) := by
  refine ⟨?_, ?_, ?_, ?_⟩
  · pointwise [k0_pay5]
  · pointwise [k0_pay6]
  · pointwise [k0_pay7]
  · pointwise [k0_pay8]

/-- The product of a block of rows of the gradient with the transposed weight, as the body gathers it from three column blocks. -/
def prod (y : Vec Ideal S512x2304 .bf16) (w : Vec Ideal S1024x2304 .bf16) : FVec Ideal S512x1024 .f32 :=
  k0_pay9 (F := Ideal) (View.ld w (Rect.unit (s := S1024x2304) ![0, 0] S1024x768.size inb_S1024x2304_S1024x768_0_0)) (View.ld y (Rect.unit (s := S512x2304) ![0, 0] S512x768.size inb_S512x2304_S512x768_0_0))
    (View.ld w (Rect.unit (s := S1024x2304) ![0, 768] S1024x768.size inb_S1024x2304_S1024x768_0_768)) (View.ld y (Rect.unit (s := S512x2304) ![0, 768] S512x768.size inb_S512x2304_S512x768_0_768))
    (View.ld w (Rect.unit (s := S1024x2304) ![0, 1536] S1024x768.size inb_S1024x2304_S1024x768_0_1536)) (View.ld y (Rect.unit (s := S512x2304) ![0, 1536] S512x768.size inb_S512x2304_S512x768_0_1536))

/-- The four column blocks of the weight side by side. -/
def join (w : Vec Ideal S4x1024x576 .bf16) : Vec Ideal S1024x2304 .bf16 := fun i =>
  w (ix3 ⟨(i 1).val / 576, by have h : (i 1).val < 2304 := (i 1).isLt; omega⟩ (i 0) ⟨(i 1).val % 576, Nat.mod_lt _ (by decide)⟩)

theorem zero2 : (![0, 0] : Fin 2 → ℕ) = fun _ => 0 := funext fun a => by match a with | ⟨0, _⟩ => rfl | ⟨1, _⟩ => rfl

/-- The four copies that gather the weight … -/
abbrev copies (x1 : Vec Ideal S4x1024x576 .bf16) : List (View.Piece (Elt Ideal) S1024x2304 .bf16) :=
  [⟨Rect.unit (s := S1024x2304) ![0, 1728] S1024x576.size inb_S1024x2304_S1024x576_0_1728, k0_pay8 (F := Ideal) (View.ld x1 (Rect.unit (s := S4x1024x576) ![3, 0, 0] S1x1024x576.size inb_S4x1024x576_S1x1024x576_3_0_0))⟩,
    ⟨Rect.unit (s := S1024x2304) ![0, 1152] S1024x576.size inb_S1024x2304_S1024x576_0_1152, k0_pay7 (F := Ideal) (View.ld x1 (Rect.unit (s := S4x1024x576) ![2, 0, 0] S1x1024x576.size inb_S4x1024x576_S1x1024x576_2_0_0))⟩,
    ⟨Rect.unit (s := S1024x2304) ![0, 576] S1024x576.size inb_S1024x2304_S1024x576_0_576, k0_pay6 (F := Ideal) (View.ld x1 (Rect.unit (s := S4x1024x576) ![1, 0, 0] S1x1024x576.size inb_S4x1024x576_S1x1024x576_1_0_0))⟩,
    ⟨Rect.unit (s := S1024x2304) ![0, 0] S1024x576.size inb_S1024x2304_S1024x576_0_0, k0_pay5 (F := Ideal) (View.ld x1 (Rect.unit (s := S4x1024x576) ![0, 0, 0] S1x1024x576.size inb_S4x1024x576_S1x1024x576_0_0_0))⟩]

theorem copies_cover (x1 : Vec Ideal S4x1024x576 .bf16) : ∀ y : S1024x2304.Idx, ∃ p ∈ copies x1, y ∈ p.1.set :=
  View.cover_of_tiledL (copies x1) S1024x576.size (by sl_kernel_rfl)

theorem copy_join (x1 : Vec Ideal S4x1024x576 .bf16) (q : Fin 4) (inb) (a : Fin 1024) (b : Fin 576) (inb') :
    View.ld x1 (Rect.unit (s := S4x1024x576) ![q.val, 0, 0] S1x1024x576.size inb) (ix3 0 a b)
      = join x1 ((Rect.unit (s := S1024x2304) ![0, 576 * q.val] S1024x576.size inb').emb (ix2 a b)) := by
  rw [View.ld_unit_apply_of x1 _ _ inb (ix3 0 a b) (ix3 q a b) (fun k => by match k with
    | ⟨0, _⟩ => exact (Nat.add_zero _).symm
    | ⟨1, _⟩ => exact (Nat.zero_add _).symm
    | ⟨2, _⟩ => exact (Nat.zero_add _).symm)]
  have hb := b.isLt
  unfold join
  refine congrArg x1 (funext fun k => ?_)
  match k with
  | ⟨0, _⟩ => exact Fin.ext (show q.val = (576 * q.val + 1 * b.val) / 576 by omega)
  | ⟨1, _⟩ => exact Fin.ext (show a.val = 0 + 1 * a.val by omega)
  | ⟨2, _⟩ => exact Fin.ext (show b.val = (576 * q.val + 1 * b.val) % 576 by omega)

/-- … leave it whole, … -/
theorem gathered (x1 : Vec Ideal S4x1024x576 .bf16) : View.canon (copies x1) = join x1 := by
  funext y
  refine View.canon_apply_of_pieces (join x1) _ (fun p hp => ?_) y (copies_cover x1 y)
  simp only [copies, List.mem_cons, List.not_mem_nil, or_false] at hp
  rcases hp with rfl | rfl | rfl | rfl
  · intro x
    obtain ⟨a, b, rfl⟩ : ∃ (a : Fin 1024) (b : Fin 576), x = ix2 a b := ⟨x 0, x 1, funext fun k => by match k with | ⟨0, _⟩ => rfl | ⟨1, _⟩ => rfl⟩
    exact (copy_at _ a b).2.2.2.trans (copy_join x1 3 _ a b inb_S1024x2304_S1024x576_0_1728)
  · intro x
    obtain ⟨a, b, rfl⟩ : ∃ (a : Fin 1024) (b : Fin 576), x = ix2 a b := ⟨x 0, x 1, funext fun k => by match k with | ⟨0, _⟩ => rfl | ⟨1, _⟩ => rfl⟩
    exact (copy_at _ a b).2.2.1.trans (copy_join x1 2 _ a b inb_S1024x2304_S1024x576_0_1152)
  · intro x
    obtain ⟨a, b, rfl⟩ : ∃ (a : Fin 1024) (b : Fin 576), x = ix2 a b := ⟨x 0, x 1, funext fun k => by match k with | ⟨0, _⟩ => rfl | ⟨1, _⟩ => rfl⟩
    exact (copy_at _ a b).2.1.trans (copy_join x1 1 _ a b inb_S1024x2304_S1024x576_0_576)
  · intro x
    obtain ⟨a, b, rfl⟩ : ∃ (a : Fin 1024) (b : Fin 576), x = ix2 a b := ⟨x 0, x 1, funext fun k => by match k with | ⟨0, _⟩ => rfl | ⟨1, _⟩ => rfl⟩
    exact (copy_at _ a b).1.trans (copy_join x1 0 _ a b inb_S1024x2304_S1024x576_0_0)

/-- … and a load of it reads the whole weight. -/
theorem gathered_load (v : View sig Kind.tc Space.vmem S1024x2304 .bf16) (x1 : Vec Ideal S4x1024x576 .bf16) (r : Rect S1024x2304) :
    v.readCov (Val := Elt Ideal) (copies x1) r.toLoadRect = View.ld (join x1) r := by
  rw [View.readCov_eq_canon_ld v (copies x1) r (copies_cover x1), gathered]

section Cases

variable (c : Dev nD) (i : grid0.Coords) (arg1 : Memref sig .tc .vmem S512x2304 .bf16) (harg1 : arg1.IsWhole) (arg2 : Memref sig .tc .vmem S4x1024x576 .bf16) (harg2 : arg2.IsWhole)
  (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S1024x2304 .bf16) (harg9 : arg9.IsWhole)
  (x0 : Vec Ideal S512x2304 .bf16) (x1 : Vec Ideal S4x1024x576 .bf16) (x2 : Vec Ideal S512x1024 .f32) (x3 : Vec Ideal S1x1024 .f32) (x4 : Vec Ideal S512x1024 .f32) (acc : Vec Ideal S8x1024 .f32) (joined : Vec Ideal S1024x2304 .bf16)

/-- Every point leaves its rows of the gradient, … -/
theorem rows_first (hc0 : cond0_0 i) (hc1 : ¬cond0_1 i) :
    out0_A_5 c i arg1 harg1 arg2 harg2 arg3 harg3 arg4 harg4 arg5 harg5 arg6 harg6 arg7 harg7 arg8 harg8 arg9 harg9 hc0 hc1 x0 x1 x2 x3 x4 = k0_pay1 (F := Ideal) (prod x0 (join x1)) x2 (k0_pay10 (F := Ideal) x2) (k0_pay11 (F := Ideal) x3) x4 := by
  unfold out0_A_5
  rw [View.read_writes_junk_eq_canon]
  unfold kernelRun0_A
  dsimp only
  try sl_unfold_words
  rw [View.canon_unit_zero (S := S512x1024) zero2]
  simp only [View.readAt_eq_ld, harg2.read_unread]
  rw [gathered_load arg9.view x1, gathered_load arg9.view x1, gathered_load arg9.view x1]
  simp only [harg1.read_unread, harg2.read_unread, harg3.read_unread, harg4.read_unread, harg5.read_unread, harg8.read_unread, harg9.read_unread,
    View.ld_unit_zero (S := S512x1024) zero2, View.ld_unit_zero (S := S1x1024) zero2, View.ld_unit_zero (S := S8x1024) zero2, shapeCast_self]
  rfl

theorem rows_middle (hc0 : ¬cond0_0 i) (hc1 : ¬cond0_1 i) :
    out0_B_5 c i arg1 harg1 arg2 harg2 arg3 harg3 arg4 harg4 arg5 harg5 arg6 harg6 arg7 harg7 arg8 harg8 arg9 harg9 hc0 hc1 x0 x1 x2 x3 x4 acc joined = k0_pay1 (F := Ideal) (prod x0 joined) x2 (k0_pay10 (F := Ideal) x2) (k0_pay11 (F := Ideal) x3) x4 := by
  unfold out0_B_5
  rw [View.read_writes_junk_eq_canon]
  unfold kernelRun0_B
  dsimp only
  try sl_unfold_words
  rw [View.canon_unit_zero (S := S512x1024) zero2]
  simp only [View.readAt_eq_ld, harg1.read_unread, harg2.read_unread, harg3.read_unread, harg4.read_unread, harg5.read_unread, harg8.read_unread, harg9.read_unread,
    View.ld_unit_zero (S := S512x1024) zero2, View.ld_unit_zero (S := S1x1024) zero2, View.ld_unit_zero (S := S8x1024) zero2, shapeCast_self]
  rfl

theorem rows_last (hc0 : ¬cond0_0 i) (hc1 : cond0_1 i) :
    out0_C_5 c i arg1 harg1 arg2 harg2 arg3 harg3 arg4 harg4 arg5 harg5 arg6 harg6 arg7 harg7 arg8 harg8 arg9 harg9 hc0 hc1 x0 x1 x2 x3 x4 acc joined = k0_pay1 (F := Ideal) (prod x0 joined) x2 (k0_pay10 (F := Ideal) x2) (k0_pay11 (F := Ideal) x3) x4 := by
  unfold out0_C_5
  rw [View.read_writes_junk_eq_canon]
  unfold kernelRun0_C
  dsimp only
  try sl_unfold_words
  rw [View.canon_unit_zero (S := S512x1024) zero2]
  simp only [View.readAt_eq_ld, harg1.read_unread, harg2.read_unread, harg3.read_unread, harg4.read_unread, harg5.read_unread, harg8.read_unread, harg9.read_unread,
    View.ld_unit_zero (S := S512x1024) zero2, View.ld_unit_zero (S := S1x1024) zero2, View.ld_unit_zero (S := S8x1024) zero2, shapeCast_self]
  rfl

/-- … the first clears the sum and adds its part, … -/
theorem sum_first (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 = k0_pay2 (F := Ideal) (prod x0 (join x1)) x2 (k0_pay10 (F := Ideal) x2) (k0_pay4 (F := Ideal)) := by
  unfold sout0_A_0
  rw [View.read_writes_junk_eq_canon]
  unfold kernelRun0_A
  dsimp only
  try sl_unfold_words
  rw [View.canon_cons_unit_zero (S := S8x1024) zero2, View.readCov_unit_zero (S := S8x1024) _ zero2]
  simp only [View.readAt_eq_ld, harg2.read_unread]
  rw [gathered_load arg9.view x1, gathered_load arg9.view x1, gathered_load arg9.view x1]
  simp only [harg1.read_unread, harg2.read_unread, harg3.read_unread, harg4.read_unread, harg5.read_unread, harg8.read_unread, harg9.read_unread,
    View.ld_unit_zero (S := S512x1024) zero2, View.ld_unit_zero (S := S1x1024) zero2, View.ld_unit_zero (S := S8x1024) zero2, shapeCast_self]
  rfl

/-- … a later one adds its part to what it finds, … -/
theorem sum_middle (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 acc joined = k0_pay2 (F := Ideal) (prod x0 joined) x2 (k0_pay10 (F := Ideal) x2) acc := by
  unfold sout0_B_0
  rw [View.read_writes_junk_eq_canon]
  unfold kernelRun0_B
  dsimp only
  try sl_unfold_words
  rw [View.canon_unit_zero (S := S8x1024) zero2]
  simp only [View.readAt_eq_ld, harg1.read_unread, harg2.read_unread, harg3.read_unread, harg4.read_unread, harg5.read_unread, harg8.read_unread, harg9.read_unread,
    View.ld_unit_zero (S := S512x1024) zero2, View.ld_unit_zero (S := S1x1024) zero2, View.ld_unit_zero (S := S8x1024) zero2, shapeCast_self]
  rfl

theorem sum_last (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 acc joined = k0_pay2 (F := Ideal) (prod x0 joined) x2 (k0_pay10 (F := Ideal) x2) acc := by
  unfold sout0_C_0
  rw [View.read_writes_junk_eq_canon]
  unfold kernelRun0_C
  dsimp only
  try sl_unfold_words
  rw [View.canon_unit_zero (S := S8x1024) zero2]
  simp only [View.readAt_eq_ld, harg1.read_unread, harg2.read_unread, harg3.read_unread, harg4.read_unread, harg5.read_unread, harg8.read_unread, harg9.read_unread,
    View.ld_unit_zero (S := S512x1024) zero2, View.ld_unit_zero (S := S1x1024) zero2, View.ld_unit_zero (S := S8x1024) zero2, shapeCast_self]
  rfl

/-- … and the last hands out the sum over the eight rows. -/
theorem total_last (hc0 : ¬cond0_0 i) (hc1 : cond0_1 i) :
    out0_C_6 c i arg1 harg1 arg2 harg2 arg3 harg3 arg4 harg4 arg5 harg5 arg6 harg6 arg7 harg7 arg8 harg8 arg9 harg9 hc0 hc1 x0 x1 x2 x3 x4 acc joined = k0_pay3 (F := Ideal) (k0_pay2 (F := Ideal) (prod x0 joined) x2 (k0_pay10 (F := Ideal) x2) acc) := by
  unfold out0_C_6
  rw [View.read_writes_junk_eq_canon]
  unfold kernelRun0_C
  dsimp only
  try sl_unfold_words
  rw [View.canon_unit_zero (S := S1x1024) zero2, View.readCov_unit_zero (S := S8x1024) _ zero2]
  simp only [View.readAt_eq_ld, harg1.read_unread, harg2.read_unread, harg3.read_unread, harg4.read_unread, harg5.read_unread, harg8.read_unread, harg9.read_unread,
    View.ld_unit_zero (S := S512x1024) zero2, View.ld_unit_zero (S := S1x1024) zero2, View.ld_unit_zero (S := S8x1024) zero2, shapeCast_self]
  rfl

/-- The first also leaves the gathered weight for the later ones. -/
theorem joined_first (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x0 x1 x2 x3 x4 = join x1 := by
  unfold sout0_A_1
  rw [View.read_writes_junk_eq_canon]
  unfold kernelRun0_A
  dsimp only
  try sl_unfold_words
  simp only [View.readAt_eq_ld, harg2.read_unread]
  exact gathered x1

end Cases

variable (m : (ℓ : Loc nD τ sig) → Buf (Elt Ideal) ℓ) (ρ : Dev nD → PrngReg)

/-- The rows that were normalised, the scale, the weight, the gradient that comes back, and the gradient of the branch beside. -/
abbrev rows (c : Dev nD) : FVec Ideal S4096x1024 .f32 := m ((c.tc : Thread nD τ).loc main_arg0)
abbrev scale (c : Dev nD) : FVec Ideal S1024 .f32 := m ((c.tc : Thread nD τ).loc main_arg1)
abbrev weight (c : Dev nD) : FVec Ideal S1024x2304 .f32 := m ((c.tc : Thread nD τ).loc main_arg2)
abbrev cot (c : Dev nD) : FVec Ideal S4096x2304 .f32 := m ((c.tc : Thread nD τ).loc main_arg3)
abbrev beside (c : Dev nD) : FVec Ideal S4096x1024 .f32 := m ((c.tc : Thread nD τ).loc main_arg4)

theorem found_cot (c : Dev nD) : V m c main_v3 = cot m c := by
  unfold_abbrev_sides
  after_results
  rfl

theorem found_rows (c : Dev nD) : V m c main_arg0 = rows m c := by
  unfold_abbrev_sides
  after_results

theorem found_beside (c : Dev nD) : V m c main_arg4 = beside m c := by
  unfold_abbrev_sides
  after_results

theorem found_weight (c : Dev nD) : V m c main_v2 = (transpose S4x1024x576 [1, 0, 2] (shapeCast S1024x4x576 (weight m c : FVec Ideal S1024x2304 .bf16) shapeCasts_S1024x2304_S1024x4x576)
    transposes_S1024x4x576_S4x1024x576_1_0_2 : FVec Ideal S4x1024x576 .bf16) := by
  unfold_abbrev_sides
  after_results
  rfl

/-- The weight is handed over in four blocks of columns. -/
theorem weight_at (c : Dev nD) (q : Fin 4) (b : Fin 1024) (k : Fin 576) :
    V m c main_v2 (ix3 q b k) = weight m c (ix2 b ⟨q.val * 576 + k.val, by omega⟩) := by
  rw [found_weight]
  generalize weight m c = w
  pointwise []

theorem found_scale (c : Dev nD) (b : Fin 1024) : V m c main_v4 (ix2 0 b) = scale m c (ix1 b) := by
  unfold_abbrev_sides
  after_results
  pointwise []

/-- Point `t` finds rows `512·t …` of the gradient that comes back, … -/
theorem blk_cot (c : Dev nD) (t : Fin cfg0.N) (a : Fin 512) (k : Fin 2304) :
    iblk m c 0 t (ix2 a k) = cot m c (ix2 ⟨t.val * 512 + a.val, by have := t.isLt; have : cfg0.N = 8 := N_0; omega⟩ k) := by
  show V m c main_v3 _ = _
  rw [found_cot]
  have e : ∀ t : Fin cfg0.N, win0_0.index t (0 : Fin 2) = t.val ∧ win0_0.index t (1 : Fin 2) = 0 := (by decide +kernel : ∀ t : Fin grid0.N, _)
  obtain ⟨e0, e1⟩ := e t
  blk_ext [e0, e1]

/-- … the whole weight, … -/
theorem blk_weight (c : Dev nD) (t : Fin cfg0.N) (q : Fin 4) (b : Fin 1024) (k : Fin 576) :
    iblk m c 1 t (ix3 q b k) = weight m c (ix2 b ⟨q.val * 576 + k.val, by omega⟩) := by
  refine Eq.trans ?_ (weight_at m c q b k)
  show V m c main_v2 _ = _
  generalize V m c main_v2 = w
  have e : ∀ t : Fin cfg0.N, win0_1.index t (0 : Fin 3) = 0 ∧ win0_1.index t (1 : Fin 3) = 0 ∧ win0_1.index t (2 : Fin 3) = 0 := (by decide +kernel : ∀ t : Fin grid0.N, _)
  obtain ⟨e0, e1, e2⟩ := e t
  blk_ext [e0, e1, e2]

/-- … its rows, … -/
theorem blk_rows (c : Dev nD) (t : Fin cfg0.N) (a : Fin 512) (b : Fin 1024) :
    iblk m c 2 t (ix2 a b) = rows m c (ix2 ⟨t.val * 512 + a.val, by have := t.isLt; have : cfg0.N = 8 := N_0; omega⟩ b) := by
  show V m c main_arg0 _ = _
  rw [found_rows]
  have e : ∀ t : Fin cfg0.N, win0_2.index t (0 : Fin 2) = t.val ∧ win0_2.index t (1 : Fin 2) = 0 := (by decide +kernel : ∀ t : Fin grid0.N, _)
  obtain ⟨e0, e1⟩ := e t
  blk_ext [e0, e1]

/-- … the scale, … -/
theorem blk_scale (c : Dev nD) (t : Fin cfg0.N) (b : Fin 1024) : iblk m c 3 t (ix2 0 b) = scale m c (ix1 b) := by
  refine Eq.trans ?_ (found_scale m c b)
  show V m c main_v4 _ = _
  generalize V m c main_v4 = w
  have e : ∀ t : Fin cfg0.N, win0_3.index t (0 : Fin 2) = 0 ∧ win0_3.index t (1 : Fin 2) = 0 := (by decide +kernel : ∀ t : Fin grid0.N, _)
  obtain ⟨e0, e1⟩ := e t
  blk_ext [e0, e1]

/-- … and its rows of the gradient beside. -/
theorem blk_beside (c : Dev nD) (t : Fin cfg0.N) (a : Fin 512) (b : Fin 1024) :
    iblk m c 4 t (ix2 a b) = beside m c (ix2 ⟨t.val * 512 + a.val, by have := t.isLt; have : cfg0.N = 8 := N_0; omega⟩ b) := by
  show V m c main_arg4 _ = _
  rw [found_beside]
  have e : ∀ t : Fin cfg0.N, win0_4.index t (0 : Fin 2) = t.val ∧ win0_4.index t (1 : Fin 2) = 0 := (by decide +kernel : ∀ t : Fin grid0.N, _)
  obtain ⟨e0, e1⟩ := e t
  blk_ext [e0, e1]

/-- The product at a place. -/
theorem prod_at (y : Vec Ideal S512x2304 .bf16) (w : Vec Ideal S1024x2304 .bf16) (a : Fin 512) (b : Fin 1024) :
    prod y w (ix2 a b) = Finset.sum (M := EReal) Finset.univ fun k : Fin 2304 => (y (ix2 a k) : EReal) * (w (ix2 b k) : EReal) := by
  refine Eq.trans (pay3_at _ _ _ _ _ _ a b) (Eq.trans ?_ (Fin.sum_mul_add_fin 3 768 fun k => (y (ix2 a k) : EReal) * (w (ix2 b k) : EReal)))
  rw [Fin.sum_univ_three]
  refine congrArg₂ (fun x y : EReal => x + y) (congrArg₂ (fun x y : EReal => x + y) ?_ ?_) ?_
  · refine Fin.sum_fin_congr fun k => congrArg₂ (fun x y : EReal => x * y) (View.ld_unit_apply_of y _ _ _ _ _ ?_) (View.ld_unit_apply_of w _ _ _ _ (ix2 b ⟨0 * 768 + k.val, by omega⟩) ?_)
    · intro z; match z with | ⟨0, _⟩ => exact (Nat.zero_add _).symm | ⟨1, _⟩ => exact rfl
    · intro z; match z with | ⟨0, _⟩ => exact (Nat.zero_add _).symm | ⟨1, _⟩ => exact rfl
  · refine Fin.sum_fin_congr fun k => congrArg₂ (fun x y : EReal => x * y) (View.ld_unit_apply_of y _ _ _ _ _ ?_) (View.ld_unit_apply_of w _ _ _ _ (ix2 b ⟨1 * 768 + k.val, by omega⟩) ?_)
    · intro z; match z with | ⟨0, _⟩ => exact (Nat.zero_add _).symm | ⟨1, _⟩ => exact rfl
    · intro z; match z with | ⟨0, _⟩ => exact (Nat.zero_add _).symm | ⟨1, _⟩ => exact rfl
  · refine Fin.sum_fin_congr fun k => congrArg₂ (fun x y : EReal => x * y) (View.ld_unit_apply_of y _ _ _ _ _ ?_) (View.ld_unit_apply_of w _ _ _ _ (ix2 b ⟨2 * 768 + k.val, by omega⟩) ?_)
    · intro z; match z with | ⟨0, _⟩ => exact (Nat.zero_add _).symm | ⟨1, _⟩ => exact rfl
    · intro z; match z with | ⟨0, _⟩ => exact (Nat.zero_add _).symm | ⟨1, _⟩ => exact rfl

/-- The weight as the later points hold it. -/
def whole (c : Dev nD) : Vec Ideal S1024x2304 .bf16 := fun i => weight m c i

theorem join_whole (c : Dev nD) (t : Fin cfg0.N) : join (iblk m c 1 t) = whole m c := by
  funext i
  refine (blk_weight m c t _ _ _).trans ?_
  have h : (i 1).val < 2304 := (i 1).isLt
  refine congrArg (weight m c) (funext fun z => ?_)
  match z with
  | ⟨0, _⟩ => rfl
  | ⟨1, _⟩ => exact Fin.ext (show (i 1).val / 576 * 576 + (i 1).val % 576 = (i 1).val by omega)

/-- Every point leaves the gathered weight as it was. -/
theorem kept (c : Dev nD) : ∀ (n : ℕ) (hn : n < cfg0.N), (outsAt0 m c n hn).2.2.2 = whole m c := by
  intro n
  induction n with
  | zero =>
    intro hn
    rw [outsAt0_A m c ⟨0, hn⟩ rfl (fun e => by have e' : 0 % 8 = 7 := e; omega)]
    dsimp only
    rw [joined_first, join_whole]
  | succ n ih =>
    intro hn
    by_cases h0 : (n + 1) % 8 = 0
    · rw [outsAt0_A m c ⟨n + 1, hn⟩ h0 (fun e => by have e' : (n + 1) % 8 = 7 := e; omega)]
      dsimp only
      rw [joined_first, join_whole]
    by_cases h1 : (n + 1) % 8 = 7
    · rw [outsAt0_C m c ⟨n + 1, hn⟩ h0 h1]
      dsimp only
      unfold sout0_C_1
      exact ih _
    · rw [outsAt0_B m c ⟨n + 1, hn⟩ h0 h1]
      dsimp only
      unfold sout0_B_1
      exact ih _

/-- The arrays by their coordinates, and the gradient of the normalised rows. -/
abbrev X (c : Dev nD) : Fin 4096 → Fin 1024 → EReal := fun l b => rows m c (ix2 l b)
abbrev S (c : Dev nD) : Fin 4096 → Fin 1024 → EReal := fun l b => beside m c (ix2 l b)
abbrev Gs (c : Dev nD) : Fin 1024 → EReal := fun b => scale m c (ix1 b)
def D (c : Dev nD) (l : Fin 4096) (b : Fin 1024) : EReal := ∑ k : Fin 2304, cot m c (ix2 l k) * weight m c (ix2 b k)

/-- Row `a` of point `t`'s tile. -/
def tok (t : Fin cfg0.N) (a : Fin 512) : Fin 4096 := ⟨t.val * 512 + a.val, by have := t.isLt; have : cfg0.N = 8 := N_0; omega⟩

theorem prod_D (c : Dev nD) (t : Fin cfg0.N) (a : Fin 512) (b : Fin 1024) : prod (iblk m c 0 t) (whole m c) (ix2 a b) = D m c (tok t a) b :=
  (prod_at _ _ a b).trans
    (Finset.sum_congr rfl fun k _ => congrArg (fun x : EReal => x * _) (blk_cot m c t a k))

theorem root_at (c : Dev nD) (t : Fin cfg0.N) (a : Fin 512) : k0_pay10 (F := Ideal) (iblk m c 2 t) (ix2 a 0) = NormRow.root (X m c) (tok t a) :=
  (pay4_at _ a).trans (congrArg (fun x => Ideal.rsqrt (NormRow.under x)) (Finset.sum_congr rfl fun k _ =>
    congrArg₂ (fun x y : EReal => x * y) (blk_rows m c t a k) (blk_rows m c t a k)))

/-- A point's rows of the gradient. -/
theorem pay5_row (c : Dev nD) (t : Fin cfg0.N) (a : Fin 512) (b : Fin 1024) :
    k0_pay1 (F := Ideal) (prod (iblk m c 0 t) (whole m c)) (iblk m c 2 t) (k0_pay10 (F := Ideal) (iblk m c 2 t)) (k0_pay11 (F := Ideal) (iblk m c 3 t)) (iblk m c 4 t) (ix2 a b)
      = NormRow.callRow (X m c) (D m c) (S m c) (Gs m c) (tok t a) b := by
  rw [pay11_at]
  refine (pay5_at _ _ _ _ _ a b).trans ?_
  rw [root_at, prod_D]
  unfold NormRow.callRow
  have e : ∀ k : Fin 1024, (iblk m c 3 t (ix2 0 k) : EReal) = Gs m c k := fun k => blk_scale m c t k
  have e2 : ∀ k : Fin 1024, (iblk m c 2 t (ix2 a k) : EReal) = X m c (tok t a) k := fun k => blk_rows m c t a k
  have e4 : (iblk m c 4 t (ix2 a b) : EReal) = S m c (tok t a) b := blk_beside m c t a b
  rw [e, e2, e4]
  exact congrArg (fun z : EReal => S m c (tok t a) b + (NormRow.root (X m c) (tok t a) * (Gs m c b * D m c (tok t a) b)
    - X m c (tok t a) b * (NormRow.root (X m c) (tok t a) * NormRow.root (X m c) (tok t a) * NormRow.root (X m c) (tok t a)) * Ideal.div z NormRow.width))
    (Finset.sum_congr rfl fun k _ => congrArg₂ (fun x y : EReal => x * y) (congrArg₂ (fun x y : EReal => x * y) (e k) (prod_D m c t a k)) (e2 k))

/-- What a point adds to the running sum (past the grid: nothing). -/
def part (c : Dev nD) (n : ℕ) (j : S8x1024.Idx) : EReal :=
  if h : n < cfg0.N then ∑ k : Fin 64, D m c (tok ⟨n, h⟩ ⟨k.val * 8 + (j 0).val, by have h0 : (j 0).val < 8 := (j 0).isLt; omega⟩) (j 1)
    * X m c (tok ⟨n, h⟩ ⟨k.val * 8 + (j 0).val, by have h0 : (j 0).val < 8 := (j 0).isLt; omega⟩) (j 1)
    * NormRow.root (X m c) (tok ⟨n, h⟩ ⟨k.val * 8 + (j 0).val, by have h0 : (j 0).val < 8 := (j 0).isLt; omega⟩) else 0

theorem pay6_part (c : Dev nD) (n : ℕ) (h : n < cfg0.N) (acc : FVec Ideal S8x1024 .f32) (j : S8x1024.Idx) :
    k0_pay2 (F := Ideal) (prod (iblk m c 0 ⟨n, h⟩) (whole m c)) (iblk m c 2 ⟨n, h⟩) (k0_pay10 (F := Ideal) (iblk m c 2 ⟨n, h⟩)) acc j = acc j + part m c n j := by
  obtain ⟨a, b, rfl⟩ : ∃ (a : Fin 8) (b : Fin 1024), j = ix2 a b :=
    ⟨j 0, j 1, funext fun z => by match z with | ⟨0, _⟩ => rfl | ⟨1, _⟩ => rfl⟩
  refine (pay6_at _ _ _ acc a b).trans ?_
  rw [part, dif_pos h]
  refine congrArg (acc (ix2 a b) + ·) (Finset.sum_congr rfl fun k _ => ?_)
  exact congrArg₂ (fun x y : EReal => x * y) (congrArg₂ (fun x y : EReal => x * y) (prod_D m c ⟨n, h⟩ _ b) (blk_rows m c ⟨n, h⟩ _ b)) (root_at m c ⟨n, h⟩ _)

/-- The running sum after a point that starts, and after one that goes on. -/
def restart (c : Dev nD) (n : ℕ) (h : n < cfg0.N) : Vec Ideal S8x1024 .f32 :=
  k0_pay2 (F := Ideal) (prod (iblk m c 0 ⟨n, h⟩) (whole m c)) (iblk m c 2 ⟨n, h⟩) (k0_pay10 (F := Ideal) (iblk m c 2 ⟨n, h⟩)) (k0_pay4 (F := Ideal))
def goOn (c : Dev nD) (n : ℕ) (h : n < cfg0.N) (acc : Vec Ideal S8x1024 .f32) : Vec Ideal S8x1024 .f32 :=
  k0_pay2 (F := Ideal) (prod (iblk m c 0 ⟨n, h⟩) (whole m c)) (iblk m c 2 ⟨n, h⟩) (k0_pay10 (F := Ideal) (iblk m c 2 ⟨n, h⟩)) acc

theorem sums (c : Dev nD) (n : ℕ) (hn : n < cfg0.N) :
    (outsAt0 m c n hn).2.2.1 = Pipeline.accAt (restart m c) (goOn m c) (8 * (n / 8)) (n % 8)
      (by have h2 := Nat.div_add_mod n 8; omega) :=
  Pipeline.eq_accAt_of_mod (fun n h => (outsAt0 m c n h).2.2.1) 8 (restart m c) (goOn m c)
    (fun n h hn => by
      have h0 : n % 8 = 0 := hn
      rw [outsAt0_A m c ⟨n, h⟩ h0 (fun e => by have e' : n % 8 = 7 := e; omega)]
      dsimp only
      rw [sum_first, join_whole]
      rfl)
    (fun n h hn => by
      have h0 : ¬(n + 1) % 8 = 0 := hn
      by_cases h1 : (n + 1) % 8 = 7
      · rw [outsAt0_C m c ⟨n + 1, h⟩ h0 h1]
        dsimp only
        rw [sum_last, kept]
        rfl
      · rw [outsAt0_B m c ⟨n + 1, h⟩ h0 h1]
        dsimp only
        rw [sum_middle, kept]
        rfl)
    (by decide) n hn _

/-- Two folds of equal bounds are one. -/
theorem fold_congr (c : Dev nD) : ∀ (a a' j j' : ℕ) (h : a + j < cfg0.N) (h' : a' + j' < cfg0.N), a = a' → j = j' →
    Pipeline.accAt (restart m c) (goOn m c) a j h = Pipeline.accAt (restart m c) (goOn m c) a' j' h' := by
  intro a a' j j' h h' ea ej
  subst ea ej
  rfl

/-- Every point leaves its rows of the gradient. -/
theorem rows_out (c : Dev nD) (t : Fin cfg0.N) :
    (outsAt0 m c t.val t.isLt).1 = k0_pay1 (F := Ideal) (prod (iblk m c 0 t) (whole m c)) (iblk m c 2 t) (k0_pay10 (F := Ideal) (iblk m c 2 t)) (k0_pay11 (F := Ideal) (iblk m c 3 t)) (iblk m c 4 t) := by
  by_cases h0 : t.val % 8 = 0
  · rw [outsAt0_A m c t h0 (fun e => by omega)]
    dsimp only
    rw [rows_first, join_whole]
  by_cases h1 : t.val % 8 = 7
  · rw [outsAt0_C m c t h0 h1]
    dsimp only
    rw [rows_last, kept]
  · rw [outsAt0_B m c t h0 h1]
    dsimp only
    rw [rows_middle, kept]

/-- The array of the rows' gradient. -/
theorem dx_at (c : Dev nD) (t : Fin cfg0.N) (a : Fin 512) (b : Fin 1024) :
    Value.G5 m c (ix2 (tok t a) b) = NormRow.callRow (X m c) (D m c) (S m c) (Gs m c) (tok t a) b := by
  have hN : cfg0.N = 8 := N_0
  have ht := t.isLt
  have hp : Value.pt5Of (ix2 (tok t a) b : S4096x1024.Idx) = t.val := by
    show 1 * ((t.val * 512 + a.val) / 512 - 0) + 1 * (b.val / 1024 - 0) = t.val
    omega
  have hl : Value.loc5Of (ix2 (tok t a) b : S4096x1024.Idx) = ix2 a b := by
    funext x
    match x with
    | ⟨0, _⟩ => exact Fin.ext (show (t.val * 512 + a.val) % 512 = a.val by omega)
    | ⟨1, _⟩ => exact Fin.ext (Nat.mod_eq_of_lt b.isLt)
  unfold Value.G5
  rw [dif_pos (by rw [hp]; exact ht), hl, Value.fold0_congr m c _ _ t.val (by omega) hp, ← Value.outsAt0_sweep m c t.val ht, rows_out]
  exact pay5_row m c t a b

/-- The array of the scale's gradient. -/
theorem dg_at (c : Dev nD) (b : Fin 1024) : Value.G6 m c (ix2 0 b) = NormRow.refScale (X m c) (D m c) b := by
  have hN : cfg0.N = 8 := N_0
  rw [Value.G6_last, ← Value.outsAt0_sweep m c 7 (by rw [hN]; omega)]
  have e := outsAt0_C m c ⟨7, by rw [hN]; omega⟩ (fun e => by have e' : 7 % 8 = 0 := e; omega) (show 7 % 8 = 7 by omega)
  have e2 := sums m c 7 (by rw [hN]; omega)
  dsimp only at e
  rw [e] at e2 ⊢
  dsimp only at e2 ⊢
  rw [sum_last] at e2
  rw [total_last, e2]
  refine (pay1_at _ b).trans ?_
  rw [← NormRow.scale_eq]
  refine Finset.sum_congr rfl fun a _ => ?_
  rw [fold_congr m c _ 0 _ 7 _ (by rw [hN]; omega) rfl rfl,
    Pipeline.accAt_add_apply (restart m c) (goOn m c) (fun _ => (0 : EReal)) (part m c) _ 7
      (fun h i => by rw [restart, pay6_part, pay2_at]) (fun n h acc i _ _ => pay6_part m c n h acc i) 7 le_rfl,
    zero_add, Finset.sum_range]
  refine Fin.sum_fin_congr fun n => ?_
  rw [part, dif_pos (by rw [hN]; omega)]
  have e0 : 0 + n.val = n.val := Nat.zero_add _
  simp only [e0]
  rfl

open Cert.Reference6Ideal.Read

/-- The reference's gradient of the normalised rows. -/
theorem ref_D (w : FVec Ideal S1024x2304 .f32) (y : FVec Ideal S4096x2304 .f32) (l : Fin 4096) (b : Fin 1024) :
    val_main_v17 (F := Ideal) w y (ix2 l b) = ∑ k : Fin 2304, y (ix2 l k) * w (ix2 b k) := by
  rw [val_main_v17_apply]
  refine Finset.sum_congr rfl fun k _ => congrArg₂ (fun x y : EReal => x * y) (congrArg y (funext fun z => ?_)) (congrArg w (funext fun z => ?_))
  · match z with | ⟨0, _⟩ => rfl | ⟨1, _⟩ => rfl
  · match z with | ⟨0, _⟩ => rfl | ⟨1, _⟩ => rfl

theorem zero_word : (Ideal.ofBits .f32 0x00000000#32 : EReal) = 0 := by
  simp [Ideal.ofBits, Ideal.ieee]

theorem ref_under (x : FVec Ideal S4096x1024 .f32) (i : Cert.Reference6Ideal.S4096x1.Idx) (l : Fin 4096) (h : (i 0).val = l.val) :
    val_main_v6 (F := Ideal) x i = NormRow.under (∑ k : Fin 1024, x (ix2 l k) * x (ix2 l k)) := by
  rw [val_main_v6_apply, val_main_v4_apply, val_main_v2_apply, val_main_v1_apply, val_main_v3_apply, val_main_v5_apply]
  refine congrArg (fun z : EReal => Ideal.div z NormRow.width + NormRow.small) (Eq.trans (congrArg (fun z : EReal => z + _) zero_word) (Eq.trans (zero_add _) (Finset.sum_congr rfl fun k _ => ?_)))
  refine congrArg (fun z : EReal => z * z) (congrArg x (funext fun z => ?_))
  match z with
  | ⟨0, _⟩ => exact Fin.ext h
  | ⟨1, _⟩ => rfl

theorem ref_root (x : FVec Ideal S4096x1024 .f32) (i : Cert.Reference6Ideal.S4096x1.Idx) (l : Fin 4096) (h : (i 0).val = l.val) :
    val_main_v7 (F := Ideal) x i = NormRow.root (fun l k => x (ix2 l k)) l := by
  rw [val_main_v7_apply, ref_under x i l h]
  rfl

theorem ref_scaled (g : FVec Ideal S1024 .f32) (w : FVec Ideal S1024x2304 .f32) (y : FVec Ideal S4096x2304 .f32) (l : Fin 4096) (b : Fin 1024) :
    val_main_v22 (F := Ideal) g w y (ix2 l b) = (∑ k : Fin 2304, y (ix2 l k) * w (ix2 b k)) * g (ix1 b) := by
  rw [val_main_v22_apply, ref_D, val_main_v21_apply, val_main_v13_apply]
  refine congrArg (fun z : EReal => _ * z) (congrArg g (funext fun z => ?_))
  match z with
  | ⟨0, _⟩ => rfl

theorem ref_factor (x : FVec Ideal S4096x1024 .f32) (g : FVec Ideal S1024 .f32) (w : FVec Ideal S1024x2304 .f32) (y : FVec Ideal S4096x2304 .f32) (l : Fin 4096) (b : Fin 1024) :
    val_main_v33 (F := Ideal) x g w y (ix2 l b)
      = NormRow.factor (fun l k => x (ix2 l k)) (fun l b => ∑ k : Fin 2304, y (ix2 l k) * w (ix2 b k)) (fun b => g (ix1 b)) l := by
  rw [val_main_v33_apply, val_main_v32_apply]
  refine (congrArg (fun z : EReal => z + _) zero_word).trans ((zero_add _).trans ((Fin.sum_univ_one _).trans ?_))
  rw [val_main_v31_apply, val_main_v29_apply, val_main_v26_apply, val_main_v25_apply, val_main_v30_apply, val_main_v10_apply, val_main_v9_apply, val_main_v8_apply,
    ref_root x _ l rfl, ref_under x _ l rfl]
  refine congrArg (fun z : EReal => Ideal.div (z * (NormRow.minusHalf * Ideal.div (NormRow.root (fun l k => x (ix2 l k)) l) (NormRow.under (∑ k : Fin 1024, x (ix2 l k) * x (ix2 l k))))) NormRow.width)
    ((congrArg (fun z : EReal => z + _) zero_word).trans ((zero_add _).trans (Finset.sum_congr rfl fun k _ => ?_)))
  rw [val_main_v24_apply]
  have e : idx_main_v25 (idx_main_v26 (idx_main_v32 (idx_main_v33 (ix2 l b)) 0)) k = ix2 l k := by
    funext z
    match z with
    | ⟨0, _⟩ => exact Fin.ext (show l.val * 1 + 0 = l.val by omega)
    | ⟨1, _⟩ => rfl
  rw [e, ref_scaled]
  rfl

/-- The reference's gradient of the rows. -/
theorem ref_dx (x : FVec Ideal S4096x1024 .f32) (g : FVec Ideal S1024 .f32) (w : FVec Ideal S1024x2304 .f32) (y : FVec Ideal S4096x2304 .f32) (s : FVec Ideal S4096x1024 .f32)
    (l : Fin 4096) (b : Fin 1024) :
    val_main_v38 (F := Ideal) x g w y s (ix2 l b) = NormRow.refRow (fun l k => x (ix2 l k)) (fun l b => ∑ k : Fin 2304, y (ix2 l k) * w (ix2 b k)) (fun l b => s (ix2 l b)) (fun b => g (ix1 b)) l b := by
  rw [val_main_v38_apply, val_main_v37_apply, val_main_v35_apply, val_main_v36_apply, val_main_v34_apply, val_main_v28_apply, val_main_v27_apply, ref_factor, ref_scaled, ref_root x _ l rfl]
  rfl

/-- The reference's gradient of the scale. -/
theorem ref_dg (x : FVec Ideal S4096x1024 .f32) (w : FVec Ideal S1024x2304 .f32) (y : FVec Ideal S4096x2304 .f32) (b : Fin 1024) :
    val_main_v39 (F := Ideal) x w y (ix2 0 b) = NormRow.refScale (fun l k => x (ix2 l k)) (fun l b => ∑ k : Fin 2304, y (ix2 l k) * w (ix2 b k)) b := by
  rw [val_main_v39_apply, val_main_v23_apply]
  refine (congrArg (fun z : EReal => z + _) zero_word).trans ((zero_add _).trans ((Fin.sum_univ_one _).trans ?_))
  rw [val_main_v20_apply, val_main_v19_apply]
  refine (congrArg (fun z : EReal => z + _) zero_word).trans ((zero_add _).trans (Finset.sum_congr rfl fun l _ => ?_))
  have e : idx_main_v19 (idx_main_v20 (idx_main_v23 (idx_main_v39 (ix2 0 b)) 0)) l = ix2 l b := by
    funext z
    match z with
    | ⟨0, _⟩ => rfl
    | ⟨1, _⟩ => exact Fin.ext (show 0 * 1024 + b.val = b.val by omega)
  rw [e, val_main_v18_apply, val_main_v12_apply, val_main_v11_apply, ref_D, ref_root x _ l rfl]
  rfl

theorem split (i : S4096x1024.Idx) : ∃ (t : Fin cfg0.N) (a : Fin 512) (b : Fin 1024), i = ix2 (tok t a) b := by
  have hN : cfg0.N = 8 := N_0
  have h0 : (i 0).val < 4096 := (i 0).isLt
  refine ⟨⟨(i 0).val / 512, by rw [hN]; omega⟩, ⟨(i 0).val % 512, by omega⟩, i 1, ?_⟩
  funext z
  match z with
  | ⟨0, _⟩ => exact Fin.ext (show (i 0).val = (i 0).val / 512 * 512 + (i 0).val % 512 by omega)
  | ⟨1, _⟩ => rfl

/-- The two arrays that the call leaves are the reference's. -/
theorem same_dx (c : Dev nD) : Value.G5 m c = val_main_v38 (F := Ideal) (rows m c) (scale m c) (weight m c) (cot m c) (beside m c) := by
  funext i
  obtain ⟨t, a, b, rfl⟩ := split i
  exact (dx_at m c t a b).trans ((NormRow.row_eq _ _ _ _ _ _).trans (ref_dx (rows m c) (scale m c) (weight m c) (cot m c) (beside m c) (tok t a) b).symm)

theorem same_dg (c : Dev nD) : Value.G6 m c = val_main_v39 (F := Ideal) (rows m c) (weight m c) (cot m c) := by
  funext i
  obtain ⟨b, rfl⟩ : ∃ b : Fin 1024, i = ix2 0 b :=
    ⟨i 1, funext fun z => by match z with | ⟨0, _⟩ => exact Subsingleton.elim (α := Fin 1) _ _ | ⟨1, _⟩ => rfl⟩
  exact (dg_at m c b).trans (ref_dg (rows m c) (weight m c) (cot m c) b).symm

/-- The two body tables are equal: label by label, the same function. -/
theorem bodies_eq : Cert.Kernel6.defs₀ (F := Bits) = Cert.Kernel6Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel6.defs (F := Bits) = Cert.Kernel6Ideal.defs (F := Bits) :=
  congrArg (Pipeline.defs (pcfgs (F := Bits))) bodies_eq

/-- The call over words keeps its arguments and ends with its counters at zero. -/
theorem frame_words : Cert.quiescent_Kernel6 (hKernel6 := Cert.Kernel6.Gen.facts) := fun m ρ _ => by
  rw [defs_eq]
  exact Cert.Kernel6Ideal.Gen.frame (F := Bits) m ρ

/-- So does the call over the extended reals. -/
theorem frame_ideal : Cert.quiescent_Kernel6Ideal (hKernel6Ideal := Cert.Kernel6Ideal.Gen.facts) := fun m ρ _ =>
  Cert.Kernel6Ideal.Gen.frame m ρ

/-- The reference keeps its arguments, and it has no counter. -/
theorem frame_reference : Cert.quiescent_Reference6Ideal (hReference6Ideal := Cert.Reference6Ideal.Gen.facts) := fun m ρ _ =>
  (θ_run Cert.Reference6Ideal.defs _ _).mono (fun r h => ⟨fun c => (h c).2.2,
    sem_eq_zero_of_no_sems (by decide) r.2⟩) (Cert.Reference6Ideal.Value.run m ρ)

/-- From equal arguments the call and the reference leave the same two arrays. -/
theorem value : Cert.algebraic_Kernel6Ideal_Reference6Ideal (hKernel6Ideal := Cert.Kernel6Ideal.Gen.facts)
    (hReference6Ideal := Cert.Reference6Ideal.Gen.facts) := fun m g m' g' _ hargs => by
  refine ⟨fun c => Value.G5 m c, fun c => Value.G6 m c, Value.run m g, ?_⟩
  refine (θ_run Cert.Reference6Ideal.defs _ _).mono (fun r h c => ⟨?_, ?_, (h c).2.2⟩) (Cert.Reference6Ideal.Value.run m' g')
  · rw [(h c).1, val_main_v38_eq]
    obtain ⟨h0, h1, h2, h3, h4⟩ := hargs c
    rw [h0, h1, h2, h3, h4]
    exact (same_dx m c).symm
  · rw [(h c).2.1, val_main_v39_eq]
    obtain ⟨h0, h1, h2, h3, h4⟩ := hargs c
    rw [h0, h2, h3]
    exact (same_dg m c).symm

end Cert.NormIn

end

end
-- ==== Proof.AdamStep.lean ====
/- One entry of the optimiser's update: the new first moment, the new second moment, and the step. -/
module

public import Idealize.ShloMosaic.Lib.Pointwise
public import Idealize.ShloMosaic.Lib.Pipeline.Value

@[expose] public section

noncomputable section

namespace Cert.AdamStep

open Idealize.ShloMosaic

/-- The new first moment, of the gradient and the old moment. -/
abbrev first (g p : Ideal .f32) : Ideal .f32 :=
  FloatOps.addf (FloatOps.mulf (FloatOps.ofBits .f32 0x3F666666#32) p) (FloatOps.mulf (FloatOps.ofBits .f32 0x3DCCCCCD#32) g)

/-- The new second moment, of the gradient and the old moment. -/
abbrev second (g q : Ideal .f32) : Ideal .f32 :=
  FloatOps.addf (FloatOps.mulf (FloatOps.ofBits .f32 0x3F7FBE77#32) q)
    (FloatOps.mulf (FloatOps.ofBits .f32 0x3A83126F#32) (FloatOps.mulf g g))

/-- The step of the weight. -/
abbrev step (w g p q : Ideal .f32) : Ideal .f32 :=
  FloatOps.mulf (FloatOps.ofBits .f32 0xBA83126F#32)
    (FloatOps.addf
      (FloatOps.divf (FloatOps.divf (first g p) (FloatOps.ofBits .f32 0x3F26BD02#32))
        (FloatOps.addf (FloatOps.sqrt (FloatOps.divf (second g q) (FloatOps.ofBits .f32 0x3C231ACC#32)))
          (FloatOps.ofBits .f32 0x322BCC77#32)))
      (FloatOps.mulf (FloatOps.ofBits .f32 0x3C23D70A#32) w))

theorem zero2 : (![0, 0] : Fin 2 → Nat) = fun _ => 0 :=
  funext fun a => by match a with | ⟨0, _⟩ => rfl | ⟨1, _⟩ => rfl

end Cert.AdamStep

end

end
-- ==== Proof.AdamIn.lean ====
/- The optimiser's update of the input projection: the three arrays that the call leaves are the reference's, entry by entry. -/
module

public import proofs.«01_k».proof.Defs
public import proofs.«01_k».proof.Proof.AdamStep
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamIn

open Idealize.ShloMosaic Idealize.ShloMosaic.TcCoe Idealize.SL.Sem
open Cert.Kernel7Ideal Cert.Kernel7Ideal.Gen Cert.AdamStep

variable (m : (ℓ : Loc nD τ sig) → Buf (Elt Ideal) ℓ)

/-- The weight, as given. -/
abbrev arg0 (c : Dev nD) : FVec Ideal S4x1024x576 .f32 := m ((c.tc : Thread nD τ).loc main_arg0)
/-- The summed gradient, as given. -/
abbrev arg1 (c : Dev nD) : FVec Ideal S4x1024x576 .f32 := m ((c.tc : Thread nD τ).loc main_arg1)
/-- The first moment, as given. -/
abbrev arg2 (c : Dev nD) : FVec Ideal S4x1024x576 .f32 := m ((c.tc : Thread nD τ).loc main_arg2)
/-- The second moment, as given. -/
abbrev arg3 (c : Dev nD) : FVec Ideal S4x1024x576 .f32 := m ((c.tc : Thread nD τ).loc main_arg3)

theorem found0 (c : Dev nD) : V m c main_v0 = Cert.Reference7Ideal.Read.val_main_v0 (F := Ideal) (arg0 m c) := by
  unfold_abbrev_sides
  after_results
  rfl

theorem found1 (c : Dev nD) : V m c main_v1 = Cert.Reference7Ideal.Read.val_main_v1 (F := Ideal) (arg1 m c) := by
  unfold_abbrev_sides
  after_results
  rfl

theorem found2 (c : Dev nD) : V m c main_v2 = Cert.Reference7Ideal.Read.val_main_v2 (F := Ideal) (arg2 m c) := by
  unfold_abbrev_sides
  after_results
  rfl

theorem found3 (c : Dev nD) : V m c main_v3 = Cert.Reference7Ideal.Read.val_main_v3 (F := Ideal) (arg3 m c) := by
  unfold_abbrev_sides
  after_results
  rfl

/-- What a grid point leaves in a block of the first moment … -/
theorem first_block (x0 x1 x2 x3 : FVec Ideal S512x576 .f32) (y : S512x576.Idx) : out0_5 (F := Ideal) x0 x1 x2 x3 y = first (x1 y) (x2 y) := by
  unfold out0_5
  rw [View.canon_unit_zero (S := S512x576) zero2, View.ld_unit_zero (S := S512x576) zero2, View.ld_unit_zero (S := S512x576) zero2]
  simp only [k0_pay1, k0_pay2, k0_pay3, k0_pay4, shapeCast_self]
  rfl

/-- … of the second moment … -/
theorem second_block (x0 x1 x2 x3 : FVec Ideal S512x576 .f32) (y : S512x576.Idx) : out0_6 (F := Ideal) x0 x1 x2 x3 y = second (x1 y) (x3 y) := by
  unfold out0_6
  rw [View.canon_unit_zero (S := S512x576) zero2, View.ld_unit_zero (S := S512x576) zero2, View.ld_unit_zero (S := S512x576) zero2]
  simp only [k0_pay1, k0_pay2, k0_pay3, k0_pay4, shapeCast_self]
  rfl

/-- … and of the step: the update of the entry. -/
theorem step_block (x0 x1 x2 x3 : FVec Ideal S512x576 .f32) (y : S512x576.Idx) : out0_4 (F := Ideal) x0 x1 x2 x3 y = step (x0 y) (x1 y) (x2 y) (x3 y) := by
  unfold out0_4
  rw [View.canon_unit_zero (S := S512x576) zero2]
  simp only [View.ld_unit_zero (S := S512x576) zero2]
  simp only [k0_pay1, k0_pay2, k0_pay3, k0_pay4, shapeCast_self]
  rfl

/-- The reference's entries are the same updates. -/
theorem first_ref (c : Dev nD) (i : S4096x576.Idx) : Cert.Reference7Ideal.Read.val_main_v8 (F := Ideal) (arg1 m c) (arg2 m c) i
    = first ((Cert.Reference7Ideal.Read.val_main_v1 (F := Ideal) (arg1 m c)) i) ((Cert.Reference7Ideal.Read.val_main_v2 (F := Ideal) (arg2 m c)) i) := rfl

theorem second_ref (c : Dev nD) (i : S4096x576.Idx) : Cert.Reference7Ideal.Read.val_main_v14 (F := Ideal) (arg1 m c) (arg3 m c) i
    = second ((Cert.Reference7Ideal.Read.val_main_v1 (F := Ideal) (arg1 m c)) i) ((Cert.Reference7Ideal.Read.val_main_v3 (F := Ideal) (arg3 m c)) i) := rfl

theorem step_ref (c : Dev nD) (i : S4096x576.Idx) : Cert.Reference7Ideal.Read.val_main_v27 (F := Ideal) (arg0 m c) (arg1 m c) (arg2 m c) (arg3 m c) i
    = step ((Cert.Reference7Ideal.Read.val_main_v0 (F := Ideal) (arg0 m c)) i) ((Cert.Reference7Ideal.Read.val_main_v1 (F := Ideal) (arg1 m c)) i) ((Cert.Reference7Ideal.Read.val_main_v2 (F := Ideal) (arg2 m c)) i) ((Cert.Reference7Ideal.Read.val_main_v3 (F := Ideal) (arg3 m c)) i) := rfl

/-- The block of array 0 at a grid point lies where the block of the results lies. -/
theorem block0 (c : Dev nD) (t : Fin cfg0.N) (y : S512x576.Idx) :
    iblk m c 0 t y = (Cert.Reference7Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S512x576.Idx) :
    iblk m c 1 t y = (Cert.Reference7Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S512x576.Idx) :
    iblk m c 2 t y = (Cert.Reference7Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S512x576.Idx) :
    iblk m c 3 t y = (Cert.Reference7Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference7Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference7Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference7Ideal.Read.val_main_v8 (F := Ideal) (arg1 m c) (arg2 m c) := by
  refine (dats m 0 c).arrAt_eq_of_covers 5 _ (by decide +kernel) fun t hf y => ?_
  show (dats m 0 c).after 5 t y = Cert.Reference7Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference7Ideal.Read.val_main_v14 (F := Ideal) (arg1 m c) (arg3 m c) := by
  refine (dats m 0 c).arrAt_eq_of_covers 6 _ (by decide +kernel) fun t hf y => ?_
  show (dats m 0 c).after 6 t y = Cert.Reference7Ideal.Read.val_main_v14 (F := Ideal) (arg1 m c) (arg3 m c) ((win0_4.blk t).view.emb y)
  rw [after0_6, second_block, block1, block3, second_ref]

/-- The two body tables are equal: label by label, the same function. -/
theorem bodies_eq : Cert.Kernel7.defs₀ (F := Bits) = Cert.Kernel7Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel7.defs (F := Bits) = Cert.Kernel7Ideal.defs (F := Bits) :=
  congrArg (Pipeline.defs (pcfgs (F := Bits))) bodies_eq

/-- The call over words keeps its arguments and ends with its counters at zero. -/
theorem frame_words : Cert.quiescent_Kernel7 (hKernel7 := Cert.Kernel7.Gen.facts) := fun m ρ _ => by
  rw [defs_eq]
  exact Cert.Kernel7Ideal.Gen.frame (F := Bits) m ρ

/-- So does the call over the extended reals. -/
theorem frame_ideal : Cert.quiescent_Kernel7Ideal (hKernel7Ideal := Cert.Kernel7Ideal.Gen.facts) := fun m ρ _ =>
  Cert.Kernel7Ideal.Gen.frame m ρ

/-- The reference keeps its arguments, and it has no counter. -/
theorem frame_reference : Cert.quiescent_Reference7Ideal (hReference7Ideal := Cert.Reference7Ideal.Gen.facts) := fun m ρ _ =>
  (θ_run Cert.Reference7Ideal.defs _ _).mono (fun r h => ⟨fun c => (h c).2.2.2,
    sem_eq_zero_of_no_sems (by decide) r.2⟩) (Cert.Reference7Ideal.Value.run m ρ)

/-- From equal arguments the call and the reference leave the same three arrays. -/
theorem value : Cert.algebraic_Kernel7Ideal_Reference7Ideal (hKernel7Ideal := Cert.Kernel7Ideal.Gen.facts)
    (hReference7Ideal := Cert.Reference7Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference7Ideal.defs _ _).mono (fun r h c => ⟨?_, ?_, ?_, (h c).2.2.2⟩) (Cert.Reference7Ideal.Value.run m' g')
  · rw [(h c).1, Cert.Reference7Ideal.Read.val_main_v27_eq]
    obtain ⟨h0, h1, h2, h3⟩ := hargs c
    rw [h0, h1, h2, h3]
    exact (step_array m c).symm
  · rw [(h c).2.1, Cert.Reference7Ideal.Read.val_main_v8_eq]
    obtain ⟨h0, h1, h2, h3⟩ := hargs c
    rw [h1, h2]
    exact (first_array m c).symm
  · rw [(h c).2.2.1, Cert.Reference7Ideal.Read.val_main_v14_eq]
    obtain ⟨h0, h1, h2, h3⟩ := hargs c
    rw [h1, h3]
    exact (second_array m c).symm

end Cert.AdamIn

end

end
-- ==== Proof.AdamOut.lean ====
/- The optimiser's update of the output projection: the three arrays that the call leaves are the reference's, entry by entry. -/
module

public import proofs.«01_k».proof.Defs
public import proofs.«01_k».proof.Proof.AdamStep
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamOut

open Idealize.ShloMosaic Idealize.ShloMosaic.TcCoe Idealize.SL.Sem
open Cert.Kernel8Ideal Cert.Kernel8Ideal.Gen Cert.AdamStep

variable (m : (ℓ : Loc nD τ sig) → Buf (Elt Ideal) ℓ)

/-- The weight, as given. -/
abbrev arg0 (c : Dev nD) : FVec Ideal S4x256x1024 .f32 := m ((c.tc : Thread nD τ).loc main_arg0)
/-- The summed gradient, as given. -/
abbrev arg1 (c : Dev nD) : FVec Ideal S4x256x1024 .f32 := m ((c.tc : Thread nD τ).loc main_arg1)
/-- The first moment, as given. -/
abbrev arg2 (c : Dev nD) : FVec Ideal S4x256x1024 .f32 := m ((c.tc : Thread nD τ).loc main_arg2)
/-- The second moment, as given. -/
abbrev arg3 (c : Dev nD) : FVec Ideal S4x256x1024 .f32 := m ((c.tc : Thread nD τ).loc main_arg3)

theorem found0 (c : Dev nD) : V m c main_v0 = Cert.Reference8Ideal.Read.val_main_v0 (F := Ideal) (arg0 m c) := by
  unfold_abbrev_sides
  after_results
  rfl

theorem found1 (c : Dev nD) : V m c main_v1 = Cert.Reference8Ideal.Read.val_main_v1 (F := Ideal) (arg1 m c) := by
  unfold_abbrev_sides
  after_results
  rfl

theorem found2 (c : Dev nD) : V m c main_v2 = Cert.Reference8Ideal.Read.val_main_v2 (F := Ideal) (arg2 m c) := by
  unfold_abbrev_sides
  after_results
  rfl

theorem found3 (c : Dev nD) : V m c main_v3 = Cert.Reference8Ideal.Read.val_main_v3 (F := Ideal) (arg3 m c) := by
  unfold_abbrev_sides
  after_results
  rfl

/-- What a grid point leaves in a block of the first moment … -/
theorem first_block (x0 x1 x2 x3 : FVec Ideal S512x1024 .f32) (y : S512x1024.Idx) : out0_5 (F := Ideal) x0 x1 x2 x3 y = first (x1 y) (x2 y) := by
  unfold out0_5
  rw [View.canon_unit_zero (S := S512x1024) zero2, View.ld_unit_zero (S := S512x1024) zero2, View.ld_unit_zero (S := S512x1024) zero2]
  simp only [k0_pay1, k0_pay2, k0_pay3, k0_pay4, shapeCast_self]
  rfl

/-- … of the second moment … -/
theorem second_block (x0 x1 x2 x3 : FVec Ideal S512x1024 .f32) (y : S512x1024.Idx) : out0_6 (F := Ideal) x0 x1 x2 x3 y = second (x1 y) (x3 y) := by
  unfold out0_6
  rw [View.canon_unit_zero (S := S512x1024) zero2, View.ld_unit_zero (S := S512x1024) zero2, View.ld_unit_zero (S := S512x1024) zero2]
  simp only [k0_pay1, k0_pay2, k0_pay3, k0_pay4, shapeCast_self]
  rfl

/-- … and of the step: the update of the entry. -/
theorem step_block (x0 x1 x2 x3 : FVec Ideal S512x1024 .f32) (y : S512x1024.Idx) : out0_4 (F := Ideal) x0 x1 x2 x3 y = step (x0 y) (x1 y) (x2 y) (x3 y) := by
  unfold out0_4
  rw [View.canon_unit_zero (S := S512x1024) zero2]
  simp only [View.ld_unit_zero (S := S512x1024) zero2]
  simp only [k0_pay1, k0_pay2, k0_pay3, k0_pay4, shapeCast_self]
  rfl

/-- The reference's entries are the same updates. -/
theorem first_ref (c : Dev nD) (i : S1024x1024.Idx) : Cert.Reference8Ideal.Read.val_main_v8 (F := Ideal) (arg1 m c) (arg2 m c) i
    = first ((Cert.Reference8Ideal.Read.val_main_v1 (F := Ideal) (arg1 m c)) i) ((Cert.Reference8Ideal.Read.val_main_v2 (F := Ideal) (arg2 m c)) i) := rfl

theorem second_ref (c : Dev nD) (i : S1024x1024.Idx) : Cert.Reference8Ideal.Read.val_main_v14 (F := Ideal) (arg1 m c) (arg3 m c) i
    = second ((Cert.Reference8Ideal.Read.val_main_v1 (F := Ideal) (arg1 m c)) i) ((Cert.Reference8Ideal.Read.val_main_v3 (F := Ideal) (arg3 m c)) i) := rfl

theorem step_ref (c : Dev nD) (i : S1024x1024.Idx) : Cert.Reference8Ideal.Read.val_main_v27 (F := Ideal) (arg0 m c) (arg1 m c) (arg2 m c) (arg3 m c) i
    = step ((Cert.Reference8Ideal.Read.val_main_v0 (F := Ideal) (arg0 m c)) i) ((Cert.Reference8Ideal.Read.val_main_v1 (F := Ideal) (arg1 m c)) i) ((Cert.Reference8Ideal.Read.val_main_v2 (F := Ideal) (arg2 m c)) i) ((Cert.Reference8Ideal.Read.val_main_v3 (F := Ideal) (arg3 m c)) i) := rfl

/-- The block of array 0 at a grid point lies where the block of the results lies. -/
theorem block0 (c : Dev nD) (t : Fin cfg0.N) (y : S512x1024.Idx) :
    iblk m c 0 t y = (Cert.Reference8Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S512x1024.Idx) :
    iblk m c 1 t y = (Cert.Reference8Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S512x1024.Idx) :
    iblk m c 2 t y = (Cert.Reference8Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S512x1024.Idx) :
    iblk m c 3 t y = (Cert.Reference8Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference8Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference8Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference8Ideal.Read.val_main_v8 (F := Ideal) (arg1 m c) (arg2 m c) := by
  refine (dats m 0 c).arrAt_eq_of_covers 5 _ (by decide +kernel) fun t hf y => ?_
  show (dats m 0 c).after 5 t y = Cert.Reference8Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference8Ideal.Read.val_main_v14 (F := Ideal) (arg1 m c) (arg3 m c) := by
  refine (dats m 0 c).arrAt_eq_of_covers 6 _ (by decide +kernel) fun t hf y => ?_
  show (dats m 0 c).after 6 t y = Cert.Reference8Ideal.Read.val_main_v14 (F := Ideal) (arg1 m c) (arg3 m c) ((win0_4.blk t).view.emb y)
  rw [after0_6, second_block, block1, block3, second_ref]

/-- The two body tables are equal: label by label, the same function. -/
theorem bodies_eq : Cert.Kernel8.defs₀ (F := Bits) = Cert.Kernel8Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel8.defs (F := Bits) = Cert.Kernel8Ideal.defs (F := Bits) :=
  congrArg (Pipeline.defs (pcfgs (F := Bits))) bodies_eq

/-- The call over words keeps its arguments and ends with its counters at zero. -/
theorem frame_words : Cert.quiescent_Kernel8 (hKernel8 := Cert.Kernel8.Gen.facts) := fun m ρ _ => by
  rw [defs_eq]
  exact Cert.Kernel8Ideal.Gen.frame (F := Bits) m ρ

/-- So does the call over the extended reals. -/
theorem frame_ideal : Cert.quiescent_Kernel8Ideal (hKernel8Ideal := Cert.Kernel8Ideal.Gen.facts) := fun m ρ _ =>
  Cert.Kernel8Ideal.Gen.frame m ρ

/-- The reference keeps its arguments, and it has no counter. -/
theorem frame_reference : Cert.quiescent_Reference8Ideal (hReference8Ideal := Cert.Reference8Ideal.Gen.facts) := fun m ρ _ =>
  (θ_run Cert.Reference8Ideal.defs _ _).mono (fun r h => ⟨fun c => (h c).2.2.2,
    sem_eq_zero_of_no_sems (by decide) r.2⟩) (Cert.Reference8Ideal.Value.run m ρ)

/-- From equal arguments the call and the reference leave the same three arrays. -/
theorem value : Cert.algebraic_Kernel8Ideal_Reference8Ideal (hKernel8Ideal := Cert.Kernel8Ideal.Gen.facts)
    (hReference8Ideal := Cert.Reference8Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference8Ideal.defs _ _).mono (fun r h c => ⟨?_, ?_, ?_, (h c).2.2.2⟩) (Cert.Reference8Ideal.Value.run m' g')
  · rw [(h c).1, Cert.Reference8Ideal.Read.val_main_v27_eq]
    obtain ⟨h0, h1, h2, h3⟩ := hargs c
    rw [h0, h1, h2, h3]
    exact (step_array m c).symm
  · rw [(h c).2.1, Cert.Reference8Ideal.Read.val_main_v8_eq]
    obtain ⟨h0, h1, h2, h3⟩ := hargs c
    rw [h1, h2]
    exact (first_array m c).symm
  · rw [(h c).2.2.1, Cert.Reference8Ideal.Read.val_main_v14_eq]
    obtain ⟨h0, h1, h2, h3⟩ := hargs c
    rw [h1, h3]
    exact (second_array m c).symm

end Cert.AdamOut

end

end
-- ==== Proof.AdamUp.lean ====
/- The optimiser's update of the up projection: the three arrays that the call leaves are the reference's, entry by entry. -/
module

public import proofs.«01_k».proof.Defs
public import proofs.«01_k».proof.Proof.AdamStep
public import proofs.«01_k».proof.Proof.Gen.Kernel9
public import proofs.«01_k».proof.Proof.Gen.Kernel9Ideal
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamUp

open Idealize.ShloMosaic Idealize.ShloMosaic.TcCoe Idealize.SL.Sem
open Cert.Kernel9Ideal Cert.Kernel9Ideal.Gen Cert.AdamStep

variable (m : (ℓ : Loc nD τ sig) → Buf (Elt Ideal) ℓ)

/-- The weight, as given. -/
abbrev arg0 (c : Dev nD) : FVec Ideal S4x1024x1408 .f32 := m ((c.tc : Thread nD τ).loc main_arg0)
/-- The summed gradient, as given. -/
abbrev arg1 (c : Dev nD) : FVec Ideal S4x1024x1408 .f32 := m ((c.tc : Thread nD τ).loc main_arg1)
/-- The first moment, as given. -/
abbrev arg2 (c : Dev nD) : FVec Ideal S4x1024x1408 .f32 := m ((c.tc : Thread nD τ).loc main_arg2)
/-- The second moment, as given. -/
abbrev arg3 (c : Dev nD) : FVec Ideal S4x1024x1408 .f32 := m ((c.tc : Thread nD τ).loc main_arg3)

theorem found0 (c : Dev nD) : V m c main_v0 = Cert.Reference9Ideal.Read.val_main_v0 (F := Ideal) (arg0 m c) := by
  unfold_abbrev_sides
  after_results
  rfl

theorem found1 (c : Dev nD) : V m c main_v1 = Cert.Reference9Ideal.Read.val_main_v1 (F := Ideal) (arg1 m c) := by
  unfold_abbrev_sides
  after_results
  rfl

theorem found2 (c : Dev nD) : V m c main_v2 = Cert.Reference9Ideal.Read.val_main_v2 (F := Ideal) (arg2 m c) := by
  unfold_abbrev_sides
  after_results
  rfl

theorem found3 (c : Dev nD) : V m c main_v3 = Cert.Reference9Ideal.Read.val_main_v3 (F := Ideal) (arg3 m c) := by
  unfold_abbrev_sides
  after_results
  rfl

/-- What a grid point leaves in a block of the first moment … -/
theorem first_block (x0 x1 x2 x3 : FVec Ideal S512x1408 .f32) (y : S512x1408.Idx) : out0_5 (F := Ideal) x0 x1 x2 x3 y = first (x1 y) (x2 y) := by
  unfold out0_5
  rw [View.canon_unit_zero (S := S512x1408) zero2, View.ld_unit_zero (S := S512x1408) zero2, View.ld_unit_zero (S := S512x1408) zero2]
  simp only [k0_pay1, k0_pay2, k0_pay3, k0_pay4, shapeCast_self]
  rfl

/-- … of the second moment … -/
theorem second_block (x0 x1 x2 x3 : FVec Ideal S512x1408 .f32) (y : S512x1408.Idx) : out0_6 (F := Ideal) x0 x1 x2 x3 y = second (x1 y) (x3 y) := by
  unfold out0_6
  rw [View.canon_unit_zero (S := S512x1408) zero2, View.ld_unit_zero (S := S512x1408) zero2, View.ld_unit_zero (S := S512x1408) zero2]
  simp only [k0_pay1, k0_pay2, k0_pay3, k0_pay4, shapeCast_self]
  rfl

/-- … and of the step: the update of the entry. -/
theorem step_block (x0 x1 x2 x3 : FVec Ideal S512x1408 .f32) (y : S512x1408.Idx) : out0_4 (F := Ideal) x0 x1 x2 x3 y = step (x0 y) (x1 y) (x2 y) (x3 y) := by
  unfold out0_4
  rw [View.canon_unit_zero (S := S512x1408) zero2]
  simp only [View.ld_unit_zero (S := S512x1408) zero2]
  simp only [k0_pay1, k0_pay2, k0_pay3, k0_pay4, shapeCast_self]
  rfl

/-- The reference's entries are the same updates. -/
theorem first_ref (c : Dev nD) (i : S4096x1408.Idx) : Cert.Reference9Ideal.Read.val_main_v8 (F := Ideal) (arg1 m c) (arg2 m c) i
    = first ((Cert.Reference9Ideal.Read.val_main_v1 (F := Ideal) (arg1 m c)) i) ((Cert.Reference9Ideal.Read.val_main_v2 (F := Ideal) (arg2 m c)) i) := rfl

theorem second_ref (c : Dev nD) (i : S4096x1408.Idx) : Cert.Reference9Ideal.Read.val_main_v14 (F := Ideal) (arg1 m c) (arg3 m c) i
    = second ((Cert.Reference9Ideal.Read.val_main_v1 (F := Ideal) (arg1 m c)) i) ((Cert.Reference9Ideal.Read.val_main_v3 (F := Ideal) (arg3 m c)) i) := rfl

theorem step_ref (c : Dev nD) (i : S4096x1408.Idx) : Cert.Reference9Ideal.Read.val_main_v27 (F := Ideal) (arg0 m c) (arg1 m c) (arg2 m c) (arg3 m c) i
    = step ((Cert.Reference9Ideal.Read.val_main_v0 (F := Ideal) (arg0 m c)) i) ((Cert.Reference9Ideal.Read.val_main_v1 (F := Ideal) (arg1 m c)) i) ((Cert.Reference9Ideal.Read.val_main_v2 (F := Ideal) (arg2 m c)) i) ((Cert.Reference9Ideal.Read.val_main_v3 (F := Ideal) (arg3 m c)) i) := rfl

/-- The block of array 0 at a grid point lies where the block of the results lies. -/
theorem block0 (c : Dev nD) (t : Fin cfg0.N) (y : S512x1408.Idx) :
    iblk m c 0 t y = (Cert.Reference9Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S512x1408.Idx) :
    iblk m c 1 t y = (Cert.Reference9Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S512x1408.Idx) :
    iblk m c 2 t y = (Cert.Reference9Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S512x1408.Idx) :
    iblk m c 3 t y = (Cert.Reference9Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference9Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference9Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference9Ideal.Read.val_main_v8 (F := Ideal) (arg1 m c) (arg2 m c) := by
  refine (dats m 0 c).arrAt_eq_of_covers 5 _ (by decide +kernel) fun t hf y => ?_
  show (dats m 0 c).after 5 t y = Cert.Reference9Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference9Ideal.Read.val_main_v14 (F := Ideal) (arg1 m c) (arg3 m c) := by
  refine (dats m 0 c).arrAt_eq_of_covers 6 _ (by decide +kernel) fun t hf y => ?_
  show (dats m 0 c).after 6 t y = Cert.Reference9Ideal.Read.val_main_v14 (F := Ideal) (arg1 m c) (arg3 m c) ((win0_4.blk t).view.emb y)
  rw [after0_6, second_block, block1, block3, second_ref]

/-- The two body tables are equal: label by label, the same function. -/
theorem bodies_eq : Cert.Kernel9.defs₀ (F := Bits) = Cert.Kernel9Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel9.defs (F := Bits) = Cert.Kernel9Ideal.defs (F := Bits) :=
  congrArg (Pipeline.defs (pcfgs (F := Bits))) bodies_eq

/-- The call over words keeps its arguments and ends with its counters at zero. -/
theorem frame_words : Cert.quiescent_Kernel9 (hKernel9 := Cert.Kernel9.Gen.facts) := fun m ρ _ => by
  rw [defs_eq]
  exact Cert.Kernel9Ideal.Gen.frame (F := Bits) m ρ

/-- So does the call over the extended reals. -/
theorem frame_ideal : Cert.quiescent_Kernel9Ideal (hKernel9Ideal := Cert.Kernel9Ideal.Gen.facts) := fun m ρ _ =>
  Cert.Kernel9Ideal.Gen.frame m ρ

/-- The reference keeps its arguments, and it has no counter. -/
theorem frame_reference : Cert.quiescent_Reference9Ideal (hReference9Ideal := Cert.Reference9Ideal.Gen.facts) := fun m ρ _ =>
  (θ_run Cert.Reference9Ideal.defs _ _).mono (fun r h => ⟨fun c => (h c).2.2.2,
    sem_eq_zero_of_no_sems (by decide) r.2⟩) (Cert.Reference9Ideal.Value.run m ρ)

/-- From equal arguments the call and the reference leave the same three arrays. -/
theorem value : Cert.algebraic_Kernel9Ideal_Reference9Ideal (hKernel9Ideal := Cert.Kernel9Ideal.Gen.facts)
    (hReference9Ideal := Cert.Reference9Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference9Ideal.defs _ _).mono (fun r h c => ⟨?_, ?_, ?_, (h c).2.2.2⟩) (Cert.Reference9Ideal.Value.run m' g')
  · rw [(h c).1, Cert.Reference9Ideal.Read.val_main_v27_eq]
    obtain ⟨h0, h1, h2, h3⟩ := hargs c
    rw [h0, h1, h2, h3]
    exact (step_array m c).symm
  · rw [(h c).2.1, Cert.Reference9Ideal.Read.val_main_v8_eq]
    obtain ⟨h0, h1, h2, h3⟩ := hargs c
    rw [h1, h2]
    exact (first_array m c).symm
  · rw [(h c).2.2.1, Cert.Reference9Ideal.Read.val_main_v14_eq]
    obtain ⟨h0, h1, h2, h3⟩ := hargs c
    rw [h1, h3]
    exact (second_array m c).symm

end Cert.AdamUp

end

end
-- ==== Proof.AdamDown.lean ====
/- The optimiser's update of the down projection: the three arrays that the call leaves are the reference's, entry by entry. -/
module

public import proofs.«01_k».proof.Defs
public import proofs.«01_k».proof.Proof.AdamStep
public import proofs.«01_k».proof.Proof.Gen.Kernel10
public import proofs.«01_k».proof.Proof.Gen.Kernel10Ideal
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamDown

open Idealize.ShloMosaic Idealize.ShloMosaic.TcCoe Idealize.SL.Sem
open Cert.Kernel10Ideal Cert.Kernel10Ideal.Gen Cert.AdamStep

variable (m : (ℓ : Loc nD τ sig) → Buf (Elt Ideal) ℓ)

/-- The weight, as given. -/
abbrev arg0 (c : Dev nD) : FVec Ideal S4x704x1024 .f32 := m ((c.tc : Thread nD τ).loc main_arg0)
/-- The summed gradient, as given. -/
abbrev arg1 (c : Dev nD) : FVec Ideal S4x704x1024 .f32 := m ((c.tc : Thread nD τ).loc main_arg1)
/-- The first moment, as given. -/
abbrev arg2 (c : Dev nD) : FVec Ideal S4x704x1024 .f32 := m ((c.tc : Thread nD τ).loc main_arg2)
/-- The second moment, as given. -/
abbrev arg3 (c : Dev nD) : FVec Ideal S4x704x1024 .f32 := m ((c.tc : Thread nD τ).loc main_arg3)

theorem found0 (c : Dev nD) : V m c main_v0 = Cert.Reference10Ideal.Read.val_main_v0 (F := Ideal) (arg0 m c) := by
  unfold_abbrev_sides
  after_results
  rfl

theorem found1 (c : Dev nD) : V m c main_v1 = Cert.Reference10Ideal.Read.val_main_v1 (F := Ideal) (arg1 m c) := by
  unfold_abbrev_sides
  after_results
  rfl

theorem found2 (c : Dev nD) : V m c main_v2 = Cert.Reference10Ideal.Read.val_main_v2 (F := Ideal) (arg2 m c) := by
  unfold_abbrev_sides
  after_results
  rfl

theorem found3 (c : Dev nD) : V m c main_v3 = Cert.Reference10Ideal.Read.val_main_v3 (F := Ideal) (arg3 m c) := by
  unfold_abbrev_sides
  after_results
  rfl

/-- What a grid point leaves in a block of the first moment … -/
theorem first_block (x0 x1 x2 x3 : FVec Ideal S256x1024 .f32) (y : S256x1024.Idx) : out0_5 (F := Ideal) x0 x1 x2 x3 y = first (x1 y) (x2 y) := by
  unfold out0_5
  rw [View.canon_unit_zero (S := S256x1024) zero2, View.ld_unit_zero (S := S256x1024) zero2, View.ld_unit_zero (S := S256x1024) zero2]
  simp only [k0_pay1, k0_pay2, k0_pay3, k0_pay4, shapeCast_self]
  rfl

/-- … of the second moment … -/
theorem second_block (x0 x1 x2 x3 : FVec Ideal S256x1024 .f32) (y : S256x1024.Idx) : out0_6 (F := Ideal) x0 x1 x2 x3 y = second (x1 y) (x3 y) := by
  unfold out0_6
  rw [View.canon_unit_zero (S := S256x1024) zero2, View.ld_unit_zero (S := S256x1024) zero2, View.ld_unit_zero (S := S256x1024) zero2]
  simp only [k0_pay1, k0_pay2, k0_pay3, k0_pay4, shapeCast_self]
  rfl

/-- … and of the step: the update of the entry. -/
theorem step_block (x0 x1 x2 x3 : FVec Ideal S256x1024 .f32) (y : S256x1024.Idx) : out0_4 (F := Ideal) x0 x1 x2 x3 y = step (x0 y) (x1 y) (x2 y) (x3 y) := by
  unfold out0_4
  rw [View.canon_unit_zero (S := S256x1024) zero2]
  simp only [View.ld_unit_zero (S := S256x1024) zero2]
  simp only [k0_pay1, k0_pay2, k0_pay3, k0_pay4, shapeCast_self]
  rfl

/-- The reference's entries are the same updates. -/
theorem first_ref (c : Dev nD) (i : S2816x1024.Idx) : Cert.Reference10Ideal.Read.val_main_v8 (F := Ideal) (arg1 m c) (arg2 m c) i
    = first ((Cert.Reference10Ideal.Read.val_main_v1 (F := Ideal) (arg1 m c)) i) ((Cert.Reference10Ideal.Read.val_main_v2 (F := Ideal) (arg2 m c)) i) := rfl

theorem second_ref (c : Dev nD) (i : S2816x1024.Idx) : Cert.Reference10Ideal.Read.val_main_v14 (F := Ideal) (arg1 m c) (arg3 m c) i
    = second ((Cert.Reference10Ideal.Read.val_main_v1 (F := Ideal) (arg1 m c)) i) ((Cert.Reference10Ideal.Read.val_main_v3 (F := Ideal) (arg3 m c)) i) := rfl

theorem step_ref (c : Dev nD) (i : S2816x1024.Idx) : Cert.Reference10Ideal.Read.val_main_v27 (F := Ideal) (arg0 m c) (arg1 m c) (arg2 m c) (arg3 m c) i
    = step ((Cert.Reference10Ideal.Read.val_main_v0 (F := Ideal) (arg0 m c)) i) ((Cert.Reference10Ideal.Read.val_main_v1 (F := Ideal) (arg1 m c)) i) ((Cert.Reference10Ideal.Read.val_main_v2 (F := Ideal) (arg2 m c)) i) ((Cert.Reference10Ideal.Read.val_main_v3 (F := Ideal) (arg3 m c)) i) := rfl

/-- The block of array 0 at a grid point lies where the block of the results lies. -/
theorem block0 (c : Dev nD) (t : Fin cfg0.N) (y : S256x1024.Idx) :
    iblk m c 0 t y = (Cert.Reference10Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S256x1024.Idx) :
    iblk m c 1 t y = (Cert.Reference10Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S256x1024.Idx) :
    iblk m c 2 t y = (Cert.Reference10Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S256x1024.Idx) :
    iblk m c 3 t y = (Cert.Reference10Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference10Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference10Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference10Ideal.Read.val_main_v8 (F := Ideal) (arg1 m c) (arg2 m c) := by
  refine (dats m 0 c).arrAt_eq_of_covers 5 _ (by decide +kernel) fun t hf y => ?_
  show (dats m 0 c).after 5 t y = Cert.Reference10Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference10Ideal.Read.val_main_v14 (F := Ideal) (arg1 m c) (arg3 m c) := by
  refine (dats m 0 c).arrAt_eq_of_covers 6 _ (by decide +kernel) fun t hf y => ?_
  show (dats m 0 c).after 6 t y = Cert.Reference10Ideal.Read.val_main_v14 (F := Ideal) (arg1 m c) (arg3 m c) ((win0_4.blk t).view.emb y)
  rw [after0_6, second_block, block1, block3, second_ref]

/-- The two body tables are equal: label by label, the same function. -/
theorem bodies_eq : Cert.Kernel10.defs₀ (F := Bits) = Cert.Kernel10Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel10.defs (F := Bits) = Cert.Kernel10Ideal.defs (F := Bits) :=
  congrArg (Pipeline.defs (pcfgs (F := Bits))) bodies_eq

/-- The call over words keeps its arguments and ends with its counters at zero. -/
theorem frame_words : Cert.quiescent_Kernel10 (hKernel10 := Cert.Kernel10.Gen.facts) := fun m ρ _ => by
  rw [defs_eq]
  exact Cert.Kernel10Ideal.Gen.frame (F := Bits) m ρ

/-- So does the call over the extended reals. -/
theorem frame_ideal : Cert.quiescent_Kernel10Ideal (hKernel10Ideal := Cert.Kernel10Ideal.Gen.facts) := fun m ρ _ =>
  Cert.Kernel10Ideal.Gen.frame m ρ

/-- The reference keeps its arguments, and it has no counter. -/
theorem frame_reference : Cert.quiescent_Reference10Ideal (hReference10Ideal := Cert.Reference10Ideal.Gen.facts) := fun m ρ _ =>
  (θ_run Cert.Reference10Ideal.defs _ _).mono (fun r h => ⟨fun c => (h c).2.2.2,
    sem_eq_zero_of_no_sems (by decide) r.2⟩) (Cert.Reference10Ideal.Value.run m ρ)

/-- From equal arguments the call and the reference leave the same three arrays. -/
theorem value : Cert.algebraic_Kernel10Ideal_Reference10Ideal (hKernel10Ideal := Cert.Kernel10Ideal.Gen.facts)
    (hReference10Ideal := Cert.Reference10Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference10Ideal.defs _ _).mono (fun r h c => ⟨?_, ?_, ?_, (h c).2.2.2⟩) (Cert.Reference10Ideal.Value.run m' g')
  · rw [(h c).1, Cert.Reference10Ideal.Read.val_main_v27_eq]
    obtain ⟨h0, h1, h2, h3⟩ := hargs c
    rw [h0, h1, h2, h3]
    exact (step_array m c).symm
  · rw [(h c).2.1, Cert.Reference10Ideal.Read.val_main_v8_eq]
    obtain ⟨h0, h1, h2, h3⟩ := hargs c
    rw [h1, h2]
    exact (first_array m c).symm
  · rw [(h c).2.2.1, Cert.Reference10Ideal.Read.val_main_v14_eq]
    obtain ⟨h0, h1, h2, h3⟩ := hargs c
    rw [h1, h3]
    exact (second_array m c).symm

end Cert.AdamDown

end

end
-- ==== Proof.AdamGain.lean ====
/- The optimiser's update of a scale of the width of the model: the three arrays that the call leaves are the reference's, entry by entry. -/
module

public import proofs.«01_k».proof.Defs
public import proofs.«01_k».proof.Proof.AdamStep
public import proofs.«01_k».proof.Proof.Gen.Kernel11
public import proofs.«01_k».proof.Proof.Gen.Kernel11Ideal
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamGain

open Idealize.ShloMosaic Idealize.ShloMosaic.TcCoe Idealize.SL.Sem
open Cert.Kernel11Ideal Cert.Kernel11Ideal.Gen Cert.AdamStep

variable (m : (ℓ : Loc nD τ sig) → Buf (Elt Ideal) ℓ)

/-- The weight, as given. -/
abbrev arg0 (c : Dev nD) : FVec Ideal S4x1024 .f32 := m ((c.tc : Thread nD τ).loc main_arg0)
/-- The summed gradient, as given. -/
abbrev arg1 (c : Dev nD) : FVec Ideal S4x1024 .f32 := m ((c.tc : Thread nD τ).loc main_arg1)
/-- The first moment, as given. -/
abbrev arg2 (c : Dev nD) : FVec Ideal S4x1024 .f32 := m ((c.tc : Thread nD τ).loc main_arg2)
/-- The second moment, as given. -/
abbrev arg3 (c : Dev nD) : FVec Ideal S4x1024 .f32 := m ((c.tc : Thread nD τ).loc main_arg3)

theorem found0 (c : Dev nD) : V m c main_arg0 = arg0 m c := by
  exact V_main_arg0 m c

theorem found1 (c : Dev nD) : V m c main_arg1 = arg1 m c := by
  exact V_main_arg1 m c

theorem found2 (c : Dev nD) : V m c main_arg2 = arg2 m c := by
  exact V_main_arg2 m c

theorem found3 (c : Dev nD) : V m c main_arg3 = arg3 m c := by
  exact V_main_arg3 m c

/-- What a grid point leaves in a block of the first moment … -/
theorem first_block (x0 x1 x2 x3 : FVec Ideal S4x1024 .f32) (y : S4x1024.Idx) : out0_5 (F := Ideal) x0 x1 x2 x3 y = first (x1 y) (x2 y) := by
  unfold out0_5
  rw [View.canon_unit_zero (S := S4x1024) zero2, View.ld_unit_zero (S := S4x1024) zero2, View.ld_unit_zero (S := S4x1024) zero2]
  simp only [k0_pay1, k0_pay2, k0_pay3, shapeCast_self]
  rfl

/-- … of the second moment … -/
theorem second_block (x0 x1 x2 x3 : FVec Ideal S4x1024 .f32) (y : S4x1024.Idx) : out0_6 (F := Ideal) x0 x1 x2 x3 y = second (x1 y) (x3 y) := by
  unfold out0_6
  rw [View.canon_unit_zero (S := S4x1024) zero2, View.ld_unit_zero (S := S4x1024) zero2, View.ld_unit_zero (S := S4x1024) zero2]
  simp only [k0_pay1, k0_pay2, k0_pay3, shapeCast_self]
  rfl

/-- … and of the step: the update of the entry. -/
theorem step_block (x0 x1 x2 x3 : FVec Ideal S4x1024 .f32) (y : S4x1024.Idx) : out0_4 (F := Ideal) x0 x1 x2 x3 y = step (x0 y) (x1 y) (x2 y) (x3 y) := by
  unfold out0_4
  rw [View.canon_unit_zero (S := S4x1024) zero2]
  simp only [View.ld_unit_zero (S := S4x1024) zero2]
  simp only [k0_pay1, k0_pay2, k0_pay3, shapeCast_self]
  rfl

/-- The reference's entries are the same updates. -/
theorem first_ref (c : Dev nD) (i : S4x1024.Idx) : Cert.Reference11Ideal.Read.val_main_v4 (F := Ideal) (arg1 m c) (arg2 m c) i
    = first ((arg1 m c) i) ((arg2 m c) i) := rfl

theorem second_ref (c : Dev nD) (i : S4x1024.Idx) : Cert.Reference11Ideal.Read.val_main_v10 (F := Ideal) (arg1 m c) (arg3 m c) i
    = second ((arg1 m c) i) ((arg3 m c) i) := rfl

theorem step_ref (c : Dev nD) (i : S4x1024.Idx) : Cert.Reference11Ideal.Read.val_main_v23 (F := Ideal) (arg0 m c) (arg1 m c) (arg2 m c) (arg3 m c) i
    = step ((arg0 m c) i) ((arg1 m c) i) ((arg2 m c) i) ((arg3 m c) i) := rfl

/-- The block of array 0 at a grid point lies where the block of the results lies. -/
theorem block0 (c : Dev nD) (t : Fin cfg0.N) (y : S4x1024.Idx) :
    iblk m c 0 t y = (arg0 m c) ((win0_4.blk t).view.emb y) := by
  show V m c main_arg0 _ = _
  rw [found0]
  rfl

/-- The block of array 1 at a grid point lies where the block of the results lies. -/
theorem block1 (c : Dev nD) (t : Fin cfg0.N) (y : S4x1024.Idx) :
    iblk m c 1 t y = (arg1 m c) ((win0_4.blk t).view.emb y) := by
  show V m c main_arg1 _ = _
  rw [found1]
  rfl

/-- The block of array 2 at a grid point lies where the block of the results lies. -/
theorem block2 (c : Dev nD) (t : Fin cfg0.N) (y : S4x1024.Idx) :
    iblk m c 2 t y = (arg2 m c) ((win0_4.blk t).view.emb y) := by
  show V m c main_arg2 _ = _
  rw [found2]
  rfl

/-- The block of array 3 at a grid point lies where the block of the results lies. -/
theorem block3 (c : Dev nD) (t : Fin cfg0.N) (y : S4x1024.Idx) :
    iblk m c 3 t y = (arg3 m c) ((win0_4.blk t).view.emb y) := by
  show V m c main_arg3 _ = _
  rw [found3]
  rfl

theorem step_array (c : Dev nD) : (dats m 0 c).arrAt 4 cfg0.N = Cert.Reference11Ideal.Read.val_main_v23 (F := Ideal) (arg0 m c) (arg1 m c) (arg2 m c) (arg3 m c) := by
  refine (dats m 0 c).arrAt_eq_of_covers 4 _ (by decide +kernel) fun t hf y => ?_
  show (dats m 0 c).after 4 t y = Cert.Reference11Ideal.Read.val_main_v23 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference11Ideal.Read.val_main_v4 (F := Ideal) (arg1 m c) (arg2 m c) := by
  refine (dats m 0 c).arrAt_eq_of_covers 5 _ (by decide +kernel) fun t hf y => ?_
  show (dats m 0 c).after 5 t y = Cert.Reference11Ideal.Read.val_main_v4 (F := Ideal) (arg1 m c) (arg2 m c) ((win0_4.blk t).view.emb y)
  rw [after0_5, first_block, block1, block2, first_ref]

theorem second_array (c : Dev nD) : (dats m 0 c).arrAt 6 cfg0.N = Cert.Reference11Ideal.Read.val_main_v10 (F := Ideal) (arg1 m c) (arg3 m c) := by
  refine (dats m 0 c).arrAt_eq_of_covers 6 _ (by decide +kernel) fun t hf y => ?_
  show (dats m 0 c).after 6 t y = Cert.Reference11Ideal.Read.val_main_v10 (F := Ideal) (arg1 m c) (arg3 m c) ((win0_4.blk t).view.emb y)
  rw [after0_6, second_block, block1, block3, second_ref]

/-- The two body tables are equal: label by label, the same function. -/
theorem bodies_eq : Cert.Kernel11.defs₀ (F := Bits) = Cert.Kernel11Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel11.defs (F := Bits) = Cert.Kernel11Ideal.defs (F := Bits) :=
  congrArg (Pipeline.defs (pcfgs (F := Bits))) bodies_eq

/-- The call over words keeps its arguments and ends with its counters at zero. -/
theorem frame_words : Cert.quiescent_Kernel11 (hKernel11 := Cert.Kernel11.Gen.facts) := fun m ρ _ => by
  rw [defs_eq]
  exact Cert.Kernel11Ideal.Gen.frame (F := Bits) m ρ

/-- So does the call over the extended reals. -/
theorem frame_ideal : Cert.quiescent_Kernel11Ideal (hKernel11Ideal := Cert.Kernel11Ideal.Gen.facts) := fun m ρ _ =>
  Cert.Kernel11Ideal.Gen.frame m ρ

/-- The reference keeps its arguments, and it has no counter. -/
theorem frame_reference : Cert.quiescent_Reference11Ideal (hReference11Ideal := Cert.Reference11Ideal.Gen.facts) := fun m ρ _ =>
  (θ_run Cert.Reference11Ideal.defs _ _).mono (fun r h => ⟨fun c => (h c).2.2.2,
    sem_eq_zero_of_no_sems (by decide) r.2⟩) (Cert.Reference11Ideal.Value.run m ρ)

/-- From equal arguments the call and the reference leave the same three arrays. -/
theorem value : Cert.algebraic_Kernel11Ideal_Reference11Ideal (hKernel11Ideal := Cert.Kernel11Ideal.Gen.facts)
    (hReference11Ideal := Cert.Reference11Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference11Ideal.defs _ _).mono (fun r h c => ⟨?_, ?_, ?_, (h c).2.2.2⟩) (Cert.Reference11Ideal.Value.run m' g')
  · rw [(h c).1, Cert.Reference11Ideal.Read.val_main_v23_eq]
    obtain ⟨h0, h1, h2, h3⟩ := hargs c
    rw [h0, h1, h2, h3]
    exact (step_array m c).symm
  · rw [(h c).2.1, Cert.Reference11Ideal.Read.val_main_v4_eq]
    obtain ⟨h0, h1, h2, h3⟩ := hargs c
    rw [h1, h2]
    exact (first_array m c).symm
  · rw [(h c).2.2.1, Cert.Reference11Ideal.Read.val_main_v10_eq]
    obtain ⟨h0, h1, h2, h3⟩ := hargs c
    rw [h1, h3]
    exact (second_array m c).symm

end Cert.AdamGain

end

end
-- ==== Proof.AdamGroup.lean ====
/- The optimiser's update of a vector of the width of a group of the mixer: the three arrays that the call leaves are the reference's, entry by entry. -/
module

public import proofs.«01_k».proof.Defs
public import proofs.«01_k».proof.Proof.AdamStep
public import proofs.«01_k».proof.Proof.Gen.Kernel12
public import proofs.«01_k».proof.Proof.Gen.Kernel12Ideal
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamGroup

open Idealize.ShloMosaic Idealize.ShloMosaic.TcCoe Idealize.SL.Sem
open Cert.Kernel12Ideal Cert.Kernel12Ideal.Gen Cert.AdamStep

variable (m : (ℓ : Loc nD τ sig) → Buf (Elt Ideal) ℓ)

/-- The weight, as given. -/
abbrev arg0 (c : Dev nD) : FVec Ideal S4x384 .f32 := m ((c.tc : Thread nD τ).loc main_arg0)
/-- The summed gradient, as given. -/
abbrev arg1 (c : Dev nD) : FVec Ideal S4x384 .f32 := m ((c.tc : Thread nD τ).loc main_arg1)
/-- The first moment, as given. -/
abbrev arg2 (c : Dev nD) : FVec Ideal S4x384 .f32 := m ((c.tc : Thread nD τ).loc main_arg2)
/-- The second moment, as given. -/
abbrev arg3 (c : Dev nD) : FVec Ideal S4x384 .f32 := m ((c.tc : Thread nD τ).loc main_arg3)

theorem found0 (c : Dev nD) : V m c main_arg0 = arg0 m c := by
  exact V_main_arg0 m c

theorem found1 (c : Dev nD) : V m c main_arg1 = arg1 m c := by
  exact V_main_arg1 m c

theorem found2 (c : Dev nD) : V m c main_arg2 = arg2 m c := by
  exact V_main_arg2 m c

theorem found3 (c : Dev nD) : V m c main_arg3 = arg3 m c := by
  exact V_main_arg3 m c

/-- What a grid point leaves in a block of the first moment … -/
theorem first_block (x0 x1 x2 x3 : FVec Ideal S4x384 .f32) (y : S4x384.Idx) : out0_5 (F := Ideal) x0 x1 x2 x3 y = first (x1 y) (x2 y) := by
  unfold out0_5
  rw [View.canon_unit_zero (S := S4x384) zero2, View.ld_unit_zero (S := S4x384) zero2, View.ld_unit_zero (S := S4x384) zero2]
  simp only [k0_pay1, k0_pay2, k0_pay3, shapeCast_self]
  rfl

/-- … of the second moment … -/
theorem second_block (x0 x1 x2 x3 : FVec Ideal S4x384 .f32) (y : S4x384.Idx) : out0_6 (F := Ideal) x0 x1 x2 x3 y = second (x1 y) (x3 y) := by
  unfold out0_6
  rw [View.canon_unit_zero (S := S4x384) zero2, View.ld_unit_zero (S := S4x384) zero2, View.ld_unit_zero (S := S4x384) zero2]
  simp only [k0_pay1, k0_pay2, k0_pay3, shapeCast_self]
  rfl

/-- … and of the step: the update of the entry. -/
theorem step_block (x0 x1 x2 x3 : FVec Ideal S4x384 .f32) (y : S4x384.Idx) : out0_4 (F := Ideal) x0 x1 x2 x3 y = step (x0 y) (x1 y) (x2 y) (x3 y) := by
  unfold out0_4
  rw [View.canon_unit_zero (S := S4x384) zero2]
  simp only [View.ld_unit_zero (S := S4x384) zero2]
  simp only [k0_pay1, k0_pay2, k0_pay3, shapeCast_self]
  rfl

/-- The reference's entries are the same updates. -/
theorem first_ref (c : Dev nD) (i : S4x384.Idx) : Cert.Reference12Ideal.Read.val_main_v4 (F := Ideal) (arg1 m c) (arg2 m c) i
    = first ((arg1 m c) i) ((arg2 m c) i) := rfl

theorem second_ref (c : Dev nD) (i : S4x384.Idx) : Cert.Reference12Ideal.Read.val_main_v10 (F := Ideal) (arg1 m c) (arg3 m c) i
    = second ((arg1 m c) i) ((arg3 m c) i) := rfl

theorem step_ref (c : Dev nD) (i : S4x384.Idx) : Cert.Reference12Ideal.Read.val_main_v23 (F := Ideal) (arg0 m c) (arg1 m c) (arg2 m c) (arg3 m c) i
    = step ((arg0 m c) i) ((arg1 m c) i) ((arg2 m c) i) ((arg3 m c) i) := rfl

/-- The block of array 0 at a grid point lies where the block of the results lies. -/
theorem block0 (c : Dev nD) (t : Fin cfg0.N) (y : S4x384.Idx) :
    iblk m c 0 t y = (arg0 m c) ((win0_4.blk t).view.emb y) := by
  show V m c main_arg0 _ = _
  rw [found0]
  rfl

/-- The block of array 1 at a grid point lies where the block of the results lies. -/
theorem block1 (c : Dev nD) (t : Fin cfg0.N) (y : S4x384.Idx) :
    iblk m c 1 t y = (arg1 m c) ((win0_4.blk t).view.emb y) := by
  show V m c main_arg1 _ = _
  rw [found1]
  rfl

/-- The block of array 2 at a grid point lies where the block of the results lies. -/
theorem block2 (c : Dev nD) (t : Fin cfg0.N) (y : S4x384.Idx) :
    iblk m c 2 t y = (arg2 m c) ((win0_4.blk t).view.emb y) := by
  show V m c main_arg2 _ = _
  rw [found2]
  rfl

/-- The block of array 3 at a grid point lies where the block of the results lies. -/
theorem block3 (c : Dev nD) (t : Fin cfg0.N) (y : S4x384.Idx) :
    iblk m c 3 t y = (arg3 m c) ((win0_4.blk t).view.emb y) := by
  show V m c main_arg3 _ = _
  rw [found3]
  rfl

theorem step_array (c : Dev nD) : (dats m 0 c).arrAt 4 cfg0.N = Cert.Reference12Ideal.Read.val_main_v23 (F := Ideal) (arg0 m c) (arg1 m c) (arg2 m c) (arg3 m c) := by
  refine (dats m 0 c).arrAt_eq_of_covers 4 _ (by decide +kernel) fun t hf y => ?_
  show (dats m 0 c).after 4 t y = Cert.Reference12Ideal.Read.val_main_v23 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference12Ideal.Read.val_main_v4 (F := Ideal) (arg1 m c) (arg2 m c) := by
  refine (dats m 0 c).arrAt_eq_of_covers 5 _ (by decide +kernel) fun t hf y => ?_
  show (dats m 0 c).after 5 t y = Cert.Reference12Ideal.Read.val_main_v4 (F := Ideal) (arg1 m c) (arg2 m c) ((win0_4.blk t).view.emb y)
  rw [after0_5, first_block, block1, block2, first_ref]

theorem second_array (c : Dev nD) : (dats m 0 c).arrAt 6 cfg0.N = Cert.Reference12Ideal.Read.val_main_v10 (F := Ideal) (arg1 m c) (arg3 m c) := by
  refine (dats m 0 c).arrAt_eq_of_covers 6 _ (by decide +kernel) fun t hf y => ?_
  show (dats m 0 c).after 6 t y = Cert.Reference12Ideal.Read.val_main_v10 (F := Ideal) (arg1 m c) (arg3 m c) ((win0_4.blk t).view.emb y)
  rw [after0_6, second_block, block1, block3, second_ref]

/-- The two body tables are equal: label by label, the same function. -/
theorem bodies_eq : Cert.Kernel12.defs₀ (F := Bits) = Cert.Kernel12Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel12.defs (F := Bits) = Cert.Kernel12Ideal.defs (F := Bits) :=
  congrArg (Pipeline.defs (pcfgs (F := Bits))) bodies_eq

/-- The call over words keeps its arguments and ends with its counters at zero. -/
theorem frame_words : Cert.quiescent_Kernel12 (hKernel12 := Cert.Kernel12.Gen.facts) := fun m ρ _ => by
  rw [defs_eq]
  exact Cert.Kernel12Ideal.Gen.frame (F := Bits) m ρ

/-- So does the call over the extended reals. -/
theorem frame_ideal : Cert.quiescent_Kernel12Ideal (hKernel12Ideal := Cert.Kernel12Ideal.Gen.facts) := fun m ρ _ =>
  Cert.Kernel12Ideal.Gen.frame m ρ

/-- The reference keeps its arguments, and it has no counter. -/
theorem frame_reference : Cert.quiescent_Reference12Ideal (hReference12Ideal := Cert.Reference12Ideal.Gen.facts) := fun m ρ _ =>
  (θ_run Cert.Reference12Ideal.defs _ _).mono (fun r h => ⟨fun c => (h c).2.2.2,
    sem_eq_zero_of_no_sems (by decide) r.2⟩) (Cert.Reference12Ideal.Value.run m ρ)

/-- From equal arguments the call and the reference leave the same three arrays. -/
theorem value : Cert.algebraic_Kernel12Ideal_Reference12Ideal (hKernel12Ideal := Cert.Kernel12Ideal.Gen.facts)
    (hReference12Ideal := Cert.Reference12Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference12Ideal.defs _ _).mono (fun r h c => ⟨?_, ?_, ?_, (h c).2.2.2⟩) (Cert.Reference12Ideal.Value.run m' g')
  · rw [(h c).1, Cert.Reference12Ideal.Read.val_main_v23_eq]
    obtain ⟨h0, h1, h2, h3⟩ := hargs c
    rw [h0, h1, h2, h3]
    exact (step_array m c).symm
  · rw [(h c).2.1, Cert.Reference12Ideal.Read.val_main_v4_eq]
    obtain ⟨h0, h1, h2, h3⟩ := hargs c
    rw [h1, h2]
    exact (first_array m c).symm
  · rw [(h c).2.2.1, Cert.Reference12Ideal.Read.val_main_v10_eq]
    obtain ⟨h0, h1, h2, h3⟩ := hargs c
    rw [h1, h3]
    exact (second_array m c).symm

end Cert.AdamGroup

end

end
-- ==== Proof.AdamConvA.lean ====
/- The optimiser's update of the short convolution: the three arrays that the call leaves are the reference's, entry by entry. -/
module

public import proofs.«01_k».proof.Defs
public import proofs.«01_k».proof.Proof.AdamStep
public import proofs.«01_k».proof.Proof.Gen.Kernel13
public import proofs.«01_k».proof.Proof.Gen.Kernel13Ideal
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamConvA

open Idealize.ShloMosaic Idealize.ShloMosaic.TcCoe Idealize.SL.Sem
open Cert.Kernel13Ideal Cert.Kernel13Ideal.Gen Cert.AdamStep

variable (m : (ℓ : Loc nD τ sig) → Buf (Elt Ideal) ℓ)

/-- The weight, as given. -/
abbrev arg0 (c : Dev nD) : FVec Ideal S4x3x64 .f32 := m ((c.tc : Thread nD τ).loc main_arg0)
/-- The summed gradient, as given. -/
abbrev arg1 (c : Dev nD) : FVec Ideal S4x3x64 .f32 := m ((c.tc : Thread nD τ).loc main_arg1)
/-- The first moment, as given. -/
abbrev arg2 (c : Dev nD) : FVec Ideal S4x3x64 .f32 := m ((c.tc : Thread nD τ).loc main_arg2)
/-- The second moment, as given. -/
abbrev arg3 (c : Dev nD) : FVec Ideal S4x3x64 .f32 := m ((c.tc : Thread nD τ).loc main_arg3)

theorem found0 (c : Dev nD) : V m c main_v0 = Cert.Reference13Ideal.Read.val_main_v0 (F := Ideal) (arg0 m c) := by
  unfold_abbrev_sides
  after_results
  rfl

theorem found1 (c : Dev nD) : V m c main_v1 = Cert.Reference13Ideal.Read.val_main_v1 (F := Ideal) (arg1 m c) := by
  unfold_abbrev_sides
  after_results
  rfl

theorem found2 (c : Dev nD) : V m c main_v2 = Cert.Reference13Ideal.Read.val_main_v2 (F := Ideal) (arg2 m c) := by
  unfold_abbrev_sides
  after_results
  rfl

theorem found3 (c : Dev nD) : V m c main_v3 = Cert.Reference13Ideal.Read.val_main_v3 (F := Ideal) (arg3 m c) := by
  unfold_abbrev_sides
  after_results
  rfl

/-- What a grid point leaves in a block of the first moment … -/
theorem first_block (x0 x1 x2 x3 : FVec Ideal S12x64 .f32) (y : S12x64.Idx) : out0_5 (F := Ideal) x0 x1 x2 x3 y = first (x1 y) (x2 y) := by
  unfold out0_5
  rw [View.canon_unit_zero (S := S12x64) zero2, View.ld_unit_zero (S := S12x64) zero2, View.ld_unit_zero (S := S12x64) zero2]
  simp only [k0_pay1, k0_pay2, k0_pay3, k0_pay4, shapeCast_self]
  rfl

/-- … of the second moment … -/
theorem second_block (x0 x1 x2 x3 : FVec Ideal S12x64 .f32) (y : S12x64.Idx) : out0_6 (F := Ideal) x0 x1 x2 x3 y = second (x1 y) (x3 y) := by
  unfold out0_6
  rw [View.canon_unit_zero (S := S12x64) zero2, View.ld_unit_zero (S := S12x64) zero2, View.ld_unit_zero (S := S12x64) zero2]
  simp only [k0_pay1, k0_pay2, k0_pay3, k0_pay4, shapeCast_self]
  rfl

/-- … and of the step: the update of the entry. -/
theorem step_block (x0 x1 x2 x3 : FVec Ideal S12x64 .f32) (y : S12x64.Idx) : out0_4 (F := Ideal) x0 x1 x2 x3 y = step (x0 y) (x1 y) (x2 y) (x3 y) := by
  unfold out0_4
  rw [View.canon_unit_zero (S := S12x64) zero2]
  simp only [View.ld_unit_zero (S := S12x64) zero2]
  simp only [k0_pay1, k0_pay2, k0_pay3, k0_pay4, shapeCast_self]
  rfl

/-- The reference's entries are the same updates. -/
theorem first_ref (c : Dev nD) (i : S12x64.Idx) : Cert.Reference13Ideal.Read.val_main_v8 (F := Ideal) (arg1 m c) (arg2 m c) i
    = first ((Cert.Reference13Ideal.Read.val_main_v1 (F := Ideal) (arg1 m c)) i) ((Cert.Reference13Ideal.Read.val_main_v2 (F := Ideal) (arg2 m c)) i) := rfl

theorem second_ref (c : Dev nD) (i : S12x64.Idx) : Cert.Reference13Ideal.Read.val_main_v14 (F := Ideal) (arg1 m c) (arg3 m c) i
    = second ((Cert.Reference13Ideal.Read.val_main_v1 (F := Ideal) (arg1 m c)) i) ((Cert.Reference13Ideal.Read.val_main_v3 (F := Ideal) (arg3 m c)) i) := rfl

theorem step_ref (c : Dev nD) (i : S12x64.Idx) : Cert.Reference13Ideal.Read.val_main_v27 (F := Ideal) (arg0 m c) (arg1 m c) (arg2 m c) (arg3 m c) i
    = step ((Cert.Reference13Ideal.Read.val_main_v0 (F := Ideal) (arg0 m c)) i) ((Cert.Reference13Ideal.Read.val_main_v1 (F := Ideal) (arg1 m c)) i) ((Cert.Reference13Ideal.Read.val_main_v2 (F := Ideal) (arg2 m c)) i) ((Cert.Reference13Ideal.Read.val_main_v3 (F := Ideal) (arg3 m c)) i) := rfl

/-- The block of array 0 at a grid point lies where the block of the results lies. -/
theorem block0 (c : Dev nD) (t : Fin cfg0.N) (y : S12x64.Idx) :
    iblk m c 0 t y = (Cert.Reference13Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S12x64.Idx) :
    iblk m c 1 t y = (Cert.Reference13Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S12x64.Idx) :
    iblk m c 2 t y = (Cert.Reference13Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S12x64.Idx) :
    iblk m c 3 t y = (Cert.Reference13Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference13Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference13Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference13Ideal.Read.val_main_v8 (F := Ideal) (arg1 m c) (arg2 m c) := by
  refine (dats m 0 c).arrAt_eq_of_covers 5 _ (by decide +kernel) fun t hf y => ?_
  show (dats m 0 c).after 5 t y = Cert.Reference13Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference13Ideal.Read.val_main_v14 (F := Ideal) (arg1 m c) (arg3 m c) := by
  refine (dats m 0 c).arrAt_eq_of_covers 6 _ (by decide +kernel) fun t hf y => ?_
  show (dats m 0 c).after 6 t y = Cert.Reference13Ideal.Read.val_main_v14 (F := Ideal) (arg1 m c) (arg3 m c) ((win0_4.blk t).view.emb y)
  rw [after0_6, second_block, block1, block3, second_ref]

/-- The two body tables are equal: label by label, the same function. -/
theorem bodies_eq : Cert.Kernel13.defs₀ (F := Bits) = Cert.Kernel13Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel13.defs (F := Bits) = Cert.Kernel13Ideal.defs (F := Bits) :=
  congrArg (Pipeline.defs (pcfgs (F := Bits))) bodies_eq

/-- The call over words keeps its arguments and ends with its counters at zero. -/
theorem frame_words : Cert.quiescent_Kernel13 (hKernel13 := Cert.Kernel13.Gen.facts) := fun m ρ _ => by
  rw [defs_eq]
  exact Cert.Kernel13Ideal.Gen.frame (F := Bits) m ρ

/-- So does the call over the extended reals. -/
theorem frame_ideal : Cert.quiescent_Kernel13Ideal (hKernel13Ideal := Cert.Kernel13Ideal.Gen.facts) := fun m ρ _ =>
  Cert.Kernel13Ideal.Gen.frame m ρ

/-- The reference keeps its arguments, and it has no counter. -/
theorem frame_reference : Cert.quiescent_Reference13Ideal (hReference13Ideal := Cert.Reference13Ideal.Gen.facts) := fun m ρ _ =>
  (θ_run Cert.Reference13Ideal.defs _ _).mono (fun r h => ⟨fun c => (h c).2.2.2,
    sem_eq_zero_of_no_sems (by decide) r.2⟩) (Cert.Reference13Ideal.Value.run m ρ)

/-- From equal arguments the call and the reference leave the same three arrays. -/
theorem value : Cert.algebraic_Kernel13Ideal_Reference13Ideal (hKernel13Ideal := Cert.Kernel13Ideal.Gen.facts)
    (hReference13Ideal := Cert.Reference13Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference13Ideal.defs _ _).mono (fun r h c => ⟨?_, ?_, ?_, (h c).2.2.2⟩) (Cert.Reference13Ideal.Value.run m' g')
  · rw [(h c).1, Cert.Reference13Ideal.Read.val_main_v27_eq]
    obtain ⟨h0, h1, h2, h3⟩ := hargs c
    rw [h0, h1, h2, h3]
    exact (step_array m c).symm
  · rw [(h c).2.1, Cert.Reference13Ideal.Read.val_main_v8_eq]
    obtain ⟨h0, h1, h2, h3⟩ := hargs c
    rw [h1, h2]
    exact (first_array m c).symm
  · rw [(h c).2.2.1, Cert.Reference13Ideal.Read.val_main_v14_eq]
    obtain ⟨h0, h1, h2, h3⟩ := hargs c
    rw [h1, h3]
    exact (second_array m c).symm

end Cert.AdamConvA

end

end
-- ==== Proof.AdamConvC.lean ====
/- The optimiser's update of the long convolution: the three arrays that the call leaves are the reference's, entry by entry. -/
module

public import proofs.«01_k».proof.Defs
public import proofs.«01_k».proof.Proof.AdamStep
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamConvC

open Idealize.ShloMosaic Idealize.ShloMosaic.TcCoe Idealize.SL.Sem
open Cert.Kernel14Ideal Cert.Kernel14Ideal.Gen Cert.AdamStep

variable (m : (ℓ : Loc nD τ sig) → Buf (Elt Ideal) ℓ)

/-- The weight, as given. -/
abbrev arg0 (c : Dev nD) : FVec Ideal S4x31x96 .f32 := m ((c.tc : Thread nD τ).loc main_arg0)
/-- The summed gradient, as given. -/
abbrev arg1 (c : Dev nD) : FVec Ideal S4x31x96 .f32 := m ((c.tc : Thread nD τ).loc main_arg1)
/-- The first moment, as given. -/
abbrev arg2 (c : Dev nD) : FVec Ideal S4x31x96 .f32 := m ((c.tc : Thread nD τ).loc main_arg2)
/-- The second moment, as given. -/
abbrev arg3 (c : Dev nD) : FVec Ideal S4x31x96 .f32 := m ((c.tc : Thread nD τ).loc main_arg3)

theorem found0 (c : Dev nD) : V m c main_v0 = Cert.Reference14Ideal.Read.val_main_v0 (F := Ideal) (arg0 m c) := by
  unfold_abbrev_sides
  after_results
  rfl

theorem found1 (c : Dev nD) : V m c main_v1 = Cert.Reference14Ideal.Read.val_main_v1 (F := Ideal) (arg1 m c) := by
  unfold_abbrev_sides
  after_results
  rfl

theorem found2 (c : Dev nD) : V m c main_v2 = Cert.Reference14Ideal.Read.val_main_v2 (F := Ideal) (arg2 m c) := by
  unfold_abbrev_sides
  after_results
  rfl

theorem found3 (c : Dev nD) : V m c main_v3 = Cert.Reference14Ideal.Read.val_main_v3 (F := Ideal) (arg3 m c) := by
  unfold_abbrev_sides
  after_results
  rfl

/-- What a grid point leaves in a block of the first moment … -/
theorem first_block (x0 x1 x2 x3 : FVec Ideal S124x96 .f32) (y : S124x96.Idx) : out0_5 (F := Ideal) x0 x1 x2 x3 y = first (x1 y) (x2 y) := by
  unfold out0_5
  rw [View.canon_unit_zero (S := S124x96) zero2, View.ld_unit_zero (S := S124x96) zero2, View.ld_unit_zero (S := S124x96) zero2]
  simp only [k0_pay1, k0_pay2, k0_pay3, k0_pay4, shapeCast_self]
  rfl

/-- … of the second moment … -/
theorem second_block (x0 x1 x2 x3 : FVec Ideal S124x96 .f32) (y : S124x96.Idx) : out0_6 (F := Ideal) x0 x1 x2 x3 y = second (x1 y) (x3 y) := by
  unfold out0_6
  rw [View.canon_unit_zero (S := S124x96) zero2, View.ld_unit_zero (S := S124x96) zero2, View.ld_unit_zero (S := S124x96) zero2]
  simp only [k0_pay1, k0_pay2, k0_pay3, k0_pay4, shapeCast_self]
  rfl

/-- … and of the step: the update of the entry. -/
theorem step_block (x0 x1 x2 x3 : FVec Ideal S124x96 .f32) (y : S124x96.Idx) : out0_4 (F := Ideal) x0 x1 x2 x3 y = step (x0 y) (x1 y) (x2 y) (x3 y) := by
  unfold out0_4
  rw [View.canon_unit_zero (S := S124x96) zero2]
  simp only [View.ld_unit_zero (S := S124x96) zero2]
  simp only [k0_pay1, k0_pay2, k0_pay3, k0_pay4, shapeCast_self]
  rfl

/-- The reference's entries are the same updates. -/
theorem first_ref (c : Dev nD) (i : S124x96.Idx) : Cert.Reference14Ideal.Read.val_main_v8 (F := Ideal) (arg1 m c) (arg2 m c) i
    = first ((Cert.Reference14Ideal.Read.val_main_v1 (F := Ideal) (arg1 m c)) i) ((Cert.Reference14Ideal.Read.val_main_v2 (F := Ideal) (arg2 m c)) i) := rfl

theorem second_ref (c : Dev nD) (i : S124x96.Idx) : Cert.Reference14Ideal.Read.val_main_v14 (F := Ideal) (arg1 m c) (arg3 m c) i
    = second ((Cert.Reference14Ideal.Read.val_main_v1 (F := Ideal) (arg1 m c)) i) ((Cert.Reference14Ideal.Read.val_main_v3 (F := Ideal) (arg3 m c)) i) := rfl

theorem step_ref (c : Dev nD) (i : S124x96.Idx) : Cert.Reference14Ideal.Read.val_main_v27 (F := Ideal) (arg0 m c) (arg1 m c) (arg2 m c) (arg3 m c) i
    = step ((Cert.Reference14Ideal.Read.val_main_v0 (F := Ideal) (arg0 m c)) i) ((Cert.Reference14Ideal.Read.val_main_v1 (F := Ideal) (arg1 m c)) i) ((Cert.Reference14Ideal.Read.val_main_v2 (F := Ideal) (arg2 m c)) i) ((Cert.Reference14Ideal.Read.val_main_v3 (F := Ideal) (arg3 m c)) i) := rfl

/-- The block of array 0 at a grid point lies where the block of the results lies. -/
theorem block0 (c : Dev nD) (t : Fin cfg0.N) (y : S124x96.Idx) :
    iblk m c 0 t y = (Cert.Reference14Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S124x96.Idx) :
    iblk m c 1 t y = (Cert.Reference14Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S124x96.Idx) :
    iblk m c 2 t y = (Cert.Reference14Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S124x96.Idx) :
    iblk m c 3 t y = (Cert.Reference14Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference14Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference14Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference14Ideal.Read.val_main_v8 (F := Ideal) (arg1 m c) (arg2 m c) := by
  refine (dats m 0 c).arrAt_eq_of_covers 5 _ (by decide +kernel) fun t hf y => ?_
  show (dats m 0 c).after 5 t y = Cert.Reference14Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference14Ideal.Read.val_main_v14 (F := Ideal) (arg1 m c) (arg3 m c) := by
  refine (dats m 0 c).arrAt_eq_of_covers 6 _ (by decide +kernel) fun t hf y => ?_
  show (dats m 0 c).after 6 t y = Cert.Reference14Ideal.Read.val_main_v14 (F := Ideal) (arg1 m c) (arg3 m c) ((win0_4.blk t).view.emb y)
  rw [after0_6, second_block, block1, block3, second_ref]

/-- The two body tables are equal: label by label, the same function. -/
theorem bodies_eq : Cert.Kernel14.defs₀ (F := Bits) = Cert.Kernel14Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel14.defs (F := Bits) = Cert.Kernel14Ideal.defs (F := Bits) :=
  congrArg (Pipeline.defs (pcfgs (F := Bits))) bodies_eq

/-- The call over words keeps its arguments and ends with its counters at zero. -/
theorem frame_words : Cert.quiescent_Kernel14 (hKernel14 := Cert.Kernel14.Gen.facts) := fun m ρ _ => by
  rw [defs_eq]
  exact Cert.Kernel14Ideal.Gen.frame (F := Bits) m ρ

/-- So does the call over the extended reals. -/
theorem frame_ideal : Cert.quiescent_Kernel14Ideal (hKernel14Ideal := Cert.Kernel14Ideal.Gen.facts) := fun m ρ _ =>
  Cert.Kernel14Ideal.Gen.frame m ρ

/-- The reference keeps its arguments, and it has no counter. -/
theorem frame_reference : Cert.quiescent_Reference14Ideal (hReference14Ideal := Cert.Reference14Ideal.Gen.facts) := fun m ρ _ =>
  (θ_run Cert.Reference14Ideal.defs _ _).mono (fun r h => ⟨fun c => (h c).2.2.2,
    sem_eq_zero_of_no_sems (by decide) r.2⟩) (Cert.Reference14Ideal.Value.run m ρ)

/-- From equal arguments the call and the reference leave the same three arrays. -/
theorem value : Cert.algebraic_Kernel14Ideal_Reference14Ideal (hKernel14Ideal := Cert.Kernel14Ideal.Gen.facts)
    (hReference14Ideal := Cert.Reference14Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference14Ideal.defs _ _).mono (fun r h c => ⟨?_, ?_, ?_, (h c).2.2.2⟩) (Cert.Reference14Ideal.Value.run m' g')
  · rw [(h c).1, Cert.Reference14Ideal.Read.val_main_v27_eq]
    obtain ⟨h0, h1, h2, h3⟩ := hargs c
    rw [h0, h1, h2, h3]
    exact (step_array m c).symm
  · rw [(h c).2.1, Cert.Reference14Ideal.Read.val_main_v8_eq]
    obtain ⟨h0, h1, h2, h3⟩ := hargs c
    rw [h1, h2]
    exact (first_array m c).symm
  · rw [(h c).2.2.1, Cert.Reference14Ideal.Read.val_main_v14_eq]
    obtain ⟨h0, h1, h2, h3⟩ := hargs c
    rw [h1, h3]
    exact (second_array m c).symm

end Cert.AdamConvC

end

end
-- ==== Proof.AdamConvFfn.lean ====
/- The optimiser's update of the convolution before the gate: the three arrays that the call leaves are the reference's, entry by entry. -/
module

public import proofs.«01_k».proof.Defs
public import proofs.«01_k».proof.Proof.AdamStep
public import proofs.«01_k».proof.Proof.Gen.Kernel15
public import proofs.«01_k».proof.Proof.Gen.Kernel15Ideal
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamConvFfn

open Idealize.ShloMosaic Idealize.ShloMosaic.TcCoe Idealize.SL.Sem
open Cert.Kernel15Ideal Cert.Kernel15Ideal.Gen Cert.AdamStep

variable (m : (ℓ : Loc nD τ sig) → Buf (Elt Ideal) ℓ)

/-- The weight, as given. -/
abbrev arg0 (c : Dev nD) : FVec Ideal S4x3x1408 .f32 := m ((c.tc : Thread nD τ).loc main_arg0)
/-- The summed gradient, as given. -/
abbrev arg1 (c : Dev nD) : FVec Ideal S4x3x1408 .f32 := m ((c.tc : Thread nD τ).loc main_arg1)
/-- The first moment, as given. -/
abbrev arg2 (c : Dev nD) : FVec Ideal S4x3x1408 .f32 := m ((c.tc : Thread nD τ).loc main_arg2)
/-- The second moment, as given. -/
abbrev arg3 (c : Dev nD) : FVec Ideal S4x3x1408 .f32 := m ((c.tc : Thread nD τ).loc main_arg3)

theorem found0 (c : Dev nD) : V m c main_v0 = Cert.Reference15Ideal.Read.val_main_v0 (F := Ideal) (arg0 m c) := by
  unfold_abbrev_sides
  after_results
  rfl

theorem found1 (c : Dev nD) : V m c main_v1 = Cert.Reference15Ideal.Read.val_main_v1 (F := Ideal) (arg1 m c) := by
  unfold_abbrev_sides
  after_results
  rfl

theorem found2 (c : Dev nD) : V m c main_v2 = Cert.Reference15Ideal.Read.val_main_v2 (F := Ideal) (arg2 m c) := by
  unfold_abbrev_sides
  after_results
  rfl

theorem found3 (c : Dev nD) : V m c main_v3 = Cert.Reference15Ideal.Read.val_main_v3 (F := Ideal) (arg3 m c) := by
  unfold_abbrev_sides
  after_results
  rfl

/-- What a grid point leaves in a block of the first moment … -/
theorem first_block (x0 x1 x2 x3 : FVec Ideal S12x1408 .f32) (y : S12x1408.Idx) : out0_5 (F := Ideal) x0 x1 x2 x3 y = first (x1 y) (x2 y) := by
  unfold out0_5
  rw [View.canon_unit_zero (S := S12x1408) zero2, View.ld_unit_zero (S := S12x1408) zero2, View.ld_unit_zero (S := S12x1408) zero2]
  simp only [k0_pay1, k0_pay2, k0_pay3, k0_pay4, shapeCast_self]
  rfl

/-- … of the second moment … -/
theorem second_block (x0 x1 x2 x3 : FVec Ideal S12x1408 .f32) (y : S12x1408.Idx) : out0_6 (F := Ideal) x0 x1 x2 x3 y = second (x1 y) (x3 y) := by
  unfold out0_6
  rw [View.canon_unit_zero (S := S12x1408) zero2, View.ld_unit_zero (S := S12x1408) zero2, View.ld_unit_zero (S := S12x1408) zero2]
  simp only [k0_pay1, k0_pay2, k0_pay3, k0_pay4, shapeCast_self]
  rfl

/-- … and of the step: the update of the entry. -/
theorem step_block (x0 x1 x2 x3 : FVec Ideal S12x1408 .f32) (y : S12x1408.Idx) : out0_4 (F := Ideal) x0 x1 x2 x3 y = step (x0 y) (x1 y) (x2 y) (x3 y) := by
  unfold out0_4
  rw [View.canon_unit_zero (S := S12x1408) zero2]
  simp only [View.ld_unit_zero (S := S12x1408) zero2]
  simp only [k0_pay1, k0_pay2, k0_pay3, k0_pay4, shapeCast_self]
  rfl

/-- The reference's entries are the same updates. -/
theorem first_ref (c : Dev nD) (i : S12x1408.Idx) : Cert.Reference15Ideal.Read.val_main_v8 (F := Ideal) (arg1 m c) (arg2 m c) i
    = first ((Cert.Reference15Ideal.Read.val_main_v1 (F := Ideal) (arg1 m c)) i) ((Cert.Reference15Ideal.Read.val_main_v2 (F := Ideal) (arg2 m c)) i) := rfl

theorem second_ref (c : Dev nD) (i : S12x1408.Idx) : Cert.Reference15Ideal.Read.val_main_v14 (F := Ideal) (arg1 m c) (arg3 m c) i
    = second ((Cert.Reference15Ideal.Read.val_main_v1 (F := Ideal) (arg1 m c)) i) ((Cert.Reference15Ideal.Read.val_main_v3 (F := Ideal) (arg3 m c)) i) := rfl

theorem step_ref (c : Dev nD) (i : S12x1408.Idx) : Cert.Reference15Ideal.Read.val_main_v27 (F := Ideal) (arg0 m c) (arg1 m c) (arg2 m c) (arg3 m c) i
    = step ((Cert.Reference15Ideal.Read.val_main_v0 (F := Ideal) (arg0 m c)) i) ((Cert.Reference15Ideal.Read.val_main_v1 (F := Ideal) (arg1 m c)) i) ((Cert.Reference15Ideal.Read.val_main_v2 (F := Ideal) (arg2 m c)) i) ((Cert.Reference15Ideal.Read.val_main_v3 (F := Ideal) (arg3 m c)) i) := rfl

/-- The block of array 0 at a grid point lies where the block of the results lies. -/
theorem block0 (c : Dev nD) (t : Fin cfg0.N) (y : S12x1408.Idx) :
    iblk m c 0 t y = (Cert.Reference15Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S12x1408.Idx) :
    iblk m c 1 t y = (Cert.Reference15Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S12x1408.Idx) :
    iblk m c 2 t y = (Cert.Reference15Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S12x1408.Idx) :
    iblk m c 3 t y = (Cert.Reference15Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference15Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference15Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference15Ideal.Read.val_main_v8 (F := Ideal) (arg1 m c) (arg2 m c) := by
  refine (dats m 0 c).arrAt_eq_of_covers 5 _ (by decide +kernel) fun t hf y => ?_
  show (dats m 0 c).after 5 t y = Cert.Reference15Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference15Ideal.Read.val_main_v14 (F := Ideal) (arg1 m c) (arg3 m c) := by
  refine (dats m 0 c).arrAt_eq_of_covers 6 _ (by decide +kernel) fun t hf y => ?_
  show (dats m 0 c).after 6 t y = Cert.Reference15Ideal.Read.val_main_v14 (F := Ideal) (arg1 m c) (arg3 m c) ((win0_4.blk t).view.emb y)
  rw [after0_6, second_block, block1, block3, second_ref]

/-- The two body tables are equal: label by label, the same function. -/
theorem bodies_eq : Cert.Kernel15.defs₀ (F := Bits) = Cert.Kernel15Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel15.defs (F := Bits) = Cert.Kernel15Ideal.defs (F := Bits) :=
  congrArg (Pipeline.defs (pcfgs (F := Bits))) bodies_eq

/-- The call over words keeps its arguments and ends with its counters at zero. -/
theorem frame_words : Cert.quiescent_Kernel15 (hKernel15 := Cert.Kernel15.Gen.facts) := fun m ρ _ => by
  rw [defs_eq]
  exact Cert.Kernel15Ideal.Gen.frame (F := Bits) m ρ

/-- So does the call over the extended reals. -/
theorem frame_ideal : Cert.quiescent_Kernel15Ideal (hKernel15Ideal := Cert.Kernel15Ideal.Gen.facts) := fun m ρ _ =>
  Cert.Kernel15Ideal.Gen.frame m ρ

/-- The reference keeps its arguments, and it has no counter. -/
theorem frame_reference : Cert.quiescent_Reference15Ideal (hReference15Ideal := Cert.Reference15Ideal.Gen.facts) := fun m ρ _ =>
  (θ_run Cert.Reference15Ideal.defs _ _).mono (fun r h => ⟨fun c => (h c).2.2.2,
    sem_eq_zero_of_no_sems (by decide) r.2⟩) (Cert.Reference15Ideal.Value.run m ρ)

/-- From equal arguments the call and the reference leave the same three arrays. -/
theorem value : Cert.algebraic_Kernel15Ideal_Reference15Ideal (hKernel15Ideal := Cert.Kernel15Ideal.Gen.facts)
    (hReference15Ideal := Cert.Reference15Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference15Ideal.defs _ _).mono (fun r h c => ⟨?_, ?_, ?_, (h c).2.2.2⟩) (Cert.Reference15Ideal.Value.run m' g')
  · rw [(h c).1, Cert.Reference15Ideal.Read.val_main_v27_eq]
    obtain ⟨h0, h1, h2, h3⟩ := hargs c
    rw [h0, h1, h2, h3]
    exact (step_array m c).symm
  · rw [(h c).2.1, Cert.Reference15Ideal.Read.val_main_v8_eq]
    obtain ⟨h0, h1, h2, h3⟩ := hargs c
    rw [h1, h2]
    exact (first_array m c).symm
  · rw [(h c).2.2.1, Cert.Reference15Ideal.Read.val_main_v14_eq]
    obtain ⟨h0, h1, h2, h3⟩ := hargs c
    rw [h1, h3]
    exact (second_array m c).symm

end Cert.AdamConvFfn

end

end
-- ==== Proof.AdamSgu.lean ====
/- The optimiser's update of the spatial gating weight: the three arrays that the call leaves are the reference's, entry by entry. -/
module

public import proofs.«01_k».proof.Defs
public import proofs.«01_k».proof.Proof.AdamStep
public import proofs.«01_k».proof.Proof.Gen.Kernel16
public import proofs.«01_k».proof.Proof.Gen.Kernel16Ideal
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamSgu

open Idealize.ShloMosaic Idealize.ShloMosaic.TcCoe Idealize.SL.Sem
open Cert.Kernel16Ideal Cert.Kernel16Ideal.Gen Cert.AdamStep

variable (m : (ℓ : Loc nD τ sig) → Buf (Elt Ideal) ℓ)

/-- The weight, as given. -/
abbrev arg0 (c : Dev nD) : FVec Ideal S4x6x128x128 .f32 := m ((c.tc : Thread nD τ).loc main_arg0)
/-- The summed gradient, as given. -/
abbrev arg1 (c : Dev nD) : FVec Ideal S4x6x128x128 .f32 := m ((c.tc : Thread nD τ).loc main_arg1)
/-- The first moment, as given. -/
abbrev arg2 (c : Dev nD) : FVec Ideal S4x6x128x128 .f32 := m ((c.tc : Thread nD τ).loc main_arg2)
/-- The second moment, as given. -/
abbrev arg3 (c : Dev nD) : FVec Ideal S4x6x128x128 .f32 := m ((c.tc : Thread nD τ).loc main_arg3)

theorem found0 (c : Dev nD) : V m c main_v0 = Cert.Reference16Ideal.Read.val_main_v0 (F := Ideal) (arg0 m c) := by
  unfold_abbrev_sides
  after_results
  rfl

theorem found1 (c : Dev nD) : V m c main_v1 = Cert.Reference16Ideal.Read.val_main_v1 (F := Ideal) (arg1 m c) := by
  unfold_abbrev_sides
  after_results
  rfl

theorem found2 (c : Dev nD) : V m c main_v2 = Cert.Reference16Ideal.Read.val_main_v2 (F := Ideal) (arg2 m c) := by
  unfold_abbrev_sides
  after_results
  rfl

theorem found3 (c : Dev nD) : V m c main_v3 = Cert.Reference16Ideal.Read.val_main_v3 (F := Ideal) (arg3 m c) := by
  unfold_abbrev_sides
  after_results
  rfl

/-- What a grid point leaves in a block of the first moment … -/
theorem first_block (x0 x1 x2 x3 : FVec Ideal S512x128 .f32) (y : S512x128.Idx) : out0_5 (F := Ideal) x0 x1 x2 x3 y = first (x1 y) (x2 y) := by
  unfold out0_5
  rw [View.canon_unit_zero (S := S512x128) zero2, View.ld_unit_zero (S := S512x128) zero2, View.ld_unit_zero (S := S512x128) zero2]
  simp only [k0_pay1, k0_pay2, k0_pay3, k0_pay4, shapeCast_self]
  rfl

/-- … of the second moment … -/
theorem second_block (x0 x1 x2 x3 : FVec Ideal S512x128 .f32) (y : S512x128.Idx) : out0_6 (F := Ideal) x0 x1 x2 x3 y = second (x1 y) (x3 y) := by
  unfold out0_6
  rw [View.canon_unit_zero (S := S512x128) zero2, View.ld_unit_zero (S := S512x128) zero2, View.ld_unit_zero (S := S512x128) zero2]
  simp only [k0_pay1, k0_pay2, k0_pay3, k0_pay4, shapeCast_self]
  rfl

/-- … and of the step: the update of the entry. -/
theorem step_block (x0 x1 x2 x3 : FVec Ideal S512x128 .f32) (y : S512x128.Idx) : out0_4 (F := Ideal) x0 x1 x2 x3 y = step (x0 y) (x1 y) (x2 y) (x3 y) := by
  unfold out0_4
  rw [View.canon_unit_zero (S := S512x128) zero2]
  simp only [View.ld_unit_zero (S := S512x128) zero2]
  simp only [k0_pay1, k0_pay2, k0_pay3, k0_pay4, shapeCast_self]
  rfl

/-- The reference's entries are the same updates. -/
theorem first_ref (c : Dev nD) (i : S3072x128.Idx) : Cert.Reference16Ideal.Read.val_main_v8 (F := Ideal) (arg1 m c) (arg2 m c) i
    = first ((Cert.Reference16Ideal.Read.val_main_v1 (F := Ideal) (arg1 m c)) i) ((Cert.Reference16Ideal.Read.val_main_v2 (F := Ideal) (arg2 m c)) i) := rfl

theorem second_ref (c : Dev nD) (i : S3072x128.Idx) : Cert.Reference16Ideal.Read.val_main_v14 (F := Ideal) (arg1 m c) (arg3 m c) i
    = second ((Cert.Reference16Ideal.Read.val_main_v1 (F := Ideal) (arg1 m c)) i) ((Cert.Reference16Ideal.Read.val_main_v3 (F := Ideal) (arg3 m c)) i) := rfl

theorem step_ref (c : Dev nD) (i : S3072x128.Idx) : Cert.Reference16Ideal.Read.val_main_v27 (F := Ideal) (arg0 m c) (arg1 m c) (arg2 m c) (arg3 m c) i
    = step ((Cert.Reference16Ideal.Read.val_main_v0 (F := Ideal) (arg0 m c)) i) ((Cert.Reference16Ideal.Read.val_main_v1 (F := Ideal) (arg1 m c)) i) ((Cert.Reference16Ideal.Read.val_main_v2 (F := Ideal) (arg2 m c)) i) ((Cert.Reference16Ideal.Read.val_main_v3 (F := Ideal) (arg3 m c)) i) := rfl

/-- The block of array 0 at a grid point lies where the block of the results lies. -/
theorem block0 (c : Dev nD) (t : Fin cfg0.N) (y : S512x128.Idx) :
    iblk m c 0 t y = (Cert.Reference16Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S512x128.Idx) :
    iblk m c 1 t y = (Cert.Reference16Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S512x128.Idx) :
    iblk m c 2 t y = (Cert.Reference16Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S512x128.Idx) :
    iblk m c 3 t y = (Cert.Reference16Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference16Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference16Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference16Ideal.Read.val_main_v8 (F := Ideal) (arg1 m c) (arg2 m c) := by
  refine (dats m 0 c).arrAt_eq_of_covers 5 _ (by decide +kernel) fun t hf y => ?_
  show (dats m 0 c).after 5 t y = Cert.Reference16Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference16Ideal.Read.val_main_v14 (F := Ideal) (arg1 m c) (arg3 m c) := by
  refine (dats m 0 c).arrAt_eq_of_covers 6 _ (by decide +kernel) fun t hf y => ?_
  show (dats m 0 c).after 6 t y = Cert.Reference16Ideal.Read.val_main_v14 (F := Ideal) (arg1 m c) (arg3 m c) ((win0_4.blk t).view.emb y)
  rw [after0_6, second_block, block1, block3, second_ref]

/-- The two body tables are equal: label by label, the same function. -/
theorem bodies_eq : Cert.Kernel16.defs₀ (F := Bits) = Cert.Kernel16Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel16.defs (F := Bits) = Cert.Kernel16Ideal.defs (F := Bits) :=
  congrArg (Pipeline.defs (pcfgs (F := Bits))) bodies_eq

/-- The call over words keeps its arguments and ends with its counters at zero. -/
theorem frame_words : Cert.quiescent_Kernel16 (hKernel16 := Cert.Kernel16.Gen.facts) := fun m ρ _ => by
  rw [defs_eq]
  exact Cert.Kernel16Ideal.Gen.frame (F := Bits) m ρ

/-- So does the call over the extended reals. -/
theorem frame_ideal : Cert.quiescent_Kernel16Ideal (hKernel16Ideal := Cert.Kernel16Ideal.Gen.facts) := fun m ρ _ =>
  Cert.Kernel16Ideal.Gen.frame m ρ

/-- The reference keeps its arguments, and it has no counter. -/
theorem frame_reference : Cert.quiescent_Reference16Ideal (hReference16Ideal := Cert.Reference16Ideal.Gen.facts) := fun m ρ _ =>
  (θ_run Cert.Reference16Ideal.defs _ _).mono (fun r h => ⟨fun c => (h c).2.2.2,
    sem_eq_zero_of_no_sems (by decide) r.2⟩) (Cert.Reference16Ideal.Value.run m ρ)

/-- From equal arguments the call and the reference leave the same three arrays. -/
theorem value : Cert.algebraic_Kernel16Ideal_Reference16Ideal (hKernel16Ideal := Cert.Kernel16Ideal.Gen.facts)
    (hReference16Ideal := Cert.Reference16Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference16Ideal.defs _ _).mono (fun r h c => ⟨?_, ?_, ?_, (h c).2.2.2⟩) (Cert.Reference16Ideal.Value.run m' g')
  · rw [(h c).1, Cert.Reference16Ideal.Read.val_main_v27_eq]
    obtain ⟨h0, h1, h2, h3⟩ := hargs c
    rw [h0, h1, h2, h3]
    exact (step_array m c).symm
  · rw [(h c).2.1, Cert.Reference16Ideal.Read.val_main_v8_eq]
    obtain ⟨h0, h1, h2, h3⟩ := hargs c
    rw [h1, h2]
    exact (first_array m c).symm
  · rw [(h c).2.2.1, Cert.Reference16Ideal.Read.val_main_v14_eq]
    obtain ⟨h0, h1, h2, h3⟩ := hargs c
    rw [h1, h3]
    exact (second_array m c).symm

end Cert.AdamSgu

end

end
-- ==== Proof.AdamSguBias.lean ====
/- The optimiser's update of the spatial gating bias: the three arrays that the call leaves are the reference's, entry by entry. -/
module

public import proofs.«01_k».proof.Defs
public import proofs.«01_k».proof.Proof.AdamStep
public import proofs.«01_k».proof.Proof.Gen.Kernel17
public import proofs.«01_k».proof.Proof.Gen.Kernel17Ideal
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.AdamSguBias

open Idealize.ShloMosaic Idealize.ShloMosaic.TcCoe Idealize.SL.Sem
open Cert.Kernel17Ideal Cert.Kernel17Ideal.Gen Cert.AdamStep

variable (m : (ℓ : Loc nD τ sig) → Buf (Elt Ideal) ℓ)

/-- The weight, as given. -/
abbrev arg0 (c : Dev nD) : FVec Ideal S4x6x128 .f32 := m ((c.tc : Thread nD τ).loc main_arg0)
/-- The summed gradient, as given. -/
abbrev arg1 (c : Dev nD) : FVec Ideal S4x6x128 .f32 := m ((c.tc : Thread nD τ).loc main_arg1)
/-- The first moment, as given. -/
abbrev arg2 (c : Dev nD) : FVec Ideal S4x6x128 .f32 := m ((c.tc : Thread nD τ).loc main_arg2)
/-- The second moment, as given. -/
abbrev arg3 (c : Dev nD) : FVec Ideal S4x6x128 .f32 := m ((c.tc : Thread nD τ).loc main_arg3)

theorem found0 (c : Dev nD) : V m c main_v0 = Cert.Reference17Ideal.Read.val_main_v0 (F := Ideal) (arg0 m c) := by
  unfold_abbrev_sides
  after_results
  rfl

theorem found1 (c : Dev nD) : V m c main_v1 = Cert.Reference17Ideal.Read.val_main_v1 (F := Ideal) (arg1 m c) := by
  unfold_abbrev_sides
  after_results
  rfl

theorem found2 (c : Dev nD) : V m c main_v2 = Cert.Reference17Ideal.Read.val_main_v2 (F := Ideal) (arg2 m c) := by
  unfold_abbrev_sides
  after_results
  rfl

theorem found3 (c : Dev nD) : V m c main_v3 = Cert.Reference17Ideal.Read.val_main_v3 (F := Ideal) (arg3 m c) := by
  unfold_abbrev_sides
  after_results
  rfl

/-- What a grid point leaves in a block of the first moment … -/
theorem first_block (x0 x1 x2 x3 : FVec Ideal S24x128 .f32) (y : S24x128.Idx) : out0_5 (F := Ideal) x0 x1 x2 x3 y = first (x1 y) (x2 y) := by
  unfold out0_5
  rw [View.canon_unit_zero (S := S24x128) zero2, View.ld_unit_zero (S := S24x128) zero2, View.ld_unit_zero (S := S24x128) zero2]
  simp only [k0_pay1, k0_pay2, k0_pay3, k0_pay4, shapeCast_self]
  rfl

/-- … of the second moment … -/
theorem second_block (x0 x1 x2 x3 : FVec Ideal S24x128 .f32) (y : S24x128.Idx) : out0_6 (F := Ideal) x0 x1 x2 x3 y = second (x1 y) (x3 y) := by
  unfold out0_6
  rw [View.canon_unit_zero (S := S24x128) zero2, View.ld_unit_zero (S := S24x128) zero2, View.ld_unit_zero (S := S24x128) zero2]
  simp only [k0_pay1, k0_pay2, k0_pay3, k0_pay4, shapeCast_self]
  rfl

/-- … and of the step: the update of the entry. -/
theorem step_block (x0 x1 x2 x3 : FVec Ideal S24x128 .f32) (y : S24x128.Idx) : out0_4 (F := Ideal) x0 x1 x2 x3 y = step (x0 y) (x1 y) (x2 y) (x3 y) := by
  unfold out0_4
  rw [View.canon_unit_zero (S := S24x128) zero2]
  simp only [View.ld_unit_zero (S := S24x128) zero2]
  simp only [k0_pay1, k0_pay2, k0_pay3, k0_pay4, shapeCast_self]
  rfl

/-- The reference's entries are the same updates. -/
theorem first_ref (c : Dev nD) (i : S24x128.Idx) : Cert.Reference17Ideal.Read.val_main_v8 (F := Ideal) (arg1 m c) (arg2 m c) i
    = first ((Cert.Reference17Ideal.Read.val_main_v1 (F := Ideal) (arg1 m c)) i) ((Cert.Reference17Ideal.Read.val_main_v2 (F := Ideal) (arg2 m c)) i) := rfl

theorem second_ref (c : Dev nD) (i : S24x128.Idx) : Cert.Reference17Ideal.Read.val_main_v14 (F := Ideal) (arg1 m c) (arg3 m c) i
    = second ((Cert.Reference17Ideal.Read.val_main_v1 (F := Ideal) (arg1 m c)) i) ((Cert.Reference17Ideal.Read.val_main_v3 (F := Ideal) (arg3 m c)) i) := rfl

theorem step_ref (c : Dev nD) (i : S24x128.Idx) : Cert.Reference17Ideal.Read.val_main_v27 (F := Ideal) (arg0 m c) (arg1 m c) (arg2 m c) (arg3 m c) i
    = step ((Cert.Reference17Ideal.Read.val_main_v0 (F := Ideal) (arg0 m c)) i) ((Cert.Reference17Ideal.Read.val_main_v1 (F := Ideal) (arg1 m c)) i) ((Cert.Reference17Ideal.Read.val_main_v2 (F := Ideal) (arg2 m c)) i) ((Cert.Reference17Ideal.Read.val_main_v3 (F := Ideal) (arg3 m c)) i) := rfl

/-- The block of array 0 at a grid point lies where the block of the results lies. -/
theorem block0 (c : Dev nD) (t : Fin cfg0.N) (y : S24x128.Idx) :
    iblk m c 0 t y = (Cert.Reference17Ideal.Read.val_main_v0 (F := Ideal) (arg0 m c)) ((win0_4.blk t).view.emb y) := by
  show V m c main_v0 _ = _
  rw [found0]
  rfl

/-- The block of array 1 at a grid point lies where the block of the results lies. -/
theorem block1 (c : Dev nD) (t : Fin cfg0.N) (y : S24x128.Idx) :
    iblk m c 1 t y = (Cert.Reference17Ideal.Read.val_main_v1 (F := Ideal) (arg1 m c)) ((win0_4.blk t).view.emb y) := by
  show V m c main_v1 _ = _
  rw [found1]
  rfl

/-- The block of array 2 at a grid point lies where the block of the results lies. -/
theorem block2 (c : Dev nD) (t : Fin cfg0.N) (y : S24x128.Idx) :
    iblk m c 2 t y = (Cert.Reference17Ideal.Read.val_main_v2 (F := Ideal) (arg2 m c)) ((win0_4.blk t).view.emb y) := by
  show V m c main_v2 _ = _
  rw [found2]
  rfl

/-- The block of array 3 at a grid point lies where the block of the results lies. -/
theorem block3 (c : Dev nD) (t : Fin cfg0.N) (y : S24x128.Idx) :
    iblk m c 3 t y = (Cert.Reference17Ideal.Read.val_main_v3 (F := Ideal) (arg3 m c)) ((win0_4.blk t).view.emb y) := by
  show V m c main_v3 _ = _
  rw [found3]
  rfl

theorem step_array (c : Dev nD) : (dats m 0 c).arrAt 4 cfg0.N = Cert.Reference17Ideal.Read.val_main_v27 (F := Ideal) (arg0 m c) (arg1 m c) (arg2 m c) (arg3 m c) := by
  refine (dats m 0 c).arrAt_eq_of_covers 4 _ (by decide +kernel) fun t hf y => ?_
  show (dats m 0 c).after 4 t y = Cert.Reference17Ideal.Read.val_main_v27 (F := Ideal) (arg0 m c) (arg1 m c) (arg2 m c) (arg3 m c) ((win0_4.blk t).view.emb y)
  rw [after0_4, step_block, block0, block1, block2, block3, step_ref]

theorem first_array (c : Dev nD) : (dats m 0 c).arrAt 5 cfg0.N = Cert.Reference17Ideal.Read.val_main_v8 (F := Ideal) (arg1 m c) (arg2 m c) := by
  refine (dats m 0 c).arrAt_eq_of_covers 5 _ (by decide +kernel) fun t hf y => ?_
  show (dats m 0 c).after 5 t y = Cert.Reference17Ideal.Read.val_main_v8 (F := Ideal) (arg1 m c) (arg2 m c) ((win0_4.blk t).view.emb y)
  rw [after0_5, first_block, block1, block2, first_ref]

theorem second_array (c : Dev nD) : (dats m 0 c).arrAt 6 cfg0.N = Cert.Reference17Ideal.Read.val_main_v14 (F := Ideal) (arg1 m c) (arg3 m c) := by
  refine (dats m 0 c).arrAt_eq_of_covers 6 _ (by decide +kernel) fun t hf y => ?_
  show (dats m 0 c).after 6 t y = Cert.Reference17Ideal.Read.val_main_v14 (F := Ideal) (arg1 m c) (arg3 m c) ((win0_4.blk t).view.emb y)
  rw [after0_6, second_block, block1, block3, second_ref]

/-- The two body tables are equal: label by label, the same function. -/
theorem bodies_eq : Cert.Kernel17.defs₀ (F := Bits) = Cert.Kernel17Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel17.defs (F := Bits) = Cert.Kernel17Ideal.defs (F := Bits) :=
  congrArg (Pipeline.defs (pcfgs (F := Bits))) bodies_eq

/-- The call over words keeps its arguments and ends with its counters at zero. -/
theorem frame_words : Cert.quiescent_Kernel17 (hKernel17 := Cert.Kernel17.Gen.facts) := fun m ρ _ => by
  rw [defs_eq]
  exact Cert.Kernel17Ideal.Gen.frame (F := Bits) m ρ

/-- So does the call over the extended reals. -/
theorem frame_ideal : Cert.quiescent_Kernel17Ideal (hKernel17Ideal := Cert.Kernel17Ideal.Gen.facts) := fun m ρ _ =>
  Cert.Kernel17Ideal.Gen.frame m ρ

/-- The reference keeps its arguments, and it has no counter. -/
theorem frame_reference : Cert.quiescent_Reference17Ideal (hReference17Ideal := Cert.Reference17Ideal.Gen.facts) := fun m ρ _ =>
  (θ_run Cert.Reference17Ideal.defs _ _).mono (fun r h => ⟨fun c => (h c).2.2.2,
    sem_eq_zero_of_no_sems (by decide) r.2⟩) (Cert.Reference17Ideal.Value.run m ρ)

/-- From equal arguments the call and the reference leave the same three arrays. -/
theorem value : Cert.algebraic_Kernel17Ideal_Reference17Ideal (hKernel17Ideal := Cert.Kernel17Ideal.Gen.facts)
    (hReference17Ideal := Cert.Reference17Ideal.Gen.facts) := fun m g m' g' _ hargs => by
  refine ⟨fun c => (dats m 0 c).arrAt 4 cfg0.N, fun c => (dats m 0 c).arrAt 5 cfg0.N, fun c => (dats m 0 c).arrAt 6 cfg0.N,
    Value.run_blocks m g, ?_⟩
  refine (θ_run Cert.Reference17Ideal.defs _ _).mono (fun r h c => ⟨?_, ?_, ?_, (h c).2.2.2⟩) (Cert.Reference17Ideal.Value.run m' g')
  · rw [(h c).1, Cert.Reference17Ideal.Read.val_main_v27_eq]
    obtain ⟨h0, h1, h2, h3⟩ := hargs c
    rw [h0, h1, h2, h3]
    exact (step_array m c).symm
  · rw [(h c).2.1, Cert.Reference17Ideal.Read.val_main_v8_eq]
    obtain ⟨h0, h1, h2, h3⟩ := hargs c
    rw [h1, h2]
    exact (first_array m c).symm
  · rw [(h c).2.2.1, Cert.Reference17Ideal.Read.val_main_v14_eq]
    obtain ⟨h0, h1, h2, h3⟩ := hargs c
    rw [h1, h3]
    exact (second_array m c).symm

end Cert.AdamSguBias

end

end
-- ==== Proof.FfnBufs.lean ====
/- The buffers and blocks that one call of the forward body works on. -/
module

public import proofs.«01_k».proof.Proof.Gen.Kernel18Ideal.Frame.Runs

@[expose] public section

set_option maxRecDepth 16384

noncomputable section

namespace Cert.FfnForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel18Ideal Cert.Kernel18Ideal.Gen

variable {F : FTy → Type} [FloatOps F]

local notation "𝕄" => MT nD τ sig Unit (Elt F) ℕ (Pipeline.UD sig nD τ) ℕ

/-- The buffers one call of the body works on: the five staged inputs, the four staged results, the three scratch buffers, each the whole of its buffer. -/
structure Bufs where
  x : Memref sig .tc .vmem S256x1024 .f32
  x_whole : x.IsWhole
  g : Memref sig .tc .vmem S1x1024 .f32
  g_whole : g.IsWhole
  wu : Memref sig .tc .vmem S4x1024x1408 .bf16
  wu_whole : wu.IsWhole
  cw : Memref sig .tc .vmem S8x5632 .f32
  cw_whole : cw.IsWhole
  pg : Memref sig .tc .vmem S1x1024 .f32
  pg_whole : pg.IsWhole
  oUp : Memref sig .tc .vmem S256x5632 .f32
  oUp_whole : oUp.IsWhole
  oH : Memref sig .tc .vmem S256x1024 .bf16
  oH_whole : oH.IsWhole
  oD : Memref sig .tc .vmem S256x1024 .f32
  oD_whole : oD.IsWhole
  oX : Memref sig .tc .vmem S256x1024 .f32
  oX_whole : oX.IsWhole
  ext : Memref sig .tc .vmem S272x5632 .f32
  ext_whole : ext.IsWhole
  last : Memref sig .tc .vmem S16x5632 .f32
  last_whole : last.IsWhole
  wd : Memref sig .tc .vmem S2816x1024 .bf16
  wd_whole : wd.IsWhole

/-- The blocks the body reads at a point. -/
structure Ins (F : FTy → Type) where
  x : Vec F S256x1024 .f32
  g : Vec F S1x1024 .f32
  wu : Vec F S4x1024x1408 .bf16
  cw : Vec F S8x5632 .f32
  pg : Vec F S1x1024 .f32

/-- What the scratch carried from one point to the next holds: the last rows of the tile before, the weights. -/
structure Carry (F : FTy → Type) where
  last : Vec F S16x5632 .f32
  wd : Vec F S2816x1024 .bf16

/-- The body on the buffers `b`. -/
abbrev body (i : grid0.Coords) (b : Bufs) :=
  cc0_ffn_fwd (F := F) i b.x b.x_whole b.g b.g_whole b.wu b.wu_whole b.cw b.cw_whole (Memref.whole main_v4) (Memref.isWhole_whole _) b.pg b.pg_whole b.oUp b.oUp_whole b.oH b.oH_whole b.oD b.oD_whole b.oX b.oX_whole b.ext b.ext_whole b.last b.last_whole b.wd b.wd_whole cc0_scratch3

/-- The four copy counters of the body at zero. -/
abbrev cells (c : Dev nD) : sProp 𝕄 :=
  iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

/-- The inputs' buffers hold the blocks `x`. -/
abbrev holds (c : Dev nD) (b : Bufs) (x : Ins F) : sProp 𝕄 :=
  iprop(owns (c : Thread nD τ) b.x fullShare x.x ∗ owns (c : Thread nD τ) b.g fullShare x.g ∗ owns (c : Thread nD τ) b.wu fullShare x.wu ∗ owns (c : Thread nD τ) b.cw fullShare x.cw ∗ owns (c : Thread nD τ) b.pg fullShare x.pg)

/-- Buffer `a` holds the pieces `L` written over some contents. -/
abbrev wrote (c : Dev nD) {S : Shape} {e : EltTy} (a : Memref sig .tc .vmem S e) (L : List (View.Piece (Elt F) S e)) : sProp 𝕄 :=
  iprop(∃ f, a.view.loc (c : Thread nD τ) ↦[a.view.set]{fullShare} a.view.writes (Elt F) f L)

/-- Buffer `a` holds anything. -/
abbrev any (c : Dev nD) {S : Shape} {e : EltTy} (a : Memref sig .tc .vmem S e) : sProp 𝕄 :=
  iprop(∃ d : Vec F S e, owns (c : Thread nD τ) a fullShare d)

end Cert.FfnForward

end

end
-- ==== Proof.FfnRunA.lean ====
/- The forward body at the first point. -/
module

public import proofs.«01_k».proof.Proof.FfnBufs

@[expose] public section

set_option maxRecDepth 16384

noncomputable section

namespace Cert.FfnForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel18Ideal Cert.Kernel18Ideal.Gen

variable {F : FTy → Type} [FloatOps F]

local notation "𝕄" => MT nD τ sig Unit (Elt F) ℕ (Pipeline.UD sig nD τ) ℕ

set_option maxHeartbeats 4000000 in
set_option sl_exec.dmaWindow true in
set_option sl_exec.dmaWindowSet true in
/-- The body at the first point: the pieces its stores leave in each buffer, last first, with its triple. -/
def runA (c : Dev nD) (i : grid0.Coords) (b : Bufs) (h0 : cond0_0 i) (x : Ins F) (fh : HbBuf0 (F := F) c hbM0_0) :
    Σ' (LoUp : List (View.Piece (Elt F) S256x5632 .f32)),
    Σ' (LoH : List (View.Piece (Elt F) S256x1024 .bf16)),
    Σ' (LoD : List (View.Piece (Elt F) S256x1024 .f32)),
    Σ' (LoX : List (View.Piece (Elt F) S256x1024 .f32)),
    Σ' (Lext : List (View.Piece (Elt F) S272x5632 .f32)),
    Σ' (Llast : List (View.Piece (Elt F) S16x5632 .f32)),
    { Lwd : List (View.Piece (Elt F) S2816x1024 .bf16) //
      ∀ (W : Waits sig Unit) (K : PUnit → sProp 𝕄),
        iprop(holds c b x ∗ any (F := F) c b.oUp ∗ any (F := F) c b.oH ∗ any (F := F) c b.oD ∗ any (F := F) c b.oX ∗ any (F := F) c b.ext ∗ any (F := F) c b.last ∗ any (F := F) c b.wd ∗ cells c ∗ hbPt0 c hbM0_0 fh ∗ owes (c : Thread nD τ) 0 W
          ∗ (iprop(holds c b x ∗ wrote c b.oUp LoUp ∗ wrote c b.oH LoH ∗ wrote c b.oD LoD ∗ wrote c b.oX LoX ∗ wrote c b.ext Lext ∗ wrote c b.last Llast ∗ wrote c b.wd Lwd ∗ cells c ∗ hbPt0 c hbM0_0 fh ∗ (∃ W', owes (c : Thread nD τ) 0 W')) -∗ K ⟨⟩))
        ⊢ wp frame (wpE (defs₀ (F := F)) Variants.none c none) Set.univ (body i b) K } := by
  refine ⟨?_, ?_, ?_, ?_, ?_, ?_, ?_, fun W K => ?run⟩
  case run =>
    unfold body holds cells wrote any
    simp only [cc0_ffn_fwd_eq_skeleton]; unfold cc0_ffn_fwd_skel
    simp only [k0_part2_eq_skeleton, k0_part1_eq_skeleton, k0_part3_eq_skeleton, k0_part4_eq_skeleton, k0_part5_eq_skeleton]
    unfold owns
    iintro ⟨⟨⟨%fx, %ex, Hx⟩, ⟨%fg, %eg, Hg⟩, ⟨%fwu, %ewu, Hwu⟩, ⟨%fcw, %ecw, Hcw⟩, ⟨%fpg, %epg, Hpg⟩⟩, ⟨%doUp, %foUp, -, HoUp⟩, ⟨%doH, %foH, -, HoH⟩, ⟨%doD, %foD, -, HoD⟩, ⟨%doX, %foX, -, HoX⟩, ⟨%dext, %fext, -, Hext⟩, ⟨%dlast, %flast, -, Hlast⟩, ⟨%dwd, %fwd, -, Hwd⟩, ⟨Hq0, Hq1, Hq2, Hq3⟩, Hh, HW, Hk⟩
    obtain rfl := b.x_whole.eq_unread ex; obtain rfl := b.g_whole.eq_unread eg; obtain rfl := b.wu_whole.eq_unread ewu; obtain rfl := b.cw_whole.eq_unread ecw; obtain rfl := b.pg_whole.eq_unread epg
    sl_exec (disch := first | sl_exact h0)
    sl_step
    iapply Hk
    isplitl [Hx Hg Hwu Hcw Hpg]
    · isplitl [Hx]
      · iexists _; isplitr; · ipureintro; exact b.x_whole.read_unread _
        iexact Hx
      isplitl [Hg]
      · iexists _; isplitr; · ipureintro; exact b.g_whole.read_unread _
        iexact Hg
      isplitl [Hwu]
      · iexists _; isplitr; · ipureintro; exact b.wu_whole.read_unread _
        iexact Hwu
      isplitl [Hcw]
      · iexists _; isplitr; · ipureintro; exact b.cw_whole.read_unread _
        iexact Hcw
      iexists _; isplitr; · ipureintro; exact b.pg_whole.read_unread _
      iexact Hpg
    isplitl [HoUp]
    · iexists _; iexact HoUp
    isplitl [HoH]
    · iexists _; iexact HoH
    isplitl [HoD]
    · iexists _; iexact HoD
    isplitl [HoX]
    · iexists _; iexact HoX
    isplitl [Hext]
    · iexists _; iexact Hext
    isplitl [Hlast]
    · iexists _; iexact Hlast
    isplitl [Hwd]
    · iexists _; iexact Hwd
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.FfnForward

end

end
-- ==== Proof.FfnRunB.lean ====
/- The forward body at a later point. -/
module

public import proofs.«01_k».proof.Proof.FfnRunA

@[expose] public section

set_option maxRecDepth 16384

noncomputable section

namespace Cert.FfnForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel18Ideal Cert.Kernel18Ideal.Gen

variable {F : FTy → Type} [FloatOps F]

local notation "𝕄" => MT nD τ sig Unit (Elt F) ℕ (Pipeline.UD sig nD τ) ℕ

set_option maxHeartbeats 4000000 in
/-- The body at a later point: the pieces its stores leave in each buffer, last first, with its triple. -/
def runB (c : Dev nD) (i : grid0.Coords) (b : Bufs) (h0 : ¬cond0_0 i) (x : Ins F) (s : Carry F) (fh : HbBuf0 (F := F) c hbM0_0) :
    Σ' (LoUp : List (View.Piece (Elt F) S256x5632 .f32)),
    Σ' (LoH : List (View.Piece (Elt F) S256x1024 .bf16)),
    Σ' (LoD : List (View.Piece (Elt F) S256x1024 .f32)),
    Σ' (LoX : List (View.Piece (Elt F) S256x1024 .f32)),
    Σ' (Lext : List (View.Piece (Elt F) S272x5632 .f32)),
    { Llast : List (View.Piece (Elt F) S16x5632 .f32) //
      ∀ (W : Waits sig Unit) (K : PUnit → sProp 𝕄),
        iprop(holds c b x ∗ any (F := F) c b.oUp ∗ any (F := F) c b.oH ∗ any (F := F) c b.oD ∗ any (F := F) c b.oX ∗ any (F := F) c b.ext ∗ owns (c : Thread nD τ) b.last fullShare s.last ∗ owns (c : Thread nD τ) b.wd fullShare s.wd ∗ cells c ∗ hbPt0 c hbM0_0 fh ∗ owes (c : Thread nD τ) 0 W
          ∗ (iprop(holds c b x ∗ wrote c b.oUp LoUp ∗ wrote c b.oH LoH ∗ wrote c b.oD LoD ∗ wrote c b.oX LoX ∗ wrote c b.ext Lext ∗ wrote c b.last Llast ∗ owns (c : Thread nD τ) b.wd fullShare s.wd ∗ cells c ∗ hbPt0 c hbM0_0 fh ∗ (∃ W', owes (c : Thread nD τ) 0 W')) -∗ K ⟨⟩))
        ⊢ wp frame (wpE (defs₀ (F := F)) Variants.none c none) Set.univ (body i b) K } := by
  refine ⟨?_, ?_, ?_, ?_, ?_, ?_, fun W K => ?run⟩
  case run =>
    unfold body holds cells wrote any
    simp only [cc0_ffn_fwd_eq_skeleton]; unfold cc0_ffn_fwd_skel
    simp only [k0_part2_eq_skeleton, k0_part1_eq_skeleton, k0_part3_eq_skeleton, k0_part4_eq_skeleton, k0_part5_eq_skeleton]
    unfold owns
    iintro ⟨⟨⟨%fx, %ex, Hx⟩, ⟨%fg, %eg, Hg⟩, ⟨%fwu, %ewu, Hwu⟩, ⟨%fcw, %ecw, Hcw⟩, ⟨%fpg, %epg, Hpg⟩⟩, ⟨%doUp, %foUp, -, HoUp⟩, ⟨%doH, %foH, -, HoH⟩, ⟨%doD, %foD, -, HoD⟩, ⟨%doX, %foX, -, HoX⟩, ⟨%dext, %fext, -, Hext⟩, ⟨%flast, %elast, Hlast⟩, ⟨%fwd, %ewd, Hwd⟩, ⟨Hq0, Hq1, Hq2, Hq3⟩, Hh, HW, Hk⟩
    obtain rfl := b.x_whole.eq_unread ex; obtain rfl := b.g_whole.eq_unread eg; obtain rfl := b.wu_whole.eq_unread ewu; obtain rfl := b.cw_whole.eq_unread ecw; obtain rfl := b.pg_whole.eq_unread epg; obtain rfl := b.last_whole.eq_unread elast; obtain rfl := b.wd_whole.eq_unread ewd
    sl_exec (disch := first | sl_exact h0)
    sl_step
    iapply Hk
    isplitl [Hx Hg Hwu Hcw Hpg]
    · isplitl [Hx]
      · iexists _; isplitr; · ipureintro; exact b.x_whole.read_unread _
        iexact Hx
      isplitl [Hg]
      · iexists _; isplitr; · ipureintro; exact b.g_whole.read_unread _
        iexact Hg
      isplitl [Hwu]
      · iexists _; isplitr; · ipureintro; exact b.wu_whole.read_unread _
        iexact Hwu
      isplitl [Hcw]
      · iexists _; isplitr; · ipureintro; exact b.cw_whole.read_unread _
        iexact Hcw
      iexists _; isplitr; · ipureintro; exact b.pg_whole.read_unread _
      iexact Hpg
    isplitl [HoUp]
    · iexists _; iexact HoUp
    isplitl [HoH]
    · iexists _; iexact HoH
    isplitl [HoD]
    · iexists _; iexact HoD
    isplitl [HoX]
    · iexists _; iexact HoX
    isplitl [Hext]
    · iexists _; iexact Hext
    isplitl [Hlast]
    · iexists _; iexact Hlast
    isplitl [Hwd]
    · iexists _; isplitr; · ipureintro; exact b.wd_whole.read_unread _
      iexact Hwd
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.FfnForward

end

end
-- ==== Proof.FfnTriple.lean ====
/- The triples of the forward body over whole buffers. -/
module

public import proofs.«01_k».proof.Proof.FfnRunB

@[expose] public section

set_option maxRecDepth 16384

noncomputable section

namespace Cert.FfnForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel18Ideal Cert.Kernel18Ideal.Gen

variable {F : FTy → Type} [FloatOps F]

local notation "𝕄" => MT nD τ sig Unit (Elt F) ℕ (Pipeline.UD sig nD τ) ℕ

variable {S : Shape} {e : EltTy}

/-- A buffer whose writes cover it holds what they leave. -/
theorem owns_of_wrote (c : Dev nD) (a : Memref sig .tc .vmem S e) (L : List (View.Piece (Elt F) S e))
    (h : ∀ y, ∃ p ∈ L, y ∈ p.1.set) : (wrote c a L : sProp 𝕄) ⊢ owns (c : Thread nD τ) a fullShare (View.canon L) := by
  unfold wrote owns
  iintro ⟨%f, H⟩
  iexists _; isplitr
  swap; · iexact H
  ipureintro; exact View.read_writes_eq_canon _ _ _ h

/-- A buffer written to holds something. -/
theorem any_of_wrote (c : Dev nD) (a : Memref sig .tc .vmem S e) (L : List (View.Piece (Elt F) S e)) :
    (wrote c a L : sProp 𝕄) ⊢ any (F := F) c a := by
  unfold wrote any owns
  iintro ⟨%f, H⟩
  iexists _; iexists _; isplitr
  swap; · iexact H
  ipureintro; rfl

/-- What a point leaves: the blocks of the four results and the carried scratch. -/
structure Out (F : FTy → Type) where
  up : Vec F S256x5632 .f32
  h : Vec F S256x1024 .bf16
  d : Vec F S256x1024 .f32
  x : Vec F S256x1024 .f32
  next : Carry F

/-- The carried scratch of `b` holds `s`. -/
abbrev carries (c : Dev nD) (b : Bufs) (s : Carry F) : sProp 𝕄 :=
  iprop(owns (c : Thread nD τ) b.last fullShare s.last ∗ owns (c : Thread nD τ) b.wd fullShare s.wd)

/-- The carried scratch of `b` holds anything. -/
abbrev carriesAny (c : Dev nD) (b : Bufs) : sProp 𝕄 :=
  iprop(any (F := F) c b.last ∗ any (F := F) c b.wd)

/-- The result buffers hold the blocks of `o`. -/
abbrev results (c : Dev nD) (b : Bufs) (o : Out F) : sProp 𝕄 :=
  iprop(owns (c : Thread nD τ) b.oUp fullShare o.up ∗ owns (c : Thread nD τ) b.oH fullShare o.h ∗ owns (c : Thread nD τ) b.oD fullShare o.d ∗ owns (c : Thread nD τ) b.oX fullShare o.x)

section A

variable (c : Dev nD) (i : grid0.Coords) (b : Bufs) (h0 : cond0_0 i) (x : Ins F) (fh : HbBuf0 (F := F) c hbM0_0)

theorem coverA_oUp (y : S256x5632.Idx) : ∃ p ∈ (runA c i b h0 x fh).1, y ∈ p.1.set :=
  View.cover_of_tiledL (runA c i b h0 x fh).1 S256x1408.size (by sl_kernel_rfl) y

theorem coverA_oH (y : S256x1024.Idx) : ∃ p ∈ (runA c i b h0 x fh).2.1, y ∈ p.1.set :=
  View.cover_of_tiledL (runA c i b h0 x fh).2.1 S256x1024.size (by sl_kernel_rfl) y

theorem coverA_oD (y : S256x1024.Idx) : ∃ p ∈ (runA c i b h0 x fh).2.2.1, y ∈ p.1.set :=
  View.cover_of_tiledL (runA c i b h0 x fh).2.2.1 S256x1024.size (by sl_kernel_rfl) y

theorem coverA_oX (y : S256x1024.Idx) : ∃ p ∈ (runA c i b h0 x fh).2.2.2.1, y ∈ p.1.set :=
  View.cover_of_tiledL (runA c i b h0 x fh).2.2.2.1 S256x1024.size (by sl_kernel_rfl) y

theorem coverA_last (y : S16x5632.Idx) : ∃ p ∈ (runA c i b h0 x fh).2.2.2.2.2.1, y ∈ p.1.set :=
  View.cover_of_tiledL (runA c i b h0 x fh).2.2.2.2.2.1 S16x5632.size (by sl_kernel_rfl) y

theorem coverA_wd (y : S2816x1024.Idx) : ∃ p ∈ (runA c i b h0 x fh).2.2.2.2.2.2.1, y ∈ p.1.set :=
  View.cover_of_tiledL (runA c i b h0 x fh).2.2.2.2.2.2.1 S704x1024.size (by sl_kernel_rfl) y

/-- What the first point leaves. -/
def outA : Out F where
  up := View.canon (runA c i b h0 x fh).1
  h := View.canon (runA c i b h0 x fh).2.1
  d := View.canon (runA c i b h0 x fh).2.2.1
  x := View.canon (runA c i b h0 x fh).2.2.2.1
  next := { last := View.canon (runA c i b h0 x fh).2.2.2.2.2.1, wd := View.canon (runA c i b h0 x fh).2.2.2.2.2.2.1 }

/-- The body's triple at the first point, at what it leaves. -/
theorem tripleA (W : Waits sig Unit) (K : PUnit → sProp 𝕄) :
    iprop(holds c b x ∗ (any (F := F) c b.oUp ∗ any (F := F) c b.oH ∗ any (F := F) c b.oD ∗ any (F := F) c b.oX) ∗ any (F := F) c b.ext ∗ carriesAny (F := F) c b ∗ cells c ∗ hbPt0 c hbM0_0 fh ∗ owes (c : Thread nD τ) 0 W
      ∗ (iprop(holds c b x ∗ results c b (outA c i b h0 x fh) ∗ any (F := F) c b.ext ∗ carries c b (outA c i b h0 x fh).next ∗ cells c ∗ hbPt0 c hbM0_0 fh ∗ (∃ W', owes (c : Thread nD τ) 0 W')) -∗ K ⟨⟩))
    ⊢ wp frame (wpE (defs₀ (F := F)) Variants.none c none) Set.univ (body i b) K := by
  unfold results carries outA; dsimp only
  iintro ⟨Hin, ⟨H0, H1, H2, H3⟩, Hext, ⟨Hl, Hw⟩, Hq, Hh, HW, Hk⟩
  iapply ((runA c i b h0 x fh).2.2.2.2.2.2.2 W K)
  isplitl [Hin]; · iexact Hin
  isplitl [H0]; · iexact H0
  isplitl [H1]; · iexact H1
  isplitl [H2]; · iexact H2
  isplitl [H3]; · iexact H3
  isplitl [Hext]; · iexact Hext
  isplitl [Hl]; · iexact Hl
  isplitl [Hw]; · iexact Hw
  isplitl [Hq]; · iexact Hq
  isplitl [Hh]; · iexact Hh
  isplitl [HW]; · iexact HW
  iintro ⟨Hin, H0, H1, H2, H3, Hext, Hl, Hw, Hq, Hh, HW⟩
  iapply Hk
  isplitl [Hin]; · iexact Hin
  isplitl [H0 H1 H2 H3]
  · isplitl [H0]; · iapply (owns_of_wrote c b.oUp _ (coverA_oUp c i b h0 x fh)); iexact H0
    isplitl [H1]; · iapply (owns_of_wrote c b.oH _ (coverA_oH c i b h0 x fh)); iexact H1
    isplitl [H2]; · iapply (owns_of_wrote c b.oD _ (coverA_oD c i b h0 x fh)); iexact H2
    iapply (owns_of_wrote c b.oX _ (coverA_oX c i b h0 x fh)); iexact H3
  isplitl [Hext]; · iapply (any_of_wrote c b.ext _); iexact Hext
  isplitl [Hl Hw]
  · isplitl [Hl]; · iapply (owns_of_wrote c b.last _ (coverA_last c i b h0 x fh)); iexact Hl
    iapply (owns_of_wrote c b.wd _ (coverA_wd c i b h0 x fh)); iexact Hw
  isplitl [Hq]; · iexact Hq
  isplitl [Hh]; · iexact Hh
  iexact HW

end A
section B

variable (c : Dev nD) (i : grid0.Coords) (b : Bufs) (h0 : ¬cond0_0 i) (x : Ins F) (s : Carry F) (fh : HbBuf0 (F := F) c hbM0_0)

theorem coverB_oUp (y : S256x5632.Idx) : ∃ p ∈ (runB c i b h0 x s fh).1, y ∈ p.1.set :=
  View.cover_of_tiledL (runB c i b h0 x s fh).1 S256x1408.size (by sl_kernel_rfl) y

theorem coverB_oH (y : S256x1024.Idx) : ∃ p ∈ (runB c i b h0 x s fh).2.1, y ∈ p.1.set :=
  View.cover_of_tiledL (runB c i b h0 x s fh).2.1 S256x1024.size (by sl_kernel_rfl) y

theorem coverB_oD (y : S256x1024.Idx) : ∃ p ∈ (runB c i b h0 x s fh).2.2.1, y ∈ p.1.set :=
  View.cover_of_tiledL (runB c i b h0 x s fh).2.2.1 S256x1024.size (by sl_kernel_rfl) y

theorem coverB_oX (y : S256x1024.Idx) : ∃ p ∈ (runB c i b h0 x s fh).2.2.2.1, y ∈ p.1.set :=
  View.cover_of_tiledL (runB c i b h0 x s fh).2.2.2.1 S256x1024.size (by sl_kernel_rfl) y

theorem coverB_last (y : S16x5632.Idx) : ∃ p ∈ (runB c i b h0 x s fh).2.2.2.2.2.1, y ∈ p.1.set :=
  View.cover_of_tiledL (runB c i b h0 x s fh).2.2.2.2.2.1 S16x5632.size (by sl_kernel_rfl) y

/-- What a later point leaves. -/
def outB : Out F where
  up := View.canon (runB c i b h0 x s fh).1
  h := View.canon (runB c i b h0 x s fh).2.1
  d := View.canon (runB c i b h0 x s fh).2.2.1
  x := View.canon (runB c i b h0 x s fh).2.2.2.1
  next := { last := View.canon (runB c i b h0 x s fh).2.2.2.2.2.1, wd := s.wd }

/-- The body's triple at a later point, at what it leaves. -/
theorem tripleB (W : Waits sig Unit) (K : PUnit → sProp 𝕄) :
    iprop(holds c b x ∗ (any (F := F) c b.oUp ∗ any (F := F) c b.oH ∗ any (F := F) c b.oD ∗ any (F := F) c b.oX) ∗ any (F := F) c b.ext ∗ carries c b s ∗ cells c ∗ hbPt0 c hbM0_0 fh ∗ owes (c : Thread nD τ) 0 W
      ∗ (iprop(holds c b x ∗ results c b (outB c i b h0 x s fh) ∗ any (F := F) c b.ext ∗ carries c b (outB c i b h0 x s fh).next ∗ cells c ∗ hbPt0 c hbM0_0 fh ∗ (∃ W', owes (c : Thread nD τ) 0 W')) -∗ K ⟨⟩))
    ⊢ wp frame (wpE (defs₀ (F := F)) Variants.none c none) Set.univ (body i b) K := by
  unfold results carries outB; dsimp only
  iintro ⟨Hin, ⟨H0, H1, H2, H3⟩, Hext, ⟨Hl, Hw⟩, Hq, Hh, HW, Hk⟩
  iapply ((runB c i b h0 x s fh).2.2.2.2.2.2 W K)
  isplitl [Hin]; · iexact Hin
  isplitl [H0]; · iexact H0
  isplitl [H1]; · iexact H1
  isplitl [H2]; · iexact H2
  isplitl [H3]; · iexact H3
  isplitl [Hext]; · iexact Hext
  isplitl [Hl]; · iexact Hl
  isplitl [Hw]; · iexact Hw
  isplitl [Hq]; · iexact Hq
  isplitl [Hh]; · iexact Hh
  isplitl [HW]; · iexact HW
  iintro ⟨Hin, H0, H1, H2, H3, Hext, Hl, Hw, Hq, Hh, HW⟩
  iapply Hk
  isplitl [Hin]; · iexact Hin
  isplitl [H0 H1 H2 H3]
  · isplitl [H0]; · iapply (owns_of_wrote c b.oUp _ (coverB_oUp c i b h0 x s fh)); iexact H0
    isplitl [H1]; · iapply (owns_of_wrote c b.oH _ (coverB_oH c i b h0 x s fh)); iexact H1
    isplitl [H2]; · iapply (owns_of_wrote c b.oD _ (coverB_oD c i b h0 x s fh)); iexact H2
    iapply (owns_of_wrote c b.oX _ (coverB_oX c i b h0 x s fh)); iexact H3
  isplitl [Hext]; · iapply (any_of_wrote c b.ext _); iexact Hext
  isplitl [Hl Hw]
  · isplitl [Hl]; · iapply (owns_of_wrote c b.last _ (coverB_last c i b h0 x s fh)); iexact Hl
    iexact Hw
  isplitl [Hq]; · iexact Hq
  isplitl [Hh]; · iexact Hh
  iexact HW

end B

end Cert.FfnForward

end

end
-- ==== Proof.FfnLaunched.lean ====
/- The forward call at its launch: the buffers and blocks of each point, and the frame of the call. -/
module

public import proofs.«01_k».proof.Proof.FfnTriple
public import Idealize.ShloMosaic.Lib.Claim

@[expose] public section

set_option maxRecDepth 16384

noncomputable section

namespace Cert.FfnForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel18Ideal Cert.Kernel18Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the body works on at point `t`. -/
def bufs (t : Fin cfg0.N) : Bufs where
  x := ms0_0 t
  x_whole := hs0_0 t
  g := ms0_1 t
  g_whole := hs0_1 t
  wu := ms0_2 t
  wu_whole := hs0_2 t
  cw := ms0_3 t
  cw_whole := hs0_3 t
  pg := ms0_4 t
  pg_whole := hs0_4 t
  oUp := ms0_5 t
  oUp_whole := hs0_5 t
  oH := ms0_6 t
  oH_whole := hs0_6 t
  oD := ms0_7 t
  oD_whole := hs0_7 t
  oX := ms0_8 t
  oX_whole := hs0_8 t
  ext := scM0_0
  ext_whole := Memref.isWhole_whole _
  last := scM0_1
  last_whole := Memref.isWhole_whole _
  wd := scM0_2
  wd_whole := Memref.isWhole_whole _

/-- The blocks the body reads at point `t`. -/
def blocks (c : Dev nD) (t : Fin cfg0.N) : Ins F where
  x := iblk m c 0 t
  g := iblk m c 1 t
  wu := iblk m c 2 t
  cw := iblk m c 3 t
  pg := iblk m c 4 t

/-- What point `t` leaves, if the scratch held `s` before it. -/
def leaves (c : Dev nD) (t : Fin cfg0.N) (s : Carry F) : Out F :=
  if h0 : t.val % 16 = 0 then
    outA c (grid0.coords t) (bufs t) ((hcond0_0 t).mpr h0) (blocks m c t) (V m c main_v4)
  else
    outB c (grid0.coords t) (bufs t) (fun h => h0 ((hcond0_0 t).mp h)) (blocks m c t) s (V m c main_v4)

/-- Scratch nothing is known of. -/
def unknown : Carry F := ⟨View.canon [], View.canon []⟩

/-- What the point at position `n` leaves. -/
def left (c : Dev nD) : (n : ℕ) → n < cfg0.N → Out F
  | 0, h => leaves m c ⟨0, h⟩ unknown
  | n + 1, h => leaves m c ⟨n + 1, h⟩ (left c n (Nat.lt_of_succ_lt h)).next

theorem left_zero (c : Dev nD) (t : Fin cfg0.N) (h : t.val = 0) : left m c t.val t.isLt = leaves m c t unknown := by
  obtain ⟨n, hn⟩ := t
  cases n with
  | zero => rfl
  | succ n => exact absurd h (Nat.succ_ne_zero n)

theorem left_pos (c : Dev nD) (t : Fin cfg0.N) (h : t.val ≠ 0) :
    left m c t.val t.isLt = leaves m c t (left m c (t.val - 1) (by have := t.isLt; omega)).next := by
  obtain ⟨n, hn⟩ := t
  cases n with
  | zero => exact absurd rfl h
  | succ n => rfl

/-- The scratch, the generator register, the copy counters and the weights in HBM, the carried scratch at `s`. -/
def stateAt (c : Dev nD) (s : Carry F) : sProp 𝕄 :=
  iprop(iprop(any (F := F) c scM0_0 ∗ owns (c : Thread nD τ) scM0_1 fullShare s.last ∗ owns (c : Thread nD τ) scM0_2 fullShare s.wd)
    ∗ (∃ r, prngReg c r) ∗ cells c ∗ hbPt0 c hbM0_0 (V m c main_v4))

/-- The invariant before position `n`. -/
def inv (c : Dev nD) : (n : ℕ) → n ≤ cfg0.N → sProp 𝕄
  | 0, _ => Pipeline.ΦD osem0 spec0 H0 (V m) c
  | n + 1, hn => stateAt m c (left m c n hn).next

theorem inv_pos (c : Dev nD) (n : ℕ) (h : n ≤ cfg0.N) (hz : n ≠ 0) :
    inv m c n h = stateAt m c (left m c (n - 1) (by omega)).next := by
  cases n with
  | zero => exact absurd rfl hz
  | succ n => rfl

/-- The proof data of the pipeline: the arrays as the region finds them, what each point leaves, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t.val t.isLt).up
    | ⟨6, _⟩ => (left m c t.val t.isLt).h
    | ⟨7, _⟩ => (left m c t.val t.isLt).d
    | ⟨8, _⟩ => (left m c t.val t.isLt).x
  Φ t := inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem dats_start (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (left m c t.val t.isLt).up := by dsimp only [dats]
theorem after_6 (c : Dev nD) (t : Fin cfg0.N) : (dats m 0 c).after 6 t = (left m c t.val t.isLt).h := by dsimp only [dats]
theorem after_7 (c : Dev nD) (t : Fin cfg0.N) : (dats m 0 c).after 7 t = (left m c t.val t.isLt).d := by dsimp only [dats]
theorem after_8 (c : Dev nD) (t : Fin cfg0.N) : (dats m 0 c).after 8 t = (left m c t.val t.isLt).x := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d

theorem leaves_0 (c : Dev nD) (t : Fin cfg0.N) : (dats m 0 c).leavesExact 0 t = owns (c : Thread nD τ) (ms0_0 t) fullShare ((dats m 0 c).after 0 t) := rfl
theorem leaves_1 (c : Dev nD) (t : Fin cfg0.N) : (dats m 0 c).leavesExact 1 t = owns (c : Thread nD τ) (ms0_1 t) fullShare ((dats m 0 c).after 1 t) := rfl
theorem leaves_2 (c : Dev nD) (t : Fin cfg0.N) : (dats m 0 c).leavesExact 2 t = owns (c : Thread nD τ) (ms0_2 t) fullShare ((dats m 0 c).after 2 t) := rfl
theorem leaves_3 (c : Dev nD) (t : Fin cfg0.N) : (dats m 0 c).leavesExact 3 t = owns (c : Thread nD τ) (ms0_3 t) fullShare ((dats m 0 c).after 3 t) := rfl
theorem leaves_4 (c : Dev nD) (t : Fin cfg0.N) : (dats m 0 c).leavesExact 4 t = owns (c : Thread nD τ) (ms0_4 t) fullShare ((dats m 0 c).after 4 t) := rfl
theorem leaves_5 (c : Dev nD) (t : Fin cfg0.N) : (dats m 0 c).leavesExact 5 t = owns (c : Thread nD τ) (ms0_5 t) fullShare ((dats m 0 c).after 5 t) := rfl
theorem leaves_6 (c : Dev nD) (t : Fin cfg0.N) : (dats m 0 c).leavesExact 6 t = owns (c : Thread nD τ) (ms0_6 t) fullShare ((dats m 0 c).after 6 t) := rfl
theorem leaves_7 (c : Dev nD) (t : Fin cfg0.N) : (dats m 0 c).leavesExact 7 t = owns (c : Thread nD τ) (ms0_7 t) fullShare ((dats m 0 c).after 7 t) := rfl
theorem leaves_8 (c : Dev nD) (t : Fin cfg0.N) : (dats m 0 c).leavesExact 8 t = owns (c : Thread nD τ) (ms0_8 t) fullShare ((dats m 0 c).after 8 t) := rfl

/-- What the body is handed at point `t`, -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it gives back. -/
def handed (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point takes what it is handed to what it gives back. -/
theorem body_sound (c : Dev nD) (t : Fin cfg0.N) :
    given m c t ⊢ wp frame (wpE (defs₀ (F := F)) Variants.none c none) Set.univ (bodyAt0 t) (fun _ => handed m c t) := by
  unfold given handed
  rw [show (bodyAt0 t : Prog (TpuEff nD τ sig (Elt F) Λ₀ .tc) PUnit) = body (grid0.coords t) (bufs t) from rfl]
  simp only [before_0, before_1, before_2, before_3, before_4]
  rw [show (dats m 0 c).Φ t.succ = stateAt m c (left m c t.val t.isLt).next from rfl, dats_start m c t]
  unfold Dat.owesAt Pipeline.owesWithin
  rw [show (dats m 0 c).owed t.castSucc = 0 from rfl, show (dats m 0 c).owed t.succ = 0 from rfl]
  rw [leaves_0 m c t, after_0]
  rw [leaves_1 m c t, after_1]
  rw [leaves_2 m c t, after_2]
  rw [leaves_3 m c t, after_3]
  rw [leaves_4 m c t, after_4]
  rw [leaves_5 m c t, after_5]
  rw [leaves_6 m c t, after_6]
  rw [leaves_7 m c t, after_7]
  rw [leaves_8 m c t, after_8]
  have hN : t.val < 16 := lt_of_lt_of_eq t.isLt (show cfg0.N = 16 from N_0)
  by_cases h0 : t.val % 16 = 0
  · have hz : t.val = 0 := by omega
    rw [show inv m c t.val (Nat.le_of_lt t.isLt) = Pipeline.ΦD osem0 spec0 H0 (V m) c from by unfold inv; split <;> simp_all, PhiD0_eq]
    rw [left_zero m c t hz, show leaves m c t unknown = outA c (grid0.coords t) (bufs t) ((hcond0_0 t).mpr h0) (blocks m c t) (V m c main_v4) from dif_pos h0]
    unfold stateAt
    iintro ⟨⟨⟨HS0, HS1, HS2⟩, Hr, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (tripleA c (grid0.coords t) (bufs t) ((hcond0_0 t).mpr h0) (blocks m c t) (V m c main_v4) W _)
    isplitl [H0 H1 H2 H3 H4]
    · isplitl [H0]; · iexact H0
      isplitl [H1]; · iexact H1
      isplitl [H2]; · iexact H2
      isplitl [H3]; · iexact H3
      iexact H4
    isplitl [H5 H6 H7 H8]
    · isplitl [H5]; · iexists _; iexact H5
      isplitl [H6]; · iexists _; iexact H6
      isplitl [H7]; · iexists _; iexact H7
      iexists _; iexact H8
    isplitl [HS0]; · iexact HS0
    isplitl [HS1 HS2]
    · isplitl [HS1]; · iexact HS1
      iexact HS2
    isplitl [Hq]; · iexact Hq
    isplitl [Hh]; · iexact Hh
    isplitl [HW]; · iexact HW
    iintro ⟨⟨H0, H1, H2, H3, H4⟩, ⟨H5, H6, H7, H8⟩, HS0, ⟨HS1, HS2⟩, Hq, Hh, ⟨%W', HW⟩⟩
    isplitl [HS0 HS1 HS2 Hr Hq Hh]
    · isplitl [HS0 HS1 HS2]
      · isplitl [HS0]; · iexact HS0
        isplitl [HS1]; · iexact HS1
        iexact HS2
      isplitl [Hr]; · iexact Hr
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := by rintro h; rw [h] at h0; exact h0 rfl
    rw [inv_pos m c _ _ hz, left_pos m c t hz]
    generalize (left m c (t.val - 1) (by have := t.isLt; omega)).next = s
    rw [show leaves m c t s = outB c (grid0.coords t) (bufs t) (fun h => h0 ((hcond0_0 t).mp h)) (blocks m c t) s (V m c main_v4) from dif_neg h0]
    unfold stateAt
    iintro ⟨⟨⟨HS0, HS1, HS2⟩, Hr, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (tripleB c (grid0.coords t) (bufs t) (fun h => h0 ((hcond0_0 t).mp h)) (blocks m c t) s (V m c main_v4) W _)
    isplitl [H0 H1 H2 H3 H4]
    · isplitl [H0]; · iexact H0
      isplitl [H1]; · iexact H1
      isplitl [H2]; · iexact H2
      isplitl [H3]; · iexact H3
      iexact H4
    isplitl [H5 H6 H7 H8]
    · isplitl [H5]; · iexists _; iexact H5
      isplitl [H6]; · iexists _; iexact H6
      isplitl [H7]; · iexists _; iexact H7
      iexists _; iexact H8
    isplitl [HS0]; · iexact HS0
    isplitl [HS1 HS2]
    · isplitl [HS1]; · iexact HS1
      iexact HS2
    isplitl [Hq]; · iexact Hq
    isplitl [Hh]; · iexact Hh
    isplitl [HW]; · iexact HW
    iintro ⟨⟨H0, H1, H2, H3, H4⟩, ⟨H5, H6, H7, H8⟩, HS0, ⟨HS1, HS2⟩, Hq, Hh, ⟨%W', HW⟩⟩
    isplitl [HS0 HS1 HS2 Hr Hq Hh]
    · isplitl [HS0 HS1 HS2]
      · isplitl [HS0]; · iexact HS0
        isplitl [HS1]; · iexact HS1
        iexact HS2
      isplitl [Hr]; · iexact Hr
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem inv_in (c : Dev nD) : Pipeline.ΦD osem0 spec0 H0 (V m) c ⊢ (dats m 0 c).Φ 0 := by
  rw [show (dats m 0 c).Φ 0 = Pipeline.ΦD osem0 spec0 H0 (V m) c from rfl]

theorem inv_out (c : Dev nD) : (dats m 0 c).Φ (Fin.last cfg0.N) ⊢ Pipeline.ΦD osem0 spec0 H0 (V m) c := by
  have hN : cfg0.N = 16 := N_0
  rw [show (dats m 0 c).Φ (Fin.last cfg0.N) = inv m c (Fin.last cfg0.N).val (Nat.le_of_lt_succ (Fin.last cfg0.N).isLt) from rfl,
    inv_pos m c _ _ (by rw [Fin.val_last]; omega), PhiD0_eq]
  unfold stateAt
  iintro ⟨⟨HS0, HS1, HS2⟩, Hr, Hq, Hh⟩
  isplitl [HS0 HS1 HS2]
  · isplitl [HS0]; · iexact HS0
    isplitl [HS1]; · iexists _; iexact HS1
    iexists _; iexact HS2
  isplitl [Hr]; · iexact Hr
  isplitl [Hq]; · iexact Hq
  iexact Hh

set_option backward.isDefEq.respectTransparency.types false in
/-- The launch ends with the arrays the proof data give and every counter at zero. -/
theorem launched : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun _ _ => ite_self _)
    (howed := fun _ _ => rfl) (V := V m) (hmain := hmain m Variants.none) (hA := dats_A m)
    (hin := inv_in m) (hout := inv_out m)

theorem launched_arrays : θ_run defs (onTc (τ := τ) (main (F := F))) (s₀ m ρ) (Pipeline.FramePost cfgs (dats m) 0 (V m)) :=
  (θ_run defs _ _).mono (fun _ h => h.1) (launched m ρ)

/-- The arguments end as they were and every counter ends at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) (launched_arrays m ρ)) ((θ_run defs _ _).mono (fun _ h => h.2) (launched m ρ))

end Cert.FfnForward

end

end
-- ==== Proof.FfnWords.lean ====
/- The kernel over words and its idealization have one text: their programs are equal, so a run of the second is a run of the first. -/
module

public import proofs.«01_k».proof.Proof.FfnLaunched
public import proofs.«01_k».proof.Defs
public import proofs.«01_k».proof.Proof.Gen.Kernel18
public import proofs.«01_k».proof.Proof.Gen.Kernel18Ideal

@[expose] public section

set_option maxRecDepth 20000
set_option maxHeartbeats 1000000

noncomputable section

namespace Cert.FfnForward

open Idealize.ShloMosaic Idealize.SL.Sem

/-- The two body tables are equal: label by label, the same function. -/
theorem bodies_eq : Cert.Kernel18.defs₀ (F := Bits) = Cert.Kernel18Ideal.defs₀ (F := Bits) := by
  refine congrArg (Defs.onTc (nD := Cert.Kernel18Ideal.nD) (τ := Cert.Kernel18Ideal.τ) (sig := Cert.Kernel18Ideal.sig) (Λ := Cert.Kernel18Ideal.Λ₀) (Val := Elt Bits))
    (funext fun l => funext fun x => ?_)
  match l, x with
  | 0, (t, s) => rfl
  | ⟨_ + 1, h⟩, _ => exact absurd h (Nat.not_lt.2 (Nat.le_add_left _ _))

/-- So the two tables with their pipelines are equal. -/
theorem defs_eq : Cert.Kernel18.defs (F := Bits) = Cert.Kernel18Ideal.defs (F := Bits) :=
  congrArg (Pipeline.defs (Cert.Kernel18Ideal.pcfgs (F := Bits))) bodies_eq

/-- The kernel over words keeps its arguments and ends with its counters at zero: the run `framed` of its idealization's text, read at words. -/
theorem frame_words : Cert.quiescent_Kernel18 (hKernel18 := Cert.Kernel18.Gen.facts) := fun m ρ _ => by
  rw [defs_eq]
  exact framed (F := Bits) m ρ

end Cert.FfnForward

end

end
-- ==== Proof.FfnRef.lean ====
/- The reference of the forward call at one place. -/
module

public import proofs.«01_k».proof.Proof.Gen.Reference18Ideal
public import proofs.«01_k».proof.Proof.Gen.Reference18Ideal.Run
public import proofs.«01_k».proof.Proof.Gen.Reference18Ideal.Read
public import Idealize.ShloMosaic.Lib.Pointwise
public import Idealize.ShloMosaic.Lib.Pipeline.ValueKit.Acc

@[expose] public section

set_option maxRecDepth 16384

noncomputable section

namespace Cert.FfnForward.Plain

open Idealize.ShloMosaic Idealize.ShloMosaic.TcCoe Idealize.SL.Sem
open Cert.Reference18Ideal Cert.Reference18Ideal.Gen Cert.Reference18Ideal.Read

variable (x0 : FVec Ideal S4096x1024 .f32) (x1 : FVec Ideal S1024 .f32) (x2 : FVec Ideal S1024x5632 .f32) (x3 : FVec Ideal S3x5632 .f32) (x4 : FVec Ideal S2816x1024 .f32) (x5 : FVec Ideal S1024 .f32)

theorem h_at (l : Fin 4096) (b : Fin 1024) :
    val_main_v12 (F := Ideal) x0 x1 (ix2 l b)
      = x0 (ix2 l b) * Ideal.rsqrt (Ideal.div (∑ k : Fin 1024, x0 (ix2 l k) * x0 (ix2 l k)) (Ideal.ofBits .f32 0x44800000#32) + Ideal.ofBits .f32 0x358637BD#32) * x1 (ix1 b) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem up_at (l : Fin 4096) (j : Fin 5632) :
    val_main_v13 (F := Ideal) x0 x1 x2 (ix2 l j) = ∑ k : Fin 1024, val_main_v12 (F := Ideal) x0 x1 (ix2 l k) * x2 (ix2 k j) := by
  unfold val_main_v13
  generalize val_main_v12 (F := Ideal) x0 x1 = h
  pointwise []

theorem pad_at (n : Fin 4098) (j : Fin 5632) :
    val_main_v15 (F := Ideal) x0 x1 x2 (ix2 n j) = if h : n.val < 2 then 0 else val_main_v13 (F := Ideal) x0 x1 x2 (ix2 ⟨n.val - 2, by omega⟩ j) := by
  unfold val_main_v15
  generalize val_main_v13 (F := Ideal) x0 x1 x2 = u
  pointwise [val_main_v14, val_main_cst_2]

theorem conv_at (l : Fin 4096) (j : Fin 5632) :
    val_main_v37 (F := Ideal) x0 x1 x2 x3 (ix2 l j)
      = (x3 (ix2 0 j) * val_main_v15 (F := Ideal) x0 x1 x2 (ix2 ⟨l.val, by omega⟩ j) + x3 (ix2 1 j) * val_main_v15 (F := Ideal) x0 x1 x2 (ix2 ⟨1 + l.val, by omega⟩ j))
        + x3 (ix2 2 j) * val_main_v15 (F := Ideal) x0 x1 x2 (ix2 ⟨2 + l.val, by omega⟩ j) := by
  unfold val_main_v37 val_main_v36 val_main_v30 val_main_v29 val_main_v23 val_main_v21 val_main_v19 val_main_v27 val_main_v34
  generalize val_main_v15 (F := Ideal) x0 x1 x2 = p
  pointwise [val_main_v16, val_main_v17, val_main_v18, val_main_v20, val_main_v22, val_main_v24, val_main_v25, val_main_v26, val_main_v28, val_main_v31, val_main_v32, val_main_v33, val_main_v35, val_main_cst_3]

theorem act_at (l : Fin 4096) (j : Fin 2816) :
    val_main_v41 (F := Ideal) x0 x1 x2 x3 (ix2 l j)
      = val_main_v37 (F := Ideal) x0 x1 x2 x3 (ix2 l ⟨j.val, by omega⟩) * Ideal.logistic (val_main_v37 (F := Ideal) x0 x1 x2 x3 (ix2 l ⟨j.val, by omega⟩))
        * val_main_v37 (F := Ideal) x0 x1 x2 x3 (ix2 l ⟨2816 + j.val, by omega⟩) := by
  unfold val_main_v41 val_main_v40 val_main_call0_v5 val_main_call0_v3 val_main_call0_v1 val_main_call0_v0 val_main_v38 val_main_v39
  generalize val_main_v37 (F := Ideal) x0 x1 x2 x3 = p
  pointwise [val_main_call0_v4, val_main_call0_v2, val_main_call0_cst, val_main_call0_cst_0]
  rfl

theorem down_at (l : Fin 4096) (b : Fin 1024) :
    val_main_v42 (F := Ideal) x0 x1 x2 x3 x4 (ix2 l b) = ∑ j : Fin 2816, val_main_v41 (F := Ideal) x0 x1 x2 x3 (ix2 l j) * x4 (ix2 j b) := by
  unfold val_main_v42
  generalize val_main_v41 (F := Ideal) x0 x1 x2 x3 = h
  pointwise []

theorem added_at (l : Fin 4096) (b : Fin 1024) :
    val_main_v66 (F := Ideal) x0 x1 x2 x3 x4 x5 (ix2 l b)
      = x0 (ix2 l b) + val_main_v42 (F := Ideal) x0 x1 x2 x3 x4 (ix2 l b)
        * Ideal.rsqrt (Ideal.div (∑ k : Fin 1024, val_main_v42 (F := Ideal) x0 x1 x2 x3 x4 (ix2 l k) * val_main_v42 (F := Ideal) x0 x1 x2 x3 x4 (ix2 l k)) (Ideal.ofBits .f32 0x44800000#32) + Ideal.ofBits .f32 0x358637BD#32) * x5 (ix1 b) := by
  unfold val_main_v66 val_main_v65 val_main_v62 val_main_v61 val_main_v60 val_main_v59 val_main_v57 val_main_v55 val_main_v54 val_main_v53
  generalize val_main_v42 (F := Ideal) x0 x1 x2 x3 x4 = p
  pointwise [val_main_v64, val_main_v63, val_main_v58, val_main_v56, val_main_cst_4, val_main_cst_5, val_main_cst_6]

/-- The token a row of the results stands for. -/
def tok (r : Fin 4096) : Fin 4096 := ⟨r.val / 256 * 256 + r.val % 8 * 32 + r.val / 8 % 32, by omega⟩

theorem order_up (r : Fin 4096) (j : Fin 5632) : val_main_v45 (F := Ideal) x0 x1 x2 (ix2 r j) = val_main_v13 (F := Ideal) x0 x1 x2 (ix2 (tok r) j) := by
  unfold val_main_v45 val_main_v44 val_main_v43
  generalize val_main_v13 (F := Ideal) x0 x1 x2 = p
  pointwise []
  rfl

theorem order_h (r : Fin 4096) (j : Fin 1024) : val_main_v49 (F := Ideal) x0 x1 (ix2 r j) = val_main_v12 (F := Ideal) x0 x1 (ix2 (tok r) j) := by
  unfold val_main_v49 val_main_v48 val_main_v47 val_main_v46
  generalize val_main_v12 (F := Ideal) x0 x1 = p
  pointwise []
  rfl

theorem order_d (r : Fin 4096) (j : Fin 1024) : val_main_v52 (F := Ideal) x0 x1 x2 x3 x4 (ix2 r j) = val_main_v42 (F := Ideal) x0 x1 x2 x3 x4 (ix2 (tok r) j) := by
  unfold val_main_v52 val_main_v51 val_main_v50
  generalize val_main_v42 (F := Ideal) x0 x1 x2 x3 x4 = p
  pointwise []
  rfl

theorem order_x (r : Fin 4096) (j : Fin 1024) : val_main_v69 (F := Ideal) x0 x1 x2 x3 x4 x5 (ix2 r j) = val_main_v66 (F := Ideal) x0 x1 x2 x3 x4 x5 (ix2 (tok r) j) := by
  unfold val_main_v69 val_main_v68 val_main_v67
  generalize val_main_v66 (F := Ideal) x0 x1 x2 x3 x4 x5 = p
  pointwise []
  rfl

end Cert.FfnForward.Plain
-- ==== Proof.FfnAt.lean ====
/- The values of the forward body at one place: the normalised row, the products, the convolution and the gated sum. -/
module

public import proofs.«01_k».proof.Proof.FfnLaunched
public import Idealize.ShloMosaic.Lib.Pointwise
public import Idealize.ShloMosaic.Lib.Pipeline.ValueKit.Acc
public import Idealize.ShloMosaic.Lib.Pipeline.ValueKit.Tiles
public import Idealize.ShloMosaic.Lib.Pipeline.ValueKit.Geometry

@[expose] public section

set_option maxRecDepth 16384

noncomputable section

namespace Cert.FfnForward

open Idealize.ShloMosaic Idealize.ShloMosaic.TcCoe Idealize.SL.Sem
open Cert.Kernel18Ideal Cert.Kernel18Ideal.Gen

/-- The normalised row, scaled. -/
theorem h_at (x : FVec Ideal S256x1024 .f32) (g : FVec Ideal S1x1024 .f32) (a : Fin 256) (b : Fin 1024) :
    k0_pay5 (F := Ideal) x g (ix2 a b) = x (ix2 a b) * Ideal.rsqrt (Ideal.div (∑ k : Fin 1024, x (ix2 a k) * x (ix2 a k)) (Ideal.ofBits .f32 0x44800000#32) + Ideal.ofBits .f32 0x358637BD#32) * g (ix2 0 b) := by
  pointwise [k0_pay5, k0_pay4]

theorem block_at (h : FVec Ideal S256x1024 .bf16) (w : FVec Ideal S1x1024x1408 .bf16) (a : Fin 256) (b : Fin 1408) :
    k0_pay10 (F := Ideal) h w (ix2 a b) = ∑ k : Fin 1024, h (ix2 a k) * w (ix3 0 k b) := by
  pointwise [k0_pay10]

theorem zero_at (j : S16x5632.Idx) : k0_pay3 (F := Ideal) j = 0 := by
  pointwise [k0_pay3]

theorem first_row : ∀ a : Fin 16, IntOp.cmpi CmpIPredicate.eq
        (Scalar.select
          (IntOp.andi
            (IntOp.xori
              (IntOp.cmpi CmpIPredicate.slt
                (IntOp.remsi ArithUnit.vector (BitVec.ofNat 32 a.val)
                  (Scalar.select (Scalar.cmpi CmpIPredicate.eq 8#32 0#32) 1#32 8#32))
                0#32)
              (Scalar.cmpi CmpIPredicate.slt 8#32 0#32))
            (IntOp.cmpi CmpIPredicate.ne
              (IntOp.remsi ArithUnit.vector (BitVec.ofNat 32 a.val)
                (Scalar.select (Scalar.cmpi CmpIPredicate.eq 8#32 0#32) 1#32 8#32))
              0#32))
          (IntOp.addi
            (IntOp.remsi ArithUnit.vector (BitVec.ofNat 32 a.val)
              (Scalar.select (Scalar.cmpi CmpIPredicate.eq 8#32 0#32) 1#32 8#32))
            8#32)
          (IntOp.remsi ArithUnit.vector (BitVec.ofNat 32 a.val)
            (Scalar.select (Scalar.cmpi CmpIPredicate.eq 8#32 0#32) 1#32 8#32)))
        0#32 = if a.val % 8 = 0 then 1#1 else 0#1 := by decide +kernel

/-- The rows before a tile: turned by one in each group of eight, the first of a group from the tile before. -/
theorem halo_at (u v : FVec Ideal S16x5632 .f32) (a : Fin 16) (b : Fin 5632) :
    k0_pay16 (F := Ideal) u v 8#32 k0_pay14 k0_pay15 (ix2 a b)
      = if a.val % 8 = 0 then v (ix2 ⟨a.val / 8 * 8 + (a.val % 8 + 8 - 1) % 8, by omega⟩ b) else u (ix2 ⟨a.val / 8 * 8 + (a.val % 8 + 8 - 1) % 8, by omega⟩ b) := by
  pointwise [k0_pay16, k0_pay14, k0_pay15]
  rw [first_row]
  split <;> rfl

theorem half_at (cw : FVec Ideal S8x5632 .f32) (e0 e1 e2 f0 f1 f2 : FVec Ideal S256x1408 .f32) (w : FVec Ideal S1408x1024 .bf16) (a : Fin 256) (b : Fin 1024) :
    k0_pay22 (F := Ideal) (k0_pay18 (F := Ideal) cw) (k0_pay19 (F := Ideal)) (k0_pay20 (F := Ideal) cw e0 e1) (k0_pay21 (F := Ideal) cw) e2 f0 f1 f2 w (ix2 a b)
      = ∑ k : Fin 1408,
      (cw (ix2 0 ⟨k.val, by omega⟩) * e0 (ix2 a k) + cw (ix2 1 ⟨k.val, by omega⟩) * e1 (ix2 a k) + cw (ix2 2 ⟨k.val, by omega⟩) * e2 (ix2 a k)) *
            Ideal.logistic (cw (ix2 0 ⟨k.val, by omega⟩) * e0 (ix2 a k) + cw (ix2 1 ⟨k.val, by omega⟩) * e1 (ix2 a k) + cw (ix2 2 ⟨k.val, by omega⟩) * e2 (ix2 a k)) *
          (cw (ix2 0 ⟨2816 + k.val, by omega⟩) * f0 (ix2 a k) + cw (ix2 1 ⟨2816 + k.val, by omega⟩) * f1 (ix2 a k) + cw (ix2 2 ⟨2816 + k.val, by omega⟩) * f2 (ix2 a k)) *
        w (ix2 k b) := by
  pointwise [k0_pay22, k0_pay18, k0_pay19, k0_pay20, k0_pay21]

theorem gate2_at (cw : FVec Ideal S8x5632 .f32) (e0 e1 e2 : FVec Ideal S256x1408 .f32) (a : Fin 256) (b : Fin 1408) :
    k0_pay23 (F := Ideal) (k0_pay18 (F := Ideal) cw) e0 e1 e2 (ix2 a b)
      = (cw (ix2 0 ⟨1408 + b.val, by omega⟩) * e0 (ix2 a b) + cw (ix2 1 ⟨1408 + b.val, by omega⟩) * e1 (ix2 a b)) + cw (ix2 2 ⟨1408 + b.val, by omega⟩) * e2 (ix2 a b) := by
  pointwise [k0_pay23, k0_pay18]

theorem down_at (cw : FVec Ideal S8x5632 .f32) (h : FVec Ideal S256x1024 .f32) (z : FVec Ideal S256x1408 .f32) (e0 e1 e2 : FVec Ideal S256x1408 .f32) (w : FVec Ideal S1408x1024 .bf16) (a : Fin 256) (b : Fin 1024) :
    k0_pay1 (F := Ideal) (k0_pay18 (F := Ideal) cw) h z e0 (k0_pay24 (F := Ideal) (k0_pay18 (F := Ideal) cw)) e1 e2 w (ix2 a b)
      = h (ix2 a b) + ∑ k : Fin 1408, z (ix2 a k) * Ideal.logistic (z (ix2 a k)) *
          (cw (ix2 0 ⟨4224 + k.val, by omega⟩) * e0 (ix2 a k) + cw (ix2 1 ⟨4224 + k.val, by omega⟩) * e1 (ix2 a k) + cw (ix2 2 ⟨4224 + k.val, by omega⟩) * e2 (ix2 a k)) *
        w (ix2 k b) := by
  pointwise [k0_pay1, k0_pay18, k0_pay24]

theorem added_at (x : FVec Ideal S256x1024 .f32) (cw : FVec Ideal S8x5632 .f32) (h : FVec Ideal S256x1024 .f32) (z e0 q e1 e2 : FVec Ideal S256x1408 .f32) (w : FVec Ideal S1408x1024 .bf16) (pg : FVec Ideal S1x1024 .f32) (a : Fin 256) (b : Fin 1024) :
    k0_pay2 (F := Ideal) (k0_pay4 (F := Ideal) x) cw h z e0 q e1 e2 w pg (ix2 a b)
      = x (ix2 a b) + k0_pay1 (F := Ideal) cw h z e0 q e1 e2 w (ix2 a b)
        * Ideal.rsqrt (Ideal.div (∑ k : Fin 1024, k0_pay1 (F := Ideal) cw h z e0 q e1 e2 w (ix2 a k) * k0_pay1 (F := Ideal) cw h z e0 q e1 e2 w (ix2 a k)) (Ideal.ofBits .f32 0x44800000#32) + Ideal.ofBits .f32 0x358637BD#32) * pg (ix2 0 b) := by
  unfold k0_pay2
  generalize k0_pay1 (F := Ideal) cw h z e0 q e1 e2 w = r
  pointwise [k0_pay4]

end Cert.FfnForward
-- ==== Proof.FfnPoint.lean ====
/- What one point of the forward call leaves, as arrays. -/
module

public import proofs.«01_k».proof.Proof.FfnLaunched
public import Idealize.ShloMosaic.Lib.Pointwise
public import Idealize.ShloMosaic.Lib.Pipeline.ValueKit.Acc
public import Idealize.ShloMosaic.Lib.Pipeline.ValueKit.Tiles
public import Idealize.ShloMosaic.Lib.Pipeline.ValueKit.Geometry

@[expose] public section

set_option maxRecDepth 16384

noncomputable section

namespace Cert.FfnForward

open Idealize.ShloMosaic Idealize.ShloMosaic.TcCoe Idealize.SL.Sem
open Cert.Kernel18Ideal Cert.Kernel18Ideal.Gen

theorem zero2 : (![0, 0] : Fin 2 → ℕ) = fun _ => 0 := funext fun a => by match a with | ⟨0, _⟩ => rfl | ⟨1, _⟩ => rfl

section Pieces

variable (x : Vec Ideal S256x1024 .f32) (g : Vec Ideal S1x1024 .f32) (wu : Vec Ideal S4x1024x1408 .bf16)

/-- The four blocks of columns of a tile's product, as the first result gets them, … -/
abbrev upPieces : List (View.Piece (Elt Ideal) S256x5632 .f32) :=
  [⟨Rect.unit (s := S256x5632) ![0, 4224] S256x1408.size inb_S256x5632_S256x1408_0_4224, k0_pay12 (F := Ideal) (k0_pay5 (F := Ideal) x g) (View.ld wu (Rect.unit (s := S4x1024x1408) ![3, 0, 0] S1x1024x1408.size inb_S4x1024x1408_S1x1024x1408_3_0_0))⟩,
    ⟨Rect.unit (s := S256x5632) ![0, 2816] S256x1408.size inb_S256x5632_S256x1408_0_2816, k0_pay10 (F := Ideal) (k0_pay5 (F := Ideal) x g) (View.ld wu (Rect.unit (s := S4x1024x1408) ![2, 0, 0] S1x1024x1408.size inb_S4x1024x1408_S1x1024x1408_2_0_0))⟩,
    ⟨Rect.unit (s := S256x5632) ![0, 1408] S256x1408.size inb_S256x5632_S256x1408_0_1408, k0_pay8 (F := Ideal) x g (View.ld wu (Rect.unit (s := S4x1024x1408) ![1, 0, 0] S1x1024x1408.size inb_S4x1024x1408_S1x1024x1408_1_0_0))⟩,
    ⟨Rect.unit (s := S256x5632) ![0, 0] S256x1408.size inb_S256x5632_S256x1408_0_0, k0_pay6 (F := Ideal) x g (View.ld wu (Rect.unit (s := S4x1024x1408) ![0, 0, 0] S1x1024x1408.size inb_S4x1024x1408_S1x1024x1408_0_0_0))⟩]

/-- … and as the scratch gets them, sixteen rows down. -/
abbrev fresh : List (View.Piece (Elt Ideal) S272x5632 .f32) :=
  [⟨Rect.unit (s := S272x5632) ![16, 4224] S256x1408.size inb_S272x5632_S256x1408_16_4224, k0_pay13 (F := Ideal) (k0_pay5 (F := Ideal) x g) (View.ld wu (Rect.unit (s := S4x1024x1408) ![3, 0, 0] S1x1024x1408.size inb_S4x1024x1408_S1x1024x1408_3_0_0))⟩,
    ⟨Rect.unit (s := S272x5632) ![16, 2816] S256x1408.size inb_S272x5632_S256x1408_16_2816, k0_pay11 (F := Ideal) (k0_pay5 (F := Ideal) x g) (View.ld wu (Rect.unit (s := S4x1024x1408) ![2, 0, 0] S1x1024x1408.size inb_S4x1024x1408_S1x1024x1408_2_0_0))⟩,
    ⟨Rect.unit (s := S272x5632) ![16, 1408] S256x1408.size inb_S272x5632_S256x1408_16_1408, k0_pay9 (F := Ideal) (k0_pay8 (F := Ideal) x g (View.ld wu (Rect.unit (s := S4x1024x1408) ![1, 0, 0] S1x1024x1408.size inb_S4x1024x1408_S1x1024x1408_1_0_0)))⟩,
    ⟨Rect.unit (s := S272x5632) ![16, 0] S256x1408.size inb_S272x5632_S256x1408_16_0, k0_pay7 (F := Ideal) x g (View.ld wu (Rect.unit (s := S4x1024x1408) ![0, 0, 0] S1x1024x1408.size inb_S4x1024x1408_S1x1024x1408_0_0_0))⟩]

/-- The sixteen rows before the tile, from the last rows `p` of the tile before. -/
abbrev halo (p : Vec Ideal S16x5632 .f32) : FVec Ideal S16x5632 .f32 :=
  k0_pay16 (F := Ideal) (View.ld (View.canon (fresh x g wu)) (Rect.unit (s := S272x5632) ![256, 0] S16x5632.size inb_S272x5632_S16x5632_256_0)) p 8#32 k0_pay14 k0_pay15

/-- The scratch with both, -/
abbrev widePieces (p : Vec Ideal S16x5632 .f32) : List (View.Piece (Elt Ideal) S272x5632 .f32) :=
  ⟨Rect.unit (s := S272x5632) ![0, 0] S16x5632.size inb_S272x5632_S16x5632_0_0, halo x g wu p⟩ :: fresh x g wu

/-- what it holds, -/
abbrev wide (p : Vec Ideal S16x5632 .f32) : Vec Ideal S272x5632 .f32 := View.canon (widePieces x g wu p)

end Pieces

/-- The gate and the value columns of the first half, … -/
abbrev half (E : Vec Ideal S272x5632 .f32) (cw : Vec Ideal S8x5632 .f32) (wd : Vec Ideal S2816x1024 .bf16) : FVec Ideal S256x1024 .f32 :=
  k0_pay22 (F := Ideal) (k0_pay18 (F := Ideal) cw) (k0_pay19 (F := Ideal))
    (k0_pay20 (F := Ideal) cw (View.ld E (Rect.unit (s := S272x5632) ![0, 0] S256x1408.size inb_S272x5632_S256x1408_0_0)) (View.ld E (Rect.unit (s := S272x5632) ![8, 0] S256x1408.size inb_S272x5632_S256x1408_8_0)))
    (k0_pay21 (F := Ideal) cw) (View.ld E (Rect.unit (s := S272x5632) ![16, 0] S256x1408.size inb_S272x5632_S256x1408_16_0))
    (View.ld E (Rect.unit (s := S272x5632) ![0, 2816] S256x1408.size inb_S272x5632_S256x1408_0_2816)) (View.ld E (Rect.unit (s := S272x5632) ![8, 2816] S256x1408.size inb_S272x5632_S256x1408_8_2816))
    (View.ld E (Rect.unit (s := S272x5632) ![16, 2816] S256x1408.size inb_S272x5632_S256x1408_16_2816)) (View.ld wd (Rect.unit (s := S2816x1024) ![0, 0] S1408x1024.size inb_S2816x1024_S1408x1024_0_0))

/-- … the gate of the second half, … -/
abbrev gate2 (E : Vec Ideal S272x5632 .f32) (cw : Vec Ideal S8x5632 .f32) : FVec Ideal S256x1408 .f32 :=
  k0_pay23 (F := Ideal) (k0_pay18 (F := Ideal) cw) (View.ld E (Rect.unit (s := S272x5632) ![0, 1408] S256x1408.size inb_S272x5632_S256x1408_0_1408)) (View.ld E (Rect.unit (s := S272x5632) ![8, 1408] S256x1408.size inb_S272x5632_S256x1408_8_1408))
    (View.ld E (Rect.unit (s := S272x5632) ![16, 1408] S256x1408.size inb_S272x5632_S256x1408_16_1408))

/-- … the product with the second weight, … -/
abbrev down (E : Vec Ideal S272x5632 .f32) (cw : Vec Ideal S8x5632 .f32) (wd : Vec Ideal S2816x1024 .bf16) : FVec Ideal S256x1024 .f32 :=
  k0_pay1 (F := Ideal) (k0_pay18 (F := Ideal) cw) (half E cw wd) (gate2 E cw) (View.ld E (Rect.unit (s := S272x5632) ![0, 4224] S256x1408.size inb_S272x5632_S256x1408_0_4224)) (k0_pay24 (F := Ideal) (k0_pay18 (F := Ideal) cw))
    (View.ld E (Rect.unit (s := S272x5632) ![8, 4224] S256x1408.size inb_S272x5632_S256x1408_8_4224)) (View.ld E (Rect.unit (s := S272x5632) ![16, 4224] S256x1408.size inb_S272x5632_S256x1408_16_4224))
    (View.ld wd (Rect.unit (s := S2816x1024) ![1408, 0] S1408x1024.size inb_S2816x1024_S1408x1024_1408_0))

/-- … and the rows with its normalised rows added. -/
abbrev added (x : Vec Ideal S256x1024 .f32) (E : Vec Ideal S272x5632 .f32) (cw : Vec Ideal S8x5632 .f32) (wd : Vec Ideal S2816x1024 .bf16) (pg : Vec Ideal S1x1024 .f32) : FVec Ideal S256x1024 .f32 :=
  k0_pay2 (F := Ideal) (k0_pay4 (F := Ideal) x) (k0_pay18 (F := Ideal) cw) (half E cw wd) (gate2 E cw) (View.ld E (Rect.unit (s := S272x5632) ![0, 4224] S256x1408.size inb_S272x5632_S256x1408_0_4224)) (k0_pay24 (F := Ideal) (k0_pay18 (F := Ideal) cw))
    (View.ld E (Rect.unit (s := S272x5632) ![8, 4224] S256x1408.size inb_S272x5632_S256x1408_8_4224)) (View.ld E (Rect.unit (s := S272x5632) ![16, 4224] S256x1408.size inb_S272x5632_S256x1408_16_4224))
    (View.ld wd (Rect.unit (s := S2816x1024) ![1408, 0] S1408x1024.size inb_S2816x1024_S1408x1024_1408_0)) pg

/-- The second weight from its four parts in HBM. -/
abbrev wdPieces (v : Vec Ideal S4x704x1024 .bf16) : List (View.Piece (Elt Ideal) S2816x1024 .bf16) :=
  [⟨Rect.unit (s := S2816x1024) ![2112, 0] S704x1024.size inb_S2816x1024_S704x1024_2112_0, shapeCast S704x1024 (View.ld v (Rect.unit (s := S4x704x1024) ![3, 0, 0] S1x704x1024.size inb_S4x704x1024_S1x704x1024_3_0_0)) rfl⟩,
    ⟨Rect.unit (s := S2816x1024) ![1408, 0] S704x1024.size inb_S2816x1024_S704x1024_1408_0, shapeCast S704x1024 (View.ld v (Rect.unit (s := S4x704x1024) ![2, 0, 0] S1x704x1024.size inb_S4x704x1024_S1x704x1024_2_0_0)) rfl⟩,
    ⟨Rect.unit (s := S2816x1024) ![704, 0] S704x1024.size inb_S2816x1024_S704x1024_704_0, shapeCast S704x1024 (View.ld v (Rect.unit (s := S4x704x1024) ![1, 0, 0] S1x704x1024.size inb_S4x704x1024_S1x704x1024_1_0_0)) rfl⟩,
    ⟨Rect.unit (s := S2816x1024) ![0, 0] S704x1024.size inb_S2816x1024_S704x1024_0_0, shapeCast S704x1024 (View.ld v (Rect.unit (s := S4x704x1024) ![0, 0, 0] S1x704x1024.size inb_S4x704x1024_S1x704x1024_0_0_0)) rfl⟩]

section Cases

variable (c : Dev nD) (i : grid0.Coords) (b : Bufs) (x : Ins Ideal) (s : Carry Ideal) (fh : HbBuf0 (F := Ideal) c hbM0_0)

theorem pointB_up (h0 : ¬cond0_0 i) : (outB c i b h0 x s fh).up = View.canon (upPieces x.x x.g x.wu) := by
  unfold outB runB
  dsimp only
  try sl_unfold_words
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointB_h (h0 : ¬cond0_0 i) : (outB c i b h0 x s fh).h = k0_pay5 (F := Ideal) x.x x.g := by
  unfold outB runB
  dsimp only
  try sl_unfold_words
  rw [View.canon_unit_zero (S := S256x1024) zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointB_last (h0 : ¬cond0_0 i) : (outB c i b h0 x s fh).next.last = k0_pay17 (F := Ideal) (View.ld (wide x.x x.g x.wu s.last) (Rect.unit (s := S272x5632) ![256, 0] S16x5632.size inb_S272x5632_S16x5632_256_0)) := by
  unfold outB runB
  dsimp only
  try sl_unfold_words
  rw [View.canon_unit_zero (S := S16x5632) zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointB_wd (h0 : ¬cond0_0 i) : (outB c i b h0 x s fh).next.wd = s.wd := by
  unfold outB
  dsimp only

theorem pointB_d (h0 : ¬cond0_0 i) : (outB c i b h0 x s fh).d = down (wide x.x x.g x.wu s.last) x.cw s.wd := by
  unfold outB runB
  dsimp only
  try sl_unfold_words
  rw [View.canon_unit_zero (S := S256x1024) zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointB_x (h0 : ¬cond0_0 i) : (outB c i b h0 x s fh).x = added x.x (wide x.x x.g x.wu s.last) x.cw s.wd x.pg := by
  unfold outB runB
  dsimp only
  try sl_unfold_words
  rw [View.canon_unit_zero (S := S256x1024) zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointA_up (h0 : cond0_0 i) : (outA c i b h0 x fh).up = View.canon (upPieces x.x x.g x.wu) := by
  unfold outA runA
  dsimp only
  try sl_unfold_words
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointA_h (h0 : cond0_0 i) : (outA c i b h0 x fh).h = k0_pay5 (F := Ideal) x.x x.g := by
  unfold outA runA
  dsimp only
  try sl_unfold_words
  rw [View.canon_unit_zero (S := S256x1024) zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointA_last (h0 : cond0_0 i) : (outA c i b h0 x fh).next.last = k0_pay17 (F := Ideal) (View.ld (wide x.x x.g x.wu (k0_pay3 (F := Ideal))) (Rect.unit (s := S272x5632) ![256, 0] S16x5632.size inb_S272x5632_S16x5632_256_0)) := by
  unfold outA runA
  dsimp only
  try sl_unfold_words
  rw [View.canon_cons_unit_zero (S := S16x5632) zero2]
  simp only [View.readCov_unit_zero (S := S16x5632) _ zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]

theorem pointA_wd (h0 : cond0_0 i) : (outA c i b h0 x fh).next.wd = (View.canon (wdPieces fh)) := by
  unfold outA runA
  dsimp only
  try sl_unfold_words
  refine congrArg View.canon ?_
  rfl

theorem pointA_d (h0 : cond0_0 i) : (outA c i b h0 x fh).d = down (wide x.x x.g x.wu (k0_pay3 (F := Ideal))) x.cw (View.canon (wdPieces fh)) := by
  unfold outA runA
  dsimp only
  try sl_unfold_words
  rw [View.canon_unit_zero (S := S256x1024) zero2]
  simp only [View.readCov_unit_zero (S := S16x5632) _ zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]
  rfl

theorem pointA_x (h0 : cond0_0 i) : (outA c i b h0 x fh).x = added x.x (wide x.x x.g x.wu (k0_pay3 (F := Ideal))) x.cw (View.canon (wdPieces fh)) x.pg := by
  unfold outA runA
  dsimp only
  try sl_unfold_words
  rw [View.canon_unit_zero (S := S256x1024) zero2]
  simp only [View.readCov_unit_zero (S := S16x5632) _ zero2]
  simp only [View.readCov_eq_canon', View.readAt_eq_ld, b.x_whole.read_unread, b.g_whole.read_unread, b.wu_whole.read_unread, b.cw_whole.read_unread, b.pg_whole.read_unread, b.last_whole.read_unread, b.wd_whole.read_unread, View.ld_unit_zero (S := S256x1024) zero2, View.ld_unit_zero (S := S1x1024) zero2, View.ld_unit_zero (S := S16x5632) zero2, View.ld_unit_zero (S := S8x5632) zero2]
  rfl

end Cases

end Cert.FfnForward
-- ==== Proof.FfnTile.lean ====
/- One tile of the forward call: its product, the rows stacked for the convolution, and the results by rows. -/
module

public import proofs.«01_k».proof.Proof.FfnAt
public import proofs.«01_k».proof.Proof.FfnPoint
public import Idealize.ShloMosaic.Lib.Pointwise
public import Idealize.ShloMosaic.Lib.Pipeline.ValueKit.Acc
public import Idealize.ShloMosaic.Lib.Pipeline.ValueKit.Tiles
public import Idealize.ShloMosaic.Lib.Pipeline.ValueKit.Geometry

@[expose] public section

set_option maxRecDepth 16384

noncomputable section

namespace Cert.FfnForward

open Idealize.ShloMosaic Idealize.ShloMosaic.TcCoe Idealize.SL.Sem
open Cert.Kernel18Ideal Cert.Kernel18Ideal.Gen

section Tile

variable (x : Vec Ideal S256x1024 .f32) (g : Vec Ideal S1x1024 .f32) (wu : Vec Ideal S4x1024x1408 .bf16)

/-- A tile's product with the whole first weight. -/
def prod : Vec Ideal S256x5632 .f32 := fun i =>
  ∑ k : Fin 1024, k0_pay5 (F := Ideal) x g (ix2 (i 0) k) * wu (ix3 ⟨(i 1).val / 1408, by have h : (i 1).val < 5632 := (i 1).isLt; omega⟩ k ⟨(i 1).val % 1408, Nat.mod_lt _ (by decide)⟩)

/-- A block of columns of it. -/
theorem block_prod (q : Fin 4) (inb) (a : Fin 256) (b : Fin 1408) (i : S256x5632.Idx) (h0 : (i 0).val = a.val) (h1 : (i 1).val = 1408 * q.val + b.val) :
    k0_pay10 (F := Ideal) (k0_pay5 (F := Ideal) x g) (View.ld wu (Rect.unit (s := S4x1024x1408) ![q.val, 0, 0] S1x1024x1408.size inb)) (ix2 a b) = prod x g wu i := by
  refine (block_at _ _ a b).trans ?_
  unfold prod
  refine Fin.sum_fin_congr fun k => congrArg₂ (fun x y : EReal => x * y) (congrArg _ ?_) (View.ld_unit_apply_of wu _ _ _ _ _ ?_)
  · funext z
    match z with
    | ⟨0, _⟩ => exact Fin.ext h0.symm
    | ⟨1, _⟩ => rfl
  · intro z
    have hb := b.isLt
    match z with
    | ⟨0, _⟩ => exact (show (i 1).val / 1408 = q.val + 0 by omega)
    | ⟨1, _⟩ => exact (Nat.zero_add _).symm
    | ⟨2, _⟩ => exact (show (i 1).val % 1408 = 0 + b.val by omega)

theorem up_prod : View.canon (upPieces x g wu) = prod x g wu := by
  funext y
  refine View.canon_apply_of_pieces (prod x g wu) _ (fun p hp => ?_) y (View.cover_of_tiledL (upPieces x g wu) S256x1408.size (by sl_kernel_rfl) y)
  simp only [upPieces, List.mem_cons, List.not_mem_nil, or_false] at hp
  rcases hp with rfl | rfl | rfl | rfl <;> intro z <;>
    obtain ⟨a, b, rfl⟩ : ∃ (a : Fin 256) (b : Fin 1408), z = ix2 a b := ⟨z 0, z 1, funext fun k => by match k with | ⟨0, _⟩ => rfl | ⟨1, _⟩ => rfl⟩
  · exact block_prod x g wu 3 inb_S4x1024x1408_S1x1024x1408_3_0_0 a b _ (show 0 + 1 * a.val = a.val by omega) (show 4224 + 1 * b.val = 1408 * 3 + b.val by omega)
  · exact block_prod x g wu 2 inb_S4x1024x1408_S1x1024x1408_2_0_0 a b _ (show 0 + 1 * a.val = a.val by omega) (show 2816 + 1 * b.val = 1408 * 2 + b.val by omega)
  · exact block_prod x g wu 1 inb_S4x1024x1408_S1x1024x1408_1_0_0 a b _ (show 0 + 1 * a.val = a.val by omega) (show 1408 + 1 * b.val = 1408 * 1 + b.val by omega)
  · exact block_prod x g wu 0 inb_S4x1024x1408_S1x1024x1408_0_0_0 a b _ (show 0 + 1 * a.val = a.val by omega) (show 0 + 1 * b.val = 1408 * 0 + b.val by omega)

/-- The scratch by rows: those before the tile, then the tile's product. -/
def stacked (f : FVec Ideal S16x5632 .f32) : Vec Ideal S272x5632 .f32 := fun i =>
  if h : (i 0).val < 16 then f (ix2 ⟨(i 0).val, h⟩ (i 1)) else prod x g wu (ix2 ⟨(i 0).val - 16, by have h0 : (i 0).val < 272 := (i 0).isLt; omega⟩ (i 1))

theorem stacked_low (f : FVec Ideal S16x5632 .f32) (i : S272x5632.Idx) (a : Fin 16) (b : Fin 5632) (h0 : (i 0).val = a.val) (h1 : (i 1).val = b.val) :
    stacked x g wu f i = f (ix2 a b) := by
  have ha := a.isLt
  refine (dif_pos (show (i 0).val < 16 by omega)).trans (congrArg f (funext fun k => ?_))
  match k with
  | ⟨0, _⟩ => exact Fin.ext h0
  | ⟨1, _⟩ => exact Fin.ext h1

theorem stacked_high (f : FVec Ideal S16x5632 .f32) (i : S272x5632.Idx) (a : Fin 256) (b : Fin 5632) (h0 : (i 0).val = 16 + a.val) (h1 : (i 1).val = b.val) :
    stacked x g wu f i = prod x g wu (ix2 a b) := by
  refine (dif_neg (show ¬(i 0).val < 16 by omega)).trans (congrArg (prod x g wu) (funext fun k => ?_))
  match k with
  | ⟨0, _⟩ => exact Fin.ext (show (i 0).val - 16 = a.val by omega)
  | ⟨1, _⟩ => exact Fin.ext h1

theorem block_stacked (f : FVec Ideal S16x5632 .f32) (q : Fin 4) (inb) (a : Fin 256) (b : Fin 1408) (i : S272x5632.Idx) (h0 : (i 0).val = 16 + a.val) (h1 : (i 1).val = 1408 * q.val + b.val) :
    k0_pay10 (F := Ideal) (k0_pay5 (F := Ideal) x g) (View.ld wu (Rect.unit (s := S4x1024x1408) ![q.val, 0, 0] S1x1024x1408.size inb)) (ix2 a b) = stacked x g wu f i := by
  have hb := b.isLt
  have hq := q.isLt
  exact (block_prod x g wu q inb a b (ix2 a (⟨1408 * q.val + b.val, by omega⟩ : Fin 5632)) rfl rfl).trans (stacked_high x g wu f i a ⟨1408 * q.val + b.val, by omega⟩ h0 h1).symm

theorem fresh_stacked (f : FVec Ideal S16x5632 .f32) : ∀ p ∈ fresh x g wu, ∀ z : p.1.shape.Idx, p.2 z = stacked x g wu f (p.1.emb z) := by
  intro p hp
  simp only [fresh, List.mem_cons, List.not_mem_nil, or_false] at hp
  rcases hp with rfl | rfl | rfl | rfl <;> intro z <;>
    obtain ⟨a, b, rfl⟩ : ∃ (a : Fin 256) (b : Fin 1408), z = ix2 a b := ⟨z 0, z 1, funext fun k => by match k with | ⟨0, _⟩ => rfl | ⟨1, _⟩ => rfl⟩
  · exact (congrFun (shapeCast_self _ _) _).trans (block_stacked x g wu f 3 inb_S4x1024x1408_S1x1024x1408_3_0_0 a b _ (show 16 + 1 * a.val = 16 + a.val by omega) (show 4224 + 1 * b.val = 1408 * 3 + b.val by omega))
  · exact (congrFun (shapeCast_self _ _) _).trans (block_stacked x g wu f 2 inb_S4x1024x1408_S1x1024x1408_2_0_0 a b _ (show 16 + 1 * a.val = 16 + a.val by omega) (show 2816 + 1 * b.val = 1408 * 2 + b.val by omega))
  · exact (congrFun (shapeCast_self _ _) _).trans (block_stacked x g wu f 1 inb_S4x1024x1408_S1x1024x1408_1_0_0 a b _ (show 16 + 1 * a.val = 16 + a.val by omega) (show 1408 + 1 * b.val = 1408 * 1 + b.val by omega))
  · exact (congrFun (shapeCast_self _ _) _).trans (block_stacked x g wu f 0 inb_S4x1024x1408_S1x1024x1408_0_0_0 a b _ (show 16 + 1 * a.val = 16 + a.val by omega) (show 0 + 1 * b.val = 1408 * 0 + b.val by omega))

theorem wide_cover (p : Vec Ideal S16x5632 .f32) (y : S272x5632.Idx) : ∃ q ∈ widePieces x g wu p, y ∈ q.1.set := by
  have h0 : (y 0).val < 272 := (y 0).isLt
  have h1 : (y 1).val < 5632 := (y 1).isLt
  by_cases hr : (y 0).val < 16
  · exact ⟨_, List.mem_cons_self, (Rect.mem_set_unit (inb := inb_S272x5632_S16x5632_0_0)).mpr fun z => match z with
      | ⟨0, _⟩ => ⟨Nat.zero_le _, show (y 0).val < 0 + 16 by omega⟩
      | ⟨1, _⟩ => ⟨Nat.zero_le _, show (y 1).val < 0 + 5632 by omega⟩⟩
  suffices h : ∃ q ∈ fresh x g wu, y ∈ q.1.set from h.elim fun q h => ⟨q, List.mem_cons_of_mem _ h.1, h.2⟩
  unfold fresh
  by_cases c3 : 4224 ≤ (y 1).val
  · exact ⟨_, List.mem_cons_self, (Rect.mem_set_unit (inb := inb_S272x5632_S256x1408_16_4224)).mpr fun z => match z with
      | ⟨0, _⟩ => ⟨show 16 ≤ (y 0).val by omega, show (y 0).val < 16 + 256 by omega⟩
      | ⟨1, _⟩ => ⟨c3, show (y 1).val < 4224 + 1408 by omega⟩⟩
  by_cases c2 : 2816 ≤ (y 1).val
  · exact ⟨_, List.mem_cons_of_mem _ List.mem_cons_self, (Rect.mem_set_unit (inb := inb_S272x5632_S256x1408_16_2816)).mpr fun z => match z with
      | ⟨0, _⟩ => ⟨show 16 ≤ (y 0).val by omega, show (y 0).val < 16 + 256 by omega⟩
      | ⟨1, _⟩ => ⟨c2, show (y 1).val < 2816 + 1408 by omega⟩⟩
  by_cases c1 : 1408 ≤ (y 1).val
  · exact ⟨_, List.mem_cons_of_mem _ (List.mem_cons_of_mem _ List.mem_cons_self), (Rect.mem_set_unit (inb := inb_S272x5632_S256x1408_16_1408)).mpr fun z => match z with
      | ⟨0, _⟩ => ⟨show 16 ≤ (y 0).val by omega, show (y 0).val < 16 + 256 by omega⟩
      | ⟨1, _⟩ => ⟨c1, show (y 1).val < 1408 + 1408 by omega⟩⟩
  · exact ⟨_, List.mem_cons_of_mem _ (List.mem_cons_of_mem _ (List.mem_cons_of_mem _ List.mem_cons_self)), (Rect.mem_set_unit (inb := inb_S272x5632_S256x1408_16_0)).mpr fun z => match z with
      | ⟨0, _⟩ => ⟨show 16 ≤ (y 0).val by omega, show (y 0).val < 16 + 256 by omega⟩
      | ⟨1, _⟩ => ⟨Nat.zero_le _, show (y 1).val < 0 + 1408 by omega⟩⟩

theorem wide_stacked (p : Vec Ideal S16x5632 .f32) : wide x g wu p = stacked x g wu (halo x g wu p) := by
  funext y
  refine View.canon_apply_of_pieces (stacked x g wu (halo x g wu p)) _ (fun q hq => ?_) y (wide_cover x g wu p y)
  rcases List.mem_cons.mp hq with rfl | hq
  · intro z
    obtain ⟨a, b, rfl⟩ : ∃ (a : Fin 16) (b : Fin 5632), z = ix2 a b := ⟨z 0, z 1, funext fun k => by match k with | ⟨0, _⟩ => rfl | ⟨1, _⟩ => rfl⟩
    exact (stacked_low x g wu (halo x g wu p) _ a b (show 0 + 1 * a.val = a.val by omega) (show 0 + 1 * b.val = b.val by omega)).symm
  · exact fresh_stacked x g wu _ q hq

/-- Below the first sixteen rows the scratch holds the product before those rows are written as well. -/
theorem fresh_low (y : S272x5632.Idx) (h : 16 ≤ (y 0).val) : View.canon (fresh x g wu) y = stacked x g wu (fun _ => 0) y := by
  refine View.canon_apply_of_pieces (stacked x g wu fun _ => 0) _ (fresh_stacked x g wu _) y ?_
  obtain ⟨q, hq, hy⟩ := wide_cover x g wu (fun _ => 0) y
  rcases List.mem_cons.mp hq with rfl | hq
  · have h0 : (y 0).val < 0 + 16 := ((Rect.mem_set_unit (inb := inb_S272x5632_S16x5632_0_0)).mp hy 0).2
    omega
  · exact ⟨q, hq, hy⟩

theorem halo_row (p : Vec Ideal S16x5632 .f32) (a : Fin 16) (b : Fin 5632) :
    halo x g wu p (ix2 a b) = if a.val % 8 = 0 then p (ix2 ⟨a.val / 8 * 8 + (a.val % 8 + 8 - 1) % 8, by omega⟩ b)
      else prod x g wu (ix2 ⟨240 + (a.val / 8 * 8 + (a.val % 8 + 8 - 1) % 8), by omega⟩ b) := by
  refine (halo_at _ _ a b).trans ?_
  split
  · rfl
  · refine (View.ld_unit_apply_of _ _ _ _ _ (ix2 (⟨256 + (a.val / 8 * 8 + (a.val % 8 + 8 - 1) % 8), by omega⟩ : Fin 272) b) (fun z => by
      match z with
      | ⟨0, _⟩ => rfl
      | ⟨1, _⟩ => exact (Nat.zero_add _).symm)).trans ?_
    rw [fresh_low x g wu _ (show 16 ≤ 256 + (a.val / 8 * 8 + (a.val % 8 + 8 - 1) % 8) by omega)]
    exact stacked_high x g wu _ _ ⟨240 + (a.val / 8 * 8 + (a.val % 8 + 8 - 1) % 8), by omega⟩ b (show 256 + (a.val / 8 * 8 + (a.val % 8 + 8 - 1) % 8) = 16 + (240 + (a.val / 8 * 8 + (a.val % 8 + 8 - 1) % 8)) by omega) rfl

/-- What is kept for the next tile: the last sixteen rows of the product. -/
theorem kept_row (p : Vec Ideal S16x5632 .f32) (a : Fin 16) (b : Fin 5632) :
    k0_pay17 (F := Ideal) (View.ld (wide x g wu p) (Rect.unit (s := S272x5632) ![256, 0] S16x5632.size inb_S272x5632_S16x5632_256_0)) (ix2 a b)
      = prod x g wu (ix2 ⟨240 + a.val, by omega⟩ b) := by
  rw [wide_stacked]
  generalize hw : stacked x g wu (halo x g wu p) = w
  unfold k0_pay17
  rw [shapeCast_self]
  refine (View.ld_unit_apply_of w _ _ _ _ (ix2 (⟨256 + a.val, by omega⟩ : Fin 272) b) (fun z => by
      match z with
      | ⟨0, _⟩ => rfl
      | ⟨1, _⟩ => exact (Nat.zero_add _).symm)).trans ?_
  rw [← hw]
  exact stacked_high x g wu _ _ ⟨240 + a.val, by omega⟩ b (show 256 + a.val = 16 + (240 + a.val) by omega) rfl

end Tile

section Down

variable (E : Vec Ideal S272x5632 .f32) (cw : Vec Ideal S8x5632 .f32) (wd : Vec Ideal S2816x1024 .bf16)

/-- Three rows of the scratch, eight apart, with the three weights of their column. -/
def mix (a : Fin 256) (j : Fin 5632) : EReal :=
  cw (ix2 0 j) * E (ix2 ⟨a.val, by omega⟩ j) + cw (ix2 1 j) * E (ix2 ⟨8 + a.val, by omega⟩ j) + cw (ix2 2 j) * E (ix2 ⟨16 + a.val, by omega⟩ j)

/-- The gated columns. -/
def act (a : Fin 256) (j : Fin 2816) : EReal :=
  mix E cw a ⟨j.val, by omega⟩ * Ideal.logistic (mix E cw a ⟨j.val, by omega⟩) * mix E cw a ⟨2816 + j.val, by omega⟩

theorem load_at (r q : ℕ) (inb) (a : Fin 256) (k : Fin 1408) (i : Fin 272) (j : Fin 5632) (hi : i.val = r + a.val) (hj : j.val = q + k.val) :
    View.ld E (Rect.unit (s := S272x5632) ![r, q] S256x1408.size inb) (ix2 a k) = E (ix2 i j) :=
  View.ld_unit_apply_of E _ _ _ _ _ fun z => match z with
    | ⟨0, _⟩ => hi
    | ⟨1, _⟩ => hj

theorem mix_of (e0 e1 e2 : EReal) (a : Fin 256) (j : Fin 5632) (h0 : e0 = E (ix2 ⟨a.val, by omega⟩ j)) (h1 : e1 = E (ix2 ⟨8 + a.val, by omega⟩ j)) (h2 : e2 = E (ix2 ⟨16 + a.val, by omega⟩ j)) :
    cw (ix2 0 j) * e0 + cw (ix2 1 j) * e1 + cw (ix2 2 j) * e2 = mix E cw a j := by
  rw [h0, h1, h2]; rfl

theorem half_sum (a : Fin 256) (b : Fin 1024) :
    half E cw wd (ix2 a b) = ∑ k : Fin 1408, act E cw a ⟨k.val, by omega⟩ * wd (ix2 ⟨k.val, by omega⟩ b) := by
  refine (half_at cw _ _ _ _ _ _ _ a b).trans (Fin.sum_fin_congr fun k => ?_)
  have hk := k.isLt
  refine congrArg₂ (fun x y : EReal => x * y) ?_ (View.ld_unit_apply_of wd _ _ _ _ _ fun z => match z with
    | ⟨0, _⟩ => (Nat.zero_add _).symm
    | ⟨1, _⟩ => (Nat.zero_add _).symm)
  rw [mix_of E cw _ _ _ a ⟨k.val, by omega⟩ (load_at E 0 0 _ a k _ _ (Nat.zero_add _).symm (Nat.zero_add _).symm) (load_at E 8 0 _ a k _ _ rfl (Nat.zero_add _).symm) (load_at E 16 0 _ a k _ _ rfl (Nat.zero_add _).symm),
    mix_of E cw _ _ _ a ⟨2816 + k.val, by omega⟩ (load_at E 0 2816 _ a k _ _ (Nat.zero_add _).symm rfl) (load_at E 8 2816 _ a k _ _ rfl rfl) (load_at E 16 2816 _ a k _ _ rfl rfl)]
  rfl

theorem gate2_mix (a : Fin 256) (k : Fin 1408) : gate2 E cw (ix2 a k) = mix E cw a ⟨1408 + k.val, by omega⟩ :=
  (gate2_at cw _ _ _ a k).trans (mix_of E cw _ _ _ a ⟨1408 + k.val, by omega⟩ (load_at E 0 1408 _ a k _ _ (Nat.zero_add _).symm rfl) (load_at E 8 1408 _ a k _ _ rfl rfl) (load_at E 16 1408 _ a k _ _ rfl rfl))

/-- The two halves make the whole product. -/
theorem down_sum (a : Fin 256) (b : Fin 1024) : down E cw wd (ix2 a b) = ∑ j : Fin 2816, act E cw a j * wd (ix2 j b) := by
  refine (down_at cw _ _ _ _ _ _ a b).trans (Eq.trans ?_ (Fin.sum_mul_add_fin 2 1408 fun j : Fin 2816 => act E cw a j * wd (ix2 j b)))
  rw [Fin.sum_univ_two, half_sum]
  refine congrArg₂ (fun x y : EReal => x + y) (Fin.sum_fin_congr fun k => ?_) (Fin.sum_fin_congr fun k => ?_)
  · have e : (⟨k.val, by omega⟩ : Fin 2816) = ⟨(0 : Fin 2).val * 1408 + k.val, by have := k.isLt; show 0 * 1408 + k.val < 2816; omega⟩ := Fin.ext (show k.val = 0 * 1408 + k.val by omega)
    rw [e]
  · have e : (⟨1408 + k.val, by omega⟩ : Fin 2816) = ⟨(1 : Fin 2).val * 1408 + k.val, by have := k.isLt; show 1 * 1408 + k.val < 2816; omega⟩ := Fin.ext (show 1408 + k.val = 1 * 1408 + k.val by omega)
    rw [← e]
    refine congrArg₂ (fun x y : EReal => x * y) ?_ (View.ld_unit_apply_of wd _ _ _ _ _ fun z => match z with
      | ⟨0, _⟩ => rfl
      | ⟨1, _⟩ => (Nat.zero_add _).symm)
    rw [gate2_mix, mix_of E cw _ _ _ a ⟨4224 + k.val, by omega⟩ (load_at E 0 4224 _ a k _ _ (Nat.zero_add _).symm rfl) (load_at E 8 4224 _ a k _ _ rfl rfl) (load_at E 16 4224 _ a k _ _ rfl rfl)]
    unfold act
    have e2 : (⟨2816 + (⟨1408 + k.val, by omega⟩ : Fin 2816).val, by have := k.isLt; show 2816 + (1408 + k.val) < 5632; omega⟩ : Fin 5632) = ⟨4224 + k.val, by omega⟩ := Fin.ext (show 2816 + (1408 + k.val) = 4224 + k.val by omega)
    rw [e2]

/-- The four parts of the second weight, one below the other. -/
def below (v : Vec Ideal S4x704x1024 .bf16) : Vec Ideal S2816x1024 .bf16 := fun i =>
  v (ix3 ⟨(i 0).val / 704, by have h : (i 0).val < 2816 := (i 0).isLt; omega⟩ ⟨(i 0).val % 704, Nat.mod_lt _ (by decide)⟩ (i 1))

theorem part_at (w : FVec Ideal S1x704x1024 .bf16) (h) (a : Fin 704) (b : Fin 1024) : shapeCast S704x1024 w h (ix2 a b) = w (ix3 0 a b) := by
  pointwise []

theorem part_below (v : Vec Ideal S4x704x1024 .bf16) (q : Fin 4) (inb) (h) (a : Fin 704) (b : Fin 1024) (i : S2816x1024.Idx) (h0 : (i 0).val = 704 * q.val + a.val) (h1 : (i 1).val = b.val) :
    shapeCast S704x1024 (View.ld v (Rect.unit (s := S4x704x1024) ![q.val, 0, 0] S1x704x1024.size inb)) h (ix2 a b) = below v i := by
  refine (part_at _ h a b).trans (View.ld_unit_apply_of v _ _ _ _ _ fun z => ?_)
  have ha := a.isLt
  match z with
  | ⟨0, _⟩ => exact (show (i 0).val / 704 = q.val + 0 by omega)
  | ⟨1, _⟩ => exact (show (i 0).val % 704 = 0 + a.val by omega)
  | ⟨2, _⟩ => exact (show (i 1).val = 0 + b.val by omega)

theorem wd_below (v : Vec Ideal S4x704x1024 .bf16) : View.canon (wdPieces v) = below v := by
  funext y
  refine View.canon_apply_of_pieces (below v) _ (fun p hp => ?_) y (View.cover_of_tiledL (wdPieces v) S704x1024.size (by sl_kernel_rfl) y)
  simp only [wdPieces, List.mem_cons, List.not_mem_nil, or_false] at hp
  rcases hp with rfl | rfl | rfl | rfl <;> intro z <;>
    obtain ⟨a, b, rfl⟩ : ∃ (a : Fin 704) (b : Fin 1024), z = ix2 a b := ⟨z 0, z 1, funext fun k => by match k with | ⟨0, _⟩ => rfl | ⟨1, _⟩ => rfl⟩
  · exact part_below v 3 inb_S4x704x1024_S1x704x1024_3_0_0 _ a b _ (show 2112 + 1 * a.val = 704 * 3 + a.val by omega) (show 0 + 1 * b.val = b.val by omega)
  · exact part_below v 2 inb_S4x704x1024_S1x704x1024_2_0_0 _ a b _ (show 1408 + 1 * a.val = 704 * 2 + a.val by omega) (show 0 + 1 * b.val = b.val by omega)
  · exact part_below v 1 inb_S4x704x1024_S1x704x1024_1_0_0 _ a b _ (show 704 + 1 * a.val = 704 * 1 + a.val by omega) (show 0 + 1 * b.val = b.val by omega)
  · exact part_below v 0 inb_S4x704x1024_S1x704x1024_0_0_0 _ a b _ (show 0 + 1 * a.val = 704 * 0 + a.val by omega) (show 0 + 1 * b.val = b.val by omega)

end Down

end Cert.FfnForward
-- ==== Proof.FfnArrays.lean ====
/- What the points of the forward call find: the rows in the call's order, the scales, the two weights and the weights of the columns. -/
module

public import proofs.«01_k».proof.Proof.FfnLaunched
public import proofs.«01_k».proof.Proof.FfnRef
public import proofs.«01_k».proof.Proof.FfnTile
public import Idealize.ShloMosaic.Lib.StableHlo.RunRead
public import Idealize.ShloMosaic.Lib.StableHlo.ReadAt
public import Idealize.ShloMosaic.Lib.Pointwise
public import Idealize.ShloMosaic.Lib.Pipeline.ValueKit.Acc
public import Idealize.ShloMosaic.Lib.Pipeline.ValueKit.Tiles
public import Idealize.ShloMosaic.Lib.Pipeline.ValueKit.Geometry

@[expose] public section

set_option maxRecDepth 16384

noncomputable section

namespace Cert.FfnForward

open Idealize.ShloMosaic Idealize.ShloMosaic.TcCoe Idealize.SL.Sem
open Cert.Kernel18Ideal Cert.Kernel18Ideal.Gen

variable (m : (ℓ : Loc nD τ sig) → Buf (Elt Ideal) ℓ)

/-- The rows, the scale, the first weight, the weights of the columns, the second weight, and the second scale. -/
abbrev rows (c : Dev nD) : FVec Ideal S4096x1024 .f32 := m ((c.tc : Thread nD τ).loc main_arg0)
abbrev scale (c : Dev nD) : FVec Ideal S1024 .f32 := m ((c.tc : Thread nD τ).loc main_arg1)
abbrev wUp (c : Dev nD) : FVec Ideal S1024x5632 .f32 := m ((c.tc : Thread nD τ).loc main_arg2)
abbrev conv (c : Dev nD) : FVec Ideal S3x5632 .f32 := m ((c.tc : Thread nD τ).loc main_arg3)
abbrev wDown (c : Dev nD) : FVec Ideal S2816x1024 .f32 := m ((c.tc : Thread nD τ).loc main_arg4)
abbrev post (c : Dev nD) : FVec Ideal S1024 .f32 := m ((c.tc : Thread nD τ).loc main_arg5)

theorem found_rows (c : Dev nD) (r : Fin 4096) (j : Fin 1024) : V m c main_v7 (ix2 r j) = rows m c (ix2 (Plain.tok r) j) := by
  show StableHlo.after _ _ _ _ = _
  simp only [hostOps0, hostOps0_1, hostOps0_2, List.flatten_cons, List.flatten_nil, List.append_nil, List.cons_append, List.nil_append]
  after_results_simp
  pointwise []
  rfl

theorem found_scale (c : Dev nD) (b : Fin 1024) : V m c main_v8 (ix2 0 b) = scale m c (ix1 b) := by
  show StableHlo.after _ _ _ _ = _
  simp only [hostOps0, hostOps0_1, hostOps0_2, List.flatten_cons, List.flatten_nil, List.append_nil, List.cons_append, List.nil_append]
  after_results_simp
  pointwise []

theorem found_post (c : Dev nD) (b : Fin 1024) : V m c main_v10 (ix2 0 b) = post m c (ix1 b) := by
  show StableHlo.after _ _ _ _ = _
  simp only [hostOps0, hostOps0_1, hostOps0_2, List.flatten_cons, List.flatten_nil, List.append_nil, List.cons_append, List.nil_append]
  after_results_simp
  pointwise []

theorem found_up (c : Dev nD) : V m c main_v2 = (transpose S4x1024x1408 [1, 0, 2] (shapeCast S1024x4x1408 (wUp m c : FVec Ideal S1024x5632 .bf16) shapeCasts_S1024x5632_S1024x4x1408)
    transposes_S1024x4x1408_S4x1024x1408_1_0_2 : FVec Ideal S4x1024x1408 .bf16) := by
  show StableHlo.after _ _ _ = _
  simp only [hostOps0, hostOps0_1, hostOps0_2, List.flatten_cons, List.flatten_nil, List.append_nil, List.cons_append, List.nil_append]
  after_results_simp
  rfl

/-- The first weight is handed over in four blocks of columns, … -/
theorem up_at (c : Dev nD) (q : Fin 4) (k : Fin 1024) (b : Fin 1408) :
    V m c main_v2 (ix3 q k b) = wUp m c (ix2 k ⟨q.val * 1408 + b.val, by omega⟩) := by
  rw [found_up]
  generalize wUp m c = w
  pointwise []

theorem found_down (c : Dev nD) : V m c main_v4 = (shapeCast S4x704x1024 (wDown m c : FVec Ideal S2816x1024 .bf16) shapeCasts_S2816x1024_S4x704x1024 : FVec Ideal S4x704x1024 .bf16) := by
  show StableHlo.after _ _ _ = _
  simp only [hostOps0, hostOps0_1, hostOps0_2, List.flatten_cons, List.flatten_nil, List.append_nil, List.cons_append, List.nil_append]
  after_results_simp
  rfl

theorem down_part (w : FVec Ideal S2816x1024 .bf16) (q : Fin 4) (k : Fin 704) (b : Fin 1024) :
    shapeCast S4x704x1024 w shapeCasts_S2816x1024_S4x704x1024 (ix3 q k b) = w (ix2 ⟨q.val * 704 + k.val, by omega⟩ b) := by
  pointwise []

/-- … the second in four blocks of rows, which come to stand one below the other. -/
theorem below_down (c : Dev nD) : below (V m c main_v4) = wDown m c := by
  rw [found_down]
  funext i
  have h : (i 0).val < 2816 := (i 0).isLt
  refine (down_part _ _ _ _).trans (congrArg (wDown m c) (funext fun z => ?_))
  match z with
  | ⟨0, _⟩ => exact Fin.ext (show (i 0).val / 704 * 704 + (i 0).val % 704 = (i 0).val by omega)
  | ⟨1, _⟩ => rfl

theorem pad_rows (w : FVec Ideal S3x5632 .f32) (z : FVec Ideal S_ .f32) (q : Fin 3) (j : Fin 5632) :
    pad S8x5632 ![0, 0] ![5, 0] ![0, 0] w z pads_S3x5632_S8x5632_050_000 h_S_ (ix2 ⟨q.val, by omega⟩ j) = w (ix2 q j) := by
  pointwise []

/-- Of the eight rows of weights of the columns the first three are the argument's. -/
theorem found_conv (c : Dev nD) (q : Fin 3) (j : Fin 5632) : V m c main_v9 (ix2 ⟨q.val, by omega⟩ j) = conv m c (ix2 q j) := by
  show StableHlo.after _ _ _ _ = _
  simp only [hostOps0, hostOps0_1, hostOps0_2, List.flatten_cons, List.flatten_nil, List.append_nil, List.cons_append, List.nil_append]
  after_results_simp
  exact pad_rows (conv m c) _ q j

theorem count (t : Fin cfg0.N) : t.val < 16 := lt_of_lt_of_eq t.isLt N_0

/-- The token that row `a` of tile `t` stands for. -/
def token (t : Fin cfg0.N) (a : Fin 256) : Fin 4096 := Plain.tok ⟨t.val * 256 + a.val, by have := count t; omega⟩

theorem blk_rows (c : Dev nD) (t : Fin cfg0.N) (a : Fin 256) (b : Fin 1024) : iblk m c 0 t (ix2 a b) = rows m c (ix2 (token t a) b) := by
  refine Eq.trans ?_ (found_rows m c ⟨t.val * 256 + a.val, by have := count t; omega⟩ b)
  show V m c main_v7 _ = _
  generalize V m c main_v7 = w
  have e : ∀ t : Fin cfg0.N, win0_0.index t (0 : Fin 2) = t.val ∧ win0_0.index t (1 : Fin 2) = 0 := (by decide +kernel : ∀ t : Fin grid0.N, _)
  obtain ⟨e0, e1⟩ := e t
  blk_ext [e0, e1]

theorem blk_scale (c : Dev nD) (t : Fin cfg0.N) (b : Fin 1024) : iblk m c 1 t (ix2 0 b) = scale m c (ix1 b) := by
  refine Eq.trans ?_ (found_scale m c b)
  show V m c main_v8 _ = _
  generalize V m c main_v8 = w
  have e : ∀ t : Fin cfg0.N, win0_1.index t (0 : Fin 2) = 0 ∧ win0_1.index t (1 : Fin 2) = 0 := (by decide +kernel : ∀ t : Fin grid0.N, _)
  obtain ⟨e0, e1⟩ := e t
  blk_ext [e0, e1]

theorem blk_up (c : Dev nD) (t : Fin cfg0.N) (q : Fin 4) (k : Fin 1024) (b : Fin 1408) :
    iblk m c 2 t (ix3 q k b) = wUp m c (ix2 k ⟨q.val * 1408 + b.val, by omega⟩) := by
  refine Eq.trans ?_ (up_at m c q k b)
  show V m c main_v2 _ = _
  generalize V m c main_v2 = w
  have e : ∀ t : Fin cfg0.N, win0_2.index t (0 : Fin 3) = 0 ∧ win0_2.index t (1 : Fin 3) = 0 ∧ win0_2.index t (2 : Fin 3) = 0 := (by decide +kernel : ∀ t : Fin grid0.N, _)
  obtain ⟨e0, e1, e2⟩ := e t
  blk_ext [e0, e1, e2]

theorem blk_conv (c : Dev nD) (t : Fin cfg0.N) (q : Fin 3) (j : Fin 5632) : iblk m c 3 t (ix2 ⟨q.val, by omega⟩ j) = conv m c (ix2 q j) := by
  refine Eq.trans ?_ (found_conv m c q j)
  show V m c main_v9 _ = _
  generalize V m c main_v9 = w
  have e : ∀ t : Fin cfg0.N, win0_3.index t (0 : Fin 2) = 0 ∧ win0_3.index t (1 : Fin 2) = 0 := (by decide +kernel : ∀ t : Fin grid0.N, _)
  obtain ⟨e0, e1⟩ := e t
  blk_ext [e0, e1]

theorem blk_post (c : Dev nD) (t : Fin cfg0.N) (b : Fin 1024) : iblk m c 4 t (ix2 0 b) = post m c (ix1 b) := by
  refine Eq.trans ?_ (found_post m c b)
  show V m c main_v10 _ = _
  generalize V m c main_v10 = w
  have e : ∀ t : Fin cfg0.N, win0_4.index t (0 : Fin 2) = 0 ∧ win0_4.index t (1 : Fin 2) = 0 := (by decide +kernel : ∀ t : Fin grid0.N, _)
  obtain ⟨e0, e1⟩ := e t
  blk_ext [e0, e1]

end Cert.FfnForward

end

end
-- ==== Proof.FfnForwardValue.lean ====
/- The forward call of the gated layer: what its points leave, tile after tile, and that its four arrays are the reference's. -/
module

public import proofs.«01_k».proof.Defs
public import proofs.«01_k».proof.Proof.Gen.Kernel18Ideal
public import proofs.«01_k».proof.Proof.Gen.Reference18Ideal
public import proofs.«01_k».proof.Proof.FfnArrays

@[expose] public section

set_option maxRecDepth 16384

noncomputable section

namespace Cert.FfnForward

open Idealize.ShloMosaic Idealize.ShloMosaic.TcCoe Idealize.SL.Sem
open Cert.Kernel18Ideal Cert.Kernel18Ideal.Gen
open Cert.Reference18Ideal.Read

variable (m : (ℓ : Loc nD τ sig) → Buf (Elt Ideal) ℓ) (ρ : Dev nD → PrngReg)

/-- The reference's normalised rows, their product with the first weight, the same with two empty rows before, the mixed rows, the gated
    columns, their product with the second weight, and the sum with the normalised product. -/
abbrev refH (c : Dev nD) := val_main_v12 (F := Ideal) (rows m c) (scale m c)
abbrev refUp (c : Dev nD) := val_main_v13 (F := Ideal) (rows m c) (scale m c) (wUp m c)
abbrev refPad (c : Dev nD) := val_main_v15 (F := Ideal) (rows m c) (scale m c) (wUp m c)
abbrev refMix (c : Dev nD) := val_main_v37 (F := Ideal) (rows m c) (scale m c) (wUp m c) (conv m c)
abbrev refAct (c : Dev nD) := val_main_v41 (F := Ideal) (rows m c) (scale m c) (wUp m c) (conv m c)
abbrev refDown (c : Dev nD) := val_main_v42 (F := Ideal) (rows m c) (scale m c) (wUp m c) (conv m c) (wDown m c)
abbrev refSum (c : Dev nD) := val_main_v66 (F := Ideal) (rows m c) (scale m c) (wUp m c) (conv m c) (wDown m c) (post m c)

theorem token_val (t : Fin cfg0.N) (a : Fin 256) : (token t a).val = t.val * 256 + a.val % 8 * 32 + a.val / 8 := by
  show (t.val * 256 + a.val) / 256 * 256 + (t.val * 256 + a.val) % 8 * 32 + (t.val * 256 + a.val) / 8 % 32 = _
  omega

theorem h_tile (c : Dev nD) (t : Fin cfg0.N) (a : Fin 256) (b : Fin 1024) :
    k0_pay5 (F := Ideal) (iblk m c 0 t) (iblk m c 1 t) (ix2 a b) = refH m c (ix2 (token t a) b) := by
  refine (h_at _ _ a b).trans (Eq.trans ?_ (Plain.h_at (rows m c) (scale m c) (token t a) b).symm)
  have e : ∀ k : Fin 1024, (iblk m c 0 t (ix2 a k) : EReal) = rows m c (ix2 (token t a) k) := fun k => blk_rows m c t a k
  have e1 : (iblk m c 1 t (ix2 0 b) : EReal) = scale m c (ix1 b) := blk_scale m c t b
  refine congrArg₂ (fun x y : EReal => x * y) (congrArg₂ (fun x y : EReal => x * y) (e b) (congrArg (fun z : EReal => Ideal.rsqrt (Ideal.div z _ + _)) (Finset.sum_congr rfl fun k _ => ?_))) e1
  exact congrArg₂ (fun x y : EReal => x * y) (e k) (e k)

theorem up_tile (c : Dev nD) (t : Fin cfg0.N) (a : Fin 256) (j : Fin 5632) :
    prod (iblk m c 0 t) (iblk m c 1 t) (iblk m c 2 t) (ix2 a j) = refUp m c (ix2 (token t a) j) := by
  refine Eq.trans ?_ (Plain.up_at (rows m c) (scale m c) (wUp m c) (token t a) j).symm
  refine Finset.sum_congr rfl fun k _ => congrArg₂ (fun x y : EReal => x * y) (h_tile m c t a k) ((blk_up m c t _ k _).trans (congrArg (wUp m c) (funext fun z => ?_)))
  match z with
  | ⟨0, _⟩ => rfl
  | ⟨1, _⟩ => exact Fin.ext (show j.val / 1408 * 1408 + j.val % 1408 = j.val by omega)

/-- The sixteen rows kept from the tile before `t`: none before the first. -/
def Before (c : Dev nD) (t : Fin cfg0.N) (p : Vec Ideal S16x5632 .f32) : Prop :=
  ∀ (a : Fin 16) (j : Fin 5632), p (ix2 a j) = if h : t.val = 0 then (0 : EReal)
    else refUp m c (ix2 (token ⟨t.val - 1, by have := t.isLt; omega⟩ ⟨240 + a.val, by omega⟩) j)

theorem wide_tile (c : Dev nD) (t : Fin cfg0.N) (p : Vec Ideal S16x5632 .f32) (hp : Before m c t p) (r : Fin 272) (j : Fin 5632) :
    wide (iblk m c 0 t) (iblk m c 1 t) (iblk m c 2 t) p (ix2 r j)
      = refPad m c (ix2 ⟨t.val * 256 + r.val % 8 * 32 + r.val / 8, by have := count t; omega⟩ j) := by
  have ht := count t
  have hr := r.isLt
  rw [wide_stacked]
  refine Eq.trans ?_ (Plain.pad_at (rows m c) (scale m c) (wUp m c) _ j).symm
  by_cases h16 : r.val < 16
  · refine (stacked_low _ _ _ _ (ix2 r j) ⟨r.val, h16⟩ j rfl rfl).trans ((halo_row _ _ _ p ⟨r.val, h16⟩ j).trans ?_)
    by_cases h8 : r.val % 8 = 0
    · refine (if_pos h8).trans ((hp _ j).trans ?_)
      by_cases h0 : t.val = 0
      · refine (dif_pos h0).trans (Eq.symm ?_)
        exact dif_pos (show t.val * 256 + r.val % 8 * 32 + r.val / 8 < 2 by omega)
      · refine (dif_neg h0).trans (Eq.trans ?_ (dif_neg (show ¬t.val * 256 + r.val % 8 * 32 + r.val / 8 < 2 by omega)).symm)
        refine congrArg (refUp m c) (funext fun z => ?_)
        match z with
        | ⟨0, _⟩ =>
          refine Fin.ext ((token_val _ _).trans ?_)
          show (t.val - 1) * 256 + (240 + (r.val / 8 * 8 + (r.val % 8 + 8 - 1) % 8)) % 8 * 32 + (240 + (r.val / 8 * 8 + (r.val % 8 + 8 - 1) % 8)) / 8
            = t.val * 256 + r.val % 8 * 32 + r.val / 8 - 2
          omega
        | ⟨1, _⟩ => rfl
    · refine (if_neg h8).trans ((up_tile m c t _ j).trans (Eq.trans ?_ (dif_neg (show ¬t.val * 256 + r.val % 8 * 32 + r.val / 8 < 2 by omega)).symm))
      refine congrArg (refUp m c) (funext fun z => ?_)
      match z with
      | ⟨0, _⟩ =>
        refine Fin.ext ((token_val _ _).trans ?_)
        show t.val * 256 + (240 + (r.val / 8 * 8 + (r.val % 8 + 8 - 1) % 8)) % 8 * 32 + (240 + (r.val / 8 * 8 + (r.val % 8 + 8 - 1) % 8)) / 8
            = t.val * 256 + r.val % 8 * 32 + r.val / 8 - 2
        omega
      | ⟨1, _⟩ => rfl
  · refine (stacked_high _ _ _ _ (ix2 r j) ⟨r.val - 16, by omega⟩ j (show r.val = 16 + (r.val - 16) by omega) rfl).trans
      ((up_tile m c t _ j).trans (Eq.trans ?_ (dif_neg (show ¬t.val * 256 + r.val % 8 * 32 + r.val / 8 < 2 by omega)).symm))
    refine congrArg (refUp m c) (funext fun z => ?_)
    match z with
    | ⟨0, _⟩ =>
      refine Fin.ext ((token_val _ _).trans ?_)
      show t.val * 256 + (r.val - 16) % 8 * 32 + (r.val - 16) / 8 = t.val * 256 + r.val % 8 * 32 + r.val / 8 - 2
      omega
    | ⟨1, _⟩ => rfl

theorem mix_tile (c : Dev nD) (t : Fin cfg0.N) (p : Vec Ideal S16x5632 .f32) (hp : Before m c t p) (a : Fin 256) (j : Fin 5632) :
    mix (wide (iblk m c 0 t) (iblk m c 1 t) (iblk m c 2 t) p) (iblk m c 3 t) a j = refMix m c (ix2 (token t a) j) := by
  have ht := count t
  refine Eq.trans ?_ (Plain.conv_at (rows m c) (scale m c) (wUp m c) (conv m c) (token t a) j).symm
  have hv := token_val t a
  have e : ∀ (k : ℕ) (hk : k + a.val < 272) (n : Fin 4098), n.val = t.val * 256 + (k + a.val) % 8 * 32 + (k + a.val) / 8 →
      wide (iblk m c 0 t) (iblk m c 1 t) (iblk m c 2 t) p (ix2 ⟨k + a.val, hk⟩ j) = refPad m c (ix2 n j) := fun k hk n hn => by
    refine (wide_tile m c t p hp ⟨k + a.val, hk⟩ j).trans (congrArg (refPad m c) (funext fun z => ?_))
    match z with
    | ⟨0, _⟩ => exact Fin.ext hn.symm
    | ⟨1, _⟩ => rfl
  unfold mix
  refine congrArg₂ (fun x y : EReal => x + y) (congrArg₂ (fun x y : EReal => x + y) (congrArg₂ (fun x y : EReal => x * y) (blk_conv m c t 0 j) ?_)
    (congrArg₂ (fun x y : EReal => x * y) (blk_conv m c t 1 j) ?_)) (congrArg₂ (fun x y : EReal => x * y) (blk_conv m c t 2 j) ?_)
  · refine Eq.trans ?_ (e 0 (by omega) ⟨(token t a).val, by omega⟩ (show (token t a).val = _ by omega))
    exact congrArg _ (funext fun z => by match z with | ⟨0, _⟩ => exact Fin.ext (Nat.zero_add _).symm | ⟨1, _⟩ => rfl)
  · exact e 8 (by omega) ⟨1 + (token t a).val, by omega⟩ (show 1 + (token t a).val = _ by omega)
  · exact e 16 (by omega) ⟨2 + (token t a).val, by omega⟩ (show 2 + (token t a).val = _ by omega)

theorem down_tile (c : Dev nD) (t : Fin cfg0.N) (p : Vec Ideal S16x5632 .f32) (hp : Before m c t p) (a : Fin 256) (b : Fin 1024) :
    down (wide (iblk m c 0 t) (iblk m c 1 t) (iblk m c 2 t) p) (iblk m c 3 t) (wDown m c) (ix2 a b) = refDown m c (ix2 (token t a) b) := by
  refine (down_sum _ _ _ a b).trans (Eq.trans ?_ (Plain.down_at (rows m c) (scale m c) (wUp m c) (conv m c) (wDown m c) (token t a) b).symm)
  refine Finset.sum_congr rfl fun j _ => congrArg (fun z : EReal => z * _) (Eq.trans ?_ (Plain.act_at (rows m c) (scale m c) (wUp m c) (conv m c) (token t a) j).symm)
  unfold act
  rw [mix_tile m c t p hp, mix_tile m c t p hp]

theorem sum_tile (c : Dev nD) (t : Fin cfg0.N) (p : Vec Ideal S16x5632 .f32) (hp : Before m c t p) (a : Fin 256) (b : Fin 1024) :
    added (iblk m c 0 t) (wide (iblk m c 0 t) (iblk m c 1 t) (iblk m c 2 t) p) (iblk m c 3 t) (wDown m c) (iblk m c 4 t) (ix2 a b) = refSum m c (ix2 (token t a) b) := by
  refine (added_at _ _ _ _ _ _ _ _ _ _ a b).trans (Eq.trans ?_ (Plain.added_at (rows m c) (scale m c) (wUp m c) (conv m c) (wDown m c) (post m c) (token t a) b).symm)
  refine congrArg₂ (fun x y : EReal => x + y) (blk_rows m c t a b) (congrArg₂ (fun x y : EReal => x * y) (congrArg₂ (fun x y : EReal => x * y) (down_tile m c t p hp a b)
    (congrArg (fun z : EReal => Ideal.rsqrt (Ideal.div z _ + _)) (Finset.sum_congr rfl fun k _ => ?_))) (blk_post m c t b))
  exact congrArg₂ (fun x y : EReal => x * y) (down_tile m c t p hp a k) (down_tile m c t p hp a k)

/-- The same from a scratch that is known to hold the second weight. -/
theorem down_held (c : Dev nD) (t : Fin cfg0.N) (p : Vec Ideal S16x5632 .f32) (hp : Before m c t p) (w : Vec Ideal S2816x1024 .bf16) (hw : w = wDown m c) (a : Fin 256) (b : Fin 1024) :
    down (wide (iblk m c 0 t) (iblk m c 1 t) (iblk m c 2 t) p) (iblk m c 3 t) w (ix2 a b) = refDown m c (ix2 (token t a) b) := by
  subst hw
  exact down_tile m c t p hp a b

theorem sum_held (c : Dev nD) (t : Fin cfg0.N) (p : Vec Ideal S16x5632 .f32) (hp : Before m c t p) (w : Vec Ideal S2816x1024 .bf16) (hw : w = wDown m c) (a : Fin 256) (b : Fin 1024) :
    added (iblk m c 0 t) (wide (iblk m c 0 t) (iblk m c 1 t) (iblk m c 2 t) p) (iblk m c 3 t) w (iblk m c 4 t) (ix2 a b) = refSum m c (ix2 (token t a) b) := by
  subst hw
  exact sum_tile m c t p hp a b

/-- What point `t` leaves: its rows of the four results, the rows kept for the next point, and the second weight. -/
structure Leaves (c : Dev nD) (t : Fin cfg0.N) (o : Out Ideal) : Prop where
  up : ∀ (a : Fin 256) (j : Fin 5632), o.up (ix2 a j) = refUp m c (ix2 (token t a) j)
  h : ∀ (a : Fin 256) (b : Fin 1024), o.h (ix2 a b) = refH m c (ix2 (token t a) b)
  d : ∀ (a : Fin 256) (b : Fin 1024), o.d (ix2 a b) = refDown m c (ix2 (token t a) b)
  x : ∀ (a : Fin 256) (b : Fin 1024), o.x (ix2 a b) = refSum m c (ix2 (token t a) b)
  last : ∀ (a : Fin 16) (j : Fin 5632), o.next.last (ix2 a j) = refUp m c (ix2 (token t ⟨240 + a.val, by omega⟩) j)
  wd : o.next.wd = wDown m c

set_option maxHeartbeats 2000000 in
theorem leaves_first (c : Dev nD) (t : Fin cfg0.N) (h0 : t.val % 16 = 0) (s : Carry Ideal) : Leaves m c t (leaves m c t s) := by
  have ht := count t
  have hw : View.canon (wdPieces (V m c main_v4)) = wDown m c := (wd_below _).trans (below_down m c)
  have hp : Before m c t (k0_pay3 (F := Ideal)) := fun a j => by
    refine (zero_at _).trans (Eq.symm ?_)
    exact dif_pos (show t.val = 0 by omega)
  have e : leaves m c t s = outA c (grid0.coords t) (bufs t) ((hcond0_0 t).mpr h0) (blocks m c t) (V m c main_v4) := dif_pos h0
  rw [e]
  refine ⟨fun a j => ?_, fun a b => ?_, fun a b => ?_, fun a b => ?_, fun a j => ?_, ?_⟩
  · exact (congrFun ((pointA_up _ _ _ _ _ _).trans (up_prod _ _ _)) _).trans (up_tile m c t a j)
  · exact (congrFun (pointA_h _ _ _ _ _ _) _).trans (h_tile m c t a b)
  · exact (congrFun (pointA_d _ _ _ _ _ _) _).trans (down_held m c t _ hp _ hw a b)
  · exact (congrFun (pointA_x _ _ _ _ _ _) _).trans (sum_held m c t _ hp _ hw a b)
  · exact (congrFun (pointA_last _ _ _ _ _ _) _).trans ((kept_row _ _ _ _ a j).trans (up_tile m c t _ j))
  · exact (pointA_wd _ _ _ _ _ _).trans hw

set_option maxHeartbeats 2000000 in
theorem leaves_later (c : Dev nD) (t : Fin cfg0.N) (h0 : ¬t.val % 16 = 0) (s : Carry Ideal) (hp : Before m c t s.last) (hw : s.wd = wDown m c) :
    Leaves m c t (leaves m c t s) := by
  have e : leaves m c t s = outB c (grid0.coords t) (bufs t) (fun h => h0 ((hcond0_0 t).mp h)) (blocks m c t) s (V m c main_v4) := dif_neg h0
  rw [e]
  refine ⟨fun a j => ?_, fun a b => ?_, fun a b => ?_, fun a b => ?_, fun a j => ?_, ?_⟩
  · exact (congrFun ((pointB_up _ _ _ _ _ _ _).trans (up_prod _ _ _)) _).trans (up_tile m c t a j)
  · exact (congrFun (pointB_h _ _ _ _ _ _ _) _).trans (h_tile m c t a b)
  · exact (congrFun (pointB_d _ _ _ _ _ _ _) _).trans (down_held m c t _ hp _ hw a b)
  · exact (congrFun (pointB_x _ _ _ _ _ _ _) _).trans (sum_held m c t _ hp _ hw a b)
  · exact (congrFun (pointB_last _ _ _ _ _ _ _) _).trans ((kept_row _ _ _ _ a j).trans (up_tile m c t _ j))
  · exact (pointB_wd _ _ _ _ _ _ _).trans hw

/-- Tile after tile. -/
theorem left_leaves (c : Dev nD) : ∀ (n : ℕ) (h : n < cfg0.N), Leaves m c ⟨n, h⟩ (left m c n h)
  | 0, h => leaves_first m c ⟨0, h⟩ rfl _
  | n + 1, h => by
    have ih := left_leaves c n (Nat.lt_of_succ_lt h)
    have hn : n + 1 < 16 := count ⟨n + 1, h⟩
    exact leaves_later m c ⟨n + 1, h⟩ (show ¬(n + 1) % 16 = 0 by omega) _ (fun a j => by
      refine (ih.last a j).trans (Eq.symm ?_)
      exact dif_neg (Nat.succ_ne_zero n)) ih.wd

theorem array_up (c : Dev nD) : (dats m 0 c).arrAt 5 cfg0.N = val_main_v45 (F := Ideal) (rows m c) (scale m c) (wUp m c) := by
  refine (dats m 0 c).arrAt_eq_of_covers 5 _ (by decide +kernel) fun t hf y => ?_
  obtain ⟨a, b, rfl⟩ : ∃ (a : Fin 256) (b : Fin 5632), y = ix2 a b := ⟨y 0, y 1, funext fun z => by match z with | ⟨0, _⟩ => rfl | ⟨1, _⟩ => rfl⟩
  show (dats m 0 c).after 5 t (ix2 a b) = _
  rw [after_5]
  refine ((left_leaves m c t.val t.isLt).up a b).trans ((Plain.order_up (rows m c) (scale m c) (wUp m c) ⟨t.val * 256 + a.val, by have := count t; omega⟩ b).symm.trans ?_)
  generalize val_main_v45 (F := Ideal) (rows m c) (scale m c) (wUp m c) = w
  have e : ∀ t : Fin cfg0.N, win0_5.index t (0 : Fin 2) = t.val ∧ win0_5.index t (1 : Fin 2) = 0 := (by decide +kernel : ∀ t : Fin grid0.N, _)
  obtain ⟨e0, e1⟩ := e t
  blk_ext [e0, e1]

theorem array_h (c : Dev nD) : (dats m 0 c).arrAt 6 cfg0.N = val_main_v49 (F := Ideal) (rows m c) (scale m c) := by
  refine (dats m 0 c).arrAt_eq_of_covers 6 _ (by decide +kernel) fun t hf y => ?_
  obtain ⟨a, b, rfl⟩ : ∃ (a : Fin 256) (b : Fin 1024), y = ix2 a b := ⟨y 0, y 1, funext fun z => by match z with | ⟨0, _⟩ => rfl | ⟨1, _⟩ => rfl⟩
  show (dats m 0 c).after 6 t (ix2 a b) = _
  rw [after_6]
  refine ((left_leaves m c t.val t.isLt).h a b).trans ((Plain.order_h (rows m c) (scale m c) ⟨t.val * 256 + a.val, by have := count t; omega⟩ b).symm.trans ?_)
  generalize val_main_v49 (F := Ideal) (rows m c) (scale m c) = w
  have e : ∀ t : Fin cfg0.N, win0_6.index t (0 : Fin 2) = t.val ∧ win0_6.index t (1 : Fin 2) = 0 := (by decide +kernel : ∀ t : Fin grid0.N, _)
  obtain ⟨e0, e1⟩ := e t
  blk_ext [e0, e1]

theorem array_d (c : Dev nD) : (dats m 0 c).arrAt 7 cfg0.N = val_main_v52 (F := Ideal) (rows m c) (scale m c) (wUp m c) (conv m c) (wDown m c) := by
  refine (dats m 0 c).arrAt_eq_of_covers 7 _ (by decide +kernel) fun t hf y => ?_
  obtain ⟨a, b, rfl⟩ : ∃ (a : Fin 256) (b : Fin 1024), y = ix2 a b := ⟨y 0, y 1, funext fun z => by match z with | ⟨0, _⟩ => rfl | ⟨1, _⟩ => rfl⟩
  show (dats m 0 c).after 7 t (ix2 a b) = _
  rw [after_7]
  refine ((left_leaves m c t.val t.isLt).d a b).trans ((Plain.order_d (rows m c) (scale m c) (wUp m c) (conv m c) (wDown m c) ⟨t.val * 256 + a.val, by have := count t; omega⟩ b).symm.trans ?_)
  generalize val_main_v52 (F := Ideal) (rows m c) (scale m c) (wUp m c) (conv m c) (wDown m c) = w
  have e : ∀ t : Fin cfg0.N, win0_7.index t (0 : Fin 2) = t.val ∧ win0_7.index t (1 : Fin 2) = 0 := (by decide +kernel : ∀ t : Fin grid0.N, _)
  obtain ⟨e0, e1⟩ := e t
  blk_ext [e0, e1]

theorem array_x (c : Dev nD) : (dats m 0 c).arrAt 8 cfg0.N = val_main_v69 (F := Ideal) (rows m c) (scale m c) (wUp m c) (conv m c) (wDown m c) (post m c) := by
  refine (dats m 0 c).arrAt_eq_of_covers 8 _ (by decide +kernel) fun t hf y => ?_
  obtain ⟨a, b, rfl⟩ : ∃ (a : Fin 256) (b : Fin 1024), y = ix2 a b := ⟨y 0, y 1, funext fun z => by match z with | ⟨0, _⟩ => rfl | ⟨1, _⟩ => rfl⟩
  show (dats m 0 c).after 8 t (ix2 a b) = _
  rw [after_8]
  refine ((left_leaves m c t.val t.isLt).x a b).trans ((Plain.order_x (rows m c) (scale m c) (wUp m c) (conv m c) (wDown m c) (post m c) ⟨t.val * 256 + a.val, by have := count t; omega⟩ b).symm.trans ?_)
  generalize val_main_v69 (F := Ideal) (rows m c) (scale m c) (wUp m c) (conv m c) (wDown m c) (post m c) = w
  have e : ∀ t : Fin cfg0.N, win0_8.index t (0 : Fin 2) = t.val ∧ win0_8.index t (1 : Fin 2) = 0 := (by decide +kernel : ∀ t : Fin grid0.N, _)
  obtain ⟨e0, e1⟩ := e t
  blk_ext [e0, e1]

/-- The kernel over the extended reals keeps its arguments and ends with its counters at zero. -/
theorem frame_ideal : Cert.quiescent_Kernel18Ideal (hKernel18Ideal := Cert.Kernel18Ideal.Gen.facts) := fun m ρ _ =>
  framed (F := Ideal) m ρ

/-- The reference keeps its arguments, and it has no counter. -/
theorem frame_reference : Cert.quiescent_Reference18Ideal (hReference18Ideal := Cert.Reference18Ideal.Gen.facts) := fun m ρ _ =>
  (θ_run Cert.Reference18Ideal.defs _ _).mono (fun r h => ⟨fun c => (h c).2.2.2.2,
    sem_eq_zero_of_no_sems (by decide) r.2⟩) (Cert.Reference18Ideal.Value.run m ρ)

/-- From equal arguments the call and the reference leave the same four arrays. -/
theorem value : Cert.algebraic_Kernel18Ideal_Reference18Ideal (hKernel18Ideal := Cert.Kernel18Ideal.Gen.facts)
    (hReference18Ideal := Cert.Reference18Ideal.Gen.facts) := fun m g m' g' _ hargs => by
  refine ⟨fun c => val_main_v45 (F := Ideal) (rows m c) (scale m c) (wUp m c), fun c => val_main_v49 (F := Ideal) (rows m c) (scale m c),
    fun c => val_main_v52 (F := Ideal) (rows m c) (scale m c) (wUp m c) (conv m c) (wDown m c),
    fun c => val_main_v69 (F := Ideal) (rows m c) (scale m c) (wUp m c) (conv m c) (wDown m c) (post m c), ?_, ?_⟩
  · exact (θ_run defs _ _).mono (fun r h c => ⟨((h.1 c).1 5).trans (array_up m c), ((h.1 c).1 6).trans (array_h m c), ((h.1 c).1 7).trans (array_d m c),
      ((h.1 c).1 8).trans (array_x m c), h.2.1 c⟩) (θ_run_and (launched_arrays m g) (framed m g))
  · refine (θ_run Cert.Reference18Ideal.defs _ _).mono (fun r h c => ?_) (Cert.Reference18Ideal.Value.run m' g')
    obtain ⟨h0, h1, h2, h3, h4, h5⟩ := hargs c
    refine ⟨?_, ?_, ?_, ?_, (h c).2.2.2.2⟩
    · rw [(h c).1, val_main_v45_eq, h0, h1, h2]
    · rw [(h c).2.1, val_main_v49_eq, h0, h1]
    · rw [(h c).2.2.1, val_main_v52_eq, h0, h1, h2, h3, h4]
    · rw [(h c).2.2.2.1, val_main_v69_eq, h0, h1, h2, h3, h4, h5]

end Cert.FfnForward

end

end
-- ==== Proof.LossHead.lean ====
/- The loss and its gradient: the running sum of the squares over the row blocks, and that the two arrays are the reference's. -/
module

public import proofs.«01_k».proof.Defs
public import proofs.«01_k».proof.Proof.NormRow
public import proofs.«01_k».proof.Proof.Gen.Kernel19
public import proofs.«01_k».proof.Proof.Gen.Kernel19Ideal
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Pipeline.ValueKit.Acc
public import Idealize.ShloMosaic.Lib.Pipeline.ValueKit.Tiles
public import Idealize.ShloMosaic.Lib.Pipeline.ValueKit.Geometry

@[expose] public section

set_option maxRecDepth 16384

noncomputable section

namespace Cert.LossHead

open Idealize.ShloMosaic Idealize.ShloMosaic.TcCoe Idealize.SL.Sem
open Cert.Kernel19Ideal Cert.Kernel19Ideal.Gen

/-- The constants of the two texts, as they are written: one over the width, half of that, a half, one and two. -/
abbrev perWidth : EReal := Ideal.ofBits .f32 0x3A800000#32
abbrev halfPerWidth : EReal := Ideal.ofBits .f32 0x3A000000#32
abbrev half : EReal := Ideal.ofBits .f32 0x3F000000#32
abbrev one : EReal := Ideal.ofBits .f32 0x3F800000#32
abbrev two : EReal := Ideal.ofBits .f32 0x40000000#32

theorem perWidth_eq : perWidth = ((1 / 1024 : ℝ) : EReal) := by
  simp [Ideal.ofBits, Ideal.ieee, -EReal.coe_mul]; norm_num

theorem halfPerWidth_eq : halfPerWidth = ((1 / 2048 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

theorem one_eq : one = ((1 : ℝ) : EReal) := by
  simp [Ideal.ofBits, Ideal.ieee, -EReal.coe_mul]

theorem two_eq : two = ((2 : ℝ) : EReal) := by
  simp [Ideal.ofBits, Ideal.ieee, -EReal.coe_mul]; norm_num

theorem zero_word : (Ideal.ofBits .f32 0x00000000#32 : EReal) = 0 := by
  simp [Ideal.ofBits, Ideal.ieee]

/-- The gradient at one place in the two spellings. -/
theorem slope (z : EReal) : z * perWidth = Ideal.div (half * one) NormRow.width * (two * z) := by
  rw [perWidth_eq, half_eq, one_eq, two_eq, NormRow.width_eq, Ideal.div_coe (by norm_num), ← mul_assoc, ← EReal.coe_mul, ← EReal.coe_mul, ← EReal.coe_mul, mul_comm]
  exact congrArg (fun r : ℝ => (r : EReal) * z) (by norm_num)

/-- A factor of a sum of nonnegative terms. -/
theorem sum_mul {n : ℕ} (f : Fin n → EReal) (hf : ∀ l, 0 ≤ f l) (r : EReal) : (∑ l, f l) * r = ∑ l, f l * r := by
  refine Finset.induction_on (Finset.univ : Finset (Fin n)) (by simp) fun a s ha ih => ?_
  rw [Finset.sum_insert ha, Finset.sum_insert ha, EReal.right_distrib_of_nonneg (hf a) (Finset.sum_nonneg fun k _ => hf k), ih]

/-- The mean over the rows' entries, halved, in the two spellings. -/
theorem mean (f : Fin 4096 → EReal) (hf : ∀ l, 0 ≤ f l) : halfPerWidth * (∑ l, f l) = half * ∑ l, Ideal.div (f l) NormRow.width := by
  rw [halfPerWidth_eq, half_eq, NormRow.width_eq]
  have e : ∀ l, Ideal.div (f l) ((1024 : ℝ) : EReal) = f l * ((1 / 1024 : ℝ) : EReal) := fun l => Ideal.div_coe (by norm_num) (f l)
  simp only [e]
  rw [← sum_mul f hf, mul_comm (∑ l, f l), ← mul_assoc, ← EReal.coe_mul]
  exact congrArg (fun r : ℝ => (r : EReal) * _) (by norm_num)

/-- The rows in the order of the call: eight tiles of 512 rows, a tile's rows in groups of eight. -/
theorem rows_eq (f : Fin 4096 → EReal) :
    (∑ a : Fin 8, ∑ n : Fin 8, ∑ k : Fin 64, f ⟨n.val * 512 + (k.val * 8 + a.val), by omega⟩) = ∑ l : Fin 4096, f l := by
  rw [Finset.sum_comm]
  refine Eq.trans (Fin.sum_fin_congr fun n => ?_) (Fin.sum_mul_add_fin 8 512 f)
  rw [Finset.sum_comm]
  exact Fin.sum_mul_add_fin 64 8 fun j => f ⟨n.val * 512 + j.val, by omega⟩

theorem pay1_at (j : S8x1024.Idx) : k0_pay1 (F := Ideal) j = 0 := by
  pointwise [k0_pay1]

theorem pay3_at (y t : FVec Ideal S512x1024 .f32) (a : Fin 512) (b : Fin 1024) :
    k0_pay3 (F := Ideal) y t (ix2 a b) = (y (ix2 a b) - t (ix2 a b)) * perWidth := by
  pointwise [k0_pay3, k0_pay2]

theorem pay4_at (y t : FVec Ideal S512x1024 .f32) (acc : FVec Ideal S8x1024 .f32) (a : Fin 8) (b : Fin 1024) :
    k0_pay4 (F := Ideal) y t acc (ix2 a b)
      = acc (ix2 a b) + ∑ k : Fin 64, (y (ix2 ⟨k.val * 8 + a.val, by omega⟩ b) - t (ix2 ⟨k.val * 8 + a.val, by omega⟩ b))
          * (y (ix2 ⟨k.val * 8 + a.val, by omega⟩ b) - t (ix2 ⟨k.val * 8 + a.val, by omega⟩ b)) := by
  pointwise [k0_pay4, k0_pay2]

theorem pay5_at (v : FVec Ideal S8x1024 .f32) : k0_pay5 (F := Ideal) v (ix2 0 0) = halfPerWidth * ∑ b : Fin 1024, ∑ a : Fin 8, v (ix2 a b) := by
  pointwise [k0_pay5]

theorem zero2 : (![0, 0] : Fin 2 → ℕ) = fun _ => 0 := funext fun a => by match a with | ⟨0, _⟩ => rfl | ⟨1, _⟩ => rfl

section Cases

variable (c : Dev nD) (i : grid0.Coords) (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S1x1 .f32) (harg4 : arg4.IsWhole) (arg5 : Memref sig .tc .vmem S8x1024 .f32) (harg5 : arg5.IsWhole)
  (x0 x1 : Vec Ideal S512x1024 .f32) (acc : Vec Ideal S8x1024 .f32)

/-- Every point leaves its rows of the gradient, … -/
theorem rows_first (hc0 : cond0_0 i) (hc1 : ¬cond0_1 i) :
    out0_A_2 c i arg1 harg1 arg2 harg2 arg3 harg3 arg4 harg4 arg5 harg5 hc0 hc1 x0 x1 = k0_pay3 (F := Ideal) x0 x1 := by
  unfold out0_A_2
  rw [View.read_writes_junk_eq_canon]
  unfold kernelRun0_A
  dsimp only
  try sl_unfold_words
  rw [View.canon_unit_zero (S := S512x1024) zero2]
  simp only [View.readAt_eq_ld, harg1.read_unread, harg2.read_unread, harg5.read_unread,
    View.ld_unit_zero (S := S512x1024) zero2, View.ld_unit_zero (S := S8x1024) zero2, shapeCast_self]

theorem rows_middle (hc0 : ¬cond0_0 i) (hc1 : ¬cond0_1 i) :
    out0_B_2 c i arg1 harg1 arg2 harg2 arg3 harg3 arg4 harg4 arg5 harg5 hc0 hc1 x0 x1 acc = k0_pay3 (F := Ideal) x0 x1 := by
  unfold out0_B_2
  rw [View.read_writes_junk_eq_canon]
  unfold kernelRun0_B
  dsimp only
  try sl_unfold_words
  rw [View.canon_unit_zero (S := S512x1024) zero2]
  simp only [View.readAt_eq_ld, harg1.read_unread, harg2.read_unread, harg5.read_unread,
    View.ld_unit_zero (S := S512x1024) zero2, View.ld_unit_zero (S := S8x1024) zero2, shapeCast_self]

theorem rows_last (hc0 : ¬cond0_0 i) (hc1 : cond0_1 i) :
    out0_C_2 c i arg1 harg1 arg2 harg2 arg3 harg3 arg4 harg4 arg5 harg5 hc0 hc1 x0 x1 acc = k0_pay3 (F := Ideal) x0 x1 := by
  unfold out0_C_2
  rw [View.read_writes_junk_eq_canon]
  unfold kernelRun0_C
  dsimp only
  try sl_unfold_words
  rw [View.canon_unit_zero (S := S512x1024) zero2]
  simp only [View.readAt_eq_ld, harg1.read_unread, harg2.read_unread, harg5.read_unread,
    View.ld_unit_zero (S := S512x1024) zero2, View.ld_unit_zero (S := S8x1024) zero2, shapeCast_self]

/-- … the first clears the sum and adds its part, … -/
theorem sum_first (hc0 : cond0_0 i) (hc1 : ¬cond0_1 i) :
    sout0_A_0 c i arg1 harg1 arg2 harg2 arg3 harg3 arg4 harg4 arg5 harg5 hc0 hc1 x0 x1 = k0_pay4 (F := Ideal) x0 x1 (k0_pay1 (F := Ideal)) := by
  unfold sout0_A_0
  rw [View.read_writes_junk_eq_canon]
  unfold kernelRun0_A
  dsimp only
  try sl_unfold_words
  rw [View.canon_cons_unit_zero (S := S8x1024) zero2, View.readCov_unit_zero (S := S8x1024) _ zero2]
  simp only [View.readAt_eq_ld, harg1.read_unread, harg2.read_unread, harg5.read_unread,
    View.ld_unit_zero (S := S512x1024) zero2, View.ld_unit_zero (S := S8x1024) zero2, shapeCast_self]

/-- … a later one adds its part to what it finds, … -/
theorem sum_middle (hc0 : ¬cond0_0 i) (hc1 : ¬cond0_1 i) :
    sout0_B_0 c i arg1 harg1 arg2 harg2 arg3 harg3 arg4 harg4 arg5 harg5 hc0 hc1 x0 x1 acc = k0_pay4 (F := Ideal) x0 x1 acc := by
  unfold sout0_B_0
  rw [View.read_writes_junk_eq_canon]
  unfold kernelRun0_B
  dsimp only
  try sl_unfold_words
  rw [View.canon_unit_zero (S := S8x1024) zero2]
  simp only [View.readAt_eq_ld, harg1.read_unread, harg2.read_unread, harg5.read_unread,
    View.ld_unit_zero (S := S512x1024) zero2, View.ld_unit_zero (S := S8x1024) zero2, shapeCast_self]

theorem sum_last (hc0 : ¬cond0_0 i) (hc1 : cond0_1 i) :
    sout0_C_0 c i arg1 harg1 arg2 harg2 arg3 harg3 arg4 harg4 arg5 harg5 hc0 hc1 x0 x1 acc = k0_pay4 (F := Ideal) x0 x1 acc := by
  unfold sout0_C_0
  rw [View.read_writes_junk_eq_canon]
  unfold kernelRun0_C
  dsimp only
  try sl_unfold_words
  rw [View.canon_unit_zero (S := S8x1024) zero2]
  simp only [View.readAt_eq_ld, harg1.read_unread, harg2.read_unread, harg5.read_unread,
    View.ld_unit_zero (S := S512x1024) zero2, View.ld_unit_zero (S := S8x1024) zero2, shapeCast_self]

/-- … and the last hands out the sum of all. -/
theorem total_last (hc0 : ¬cond0_0 i) (hc1 : cond0_1 i) :
    out0_C_3 c i arg1 harg1 arg2 harg2 arg3 harg3 arg4 harg4 arg5 harg5 hc0 hc1 x0 x1 acc = k0_pay5 (F := Ideal) (k0_pay4 (F := Ideal) x0 x1 acc) := by
  unfold out0_C_3
  rw [View.read_writes_junk_eq_canon]
  unfold kernelRun0_C
  dsimp only
  try sl_unfold_words
  rw [View.canon_unit_zero (S := S1x1) zero2, View.readCov_unit_zero (S := S8x1024) _ zero2]
  simp only [View.readAt_eq_ld, harg1.read_unread, harg2.read_unread, harg5.read_unread,
    View.ld_unit_zero (S := S512x1024) zero2, View.ld_unit_zero (S := S8x1024) zero2, shapeCast_self]

end Cases

variable (m : (ℓ : Loc nD τ sig) → Buf (Elt Ideal) ℓ) (ρ : Dev nD → PrngReg)

/-- The last residual stream, and the target. -/
abbrev out (c : Dev nD) : FVec Ideal S4096x1024 .f32 := m ((c.tc : Thread nD τ).loc main_arg0)
abbrev target (c : Dev nD) : FVec Ideal S4096x1024 .f32 := m ((c.tc : Thread nD τ).loc main_arg1)

/-- Row `a` of point `t`'s tile. -/
def tok (t : Fin cfg0.N) (a : Fin 512) : Fin 4096 := ⟨t.val * 512 + a.val, by have := t.isLt; have : cfg0.N = 8 := N_0; omega⟩

/-- Point `t` finds rows `512·t …` of both. -/
theorem blk_out (c : Dev nD) (t : Fin cfg0.N) (a : Fin 512) (b : Fin 1024) : iblk m c 0 t (ix2 a b) = out m c (ix2 (tok t a) b) := by
  show V m c main_arg0 _ = _
  rw [show V m c main_arg0 = out m c from V_main_arg0 m c]
  have e : ∀ t : Fin cfg0.N, win0_0.index t (0 : Fin 2) = t.val ∧ win0_0.index t (1 : Fin 2) = 0 := (by decide +kernel : ∀ t : Fin grid0.N, _)
  obtain ⟨e0, e1⟩ := e t
  unfold tok
  blk_ext [e0, e1]

theorem blk_target (c : Dev nD) (t : Fin cfg0.N) (a : Fin 512) (b : Fin 1024) : iblk m c 1 t (ix2 a b) = target m c (ix2 (tok t a) b) := by
  show V m c main_arg1 _ = _
  rw [show V m c main_arg1 = target m c from V_main_arg1 m c]
  have e : ∀ t : Fin cfg0.N, win0_1.index t (0 : Fin 2) = t.val ∧ win0_1.index t (1 : Fin 2) = 0 := (by decide +kernel : ∀ t : Fin grid0.N, _)
  obtain ⟨e0, e1⟩ := e t
  unfold tok
  blk_ext [e0, e1]

/-- The difference at a place. -/
def diff (c : Dev nD) (l : Fin 4096) (b : Fin 1024) : EReal := out m c (ix2 l b) - target m c (ix2 l b)

theorem blk_diff (c : Dev nD) (t : Fin cfg0.N) (a : Fin 512) (b : Fin 1024) :
    @HSub.hSub EReal EReal EReal instHSub (iblk m c 0 t (ix2 a b)) (iblk m c 1 t (ix2 a b)) = diff m c (tok t a) b :=
  congrArg₂ (fun x y : EReal => x - y) (blk_out m c t a b) (blk_target m c t a b)

/-- What a point adds to the running sum (past the grid: nothing). -/
def part (c : Dev nD) (n : ℕ) (j : S8x1024.Idx) : EReal :=
  if h : n < cfg0.N then ∑ k : Fin 64, diff m c (tok ⟨n, h⟩ ⟨k.val * 8 + (j 0).val, by have h0 : (j 0).val < 8 := (j 0).isLt; omega⟩) (j 1)
    * diff m c (tok ⟨n, h⟩ ⟨k.val * 8 + (j 0).val, by have h0 : (j 0).val < 8 := (j 0).isLt; omega⟩) (j 1) else 0

theorem pay4_part (c : Dev nD) (n : ℕ) (h : n < cfg0.N) (acc : FVec Ideal S8x1024 .f32) (j : S8x1024.Idx) :
    k0_pay4 (F := Ideal) (iblk m c 0 ⟨n, h⟩) (iblk m c 1 ⟨n, h⟩) acc j = acc j + part m c n j := by
  obtain ⟨a, b, rfl⟩ : ∃ (a : Fin 8) (b : Fin 1024), j = ix2 a b :=
    ⟨j 0, j 1, funext fun z => by match z with | ⟨0, _⟩ => rfl | ⟨1, _⟩ => rfl⟩
  refine (pay4_at _ _ acc a b).trans ?_
  rw [part, dif_pos h]
  exact congrArg (acc (ix2 a b) + ·) (Finset.sum_congr rfl fun k _ =>
    congrArg₂ (fun x y : EReal => x * y) (blk_diff m c ⟨n, h⟩ _ b) (blk_diff m c ⟨n, h⟩ _ b))

/-- The running sum after a point that starts, and after one that goes on. -/
def restart (c : Dev nD) (n : ℕ) (h : n < cfg0.N) : Vec Ideal S8x1024 .f32 :=
  k0_pay4 (F := Ideal) (iblk m c 0 ⟨n, h⟩) (iblk m c 1 ⟨n, h⟩) (k0_pay1 (F := Ideal))
def goOn (c : Dev nD) (n : ℕ) (h : n < cfg0.N) (acc : Vec Ideal S8x1024 .f32) : Vec Ideal S8x1024 .f32 :=
  k0_pay4 (F := Ideal) (iblk m c 0 ⟨n, h⟩) (iblk m c 1 ⟨n, h⟩) acc

theorem sums (c : Dev nD) (n : ℕ) (hn : n < cfg0.N) :
    (outsAt0 m c n hn).2.2 = Pipeline.accAt (restart m c) (goOn m c) (8 * (n / 8)) (n % 8)
      (by have h2 := Nat.div_add_mod n 8; omega) :=
  Pipeline.eq_accAt_of_mod (fun n h => (outsAt0 m c n h).2.2) 8 (restart m c) (goOn m c)
    (fun n h hn => by
      have h0 : n % 8 = 0 := hn
      rw [outsAt0_A m c ⟨n, h⟩ h0 (fun e => by have e' : n % 8 = 7 := e; omega)]
      dsimp only
      rw [sum_first]
      rfl)
    (fun n h hn => by
      have h0 : ¬(n + 1) % 8 = 0 := hn
      by_cases h1 : (n + 1) % 8 = 7
      · rw [outsAt0_C m c ⟨n + 1, h⟩ h0 h1]
        dsimp only
        rw [sum_last]
        rfl
      · rw [outsAt0_B m c ⟨n + 1, h⟩ h0 h1]
        dsimp only
        rw [sum_middle]
        rfl)
    (by decide) n hn _

/-- Two folds of equal bounds are one. -/
theorem fold_congr (c : Dev nD) : ∀ (a a' j j' : ℕ) (h : a + j < cfg0.N) (h' : a' + j' < cfg0.N), a = a' → j = j' →
    Pipeline.accAt (restart m c) (goOn m c) a j h = Pipeline.accAt (restart m c) (goOn m c) a' j' h' := by
  intro a a' j j' h h' ea ej
  subst ea ej
  rfl

/-- Every point leaves its rows of the gradient. -/
theorem rows_out (c : Dev nD) (t : Fin cfg0.N) : (outsAt0 m c t.val t.isLt).1 = k0_pay3 (F := Ideal) (iblk m c 0 t) (iblk m c 1 t) := by
  by_cases h0 : t.val % 8 = 0
  · rw [outsAt0_A m c t h0 (fun e => by omega)]
    dsimp only
    rw [rows_first]
  by_cases h1 : t.val % 8 = 7
  · rw [outsAt0_C m c t h0 h1]
    dsimp only
    rw [rows_last]
  · rw [outsAt0_B m c t h0 h1]
    dsimp only
    rw [rows_middle]

/-- The array of the gradient. -/
theorem dy_at (c : Dev nD) (t : Fin cfg0.N) (a : Fin 512) (b : Fin 1024) : Value.G2 m c (ix2 (tok t a) b) = diff m c (tok t a) b * perWidth := by
  have hN : cfg0.N = 8 := N_0
  have ht := t.isLt
  have hp : Value.pt2Of (ix2 (tok t a) b : S4096x1024.Idx) = t.val := by
    show 1 * ((t.val * 512 + a.val) / 512 - 0) + 1 * (b.val / 1024 - 0) = t.val
    omega
  have hl : Value.loc2Of (ix2 (tok t a) b : S4096x1024.Idx) = ix2 a b := by
    funext x
    match x with
    | ⟨0, _⟩ => exact Fin.ext (show (t.val * 512 + a.val) % 512 = a.val by omega)
    | ⟨1, _⟩ => exact Fin.ext (Nat.mod_eq_of_lt b.isLt)
  unfold Value.G2
  rw [dif_pos (by rw [hp]; exact ht), hl, Value.fold0_congr m c _ _ t.val (by omega) hp, ← Value.outsAt0_sweep m c t.val ht, rows_out]
  exact (pay3_at _ _ a b).trans (congrArg (fun x : EReal => x * perWidth) (blk_diff m c t a b))

/-- The squares of a row's differences, summed. -/
def squares (c : Dev nD) (l : Fin 4096) : EReal := ∑ b : Fin 1024, diff m c l b * diff m c l b

/-- The loss that the call leaves. -/
theorem loss_at (c : Dev nD) : Value.G3 m c (ix2 0 0) = halfPerWidth * ∑ l : Fin 4096, squares m c l := by
  have hN : cfg0.N = 8 := N_0
  rw [Value.G3_last, ← Value.outsAt0_sweep m c 7 (by rw [hN]; omega)]
  have e := outsAt0_C m c ⟨7, by rw [hN]; omega⟩ (fun e => by have e' : 7 % 8 = 0 := e; omega) (show 7 % 8 = 7 by omega)
  have e2 := sums m c 7 (by rw [hN]; omega)
  dsimp only at e
  rw [e] at e2 ⊢
  dsimp only at e2 ⊢
  rw [sum_last] at e2
  rw [total_last, e2]
  refine (pay5_at _).trans (congrArg (fun x : EReal => halfPerWidth * x) ?_)
  unfold squares
  rw [Finset.sum_comm (s := (Finset.univ : Finset (Fin 4096)))]
  refine Finset.sum_congr rfl fun b _ => ?_
  rw [← rows_eq]
  refine Finset.sum_congr rfl fun a _ => ?_
  rw [fold_congr m c _ 0 _ 7 _ (by rw [hN]; omega) rfl rfl,
    Pipeline.accAt_add_apply (restart m c) (goOn m c) (fun _ => (0 : EReal)) (part m c) _ 7
      (fun h i => by rw [restart, pay4_part, pay1_at]) (fun n h acc i _ _ => pay4_part m c n h acc i) 7 le_rfl,
    zero_add, Finset.sum_range]
  refine Fin.sum_fin_congr fun n => ?_
  rw [part, dif_pos (by rw [hN]; omega)]
  have e0 : 0 + n.val = n.val := Nat.zero_add _
  simp only [e0]
  rfl

open Cert.Reference19Ideal.Read

/-- The reference's gradient at a place. -/
theorem ref_dy (x y : FVec Ideal S4096x1024 .f32) (l : Fin 4096) (b : Fin 1024) :
    val_main_v14 (F := Ideal) x y (ix2 l b) = Ideal.div (half * one) NormRow.width * (two * (x (ix2 l b) - y (ix2 l b))) := by
  rw [val_main_v14_apply, val_main_v13_apply, val_main_v12_apply, val_main_v10_apply, val_main_v11_apply, val_main_v3_apply, val_main_v2_apply]
  rfl

/-- The mean of the squares of a row. -/
theorem ref_mean (x y : FVec Ideal S4096x1024 .f32) (l : Fin 4096) :
    val_main_v6 (F := Ideal) x y (ix1 l) = Ideal.div (∑ b : Fin 1024, (x (ix2 l b) - y (ix2 l b)) * (x (ix2 l b) - y (ix2 l b))) NormRow.width := by
  rw [val_main_v6_apply, val_main_v4_apply, val_main_v5_apply]
  refine congrArg (fun z : EReal => Ideal.div z NormRow.width) ((congrArg (fun z : EReal => z + _) zero_word).trans ((zero_add _).trans (Finset.sum_congr rfl fun k _ => ?_)))
  have e : idx_main_v4 (ix1 l) k = ix2 l k := by
    funext z
    match z with
    | ⟨0, _⟩ => rfl
    | ⟨1, _⟩ => rfl
  rw [e]
  rfl

/-- The places of a list of rows are the rows. -/
def rowsEquiv : Fin 4096 ≃ Cert.Reference19Ideal.S4096.Idx where
  toFun l := ix1 l
  invFun j := j 0
  left_inv _ := rfl
  right_inv j := funext fun z => by match z with | ⟨0, _⟩ => rfl

/-- The reference's loss. -/
theorem ref_loss (x y : FVec Ideal S4096x1024 .f32) :
    val_main_v15 (F := Ideal) x y (ix2 0 0) = half * ∑ l : Fin 4096, Ideal.div (∑ b : Fin 1024, (x (ix2 l b) - y (ix2 l b)) * (x (ix2 l b) - y (ix2 l b))) NormRow.width := by
  have e : val_main_v15 (F := Ideal) x y (ix2 0 0) = val_main_v8 (F := Ideal) x y (fun a => a.elim0) :=
    congrArg (val_main_v8 (F := Ideal) x y) (funext fun a => a.elim0)
  rw [e, val_main_v8_apply, val_main_v7_apply]
  refine congrArg (fun z : EReal => half * z) ((congrArg (fun z : EReal => z + _) zero_word).trans ((zero_add _).trans ?_))
  rw [← Equiv.sum_comp rowsEquiv]
  exact Finset.sum_congr rfl fun l _ => ref_mean x y l

theorem split (i : S4096x1024.Idx) : ∃ (t : Fin cfg0.N) (a : Fin 512) (b : Fin 1024), i = ix2 (tok t a) b := by
  have hN : cfg0.N = 8 := N_0
  have h0 : (i 0).val < 4096 := (i 0).isLt
  refine ⟨⟨(i 0).val / 512, by rw [hN]; omega⟩, ⟨(i 0).val % 512, by omega⟩, i 1, ?_⟩
  funext z
  match z with
  | ⟨0, _⟩ => exact Fin.ext (show (i 0).val = (i 0).val / 512 * 512 + (i 0).val % 512 by omega)
  | ⟨1, _⟩ => rfl

/-- The two arrays that the call leaves are the reference's. -/
theorem same_dy (c : Dev nD) : Value.G2 m c = val_main_v14 (F := Ideal) (out m c) (target m c) := by
  funext i
  obtain ⟨t, a, b, rfl⟩ := split i
  exact (dy_at m c t a b).trans ((slope _).trans (ref_dy (out m c) (target m c) (tok t a) b).symm)

theorem same_loss (c : Dev nD) : Value.G3 m c = val_main_v15 (F := Ideal) (out m c) (target m c) := by
  funext i
  obtain rfl : i = ix2 0 0 :=
    funext fun z => by match z with | ⟨0, _⟩ => exact Subsingleton.elim (α := Fin 1) _ _ | ⟨1, _⟩ => exact Subsingleton.elim (α := Fin 1) _ _
  exact (loss_at m c).trans ((mean _ fun l => Finset.sum_nonneg fun b _ => NormRow.square_nonneg _).trans (ref_loss (out m c) (target m c)).symm)

/-- The two body tables are equal: label by label, the same function. -/
theorem bodies_eq : Cert.Kernel19.defs₀ (F := Bits) = Cert.Kernel19Ideal.defs₀ (F := Bits) := by
  refine congrArg (Defs.onTc (nD := nD) (τ := τ) (sig := sig) (Λ := Λ₀) (Val := Elt Bits)) (funext fun l => funext fun x => ?_)
  match l, x with
  | 0, (t, s) => rfl
  | ⟨_ + 1, h⟩, _ => exact absurd h (Nat.not_lt.2 (Nat.le_add_left _ _))

theorem defs_eq : Cert.Kernel19.defs (F := Bits) = Cert.Kernel19Ideal.defs (F := Bits) :=
  congrArg (Pipeline.defs (pcfgs (F := Bits))) bodies_eq

/-- The call over words keeps its arguments and ends with its counters at zero. -/
theorem frame_words : Cert.quiescent_Kernel19 (hKernel19 := Cert.Kernel19.Gen.facts) := fun m ρ _ => by
  rw [defs_eq]
  exact Cert.Kernel19Ideal.Gen.frame (F := Bits) m ρ

/-- So does the call over the extended reals. -/
theorem frame_ideal : Cert.quiescent_Kernel19Ideal (hKernel19Ideal := Cert.Kernel19Ideal.Gen.facts) := fun m ρ _ =>
  Cert.Kernel19Ideal.Gen.frame m ρ

/-- The reference keeps its arguments, and it has no counter. -/
theorem frame_reference : Cert.quiescent_Reference19Ideal (hReference19Ideal := Cert.Reference19Ideal.Gen.facts) := fun m ρ _ =>
  (θ_run Cert.Reference19Ideal.defs _ _).mono (fun r h => ⟨fun c => (h c).2.2,
    sem_eq_zero_of_no_sems (by decide) r.2⟩) (Cert.Reference19Ideal.Value.run m ρ)

/-- From equal arguments the call and the reference leave the same gradient and the same loss. -/
theorem value : Cert.algebraic_Kernel19Ideal_Reference19Ideal (hKernel19Ideal := Cert.Kernel19Ideal.Gen.facts)
    (hReference19Ideal := Cert.Reference19Ideal.Gen.facts) := fun m g m' g' _ hargs => by
  refine ⟨fun c => Value.G2 m c, fun c => Value.G3 m c, Value.run m g, ?_⟩
  refine (θ_run Cert.Reference19Ideal.defs _ _).mono (fun r h c => ⟨?_, ?_, (h c).2.2⟩) (Cert.Reference19Ideal.Value.run m' g')
  · rw [(h c).1, val_main_v14_eq]
    obtain ⟨h0, h1⟩ := hargs c
    rw [h0, h1]
    exact (same_dy m c).symm
  · rw [(h c).2.1, val_main_v15_eq]
    obtain ⟨h0, h1⟩ := hargs c
    rw [h0, h1]
    exact (same_loss m c).symm

end Cert.LossHead

end

end
-- ==== Proof.lean ====
/- The certificate: the frames of the calls over words and over the extended reals, and the values of those that are stated with a reference. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Words
public import proofs.«01_k».proof.Proof.WUp
public import proofs.«01_k».proof.Proof.WDown
public import proofs.«01_k».proof.Proof.WIn
public import proofs.«01_k».proof.Proof.NormUp
public import proofs.«01_k».proof.Proof.NormIn
public import proofs.«01_k».proof.Proof.AdamIn
public import proofs.«01_k».proof.Proof.AdamOut
public import proofs.«01_k».proof.Proof.AdamUp
public import proofs.«01_k».proof.Proof.AdamDown
public import proofs.«01_k».proof.Proof.AdamGain
public import proofs.«01_k».proof.Proof.AdamGroup
public import proofs.«01_k».proof.Proof.AdamConvA
public import proofs.«01_k».proof.Proof.AdamConvC
public import proofs.«01_k».proof.Proof.AdamConvFfn
public import proofs.«01_k».proof.Proof.AdamSgu
public import proofs.«01_k».proof.Proof.AdamSguBias
public import proofs.«01_k».proof.Proof.FfnWords
public import proofs.«01_k».proof.Proof.FfnForwardValue
public import proofs.«01_k».proof.Proof.LossHead
public import Idealize.ShloMosaic.Adequacy
public import Idealize.ShloMosaic.Init

@[expose] public section

noncomputable section

namespace Cert.Proof

open Idealize.ShloMosaic Idealize.SL.Sem Cert.Kernel

/-- The kernel over the extended reals: its arguments are kept and its counters return to zero. -/
theorem frame_ideal : Cert.quiescent_KernelIdeal (hKernelIdeal := Cert.KernelIdeal.Gen.facts) := fun m ρ _ => Cert.Ffn.framed m ρ

/-- The reference over the extended reals: its arguments are kept; it has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2,
    Idealize.ShloMosaic.sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Ffn.frame_words, frame_ideal, frame_reference,
  Cert.WUp.frame_words, Cert.WUp.frame_ideal, Cert.WUp.frame_reference,
  Cert.WDown.frame_words, Cert.WDown.frame_ideal, Cert.WDown.frame_reference,
  Cert.WIn.frame_words, Cert.WIn.frame_ideal, Cert.WIn.frame_reference,
  Cert.NormUp.frame_words, Cert.NormUp.frame_ideal, Cert.NormUp.frame_reference,
  Cert.NormIn.frame_words, Cert.NormIn.frame_ideal, Cert.NormIn.frame_reference,
  Cert.AdamIn.frame_words, Cert.AdamIn.frame_ideal, Cert.AdamIn.frame_reference,
  Cert.AdamOut.frame_words, Cert.AdamOut.frame_ideal, Cert.AdamOut.frame_reference,
  Cert.AdamUp.frame_words, Cert.AdamUp.frame_ideal, Cert.AdamUp.frame_reference,
  Cert.AdamDown.frame_words, Cert.AdamDown.frame_ideal, Cert.AdamDown.frame_reference,
  Cert.AdamGain.frame_words, Cert.AdamGain.frame_ideal, Cert.AdamGain.frame_reference,
  Cert.AdamGroup.frame_words, Cert.AdamGroup.frame_ideal, Cert.AdamGroup.frame_reference,
  Cert.AdamConvA.frame_words, Cert.AdamConvA.frame_ideal, Cert.AdamConvA.frame_reference,
  Cert.AdamConvC.frame_words, Cert.AdamConvC.frame_ideal, Cert.AdamConvC.frame_reference,
  Cert.AdamConvFfn.frame_words, Cert.AdamConvFfn.frame_ideal, Cert.AdamConvFfn.frame_reference,
  Cert.AdamSgu.frame_words, Cert.AdamSgu.frame_ideal, Cert.AdamSgu.frame_reference,
  Cert.AdamSguBias.frame_words, Cert.AdamSguBias.frame_ideal, Cert.AdamSguBias.frame_reference,
  Cert.FfnForward.frame_words, Cert.FfnForward.frame_ideal, Cert.FfnForward.frame_reference,
  Cert.LossHead.frame_words, Cert.LossHead.frame_ideal, Cert.LossHead.frame_reference,
  trivial, trivial, Cert.WUp.value, trivial, Cert.WDown.value, trivial, Cert.WIn.value, trivial, Cert.NormUp.value, trivial, Cert.NormIn.value, trivial, Cert.AdamIn.value, trivial, Cert.AdamOut.value, trivial, Cert.AdamUp.value, trivial, Cert.AdamDown.value, trivial, Cert.AdamGain.value, trivial, Cert.AdamGroup.value, trivial, Cert.AdamConvA.value, trivial, Cert.AdamConvC.value, trivial, Cert.AdamConvFfn.value, trivial, Cert.AdamSgu.value, trivial, Cert.AdamSguBias.value, trivial, Cert.FfnForward.value, trivial, Cert.LossHead.value⟩

end Cert.Proof

end
